-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_below5 [hPre_below5 : Cert.Pre_below5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_below5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_below5 [hPre_below5 : Cert.Pre_below5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_below5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_below7 [hPre_below7 : Cert.Pre_below7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_below7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_below7 [hPre_below7 : Cert.Pre_below7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_below7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_below5 [hKernel5Ideal : Cert.Kernel5Ideal.Facts] [hPre_below5 : Cert.Pre_below5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_below5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_below5 [hReference5Ideal : Cert.Reference5Ideal.Facts] [hPre_below5 : Cert.Pre_below5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_below5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_below7 [hKernel7Ideal : Cert.Kernel7Ideal.Facts] [hPre_below7 : Cert.Pre_below7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_below7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_below7 [hReference7Ideal : Cert.Reference7Ideal.Facts] [hPre_below7 : Cert.Pre_below7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_below7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v24) = v2 c
          ∧ r.2.mem ((c.tc : Thread Cert.ReferenceIdeal.nD Cert.ReferenceIdeal.τ).loc Cert.ReferenceIdeal.main_v26) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v10)) (v4 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v10) = v3 c
          ∧ r.2.mem ((c.tc : Thread Cert.Kernel2Ideal.nD Cert.Kernel2Ideal.τ).loc Cert.Kernel2Ideal.main_v12) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v26) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v40)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v40) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v84) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_below5 [hKernel5Ideal : Cert.Kernel5Ideal.Facts] [hReference5Ideal : Cert.Reference5Ideal.Facts] [hPre_below5 : Cert.Pre_below5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_below5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v27) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal_pre_below7 [hKernel7Ideal : Cert.Kernel7Ideal.Facts] [hReference7Ideal : Cert.Reference7Ideal.Facts] [hPre_below7 : Cert.Pre_below7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_below7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33_4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v29)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v50) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite4 : Cert.Pre_finite4.Facts) (hPre_below5 : Cert.Pre_below5.Facts) (hPre_below7 : Cert.Pre_below7.Facts) (hPre_finite8 : Cert.Pre_finite8.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_below5 (hKernel5Ideal := hKernel5Ideal) (hPre_below5 := hPre_below5)
    ∧ quiescent_Reference5Ideal (hReference5Ideal := hReference5Ideal)
    ∧ quiescent_Reference5Ideal_pre_below5 (hReference5Ideal := hReference5Ideal) (hPre_below5 := hPre_below5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_below7 (hKernel7Ideal := hKernel7Ideal) (hPre_below7 := hPre_below7)
    ∧ quiescent_Reference7Ideal (hReference7Ideal := hReference7Ideal)
    ∧ quiescent_Reference7Ideal_pre_below7 (hReference7Ideal := hReference7Ideal) (hPre_below7 := hPre_below7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_below5 (hKernel5Ideal := hKernel5Ideal) (hReference5Ideal := hReference5Ideal) (hPre_below5 := hPre_below5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_below7 (hKernel7Ideal := hKernel7Ideal) (hReference7Ideal := hReference7Ideal) (hPre_below7 := hPre_below7)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_below5.lean ====
abbrev S32x64x2048 : Shape := ⟨3, ![32, 64, 2048]⟩
abbrev S512 : Shape := ⟨1, ![512]⟩
abbrev S1x4x128 : Shape := ⟨3, ![1, 4, 128]⟩
abbrev S1x32x4x128x128 : Shape := ⟨5, ![1, 32, 4, 128, 128]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S32x64x2048 .f32) (main_arg1 : FVec F S512 .f32) (main_arg2 : FVec F S1x4x128 .f32) (main_arg3 : FVec F S1x32x4x128x128 .f32) : IVec S_ 1 :=
  let main_cst : FVec F S_ .f32 := constant S_ .f32 0x7F800000#32
  let main_v0 : FVec F S512 .f32 := broadcastInDim S512 ![] bcast_S_S512 main_cst
  let main_v1 : IVec S512 1 := cmpf .olt main_arg1 main_v0
  let main_c : IVec S_ 1 := constantI S_ 1 1#1
  let main_v2 : IVec S_ 1 := (fun x v => Host.reduce IntOp.andi x v reducesTo_S512_S_d0 h_S_) main_v1 main_c
  main_v2
-- ==== Pre_below7.lean ====
abbrev S8x2048x2048 : Shape := ⟨3, ![8, 2048, 2048]⟩
abbrev S512 : Shape := ⟨1, ![512]⟩
abbrev S1x4x128 : Shape := ⟨3, ![1, 4, 128]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel

variable [Facts]

def fn {F : FTy → Type} [FloatOps F] (main_arg0 : FVec F S8x2048x2048 .f32) (main_arg1 : FVec F S512 .f32) (main_arg2 : FVec F S1x4x128 .f32) : IVec S_ 1 :=
  let main_cst : FVec F S_ .f32 := constant S_ .f32 0x7F800000#32
  let main_v0 : FVec F S512 .f32 := broadcastInDim S512 ![] bcast_S_S512 main_cst
  let main_v1 : IVec S512 1 := cmpf .olt main_arg1 main_v0
  let main_c : IVec S_ 1 := constantI S_ 1 1#1
  let main_v2 : IVec S_ 1 := (fun x v => Host.reduce IntOp.andi x v reducesTo_S512_S_d0 h_S_) main_v1 main_c
  main_v2
-- ==== Pre_finite4.lean ====
abbrev S8x2048x1536 : Shape := ⟨3, ![8, 2048, 1536]⟩
abbrev S1x8x513 : Shape := ⟨3, ![1, 8, 513]⟩
abbrev S8x2048x1024 : Shape := ⟨3, ![8, 2048, 1024]⟩
abbrev S_ : Shape := ⟨0, ![]⟩

class Facts : Prop where
  slices_S8x2048x1536_S8x2048x1024_0_0_0 : S8x2048x1536.Slices ![0, 0, 0] S8x2048x1024
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1x8x513 : S_.BroadcastsInDim S1x8x513 (![] : Fin 0 → Fin S1x8x513.rank)
  reducesTo_S1x8x513_S_d0_1_2 : S1x8x513.ReducesTo [0, 1, 2] S_

variable [Facts]

def fn {F : FTy → Type} [FloatOps F] (main_arg0 : FVec F S8x2048x1536 .f32) (main_arg1 : FVec F S1x8x513 .f32) : IVec S_ 1 :=
  let main_v0 : FVec F S8x2048x1024 .f32 := (extractStridedSlice S8x2048x1024 ![0, 0, 0] · slices_S8x2048x1536_S8x2048x1024_0_0_0) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S1x8x513 .f32 := Host.absf main_arg1
  let main_cst_0 : FVec F S_ .f32 := constant S_ .f32 0x7F800000#32
  let main_v6 : FVec F S1x8x513 .f32 := broadcastInDim S1x8x513 ![] bcast_S_S1x8x513 main_cst_0
  let main_v7 : IVec S1x8x513 1 := cmpf .olt main_v5 main_v6
  let main_c_1 : IVec S_ 1 := constantI S_ 1 1#1
  let main_v8 : IVec S_ 1 := (fun x v => Host.reduce IntOp.andi x v reducesTo_S1x8x513_S_d0_1_2 h_S_) main_v7 main_c_1
  let main_v9 : IVec S_ 1 := andi main_v4 main_v8
  main_v9
-- ==== Pre_finite8.lean ====
abbrev S32x64x1536 : Shape := ⟨3, ![32, 64, 1536]⟩
abbrev S1x32x512x8x64 : Shape := ⟨5, ![1, 32, 512, 8, 64]⟩
abbrev S1x8x513 : Shape := ⟨3, ![1, 8, 513]⟩
abbrev S32x64x1024 : Shape := ⟨3, ![32, 64, 1024]⟩
abbrev S_ : Shape := ⟨0, ![]⟩

class Facts : Prop where
  slices_S32x64x1536_S32x64x1024_0_0_0 : S32x64x1536.Slices ![0, 0, 0] S32x64x1024
  bcast_S_S32x64x1024 : S_.BroadcastsInDim S32x64x1024 (![] : Fin 0 → Fin S32x64x1024.rank)
  reducesTo_S32x64x1024_S_d0_1_2 : S32x64x1024.ReducesTo [0, 1, 2] S_
  h_S_ : 0 < S_.numel
  bcast_S_S1x32x512x8x64 : S_.BroadcastsInDim S1x32x512x8x64 (![] : Fin 0 → Fin S1x32x512x8x64.rank)
  reducesTo_S1x32x512x8x64_S_d0_1_2_3_4 : S1x32x512x8x64.ReducesTo [0, 1, 2, 3, 4] S_
  bcast_S_S1x8x513 : S_.BroadcastsInDim S1x8x513 (![] : Fin 0 → Fin S1x8x513.rank)
  reducesTo_S1x8x513_S_d0_1_2 : S1x8x513.ReducesTo [0, 1, 2] S_

variable [Facts]

def fn {F : FTy → Type} [FloatOps F] (main_arg0 : FVec F S32x64x1536 .f32) (main_arg1 : FVec F S1x32x512x8x64 .f32) (main_arg2 : FVec F S1x32x512x8x64 .f32) (main_arg3 : FVec F S1x8x513 .f32) : IVec S_ 1 :=
  let main_v0 : FVec F S32x64x1024 .f32 := (extractStridedSlice S32x64x1024 ![0, 0, 0] · slices_S32x64x1536_S32x64x1024_0_0_0) main_arg0
  let main_v1 : FVec F S32x64x1024 .f32 := Host.absf main_v0
  let main_cst : FVec F S_ .f32 := constant S_ .f32 0x7F800000#32
  let main_v2 : FVec F S32x64x1024 .f32 := broadcastInDim S32x64x1024 ![] bcast_S_S32x64x1024 main_cst
  let main_v3 : IVec S32x64x1024 1 := cmpf .olt main_v1 main_v2
  let main_c : IVec S_ 1 := constantI S_ 1 1#1
  let main_v4 : IVec S_ 1 := (fun x v => Host.reduce IntOp.andi x v reducesTo_S32x64x1024_S_d0_1_2 h_S_) main_v3 main_c
  let main_v5 : FVec F S1x32x512x8x64 .f32 := Host.absf main_arg1
  let main_cst_0 : FVec F S_ .f32 := constant S_ .f32 0x7F800000#32
  let main_v6 : FVec F S1x32x512x8x64 .f32 := broadcastInDim S1x32x512x8x64 ![] bcast_S_S1x32x512x8x64 main_cst_0
  let main_v7 : IVec S1x32x512x8x64 1 := cmpf .olt main_v5 main_v6
  let main_c_1 : IVec S_ 1 := constantI S_ 1 1#1
  let main_v8 : IVec S_ 1 := (fun x v => Host.reduce IntOp.andi x v reducesTo_S1x32x512x8x64_S_d0_1_2_3_4 h_S_) main_v7 main_c_1
  let main_v9 : IVec S_ 1 := andi main_v4 main_v8
  let main_v10 : FVec F S1x8x513 .f32 := Host.absf main_arg3
  let main_cst_2 : FVec F S_ .f32 := constant S_ .f32 0x7F800000#32
  let main_v11 : FVec F S1x8x513 .f32 := broadcastInDim S1x8x513 ![] bcast_S_S1x8x513 main_cst_2
  let main_v12 : IVec S1x8x513 1 := cmpf .olt main_v10 main_v11
  let main_c_3 : IVec S_ 1 := constantI S_ 1 1#1
  let main_v13 : IVec S_ 1 := (fun x v => Host.reduce IntOp.andi x v reducesTo_S1x8x513_S_d0_1_2 h_S_) main_v12 main_c_3
  let main_v14 : IVec S_ 1 := andi main_v9 main_v13
  main_v14
-- ==== Kernel.lean ====
abbrev S8x2048x1024 : Shape := ⟨3, ![8, 2048, 1024]⟩
abbrev S1x1024 : Shape := ⟨2, ![1, 1024]⟩
abbrev S1x1024x5632 : Shape := ⟨3, ![1, 1024, 5632]⟩
abbrev S16384x1024 : Shape := ⟨2, ![16384, 1024]⟩
abbrev S1024 : Shape := ⟨1, ![1024]⟩
abbrev S1024x5632 : Shape := ⟨2, ![1024, 5632]⟩
abbrev S16384x1536 : Shape := ⟨2, ![16384, 1536]⟩
abbrev S16384x2048 : Shape := ⟨2, ![16384, 2048]⟩
abbrev S512x1024 : Shape := ⟨2, ![512, 1024]⟩
abbrev S512x1536 : Shape := ⟨2, ![512, 1536]⟩
abbrev S512x2048 : Shape := ⟨2, ![512, 2048]⟩
abbrev S512 : Shape := ⟨1, ![512]⟩
abbrev S512x1 : Shape := ⟨2, ![512, 1]⟩
abbrev S1024x1536 : Shape := ⟨2, ![1024, 1536]⟩
abbrev S1024x2048 : Shape := ⟨2, ![1024, 2048]⟩
abbrev S8x2048x1536 : Shape := ⟨3, ![8, 2048, 1536]⟩
abbrev S8x2048x512 : Shape := ⟨3, ![8, 2048, 512]⟩
abbrev S8x512x512 : Shape := ⟨3, ![8, 512, 512]⟩
abbrev S8x512x8x64 : Shape := ⟨4, ![8, 512, 8, 64]⟩
abbrev S1x8x512x8x64 : Shape := ⟨5, ![1, 8, 512, 8, 64]⟩

abbrev nBuf : Space → Nat
  | .hbm => 20
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5632, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x5632, .f32⟩
  | .hbm, ⟨7, _⟩ => ⟨S1024x5632, .bf16⟩
  | .hbm, ⟨8, _⟩ => ⟨S16384x1536, .f32⟩
  | .hbm, ⟨9, _⟩ => ⟨S16384x2048, .f32⟩
  | .hbm, ⟨10, _⟩ => ⟨S16384x2048, .bf16⟩
  | .hbm, ⟨11, _⟩ => ⟨S8x2048x1536, .f32⟩
  | .hbm, ⟨12, _⟩ => ⟨S8x2048x512, .f32⟩
  | .hbm, ⟨13, _⟩ => ⟨S8x2048x512, .f32⟩
  | .hbm, ⟨14, _⟩ => ⟨S8x512x512, .f32⟩
  | .hbm, ⟨15, _⟩ => ⟨S8x512x8x64, .f32⟩
  | .hbm, ⟨16, _⟩ => ⟨S1x8x512x8x64, .f32⟩
  | .hbm, ⟨17, _⟩ => ⟨S8x512x512, .f32⟩
  | .hbm, ⟨18, _⟩ => ⟨S8x512x8x64, .f32⟩
  | .hbm, ⟨19, _⟩ => ⟨S1x8x512x8x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x1536, .f32⟩
  | .local _ .vmem, ⟨5, _⟩ => ⟨S512x1536, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x2048x1024 : Shape := ⟨3, ![8, 2048, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x5632 : Shape := ⟨2, ![1024, 5632]⟩
abbrev S8x2048x5632 : Shape := ⟨3, ![8, 2048, 5632]⟩
abbrev S8x2048x512 : Shape := ⟨3, ![8, 2048, 512]⟩
abbrev S8x2048x8x64 : Shape := ⟨4, ![8, 2048, 8, 64]⟩
abbrev S16384x5632 : Shape := ⟨2, ![16384, 5632]⟩
abbrev S16384x1536 : Shape := ⟨2, ![16384, 1536]⟩
abbrev S16384x2048 : Shape := ⟨2, ![16384, 2048]⟩
abbrev S8x512x8x64 : Shape := ⟨4, ![8, 512, 8, 64]⟩
abbrev S1x8x512x8x64 : Shape := ⟨5, ![1, 8, 512, 8, 64]⟩

abbrev nBuf : Space → Nat
  | .hbm => 35
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S1x1024x5632, .f32⟩
  | .hbm, ⟨3, _⟩ => ⟨S1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x1024, .f32⟩
  | .hbm, ⟨16, _⟩ => ⟨S8x2048x1024, .f32⟩
  | .hbm, ⟨17, _⟩ => ⟨S1x1x1024, .f32⟩
  | .hbm, ⟨18, _⟩ => ⟨S8x2048x1024, .f32⟩
  | .hbm, ⟨19, _⟩ => ⟨S8x2048x1024, .f32⟩
  | .hbm, ⟨20, _⟩ => ⟨S1024x5632, .f32⟩
  | .hbm, ⟨21, _⟩ => ⟨S8x2048x5632, .f32⟩
  | .hbm, ⟨22, _⟩ => ⟨S8x2048x512, .f32⟩
  | .hbm, ⟨23, _⟩ => ⟨S8x2048x8x64, .f32⟩
  | .hbm, ⟨24, _⟩ => ⟨S8x2048x512, .f32⟩
  | .hbm, ⟨25, _⟩ => ⟨S8x2048x8x64, .f32⟩
  | .hbm, ⟨26, _⟩ => ⟨S16384x5632, .f32⟩
  | .hbm, ⟨27, _⟩ => ⟨S16384x1536, .f32⟩
  | .hbm, ⟨28, _⟩ => ⟨S16384x2048, .f32⟩
  | .hbm, ⟨29, _⟩ => ⟨S16384x2048, .f32⟩
  | .hbm, ⟨30, _⟩ => ⟨S16384x2048, .bf16⟩
  | .hbm, ⟨31, _⟩ => ⟨S8x512x8x64, .f32⟩
  | .hbm, ⟨32, _⟩ => ⟨S1x8x512x8x64, .f32⟩
  | .hbm, ⟨33, _⟩ => ⟨S8x512x8x64, .f32⟩
  | .hbm, ⟨34, _⟩ => ⟨S1x8x512x8x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Kernel2.lean ====
abbrev S32x64x1024 : Shape := ⟨3, ![32, 64, 1024]⟩
abbrev S1x1024 : Shape := ⟨2, ![1, 1024]⟩
abbrev S1x1024x5632 : Shape := ⟨3, ![1, 1024, 5632]⟩
abbrev S2048x1024 : Shape := ⟨2, ![2048, 1024]⟩
abbrev S1024 : Shape := ⟨1, ![1024]⟩
abbrev S1024x5632 : Shape := ⟨2, ![1024, 5632]⟩
abbrev S2048x1536 : Shape := ⟨2, ![2048, 1536]⟩
abbrev S2048x2048 : Shape := ⟨2, ![2048, 2048]⟩
abbrev S512x1024 : Shape := ⟨2, ![512, 1024]⟩
abbrev S512x1536 : Shape := ⟨2, ![512, 1536]⟩
abbrev S512x2048 : Shape := ⟨2, ![512, 2048]⟩
abbrev S512 : Shape := ⟨1, ![512]⟩
abbrev S512x1 : Shape := ⟨2, ![512, 1]⟩
abbrev S1024x1536 : Shape := ⟨2, ![1024, 1536]⟩
abbrev S1024x2048 : Shape := ⟨2, ![1024, 2048]⟩
abbrev S32x64x1536 : Shape := ⟨3, ![32, 64, 1536]⟩
abbrev S32x64x512 : Shape := ⟨3, ![32, 64, 512]⟩
abbrev S32x64x8x64 : Shape := ⟨4, ![32, 64, 8, 64]⟩
abbrev S1x32x64x8x64 : Shape := ⟨5, ![1, 32, 64, 8, 64]⟩

abbrev nBuf : Space → Nat
  | .hbm => 18
  | .vmem => 10
  | .smem => 0
  | _ => 0

abbrev bufTy : (tb : Table) → Fin (tcTables nBuf tb) → BufTy
  | .hbm, ⟨0, _⟩ => ⟨S32x64x1024, .f32⟩
  | .hbm, ⟨1, _⟩ => ⟨S1x1024, .f32⟩
  | .hbm, ⟨2, _⟩ => ⟨S1x1024x5632, .f32⟩
  | .hbm, ⟨3, _⟩ => ⟨S2048x1024, .f32⟩
  | .hbm, ⟨4, _⟩ => ⟨S1024, .f32⟩
  | .hbm, ⟨5, _⟩ => ⟨S1x1024, .f32⟩
  | .hbm, ⟨6, _⟩ => ⟨S1024x5632, .f32⟩
  | .hbm, ⟨7, _⟩ => ⟨S1024x5632, .bf16⟩
  | .hbm, ⟨8, _⟩ => ⟨S2048x1536, .f32⟩
  | .hbm, ⟨9, _⟩ => ⟨S2048x2048, .f32⟩
  | .hbm, ⟨10, _⟩ => ⟨S2048x2048, .bf16⟩
  | .hbm, ⟨11, _⟩ => ⟨S32x64x1536, .f32⟩
  | .hbm, ⟨12, _⟩ => ⟨S32x64x512, .f32⟩
  | .hbm, ⟨13, _⟩ => ⟨S32x64x512, .f32⟩
  | .hbm, ⟨14, _⟩ => ⟨S32x64x8x64, .f32⟩
  | .hbm, ⟨15, _⟩ => ⟨S1x32x64x8x64, .f32⟩
  | .hbm, ⟨16, _⟩ => ⟨S32x64x8x64, .f32⟩
  | .hbm, ⟨17, _⟩ => ⟨S1x32x64x8x64, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x1536, .f32⟩
  | .local _ .vmem, ⟨5, _⟩ => ⟨S512x1536, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32x64x1024 : Shape := ⟨3, ![32, 64, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S32x64 : Shape := ⟨2, ![32, 64]⟩
abbrev S32x64x1 : Shape := ⟨3, ![32, 64, 1]⟩
abbrev S1x1x1024 : Shape := ⟨3, ![1, 1, 1024]⟩
abbrev S1024x5632 : Shape := ⟨2, ![1024, 5632]⟩
abbrev S32x64x5632 : Shape := ⟨3, ![32, 64, 5632]⟩
abbrev S32x64x512 : Shape := ⟨3, ![32, 64, 512]⟩
abbrev S32x64x8x64 : Shape := ⟨4, ![32, 64, 8, 64]⟩
abbrev S2048x5632 : Shape := ⟨2, ![2048, 5632]⟩
abbrev S2048x1536 : Shape := ⟨2, ![2048, 1536]⟩
abbrev S2048x2048 : Shape := ⟨2, ![2048, 2048]⟩
abbrev S1x32x64x8x64 : Shape := ⟨5, ![1, 32, 64, 8, 64]⟩

abbrev nBuf : Space → Nat
  | .hbm => 33
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S1x1024, .f32⟩
  | .hbm, ⟨2, _⟩ => ⟨S1x1024x5632, .f32⟩
  | .hbm, ⟨3, _⟩ => ⟨S1024, .f32⟩
  | .hbm, ⟨4, _⟩ => ⟨S32x64x1024, .f32⟩
  | .hbm, ⟨5, _⟩ => ⟨S_, .f32⟩
  | .hbm, ⟨6, _⟩ => ⟨S32x64, .f32⟩
  | .hbm, ⟨7, _⟩ => ⟨S32x64x1, .f32⟩
  | .hbm, ⟨8, _⟩ => ⟨S_, .f32⟩
  | .hbm, ⟨9, _⟩ => ⟨S32x64x1, .f32⟩
  | .hbm, ⟨10, _⟩ => ⟨S32x64x1, .f32⟩
  | .hbm, ⟨11, _⟩ => ⟨S_, .f32⟩
  | .hbm, ⟨12, _⟩ => ⟨S32x64x1, .f32⟩
  | .hbm, ⟨13, _⟩ => ⟨S32x64x1, .f32⟩
  | .hbm, ⟨14, _⟩ => ⟨S32x64x1, .f32⟩
  | .hbm, ⟨15, _⟩ => ⟨S32x64x1024, .f32⟩
  | .hbm, ⟨16, _⟩ => ⟨S32x64x1024, .f32⟩
  | .hbm, ⟨17, _⟩ => ⟨S1x1x1024, .f32⟩
  | .hbm, ⟨18, _⟩ => ⟨S32x64x1024, .f32⟩
  | .hbm, ⟨19, _⟩ => ⟨S32x64x1024, .f32⟩
  | .hbm, ⟨20, _⟩ => ⟨S1024x5632, .f32⟩
  | .hbm, ⟨21, _⟩ => ⟨S32x64x5632, .f32⟩
  | .hbm, ⟨22, _⟩ => ⟨S32x64x512, .f32⟩
  | .hbm, ⟨23, _⟩ => ⟨S32x64x8x64, .f32⟩
  | .hbm, ⟨24, _⟩ => ⟨S32x64x512, .f32⟩
  | .hbm, ⟨25, _⟩ => ⟨S32x64x8x64, .f32⟩
  | .hbm, ⟨26, _⟩ => ⟨S2048x5632, .f32⟩
  | .hbm, ⟨27, _⟩ => ⟨S2048x1536, .f32⟩
  | .hbm, ⟨28, _⟩ => ⟨S2048x2048, .f32⟩
  | .hbm, ⟨29, _⟩ => ⟨S2048x2048, .f32⟩
  | .hbm, ⟨30, _⟩ => ⟨S2048x2048, .bf16⟩
  | .hbm, ⟨31, _⟩ => ⟨S1x32x64x8x64, .f32⟩
  | .hbm, ⟨32, _⟩ => ⟨S1x32x64x8x64, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x2048x512 : Shape := ⟨3, ![8, 2048, 512]⟩
abbrev S16384x2048 : Shape := ⟨2, ![16384, 2048]⟩
abbrev S1x512x1024 : Shape := ⟨3, ![1, 512, 1024]⟩
abbrev S1x1024x1024 : Shape := ⟨3, ![1, 1024, 1024]⟩
abbrev S16384x1024 : Shape := ⟨2, ![16384, 1024]⟩
abbrev S16384x512 : Shape := ⟨2, ![16384, 512]⟩
abbrev S512x1024 : Shape := ⟨2, ![512, 1024]⟩
abbrev S1024x1024 : Shape := ⟨2, ![1024, 1024]⟩
abbrev S1024x512 : Shape := ⟨2, ![1024, 512]⟩
abbrev S1024x2048 : Shape := ⟨2, ![1024, 2048]⟩

abbrev nBuf : Space → Nat
  | .hbm => 18
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S16384x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S16384x1024, .f32⟩
  | .hbm, ⟨8, _⟩ => ⟨S16384x512, .bf16⟩
  | .hbm, ⟨9, _⟩ => ⟨S16384x512, .bf16⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S16384x1024, .f32⟩
  | .hbm, ⟨17, _⟩ => ⟨S8x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8x2048x1024 : Shape := ⟨3, ![8, 2048, 1024]⟩
abbrev S8x2048x512 : Shape := ⟨3, ![8, 2048, 512]⟩
abbrev S16384x2048 : Shape := ⟨2, ![16384, 2048]⟩
abbrev S1x512x1024 : Shape := ⟨3, ![1, 512, 1024]⟩
abbrev S1x1024x1024 : Shape := ⟨3, ![1, 1024, 1024]⟩
abbrev S8x2048x2048 : Shape := ⟨3, ![8, 2048, 2048]⟩
abbrev S_ : Shape := ⟨0, ![]⟩
abbrev S512x1024 : Shape := ⟨2, ![512, 1024]⟩
abbrev S1024x1024 : Shape := ⟨2, ![1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .bf16⟩
  | .hbm, ⟨2, _⟩ => ⟨S8x2048x512, .bf16⟩
  | .hbm, ⟨3, _⟩ => ⟨S16384x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S16384x2048, .f32⟩
  | .hbm, ⟨8, _⟩ => ⟨S8x2048x2048, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x512, .f32⟩
  | .hbm, ⟨20, _⟩ => ⟨S512x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048x1024, .f32⟩
  | .hbm, ⟨27, _⟩ => ⟨S8x2048x1024, .f32⟩
  | .hbm, ⟨28, _⟩ => ⟨S_, .f32⟩
  | .hbm, ⟨29, _⟩ => ⟨S8x2048x1024, .f32⟩
  | .hbm, ⟨30, _⟩ => ⟨S8x2048x1024, .f32⟩
  | .hbm, ⟨31, _⟩ => ⟨S8x2048x512, .f32⟩
  | .hbm, ⟨32, _⟩ => ⟨S512x1024, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S1024x1024, .f32⟩
  | .hbm, ⟨37, _⟩ => ⟨S8x2048x1024, .f32⟩
  | .hbm, ⟨38, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel4.lean ====
abbrev S8x2048x1536 : Shape := ⟨3, ![8, 2048, 1536]⟩
abbrev S1x8x513 : Shape := ⟨3, ![1, 8, 513]⟩
abbrev S8x513 : Shape := ⟨2, ![8, 513]⟩
abbrev S256 : Shape := ⟨1, ![256]⟩
abbrev S256x1 : Shape := ⟨2, ![256, 1]⟩
abbrev S_ : Shape := ⟨0, ![]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S1x513 : Shape := ⟨2, ![1, 513]⟩
abbrev S1x0x513 : Shape := ⟨3, ![1, 0, 513]⟩
abbrev S0x513 : Shape := ⟨2, ![0, 513]⟩
abbrev S8x1 : Shape := ⟨2, ![8, 1]⟩
abbrev S8x1x0 : Shape := ⟨3, ![8, 1, 0]⟩
abbrev S8x0 : Shape := ⟨2, ![8, 0]⟩
abbrev S8x1x511 : Shape := ⟨3, ![8, 1, 511]⟩
abbrev S8x511 : Shape := ⟨2, ![8, 511]⟩
abbrev S8x1024 : Shape := ⟨2, ![8, 1024]⟩
abbrev S8x1023 : Shape := ⟨2, ![8, 1023]⟩
abbrev S1x8x1x1023 : Shape := ⟨4, ![1, 8, 1, 1023]⟩
abbrev S1x8x256x1023 : Shape := ⟨4, ![1, 8, 256, 1023]⟩
abbrev S8x261888 : Shape := ⟨2, ![8, 261888]⟩
abbrev S8x261632 : Shape := ⟨2, ![8, 261632]⟩
abbrev S8x256x1022 : Shape := ⟨3, ![8, 256, 1022]⟩
abbrev S8x256x768 : Shape := ⟨3, ![8, 256, 768]⟩
abbrev S8x2048x512 : Shape := ⟨3, ![8, 2048, 512]⟩
abbrev S1x256x512 : Shape := ⟨3, ![1, 256, 512]⟩
abbrev S1x2048x512 : Shape := ⟨3, ![1, 2048, 512]⟩
abbrev S1x256x128 : Shape := ⟨3, ![1, 256, 128]⟩
abbrev S256x128 : Shape := ⟨2, ![256, 128]⟩
abbrev S1x128 : Shape := ⟨2, ![1, 128]⟩
abbrev S512x128 : Shape := ⟨2, ![512, 128]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S1x512x128 : Shape := ⟨3, ![1, 512, 128]⟩
abbrev S512x512 : Shape := ⟨2, ![512, 512]⟩
abbrev S256x512 : Shape := ⟨2, ![256, 512]⟩
abbrev S1x768x128 : Shape := ⟨3, ![1, 768, 128]⟩
abbrev S768x128 : Shape := ⟨2, ![768, 128]⟩
abbrev S512x768 : Shape := ⟨2, ![512, 768]⟩

abbrev nBuf : Space → Nat
  | .hbm => 82
  | .vmem => 9
  | .smem => 0
  | _ => 0

abbrev bufTy : (tb : Table) → Fin (tcTables nBuf tb) → BufTy
  | .hbm, ⟨0, _⟩ => ⟨S8x2048x1536, .f32⟩
  | .hbm, ⟨1, _⟩ => ⟨S1x8x513, .f32⟩
  | .hbm, ⟨2, _⟩ => ⟨S8x513, .f32⟩
  | .hbm, ⟨3, _⟩ => ⟨S256, .i32⟩
  | .hbm, ⟨4, _⟩ => ⟨S256x1, .i32⟩
  | .hbm, ⟨5, _⟩ => ⟨S_, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S256x1, .i32⟩
  | .hbm, ⟨10, _⟩ => ⟨S_, .i32⟩
  | .hbm, ⟨11, _⟩ => ⟨S256x1, .i32⟩
  | .hbm, ⟨12, _⟩ => ⟨S256x1, .i1⟩
  | .hbm, ⟨13, _⟩ => ⟨S256x1, .i32⟩
  | .hbm, ⟨14, _⟩ => ⟨S256x1, .i32⟩
  | .hbm, ⟨15, _⟩ => ⟨S_, .i32⟩
  | .hbm, ⟨16, _⟩ => ⟨S256x1, .i32⟩
  | .hbm, ⟨17, _⟩ => ⟨S256x1, .i1⟩
  | .hbm, ⟨18, _⟩ => ⟨S256x1, .i1⟩
  | .hbm, ⟨19, _⟩ => ⟨S_, .i32⟩
  | .hbm, ⟨20, _⟩ => ⟨S256x1, .i32⟩
  | .hbm, ⟨21, _⟩ => ⟨S256x1, .i32⟩
  | .hbm, ⟨22, _⟩ => ⟨S256x1, .i32⟩
  | .hbm, ⟨23, _⟩ => ⟨S768, .i32⟩
  | .hbm, ⟨24, _⟩ => ⟨S1x768, .i32⟩
  | .hbm, ⟨25, _⟩ => ⟨S_, .i32⟩
  | .hbm, ⟨26, _⟩ => ⟨S_, .i32⟩
  | .hbm, ⟨27, _⟩ => ⟨S1x768, .i32⟩
  | .hbm, ⟨28, _⟩ => ⟨S1x768, .i32⟩
  | .hbm, ⟨29, _⟩ => ⟨S1x768, .i32⟩
  | .hbm, ⟨30, _⟩ => ⟨S_, .i32⟩
  | .hbm, ⟨31, _⟩ => ⟨S1x768, .i32⟩
  | .hbm, ⟨32, _⟩ => ⟨S1x768, .i1⟩
  | .hbm, ⟨33, _⟩ => ⟨S1x768, .i32⟩
  | .hbm, ⟨34, _⟩ => ⟨S1x768, .i32⟩
  | .hbm, ⟨35, _⟩ => ⟨S_, .i32⟩
  | .hbm, ⟨36, _⟩ => ⟨S1x768, .i32⟩
  | .hbm, ⟨37, _⟩ => ⟨S1x768, .i1⟩
  | .hbm, ⟨38, _⟩ => ⟨S1x768, .i1⟩
  | .hbm, ⟨39, _⟩ => ⟨S_, .i32⟩
  | .hbm, ⟨40, _⟩ => ⟨S1x768, .i32⟩
  | .hbm, ⟨41, _⟩ => ⟨S1x768, .i32⟩
  | .hbm, ⟨42, _⟩ => ⟨S1x768, .i32⟩
  | .hbm, ⟨43, _⟩ => ⟨S256x768, .i32⟩
  | .hbm, ⟨44, _⟩ => ⟨S256x768, .i32⟩
  | .hbm, ⟨45, _⟩ => ⟨S256x768, .i1⟩
  | .hbm, ⟨46, _⟩ => ⟨S_, .i32⟩
  | .hbm, ⟨47, _⟩ => ⟨S256x1, .i32⟩
  | .hbm, ⟨48, _⟩ => ⟨S256x1, .i32⟩
  | .hbm, ⟨49, _⟩ => ⟨S256x768, .i32⟩
  | .hbm, ⟨50, _⟩ => ⟨S256x768, .i32⟩
  | .hbm, ⟨51, _⟩ => ⟨S256x768, .i1⟩
  | .hbm, ⟨52, _⟩ => ⟨S256x768, .i1⟩
  | .hbm, ⟨53, _⟩ => ⟨S1x256x768, .i1⟩
  | .hbm, ⟨54, _⟩ => ⟨S1x513, .f32⟩
  | .hbm, ⟨55, _⟩ => ⟨S1x0x513, .f32⟩
  | .hbm, ⟨56, _⟩ => ⟨S0x513, .f32⟩
  | .hbm, ⟨57, _⟩ => ⟨S1x513, .f32⟩
  | .hbm, ⟨58, _⟩ => ⟨S1x0x513, .f32⟩
  | .hbm, ⟨59, _⟩ => ⟨S0x513, .f32⟩
  | .hbm, ⟨60, _⟩ => ⟨S8x513, .f32⟩
  | .hbm, ⟨61, _⟩ => ⟨S8x1, .f32⟩
  | .hbm, ⟨62, _⟩ => ⟨S8x1x0, .f32⟩
  | .hbm, ⟨63, _⟩ => ⟨S8x0, .f32⟩
  | .hbm, ⟨64, _⟩ => ⟨S8x1, .f32⟩
  | .hbm, ⟨65, _⟩ => ⟨S8x1x511, .f32⟩
  | .hbm, ⟨66, _⟩ => ⟨S8x511, .f32⟩
  | .hbm, ⟨67, _⟩ => ⟨S8x1024, .f32⟩
  | .hbm, ⟨68, _⟩ => ⟨S8x1023, .f32⟩
  | .hbm, ⟨69, _⟩ => ⟨S8x1023, .f32⟩
  | .hbm, ⟨70, _⟩ => ⟨S1x8x1x1023, .f32⟩
  | .hbm, ⟨71, _⟩ => ⟨S1x8x256x1023, .f32⟩
  | .hbm, ⟨72, _⟩ => ⟨S8x261888, .f32⟩
  | .hbm, ⟨73, _⟩ => ⟨S8x261632, .f32⟩
  | .hbm, ⟨74, _⟩ => ⟨S8x256x1022, .f32⟩
  | .hbm, ⟨75, _⟩ => ⟨S8x256x768, .f32⟩
  | .hbm, ⟨76, _⟩ => ⟨S_, .f32⟩
  | .hbm, ⟨77, _⟩ => ⟨S_, .f32⟩
  | .hbm, ⟨78, _⟩ => ⟨S8x256x768, .i1⟩
  | .hbm, ⟨79, _⟩ => ⟨S8x256x768, .f32⟩
  | .hbm, ⟨80, _⟩ => ⟨S8x256x768, .f32⟩
  | .hbm, ⟨81, _⟩ => ⟨S8x2048x512, .bf16⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S8x256x768, .f32⟩
  | .local _ .vmem, ⟨7, _⟩ => ⟨S1x256x512, .bf16⟩
  | .local _ .vmem, ⟨8, _⟩ => ⟨S1x256x512, .bf16⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_c_1 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v39 : Ref sig .tc := ⟨.hbm, 80, rfl⟩
abbrev main_v40 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c2_i32 : BitVec 32 := 2#32
  let v6 : BitVec 1 := Scalar.cmpi .sge arg1 c2_i32
  let v7 : BitVec 32 := Scalar.extui v6
  let c0_i32_2 : BitVec 32 := 0#32
  let v8 : BitVec 1 := Scalar.cmpi .ne v7 c0_i32_2
  v8

def k0_mult1 (i : grid0.Coords) : BitVec 32 :=
  let arg1 : BitVec 32 := BitVec.ofNat 32 (i 1).val
  let c256_i32 : BitVec 32 := 256#32
  let v9 : BitVec 32 := Scalar.muli arg1 c256_i32
  let c512_i32 : BitVec 32 := 512#32
  let v10 : BitVec 32 := Scalar.subi v9 c512_i32
  v10
def k0_off1 (i : grid0.Coords) : Fin 3 → Nat :=
  let c0 : Index := 0#32
  let arg1 : BitVec 32 := BitVec.ofNat 32 (i 1).val
  let c256_i32 : BitVec 32 := 256#32
  let v9 : BitVec 32 := Scalar.muli arg1 c256_i32
  let c512_i32 : BitVec 32 := 512#32
  let v10 : BitVec 32 := Scalar.subi v9 c512_i32
  let v11 : BitVec 32 := v10
  let v12 : Index := Scalar.indexCast v11
  let c0_3 : Index := 0#32
  ![0, v12.toNat, 0]
def k0_off2 (i : grid0.Coords) : Fin 3 → Nat :=
  let c0_23 : Index := 0#32
  let arg1 : BitVec 32 := BitVec.ofNat 32 (i 1).val
  let c256_i32 : BitVec 32 := 256#32
  let v9 : BitVec 32 := Scalar.muli arg1 c256_i32
  let c512_i32 : BitVec 32 := 512#32
  let v10 : BitVec 32 := Scalar.subi v9 c512_i32
  let v11 : BitVec 32 := v10
  let v64 : Index := Scalar.indexCast v11
  let c128 : Index := 128#32
  ![0, v64.toNat, 128]
def k0_off3 (i : grid0.Coords) : Fin 3 → Nat :=
  let c0_44 : Index := 0#32
  let arg1 : BitVec 32 := BitVec.ofNat 32 (i 1).val
  let c256_i32 : BitVec 32 := 256#32
  let v9 : BitVec 32 := Scalar.muli arg1 c256_i32
  let c512_i32 : BitVec 32 := 512#32
  let v10 : BitVec 32 := Scalar.subi v9 c512_i32
  let v11 : BitVec 32 := v10
  let v116 : Index := Scalar.indexCast v11
  let c256 : Index := 256#32
  ![0, v116.toNat, 256]
def k0_off4 (i : grid0.Coords) : Fin 3 → Nat :=
  let c0_65 : Index := 0#32
  let arg1 : BitVec 32 := BitVec.ofNat 32 (i 1).val
  let c256_i32 : BitVec 32 := 256#32
  let v9 : BitVec 32 := Scalar.muli arg1 c256_i32
  let c512_i32 : BitVec 32 := 512#32
  let v10 : BitVec 32 := Scalar.subi v9 c512_i32
  let v11 : BitVec 32 := v10
  let v168 : Index := Scalar.indexCast v11
  let c384 : Index := 384#32
  ![0, v168.toNat, 384]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x256x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8x2048x1536 : Shape := ⟨3, ![8, 2048, 1536]⟩
abbrev S1x8x513 : Shape := ⟨3, ![1, 8, 513]⟩
abbrev S8x2048x512 : Shape := ⟨3, ![8, 2048, 512]⟩
abbrev S8x2048x8x64 : Shape := ⟨4, ![8, 2048, 8, 64]⟩
abbrev S8x32x64x8x64 : Shape := ⟨5, ![8, 32, 64, 8, 64]⟩
abbrev S_ : Shape := ⟨0, ![]⟩
abbrev S8x2560x8x64 : Shape := ⟨4, ![8, 2560, 8, 64]⟩
abbrev S8x40x64x8x64 : Shape := ⟨5, ![8, 40, 64, 8, 64]⟩
abbrev S8x32x576x8x64 : Shape := ⟨5, ![8, 32, 576, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S8x513 : Shape := ⟨2, ![8, 513]⟩
abbrev S64x576x1 : Shape := ⟨3, ![64, 576, 1]⟩
abbrev S8x64x576 : Shape := ⟨3, ![8, 64, 576]⟩
abbrev S32 : Shape := ⟨1, ![32]⟩
abbrev S32x1 : Shape := ⟨2, ![32, 1]⟩
abbrev S32x576 : Shape := ⟨2, ![32, 576]⟩
abbrev S8x32x8x64x576 : Shape := ⟨5, ![8, 32, 8, 64, 576]⟩
abbrev S1x1x8x64x576 : Shape := ⟨5, ![1, 1, 8, 64, 576]⟩
abbrev S1x32x1x1x576 : Shape := ⟨5, ![1, 32, 1, 1, 576]⟩
abbrev S8x32x8x64 : Shape := ⟨4, ![8, 32, 8, 64]⟩
abbrev S8x32x8x64x1 : Shape := ⟨5, ![8, 32, 8, 64, 1]⟩
abbrev S8x32x8x64x64 : Shape := ⟨5, ![8, 32, 8, 64, 64]⟩

abbrev nBuf : Space → Nat
  | .hbm => 113
  | .vmem => 0
  | .smem => 0
  | _ => 0

abbrev bufTy : (tb : Table) → Fin (tcTables nBuf tb) → BufTy
  | .hbm, ⟨0, _⟩ => ⟨S8x2048x1536, .f32⟩
  | .hbm, ⟨1, _⟩ => ⟨S1x8x513, .f32⟩
  | .hbm, ⟨2, _⟩ => ⟨S8x2048x512, .f32⟩
  | .hbm, ⟨3, _⟩ => ⟨S8x2048x512, .f32⟩
  | .hbm, ⟨4, _⟩ => ⟨S8x2048x512, .f32⟩
  | .hbm, ⟨5, _⟩ => ⟨S8x2048x8x64, .f32⟩
  | .hbm, ⟨6, _⟩ => ⟨S8x2048x8x64, .f32⟩
  | .hbm, ⟨7, _⟩ => ⟨S8x2048x8x64, .f32⟩
  | .hbm, ⟨8, _⟩ => ⟨S8x32x64x8x64, .f32⟩
  | .hbm, ⟨9, _⟩ => ⟨S_, .i32⟩
  | .hbm, ⟨10, _⟩ => ⟨S_, .f32⟩
  | .hbm, ⟨11, _⟩ => ⟨S8x2560x8x64, .f32⟩
  | .hbm, ⟨12, _⟩ => ⟨S8x40x64x8x64, .f32⟩
  | .hbm, ⟨13, _⟩ => ⟨S_, .i32⟩
  | .hbm, ⟨14, _⟩ => ⟨S_, .f32⟩
  | .hbm, ⟨15, _⟩ => ⟨S8x2560x8x64, .f32⟩
  | .hbm, ⟨16, _⟩ => ⟨S8x40x64x8x64, .f32⟩
  | .hbm, ⟨17, _⟩ => ⟨S8x32x64x8x64, .f32⟩
  | .hbm, ⟨18, _⟩ => ⟨S8x32x64x8x64, .f32⟩
  | .hbm, ⟨19, _⟩ => ⟨S8x32x64x8x64, .f32⟩
  | .hbm, ⟨20, _⟩ => ⟨S8x32x64x8x64, .f32⟩
  | .hbm, ⟨21, _⟩ => ⟨S8x32x64x8x64, .f32⟩
  | .hbm, ⟨22, _⟩ => ⟨S8x32x64x8x64, .f32⟩
  | .hbm, ⟨23, _⟩ => ⟨S8x32x64x8x64, .f32⟩
  | .hbm, ⟨24, _⟩ => ⟨S8x32x64x8x64, .f32⟩
  | .hbm, ⟨25, _⟩ => ⟨S8x32x64x8x64, .f32⟩
  | .hbm, ⟨26, _⟩ => ⟨S8x32x576x8x64, .f32⟩
  | .hbm, ⟨27, _⟩ => ⟨S8x32x64x8x64, .f32⟩
  | .hbm, ⟨28, _⟩ => ⟨S8x32x64x8x64, .f32⟩
  | .hbm, ⟨29, _⟩ => ⟨S8x32x64x8x64, .f32⟩
  | .hbm, ⟨30, _⟩ => ⟨S8x32x64x8x64, .f32⟩
  | .hbm, ⟨31, _⟩ => ⟨S8x32x64x8x64, .f32⟩
  | .hbm, ⟨32, _⟩ => ⟨S8x32x64x8x64, .f32⟩
  | .hbm, ⟨33, _⟩ => ⟨S8x32x64x8x64, .f32⟩
  | .hbm, ⟨34, _⟩ => ⟨S8x32x64x8x64, .f32⟩
  | .hbm, ⟨35, _⟩ => ⟨S8x32x64x8x64, .f32⟩
  | .hbm, ⟨36, _⟩ => ⟨S8x32x576x8x64, .f32⟩
  | .hbm, ⟨37, _⟩ => ⟨S64, .i32⟩
  | .hbm, ⟨38, _⟩ => ⟨S64x1, .i32⟩
  | .hbm, ⟨39, _⟩ => ⟨S576, .i32⟩
  | .hbm, ⟨40, _⟩ => ⟨S1x576, .i32⟩
  | .hbm, ⟨41, _⟩ => ⟨S_, .i32⟩
  | .hbm, ⟨42, _⟩ => ⟨S64x1, .i32⟩
  | .hbm, ⟨43, _⟩ => ⟨S64x1, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S8x513, .f32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S64x576, .i32⟩
  | .hbm, ⟨52, _⟩ => ⟨S64x576, .i32⟩
  | .hbm, ⟨53, _⟩ => ⟨S_, .i32⟩
  | .hbm, ⟨54, _⟩ => ⟨S64x576, .i32⟩
  | .hbm, ⟨55, _⟩ => ⟨S64x576, .i32⟩
  | .hbm, ⟨56, _⟩ => ⟨S_, .i32⟩
  | .hbm, ⟨57, _⟩ => ⟨S64x576, .i32⟩
  | .hbm, ⟨58, _⟩ => ⟨S64x576, .i32⟩
  | .hbm, ⟨59, _⟩ => ⟨S_, .i32⟩
  | .hbm, ⟨60, _⟩ => ⟨S64x576, .i32⟩
  | .hbm, ⟨61, _⟩ => ⟨S64x576, .i1⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S64x576, .i32⟩
  | .hbm, ⟨66, _⟩ => ⟨S64x576x1, .i32⟩
  | .hbm, ⟨67, _⟩ => ⟨S8x64x576, .f32⟩
  | .hbm, ⟨68, _⟩ => ⟨S32, .i32⟩
  | .hbm, ⟨69, _⟩ => ⟨S32x1, .i32⟩
  | .hbm, ⟨70, _⟩ => ⟨S_, .i32⟩
  | .hbm, ⟨71, _⟩ => ⟨S32x1, .i32⟩
  | .hbm, ⟨72, _⟩ => ⟨S32x1, .i32⟩
  | .hbm, ⟨73, _⟩ => ⟨S_, .i32⟩
  | .hbm, ⟨74, _⟩ => ⟨S32x1, .i32⟩
  | .hbm, ⟨75, _⟩ => ⟨S32x1, .i32⟩
  | .hbm, ⟨76, _⟩ => ⟨S32x576, .i32⟩
  | .hbm, ⟨77, _⟩ => ⟨S32x576, .i32⟩
  | .hbm, ⟨78, _⟩ => ⟨S32x576, .i32⟩
  | .hbm, ⟨79, _⟩ => ⟨S8x32x8x64x576, .f32⟩
  | .hbm, ⟨80, _⟩ => ⟨S_, .f32⟩
  | .hbm, ⟨81, _⟩ => ⟨S8x32x8x64x576, .f32⟩
  | .hbm, ⟨82, _⟩ => ⟨S8x32x8x64x576, .f32⟩
  | .hbm, ⟨83, _⟩ => ⟨S1x1x8x64x576, .f32⟩
  | .hbm, ⟨84, _⟩ => ⟨S8x32x8x64x576, .f32⟩
  | .hbm, ⟨85, _⟩ => ⟨S8x32x8x64x576, .f32⟩
  | .hbm, ⟨86, _⟩ => ⟨S_, .i32⟩
  | .hbm, ⟨87, _⟩ => ⟨S32x576, .i32⟩
  | .hbm, ⟨88, _⟩ => ⟨S32x576, .i1⟩
  | .hbm, ⟨89, _⟩ => ⟨S1x32x1x1x576, .i1⟩
  | .hbm, ⟨90, _⟩ => ⟨S_, .f32⟩
  | .hbm, ⟨91, _⟩ => ⟨S_, .f32⟩
  | .hbm, ⟨92, _⟩ => ⟨S8x32x8x64x576, .i1⟩
  | .hbm, ⟨93, _⟩ => ⟨S8x32x8x64x576, .f32⟩
  | .hbm, ⟨94, _⟩ => ⟨S8x32x8x64x576, .f32⟩
  | .hbm, ⟨95, _⟩ => ⟨S_, .f32⟩
  | .hbm, ⟨96, _⟩ => ⟨S8x32x8x64, .f32⟩
  | .hbm, ⟨97, _⟩ => ⟨S_, .f32⟩
  | .hbm, ⟨98, _⟩ => ⟨S8x32x8x64, .f32⟩
  | .hbm, ⟨99, _⟩ => ⟨S8x32x8x64, .f32⟩
  | .hbm, ⟨100, _⟩ => ⟨S8x32x8x64x1, .f32⟩
  | .hbm, ⟨101, _⟩ => ⟨S8x32x8x64x576, .f32⟩
  | .hbm, ⟨102, _⟩ => ⟨S8x32x8x64x576, .f32⟩
  | .hbm, ⟨103, _⟩ => ⟨S8x32x8x64x576, .f32⟩
  | .hbm, ⟨104, _⟩ => ⟨S_, .f32⟩
  | .hbm, ⟨105, _⟩ => ⟨S8x32x8x64, .f32⟩
  | .hbm, ⟨106, _⟩ => ⟨S8x32x8x64x1, .f32⟩
  | .hbm, ⟨107, _⟩ => ⟨S8x32x8x64x576, .f32⟩
  | .hbm, ⟨108, _⟩ => ⟨S8x32x8x64x576, .f32⟩
  | .hbm, ⟨109, _⟩ => ⟨S8x32x8x64x64, .f32⟩
  | .hbm, ⟨110, _⟩ => ⟨S8x32x64x8x64, .f32⟩
  | .hbm, ⟨111, _⟩ => ⟨S8x2048x512, .f32⟩
  | .hbm, ⟨112, _⟩ => ⟨S8x2048x512, .bf16⟩
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_2 : Ref sig .tc := ⟨.hbm, 48, rfl⟩
abbrev main_c_3 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v41 : Ref sig .tc := ⟨.hbm, 55, rfl⟩
abbrev main_c_4 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_7 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_c_9 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_cst_12 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_13 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩

abbrev nD : Nat := 1
abbrev τ : Topo := Topo.v7x

variable {F : FTy → Type} [FloatOps F]
-- ==== Kernel5.lean ====
abbrev S32x64x2048 : Shape := ⟨3, ![32, 64, 2048]⟩
abbrev S512 : Shape := ⟨1, ![512]⟩
abbrev S1x4x128 : Shape := ⟨3, ![1, 4, 128]⟩
abbrev S1x32x4x128x128 : Shape := ⟨5, ![1, 32, 4, 128, 128]⟩
abbrev S1x512 : Shape := ⟨2, ![1, 512]⟩
abbrev S4x128 : Shape := ⟨2, ![4, 128]⟩
abbrev S32x4x128x128 : Shape := ⟨4, ![32, 4, 128, 128]⟩
abbrev S32x64x512 : Shape := ⟨3, ![32, 64, 512]⟩
abbrev S8x64x512 : Shape := ⟨3, ![8, 64, 512]⟩
abbrev S8x4x128x128 : Shape := ⟨4, ![8, 4, 128, 128]⟩
abbrev S1x1x128x128 : Shape := ⟨4, ![1, 1, 128, 128]⟩
abbrev S128x128 : Shape := ⟨2, ![128, 128]⟩
abbrev S1x64x512 : Shape := ⟨3, ![1, 64, 512]⟩
abbrev S64x512 : Shape := ⟨2, ![64, 512]⟩
abbrev S64x192 : Shape := ⟨2, ![64, 192]⟩
abbrev S192x512 : Shape := ⟨2, ![192, 512]⟩
abbrev S64x128 : Shape := ⟨2, ![64, 128]⟩
abbrev S1x64x128 : Shape := ⟨3, ![1, 64, 128]⟩
abbrev S1x128 : Shape := ⟨2, ![1, 128]⟩
abbrev S8x128 : Shape := ⟨2, ![8, 128]⟩
abbrev S56x128 : Shape := ⟨2, ![56, 128]⟩
abbrev S16x128 : Shape := ⟨2, ![16, 128]⟩
abbrev S24x128 : Shape := ⟨2, ![24, 128]⟩
abbrev S32x128 : Shape := ⟨2, ![32, 128]⟩
abbrev S40x128 : Shape := ⟨2, ![40, 128]⟩
abbrev S48x128 : Shape := ⟨2, ![48, 128]⟩
abbrev S64x896 : Shape := ⟨2, ![64, 896]⟩
abbrev S64x64 : Shape := ⟨2, ![64, 64]⟩
abbrev S64 : Shape := ⟨1, ![64]⟩
abbrev S64x1 : Shape := ⟨2, ![64, 1]⟩
abbrev S8x8x128 : Shape := ⟨3, ![8, 8, 128]⟩
abbrev S128x64 : Shape := ⟨2, ![128, 64]⟩

abbrev nBuf : Space → Nat
  | .hbm => 10
  | .vmem => 17
  | .smem => 0
  | _ => 0

abbrev bufTy : (tb : Table) → Fin (tcTables nBuf tb) → BufTy
  | .hbm, ⟨0, _⟩ => ⟨S32x64x2048, .f32⟩
  | .hbm, ⟨1, _⟩ => ⟨S512, .f32⟩
  | .hbm, ⟨2, _⟩ => ⟨S1x4x128, .f32⟩
  | .hbm, ⟨3, _⟩ => ⟨S1x32x4x128x128, .f32⟩
  | .hbm, ⟨4, _⟩ => ⟨S1x512, .f32⟩
  | .hbm, ⟨5, _⟩ => ⟨S4x128, .f32⟩
  | .hbm, ⟨6, _⟩ => ⟨S1x512, .f32⟩
  | .hbm, ⟨7, _⟩ => ⟨S32x4x128x128, .f32⟩
  | .hbm, ⟨8, _⟩ => ⟨S32x64x512, .bf16⟩
  | .hbm, ⟨9, _⟩ => ⟨S32x4x128x128, .f32⟩
  | .local _ .vmem, ⟨0, _⟩ => ⟨S8x64x512, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S8x64x512, .f32⟩
  | .local _ .vmem, ⟨5, _⟩ => ⟨S8x64x512, .f32⟩
  | .local _ .vmem, ⟨6, _⟩ => ⟨S8x64x512, .f32⟩
  | .local _ .vmem, ⟨7, _⟩ => ⟨S8x64x512, .f32⟩
  | .local _ .vmem, ⟨8, _⟩ => ⟨S1x512, .f32⟩
  | .local _ .vmem, ⟨9, _⟩ => ⟨S1x512, .f32⟩
  | .local _ .vmem, ⟨10, _⟩ => ⟨S8x4x128x128, .f32⟩
  | .local _ .vmem, ⟨11, _⟩ => ⟨S8x4x128x128, .f32⟩
  | .local _ .vmem, ⟨12, _⟩ => ⟨S8x64x512, .bf16⟩
  | .local _ .vmem, ⟨13, _⟩ => ⟨S8x64x512, .bf16⟩
  | .local _ .vmem, ⟨14, _⟩ => ⟨S8x4x128x128, .f32⟩
  | .local _ .vmem, ⟨15, _⟩ => ⟨S8x4x128x128, .f32⟩
  | .local _ .vmem, ⟨16, _⟩ => ⟨S8x4x128x128, .f32⟩
  | _, _ => ⟨S32x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_2358 : BitVec 32 := 0#32
  let v10005 : BitVec 1 := Scalar.cmpi .eq arg1 c0_i32_2358
  let v10006 : BitVec 32 := Scalar.extui v10005
  let c0_i32_2359 : BitVec 32 := 0#32
  let v10007 : BitVec 1 := Scalar.cmpi .ne v10006 c0_i32_2359
  v10007

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S32x64x2048 : Shape := ⟨3, ![32, 64, 2048]⟩
abbrev S512 : Shape := ⟨1, ![512]⟩
abbrev S1x4x128 : Shape := ⟨3, ![1, 4, 128]⟩
abbrev S1x32x4x128x128 : Shape := ⟨5, ![1, 32, 4, 128, 128]⟩
abbrev S32x64x512 : Shape := ⟨3, ![32, 64, 512]⟩
abbrev S4x1x128 : Shape := ⟨3, ![4, 1, 128]⟩
abbrev S_ : Shape := ⟨0, ![]⟩
abbrev S32x64x4x128 : Shape := ⟨4, ![32, 64, 4, 128]⟩
abbrev S32x4x64x128 : Shape := ⟨4, ![32, 4, 64, 128]⟩
abbrev S1x4x1x128 : Shape := ⟨4, ![1, 4, 1, 128]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S32x4x128x128 : Shape := ⟨4, ![32, 4, 128, 128]⟩

abbrev nBuf : Space → Nat
  | .hbm => 50
  | .vmem => 0
  | .smem => 0
  | _ => 0

abbrev bufTy : (tb : Table) → Fin (tcTables nBuf tb) → BufTy
  | .hbm, ⟨0, _⟩ => ⟨S32x64x2048, .f32⟩
  | .hbm, ⟨1, _⟩ => ⟨S512, .f32⟩
  | .hbm, ⟨2, _⟩ => ⟨S1x4x128, .f32⟩
  | .hbm, ⟨3, _⟩ => ⟨S1x32x4x128x128, .f32⟩
  | .hbm, ⟨4, _⟩ => ⟨S32x64x512, .f32⟩
  | .hbm, ⟨5, _⟩ => ⟨S32x64x512, .f32⟩
  | .hbm, ⟨6, _⟩ => ⟨S32x64x512, .f32⟩
  | .hbm, ⟨7, _⟩ => ⟨S32x64x512, .f32⟩
  | .hbm, ⟨8, _⟩ => ⟨S4x1x128, .f32⟩
  | .hbm, ⟨9, _⟩ => ⟨S_, .f32⟩
  | .hbm, ⟨10, _⟩ => ⟨S4x1x128, .f32⟩
  | .hbm, ⟨11, _⟩ => ⟨S4x1x128, .f32⟩
  | .hbm, ⟨12, _⟩ => ⟨S32x64x4x128, .f32⟩
  | .hbm, ⟨13, _⟩ => ⟨S32x4x64x128, .f32⟩
  | .hbm, ⟨14, _⟩ => ⟨S32x4x64x128, .f32⟩
  | .hbm, ⟨15, _⟩ => ⟨S32x4x64x128, .f32⟩
  | .hbm, ⟨16, _⟩ => ⟨S_, .f32⟩
  | .hbm, ⟨17, _⟩ => ⟨S32x4x64x128, .f32⟩
  | .hbm, ⟨18, _⟩ => ⟨S32x4x64x128, .f32⟩
  | .hbm, ⟨19, _⟩ => ⟨S_, .f32⟩
  | .hbm, ⟨20, _⟩ => ⟨S32x4x64x128, .f32⟩
  | .hbm, ⟨21, _⟩ => ⟨S32x4x64x128, .f32⟩
  | .hbm, ⟨22, _⟩ => ⟨S1x4x1x128, .f32⟩
  | .hbm, ⟨23, _⟩ => ⟨S32x4x64x128, .f32⟩
  | .hbm, ⟨24, _⟩ => ⟨S32x4x64x128, .f32⟩
  | .hbm, ⟨25, _⟩ => ⟨S1x4x1x128, .f32⟩
  | .hbm, ⟨26, _⟩ => ⟨S32x4x64x128, .f32⟩
  | .hbm, ⟨27, _⟩ => ⟨S32x4x64x128, .f32⟩
  | .hbm, ⟨28, _⟩ => ⟨S32x4x64x128, .f32⟩
  | .hbm, ⟨29, _⟩ => ⟨S_, .f32⟩
  | .hbm, ⟨30, _⟩ => ⟨S32x4x64x128, .f32⟩
  | .hbm, ⟨31, _⟩ => ⟨S32x4x64x128, .f32⟩
  | .hbm, ⟨32, _⟩ => ⟨S32x64x4x128, .f32⟩
  | .hbm, ⟨33, _⟩ => ⟨S32x4x64x128, .f32⟩
  | .hbm, ⟨34, _⟩ => ⟨S_, .f32⟩
  | .hbm, ⟨35, _⟩ => ⟨S_, .f32⟩
  | .hbm, ⟨36, _⟩ => ⟨S32x4x64x128, .f32⟩
  | .hbm, ⟨37, _⟩ => ⟨S32x4x1x128, .f32⟩
  | .hbm, ⟨38, _⟩ => ⟨S32x4x128, .f32⟩
  | .hbm, ⟨39, _⟩ => ⟨S32x4x128, .f32⟩
  | .hbm, ⟨40, _⟩ => ⟨S32x4x128x1, .f32⟩
  | .hbm, ⟨41, _⟩ => ⟨S32x4x128x128, .f32⟩
  | .hbm, ⟨42, _⟩ => ⟨S32x4x128x128, .f32⟩
  | .hbm, ⟨43, _⟩ => ⟨S32x4x128x128, .f32⟩
  | .hbm, ⟨44, _⟩ => ⟨S32x4x64x128, .f32⟩
  | .hbm, ⟨45, _⟩ => ⟨S32x4x64x128, .f32⟩
  | .hbm, ⟨46, _⟩ => ⟨S32x4x64x128, .f32⟩
  | .hbm, ⟨47, _⟩ => ⟨S32x4x64x128, .f32⟩
  | .hbm, ⟨48, _⟩ => ⟨S32x4x128x128, .f32⟩
  | .hbm, ⟨49, _⟩ => ⟨S32x4x128x128, .f32⟩
  | _, _ => ⟨S32x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_call0_cst : Ref sig .tc := ⟨.hbm, 34, rfl⟩
abbrev main_call0_call0_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Kernel6.lean ====
abbrev S32x64x1024 : Shape := ⟨3, ![32, 64, 1024]⟩
abbrev S32x64x512 : Shape := ⟨3, ![32, 64, 512]⟩
abbrev S2048x2048 : Shape := ⟨2, ![2048, 2048]⟩
abbrev S1x512x1024 : Shape := ⟨3, ![1, 512, 1024]⟩
abbrev S1x1024x1024 : Shape := ⟨3, ![1, 1024, 1024]⟩
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S1024x512 : Shape := ⟨2, ![1024, 512]⟩
abbrev S1024x2048 : Shape := ⟨2, ![1024, 2048]⟩

abbrev nBuf : Space → Nat
  | .hbm => 18
  | .vmem => 13
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .bf16⟩
  | .hbm, ⟨2, _⟩ => ⟨S32x64x512, .bf16⟩
  | .hbm, ⟨3, _⟩ => ⟨S2048x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S2048x1024, .f32⟩
  | .hbm, ⟨8, _⟩ => ⟨S2048x512, .bf16⟩
  | .hbm, ⟨9, _⟩ => ⟨S2048x512, .bf16⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1024x1024, .f32⟩
  | .hbm, ⟨15, _⟩ => ⟨S1024x1024, .bf16⟩
  | .hbm, ⟨16, _⟩ => ⟨S2048x1024, .f32⟩
  | .hbm, ⟨17, _⟩ => ⟨S32x64x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x2048, .bf16⟩
  | .local _ .vmem, ⟨7, _⟩ => ⟨S1024x2048, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S32x64x1024 : Shape := ⟨3, ![32, 64, 1024]⟩
abbrev S32x64x512 : Shape := ⟨3, ![32, 64, 512]⟩
abbrev S2048x2048 : Shape := ⟨2, ![2048, 2048]⟩
abbrev S1x512x1024 : Shape := ⟨3, ![1, 512, 1024]⟩
abbrev S1x1024x1024 : Shape := ⟨3, ![1, 1024, 1024]⟩
abbrev S32x64x2048 : Shape := ⟨3, ![32, 64, 2048]⟩
abbrev S_ : Shape := ⟨0, ![]⟩
abbrev S512x1024 : Shape := ⟨2, ![512, 1024]⟩
abbrev S1024x1024 : Shape := ⟨2, ![1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S32x64x512, .bf16⟩
  | .hbm, ⟨2, _⟩ => ⟨S32x64x512, .bf16⟩
  | .hbm, ⟨3, _⟩ => ⟨S2048x2048, .bf16⟩
  | .hbm, ⟨4, _⟩ => ⟨S1x512x1024, .f32⟩
  | .hbm, ⟨5, _⟩ => ⟨S1x512x1024, .f32⟩
  | .hbm, ⟨6, _⟩ => ⟨S1x1024x1024, .f32⟩
  | .hbm, ⟨7, _⟩ => ⟨S2048x2048, .f32⟩
  | .hbm, ⟨8, _⟩ => ⟨S32x64x2048, .f32⟩
  | .hbm, ⟨9, _⟩ => ⟨S32x64x1024, .f32⟩
  | .hbm, ⟨10, _⟩ => ⟨S32x64x1024, .f32⟩
  | .hbm, ⟨11, _⟩ => ⟨S32x64x1024, .f32⟩
  | .hbm, ⟨12, _⟩ => ⟨S32x64x1024, .f32⟩
  | .hbm, ⟨13, _⟩ => ⟨S_, .f32⟩
  | .hbm, ⟨14, _⟩ => ⟨S32x64x1024, .f32⟩
  | .hbm, ⟨15, _⟩ => ⟨S32x64x1024, .f32⟩
  | .hbm, ⟨16, _⟩ => ⟨S_, .f32⟩
  | .hbm, ⟨17, _⟩ => ⟨S32x64x1024, .f32⟩
  | .hbm, ⟨18, _⟩ => ⟨S32x64x1024, .f32⟩
  | .hbm, ⟨19, _⟩ => ⟨S32x64x512, .f32⟩
  | .hbm, ⟨20, _⟩ => ⟨S512x1024, .f32⟩
  | .hbm, ⟨21, _⟩ => ⟨S32x64x1024, .f32⟩
  | .hbm, ⟨22, _⟩ => ⟨S32x64x1024, .f32⟩
  | .hbm, ⟨23, _⟩ => ⟨S32x64x1024, .f32⟩
  | .hbm, ⟨24, _⟩ => ⟨S32x64x1024, .f32⟩
  | .hbm, ⟨25, _⟩ => ⟨S_, .f32⟩
  | .hbm, ⟨26, _⟩ => ⟨S32x64x1024, .f32⟩
  | .hbm, ⟨27, _⟩ => ⟨S32x64x1024, .f32⟩
  | .hbm, ⟨28, _⟩ => ⟨S_, .f32⟩
  | .hbm, ⟨29, _⟩ => ⟨S32x64x1024, .f32⟩
  | .hbm, ⟨30, _⟩ => ⟨S32x64x1024, .f32⟩
  | .hbm, ⟨31, _⟩ => ⟨S32x64x512, .f32⟩
  | .hbm, ⟨32, _⟩ => ⟨S512x1024, .f32⟩
  | .hbm, ⟨33, _⟩ => ⟨S32x64x1024, .f32⟩
  | .hbm, ⟨34, _⟩ => ⟨S32x64x1024, .f32⟩
  | .hbm, ⟨35, _⟩ => ⟨S32x64x1024, .f32⟩
  | .hbm, ⟨36, _⟩ => ⟨S1024x1024, .f32⟩
  | .hbm, ⟨37, _⟩ => ⟨S32x64x1024, .f32⟩
  | .hbm, ⟨38, _⟩ => ⟨S32x64x1024, .f32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel7.lean ====
abbrev S8x2048x2048 : Shape := ⟨3, ![8, 2048, 2048]⟩
abbrev S512 : Shape := ⟨1, ![512]⟩
abbrev S1x4x128 : Shape := ⟨3, ![1, 4, 128]⟩
abbrev S1x512 : Shape := ⟨2, ![1, 512]⟩
abbrev S4x128 : Shape := ⟨2, ![4, 128]⟩
abbrev S8x2048x512 : Shape := ⟨3, ![8, 2048, 512]⟩
abbrev S8x4x128x128 : Shape := ⟨4, ![8, 4, 128, 128]⟩
abbrev S8x64x512 : Shape := ⟨3, ![8, 64, 512]⟩
abbrev S128x128 : Shape := ⟨2, ![128, 128]⟩
abbrev S1x1x128x128 : Shape := ⟨4, ![1, 1, 128, 128]⟩
abbrev S1x64x512 : Shape := ⟨3, ![1, 64, 512]⟩
abbrev S64x512 : Shape := ⟨2, ![64, 512]⟩
abbrev S64x192 : Shape := ⟨2, ![64, 192]⟩
abbrev S192x512 : Shape := ⟨2, ![192, 512]⟩
abbrev S64x128 : Shape := ⟨2, ![64, 128]⟩
abbrev S1x64x128 : Shape := ⟨3, ![1, 64, 128]⟩
abbrev S1x128 : Shape := ⟨2, ![1, 128]⟩
abbrev S8x128 : Shape := ⟨2, ![8, 128]⟩
abbrev S56x128 : Shape := ⟨2, ![56, 128]⟩
abbrev S16x128 : Shape := ⟨2, ![16, 128]⟩
abbrev S24x128 : Shape := ⟨2, ![24, 128]⟩
abbrev S32x128 : Shape := ⟨2, ![32, 128]⟩
abbrev S40x128 : Shape := ⟨2, ![40, 128]⟩
abbrev S48x128 : Shape := ⟨2, ![48, 128]⟩
abbrev S64x896 : Shape := ⟨2, ![64, 896]⟩
abbrev S64x64 : Shape := ⟨2, ![64, 64]⟩
abbrev S64 : Shape := ⟨1, ![64]⟩
abbrev S64x1 : Shape := ⟨2, ![64, 1]⟩
abbrev S8x8x128 : Shape := ⟨3, ![8, 8, 128]⟩
abbrev S128x64 : Shape := ⟨2, ![128, 64]⟩

abbrev nBuf : Space → Nat
  | .hbm => 8
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S512, .f32⟩
  | .hbm, ⟨2, _⟩ => ⟨S1x4x128, .f32⟩
  | .hbm, ⟨3, _⟩ => ⟨S1x512, .f32⟩
  | .hbm, ⟨4, _⟩ => ⟨S4x128, .f32⟩
  | .hbm, ⟨5, _⟩ => ⟨S1x512, .f32⟩
  | .hbm, ⟨6, _⟩ => ⟨S8x2048x512, .bf16⟩
  | .hbm, ⟨7, _⟩ => ⟨S8x4x128x128, .f32⟩
  | .local _ .vmem, ⟨0, _⟩ => ⟨S8x64x512, .f32⟩
  | .local _ .vmem, ⟨1, _⟩ => ⟨S8x64x512, .f32⟩
  | .local _ .vmem, ⟨2, _⟩ => ⟨S8x64x512, .f32⟩
  | .local _ .vmem, ⟨3, _⟩ => ⟨S8x64x512, .f32⟩
  | .local _ .vmem, ⟨4, _⟩ => ⟨S8x64x512, .f32⟩
  | .local _ .vmem, ⟨5, _⟩ => ⟨S8x64x512, .f32⟩
  | .local _ .vmem, ⟨6, _⟩ => ⟨S8x64x512, .f32⟩
  | .local _ .vmem, ⟨7, _⟩ => ⟨S8x64x512, .f32⟩
  | .local _ .vmem, ⟨8, _⟩ => ⟨S1x512, .f32⟩
  | .local _ .vmem, ⟨9, _⟩ => ⟨S1x512, .f32⟩
  | .local _ .vmem, ⟨10, _⟩ => ⟨S8x64x512, .bf16⟩
  | .local _ .vmem, ⟨11, _⟩ => ⟨S8x64x512, .bf16⟩
  | .local _ .vmem, ⟨12, _⟩ => ⟨S8x4x128x128, .f32⟩
  | .local _ .vmem, ⟨13, _⟩ => ⟨S8x4x128x128, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v10005 : BitVec 1 := Scalar.cmpi .eq arg1 c31_i32
  let v10006 : BitVec 32 := Scalar.extui v10005
  let c0_i32_2358 : BitVec 32 := 0#32
  let v10007 : BitVec 1 := Scalar.cmpi .ne v10006 c0_i32_2358
  v10007

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference7Ideal.lean ====
abbrev S8x2048x2048 : Shape := ⟨3, ![8, 2048, 2048]⟩
abbrev S512 : Shape := ⟨1, ![512]⟩
abbrev S1x4x128 : Shape := ⟨3, ![1, 4, 128]⟩
abbrev S8x2048x512 : Shape := ⟨3, ![8, 2048, 512]⟩
abbrev S4x1x128 : Shape := ⟨3, ![4, 1, 128]⟩
abbrev S_ : Shape := ⟨0, ![]⟩
abbrev S8x2048x4x128 : Shape := ⟨4, ![8, 2048, 4, 128]⟩
abbrev S8x4x2048x128 : Shape := ⟨4, ![8, 4, 2048, 128]⟩
abbrev S1x4x1x128 : Shape := ⟨4, ![1, 4, 1, 128]⟩
abbrev S8x4x128x128 : Shape := ⟨4, ![8, 4, 128, 128]⟩
abbrev S8x4x32x64x128 : Shape := ⟨5, ![8, 4, 32, 64, 128]⟩
abbrev S32x8x4x64x128 : Shape := ⟨5, ![32, 8, 4, 64, 128]⟩
abbrev S1x8x4x64x128 : Shape := ⟨5, ![1, 8, 4, 64, 128]⟩
abbrev S8x4x64x128 : Shape := ⟨4, ![8, 4, 64, 128]⟩
abbrev S8x4x1x128 : Shape := ⟨4, ![8, 4, 1, 128]⟩
abbrev S8x4x128 : Shape := ⟨3, ![8, 4, 128]⟩
abbrev S8x4x128x1 : Shape := ⟨4, ![8, 4, 128, 1]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S512, .f32⟩
  | .hbm, ⟨2, _⟩ => ⟨S1x4x128, .f32⟩
  | .hbm, ⟨3, _⟩ => ⟨S8x2048x512, .f32⟩
  | .hbm, ⟨4, _⟩ => ⟨S8x2048x512, .f32⟩
  | .hbm, ⟨5, _⟩ => ⟨S8x2048x512, .f32⟩
  | .hbm, ⟨6, _⟩ => ⟨S8x2048x512, .f32⟩
  | .hbm, ⟨7, _⟩ => ⟨S4x1x128, .f32⟩
  | .hbm, ⟨8, _⟩ => ⟨S_, .f32⟩
  | .hbm, ⟨9, _⟩ => ⟨S4x1x128, .f32⟩
  | .hbm, ⟨10, _⟩ => ⟨S4x1x128, .f32⟩
  | .hbm, ⟨11, _⟩ => ⟨S8x2048x4x128, .f32⟩
  | .hbm, ⟨12, _⟩ => ⟨S8x4x2048x128, .f32⟩
  | .hbm, ⟨13, _⟩ => ⟨S8x4x2048x128, .f32⟩
  | .hbm, ⟨14, _⟩ => ⟨S8x4x2048x128, .f32⟩
  | .hbm, ⟨15, _⟩ => ⟨S_, .f32⟩
  | .hbm, ⟨16, _⟩ => ⟨S8x4x2048x128, .f32⟩
  | .hbm, ⟨17, _⟩ => ⟨S8x4x2048x128, .f32⟩
  | .hbm, ⟨18, _⟩ => ⟨S_, .f32⟩
  | .hbm, ⟨19, _⟩ => ⟨S8x4x2048x128, .f32⟩
  | .hbm, ⟨20, _⟩ => ⟨S8x4x2048x128, .f32⟩
  | .hbm, ⟨21, _⟩ => ⟨S1x4x1x128, .f32⟩
  | .hbm, ⟨22, _⟩ => ⟨S8x4x2048x128, .f32⟩
  | .hbm, ⟨23, _⟩ => ⟨S8x4x2048x128, .f32⟩
  | .hbm, ⟨24, _⟩ => ⟨S1x4x1x128, .f32⟩
  | .hbm, ⟨25, _⟩ => ⟨S8x4x2048x128, .f32⟩
  | .hbm, ⟨26, _⟩ => ⟨S8x4x2048x128, .f32⟩
  | .hbm, ⟨27, _⟩ => ⟨S8x4x2048x128, .f32⟩
  | .hbm, ⟨28, _⟩ => ⟨S_, .f32⟩
  | .hbm, ⟨29, _⟩ => ⟨S8x4x2048x128, .f32⟩
  | .hbm, ⟨30, _⟩ => ⟨S8x4x2048x128, .f32⟩
  | .hbm, ⟨31, _⟩ => ⟨S8x2048x4x128, .f32⟩
  | .hbm, ⟨32, _⟩ => ⟨S8x4x2048x128, .f32⟩
  | .hbm, ⟨33, _⟩ => ⟨S_, .f32⟩
  | .hbm, ⟨34, _⟩ => ⟨S8x4x128x128, .f32⟩
  | .hbm, ⟨35, _⟩ => ⟨S8x4x32x64x128, .f32⟩
  | .hbm, ⟨36, _⟩ => ⟨S32x8x4x64x128, .f32⟩
  | .hbm, ⟨37, _⟩ => ⟨S8x4x32x64x128, .f32⟩
  | .hbm, ⟨38, _⟩ => ⟨S32x8x4x64x128, .f32⟩
  | .hbm, ⟨39, _⟩ => ⟨S8x4x32x64x128, .f32⟩
  | .hbm, ⟨40, _⟩ => ⟨S32x8x4x64x128, .f32⟩
  | .hbm, ⟨41, _⟩ => ⟨S_, .i32⟩
  | .hbm, ⟨42, _⟩ => ⟨S32x8x4x64x128, .f32⟩
  | .hbm, ⟨43, _⟩ => ⟨S32x8x4x64x128, .f32⟩
  | .hbm, ⟨44, _⟩ => ⟨S32x8x4x64x128, .f32⟩
  | .hbm, ⟨45, _⟩ => ⟨S_, .i32⟩
  | .hbm, ⟨46, _⟩ => ⟨S8x4x128x128, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x8x4x64x128, .f32⟩
  | .hbm, ⟨54, _⟩ => ⟨S8x4x64x128, .f32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S1x8x4x64x128, .f32⟩
  | .hbm, ⟨60, _⟩ => ⟨S8x4x64x128, .f32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x8x4x64x128, .f32⟩
  | .hbm, ⟨66, _⟩ => ⟨S8x4x64x128, .f32⟩
  | .hbm, ⟨67, _⟩ => ⟨S_, .f32⟩
  | .hbm, ⟨68, _⟩ => ⟨S_, .f32⟩
  | .hbm, ⟨69, _⟩ => ⟨S8x4x64x128, .f32⟩
  | .hbm, ⟨70, _⟩ => ⟨S8x4x1x128, .f32⟩
  | .hbm, ⟨71, _⟩ => ⟨S8x4x128, .f32⟩
  | .hbm, ⟨72, _⟩ => ⟨S8x4x128, .f32⟩
  | .hbm, ⟨73, _⟩ => ⟨S8x4x128x1, .f32⟩
  | .hbm, ⟨74, _⟩ => ⟨S8x4x128x128, .f32⟩
  | .hbm, ⟨75, _⟩ => ⟨S8x4x128x128, .f32⟩
  | .hbm, ⟨76, _⟩ => ⟨S8x4x64x128, .f32⟩
  | .hbm, ⟨77, _⟩ => ⟨S8x4x64x128, .f32⟩
  | .hbm, ⟨78, _⟩ => ⟨S8x4x64x128, .f32⟩
  | .hbm, ⟨79, _⟩ => ⟨S8x4x64x128, .f32⟩
  | .hbm, ⟨80, _⟩ => ⟨S8x4x128x128, .f32⟩
  | .hbm, ⟨81, _⟩ => ⟨S8x4x128x128, .f32⟩
  | .hbm, ⟨82, _⟩ => ⟨S_, .i32⟩
  | .hbm, ⟨83, _⟩ => ⟨S_, .i32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev main_while0c_c_8 : Ref sig .tc := ⟨.hbm, 47, rfl⟩
abbrev main_while0c_v34 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_c_1 : Ref sig .tc := ⟨.hbm, 51, rfl⟩
abbrev main_while0b_call0_c_2 : Ref sig .tc := ⟨.hbm, 52, rfl⟩
abbrev main_while0b_call0_v0 : Ref sig .tc := ⟨.hbm, 53, rfl⟩
abbrev main_while0b_v34 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_c_2 : Ref sig .tc := ⟨.hbm, 58, rfl⟩
abbrev main_while0b_call1_v0 : Ref sig .tc := ⟨.hbm, 59, rfl⟩
abbrev main_while0b_v35 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_call2_c_2 : Ref sig .tc := ⟨.hbm, 64, rfl⟩
abbrev main_while0b_call2_v0 : Ref sig .tc := ⟨.hbm, 65, rfl⟩
abbrev main_while0b_v36 : Ref sig .tc := ⟨.hbm, 66, rfl⟩
abbrev main_while0b_call3_call0_cst : Ref sig .tc := ⟨.hbm, 67, rfl⟩
abbrev main_while0b_call3_call0_v0 : Ref sig .tc := ⟨.hbm, 68, rfl⟩
abbrev main_while0b_v37 : Ref sig .tc := ⟨.hbm, 69, rfl⟩
abbrev main_while0b_v38 : Ref sig .tc := ⟨.hbm, 70, rfl⟩
abbrev main_while0b_v39 : Ref sig .tc := ⟨.hbm, 71, rfl⟩
abbrev main_while0b_v40 : Ref sig .tc := ⟨.hbm, 72, rfl⟩
abbrev main_while0b_v41 : Ref sig .tc := ⟨.hbm, 73, rfl⟩
abbrev main_while0b_v42 : Ref sig .tc := ⟨.hbm, 74, rfl⟩
abbrev main_while0b_v43 : Ref sig .tc := ⟨.hbm, 75, rfl⟩
abbrev main_while0b_v44 : Ref sig .tc := ⟨.hbm, 76, rfl⟩
abbrev main_while0b_v45 : Ref sig .tc := ⟨.hbm, 77, rfl⟩
abbrev main_while0b_v46 : Ref sig .tc := ⟨.hbm, 78, rfl⟩
abbrev main_while0b_v47 : Ref sig .tc := ⟨.hbm, 79, rfl⟩
abbrev main_while0b_v48 : Ref sig .tc := ⟨.hbm, 80, rfl⟩
abbrev main_while0b_v49 : Ref sig .tc := ⟨.hbm, 81, rfl⟩
abbrev main_while0b_c_8 : Ref sig .tc := ⟨.hbm, 82, rfl⟩
abbrev main_while0b_v50 : Ref sig .tc := ⟨.hbm, 83, rfl⟩

abbrev nD : Nat := 1
abbrev τ : Topo := Topo.v7x

variable {F : FTy → Type} [FloatOps F]

abbrev main_while0_count : Scf.Loop 32 := ⟨0#32, 32#32, 1#32⟩
-- ==== Kernel8.lean ====
abbrev S32x64x1536 : Shape := ⟨3, ![32, 64, 1536]⟩
abbrev S1x32x512x8x64 : Shape := ⟨5, ![1, 32, 512, 8, 64]⟩
abbrev S1x8x513 : Shape := ⟨3, ![1, 8, 513]⟩
abbrev S32x512x8x64 : Shape := ⟨4, ![32, 512, 8, 64]⟩
abbrev S32x512x512 : Shape := ⟨3, ![32, 512, 512]⟩
abbrev S8x513 : Shape := ⟨2, ![8, 513]⟩
abbrev S1x513 : Shape := ⟨2, ![1, 513]⟩
abbrev S1x0x513 : Shape := ⟨3, ![1, 0, 513]⟩
abbrev S0x513 : Shape := ⟨2, ![0, 513]⟩
abbrev S8x1 : Shape := ⟨2, ![8, 1]⟩
abbrev S8x1x0 : Shape := ⟨3, ![8, 1, 0]⟩
abbrev S8x0 : Shape := ⟨2, ![8, 0]⟩
abbrev S8x1x319 : Shape := ⟨3, ![8, 1, 319]⟩
abbrev S8x319 : Shape := ⟨2, ![8, 319]⟩
abbrev S8x832 : Shape := ⟨2, ![8, 832]⟩
abbrev S8x639 : Shape := ⟨2, ![8, 639]⟩
abbrev S1x8x1x639 : Shape := ⟨4, ![1, 8, 1, 639]⟩
abbrev S1x8x64x639 : Shape := ⟨4, ![1, 8, 64, 639]⟩
abbrev S8x40896 : Shape := ⟨2, ![8, 40896]⟩
abbrev S8x40832 : Shape := ⟨2, ![8, 40832]⟩
abbrev S8x64x638 : Shape := ⟨3, ![8, 64, 638]⟩
abbrev S8x64x576 : Shape := ⟨3, ![8, 64, 576]⟩
abbrev S8x64x512 : Shape := ⟨3, ![8, 64, 512]⟩
abbrev S8x64x64 : Shape := ⟨3, ![8, 64, 64]⟩
abbrev S32x64x512 : Shape := ⟨3, ![32, 64, 512]⟩
abbrev S4x64x512 : Shape := ⟨3, ![4, 64, 512]⟩
abbrev S4x512x512 : Shape := ⟨3, ![4, 512, 512]⟩
abbrev S1x512x128 : Shape := ⟨3, ![1, 512, 128]⟩
abbrev S512x128 : Shape := ⟨2, ![512, 128]⟩
abbrev S1x64x128 : Shape := ⟨3, ![1, 64, 128]⟩
abbrev S64x128 : Shape := ⟨2, ![64, 128]⟩
abbrev S1x128 : Shape := ⟨2, ![1, 128]⟩
abbrev S128x128 : Shape := ⟨2, ![128, 128]⟩
abbrev S128x512 : Shape := ⟨2, ![128, 512]⟩
abbrev S1x64x512 : Shape := ⟨3, ![1, 64, 512]⟩
abbrev S64x512 : Shape := ⟨2, ![64, 512]⟩
abbrev S128x64 : Shape := ⟨2, ![128, 64]⟩
abbrev S1x64x64 : Shape := ⟨3, ![1, 64, 64]⟩
abbrev S64x64 : Shape := ⟨2, ![64, 64]⟩
abbrev S128 : Shape := ⟨1, ![128]⟩
abbrev S128x1 : Shape := ⟨2, ![128, 1]⟩

abbrev nBuf : Space → Nat
  | .hbm => 34
  | .vmem => 14
  | .smem => 0
  | _ => 0

abbrev bufTy : (tb : Table) → Fin (tcTables nBuf tb) → BufTy
  | .hbm, ⟨0, _⟩ => ⟨S32x64x1536, .f32⟩
  | .hbm, ⟨1, _⟩ => ⟨S1x32x512x8x64, .f32⟩
  | .hbm, ⟨2, _⟩ => ⟨S1x32x512x8x64, .f32⟩
  | .hbm, ⟨3, _⟩ => ⟨S1x8x513, .f32⟩
  | .hbm, ⟨4, _⟩ => ⟨S32x512x8x64, .f32⟩
  | .hbm, ⟨5, _⟩ => ⟨S32x512x512, .f32⟩
  | .hbm, ⟨6, _⟩ => ⟨S32x512x8x64, .f32⟩
  | .hbm, ⟨7, _⟩ => ⟨S32x512x512, .f32⟩
  | .hbm, ⟨8, _⟩ => ⟨S8x513, .f32⟩
  | .hbm, ⟨9, _⟩ => ⟨S1x513, .f32⟩
  | .hbm, ⟨10, _⟩ => ⟨S1x0x513, .f32⟩
  | .hbm, ⟨11, _⟩ => ⟨S0x513, .f32⟩
  | .hbm, ⟨12, _⟩ => ⟨S1x513, .f32⟩
  | .hbm, ⟨13, _⟩ => ⟨S1x0x513, .f32⟩
  | .hbm, ⟨14, _⟩ => ⟨S0x513, .f32⟩
  | .hbm, ⟨15, _⟩ => ⟨S8x513, .f32⟩
  | .hbm, ⟨16, _⟩ => ⟨S8x1, .f32⟩
  | .hbm, ⟨17, _⟩ => ⟨S8x1x0, .f32⟩
  | .hbm, ⟨18, _⟩ => ⟨S8x0, .f32⟩
  | .hbm, ⟨19, _⟩ => ⟨S8x1, .f32⟩
  | .hbm, ⟨20, _⟩ => ⟨S8x1x319, .f32⟩
  | .hbm, ⟨21, _⟩ => ⟨S8x319, .f32⟩
  | .hbm, ⟨22, _⟩ => ⟨S8x832, .f32⟩
  | .hbm, ⟨23, _⟩ => ⟨S8x639, .f32⟩
  | .hbm, ⟨24, _⟩ => ⟨S8x639, .f32⟩
  | .hbm, ⟨25, _⟩ => ⟨S1x8x1x639, .f32⟩
  | .hbm, ⟨26, _⟩ => ⟨S1x8x64x639, .f32⟩
  | .hbm, ⟨27, _⟩ => ⟨S8x40896, .f32⟩
  | .hbm, ⟨28, _⟩ => ⟨S8x40832, .f32⟩
  | .hbm, ⟨29, _⟩ => ⟨S8x64x638, .f32⟩
  | .hbm, ⟨30, _⟩ => ⟨S8x64x576, .f32⟩
  | .hbm, ⟨31, _⟩ => ⟨S8x64x512, .f32⟩
  | .hbm, ⟨32, _⟩ => ⟨S8x64x64, .f32⟩
  | .hbm, ⟨33, _⟩ => ⟨S32x64x512, .bf16⟩
  | .local _ .vmem, ⟨0, _⟩ => ⟨S4x64x512, .f32⟩
  | .local _ .vmem, ⟨1, _⟩ => ⟨S4x64x512, .f32⟩
  | .local _ .vmem, ⟨2, _⟩ => ⟨S4x64x512, .f32⟩
  | .local _ .vmem, ⟨3, _⟩ => ⟨S4x64x512, .f32⟩
  | .local _ .vmem, ⟨4, _⟩ => ⟨S4x64x512, .f32⟩
  | .local _ .vmem, ⟨5, _⟩ => ⟨S4x64x512, .f32⟩
  | .local _ .vmem, ⟨6, _⟩ => ⟨S4x512x512, .f32⟩
  | .local _ .vmem, ⟨7, _⟩ => ⟨S4x512x512, .f32⟩
  | .local _ .vmem, ⟨8, _⟩ => ⟨S4x512x512, .f32⟩
  | .local _ .vmem, ⟨9, _⟩ => ⟨S4x512x512, .f32⟩
  | .local _ .vmem, ⟨10, _⟩ => ⟨S8x64x512, .f32⟩
  | .local _ .vmem, ⟨11, _⟩ => ⟨S8x64x64, .f32⟩
  | .local _ .vmem, ⟨12, _⟩ => ⟨S4x64x512, .bf16⟩
  | .local _ .vmem, ⟨13, _⟩ => ⟨S4x64x512, .bf16⟩
  | _, _ => ⟨S32x64x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4x64x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S32x64x1536 : Shape := ⟨3, ![32, 64, 1536]⟩
abbrev S1x32x512x8x64 : Shape := ⟨5, ![1, 32, 512, 8, 64]⟩
abbrev S1x8x513 : Shape := ⟨3, ![1, 8, 513]⟩
abbrev S32x64x512 : Shape := ⟨3, ![32, 64, 512]⟩
abbrev S32x64x8x64 : Shape := ⟨4, ![32, 64, 8, 64]⟩
abbrev S32x512x8x64 : Shape := ⟨4, ![32, 512, 8, 64]⟩
abbrev S32x576x8x64 : Shape := ⟨4, ![32, 576, 8, 64]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S8x513 : Shape := ⟨2, ![8, 513]⟩
abbrev S64x576x1 : Shape := ⟨3, ![64, 576, 1]⟩
abbrev S8x64x576 : Shape := ⟨3, ![8, 64, 576]⟩
abbrev S32x8x64x576 : Shape := ⟨4, ![32, 8, 64, 576]⟩
abbrev S1x8x64x576 : Shape := ⟨4, ![1, 8, 64, 576]⟩
abbrev S32x8x64 : Shape := ⟨3, ![32, 8, 64]⟩
abbrev S32x8x64x1 : Shape := ⟨4, ![32, 8, 64, 1]⟩
abbrev S32x8x64x64 : Shape := ⟨4, ![32, 8, 64, 64]⟩

abbrev nBuf : Space → Nat
  | .hbm => 70
  | .vmem => 0
  | .smem => 0
  | _ => 0

abbrev bufTy : (tb : Table) → Fin (tcTables nBuf tb) → BufTy
  | .hbm, ⟨0, _⟩ => ⟨S32x64x1536, .f32⟩
  | .hbm, ⟨1, _⟩ => ⟨S1x32x512x8x64, .f32⟩
  | .hbm, ⟨2, _⟩ => ⟨S1x32x512x8x64, .f32⟩
  | .hbm, ⟨3, _⟩ => ⟨S1x8x513, .f32⟩
  | .hbm, ⟨4, _⟩ => ⟨S32x64x512, .f32⟩
  | .hbm, ⟨5, _⟩ => ⟨S32x64x512, .f32⟩
  | .hbm, ⟨6, _⟩ => ⟨S32x64x512, .f32⟩
  | .hbm, ⟨7, _⟩ => ⟨S32x64x8x64, .f32⟩
  | .hbm, ⟨8, _⟩ => ⟨S32x64x8x64, .f32⟩
  | .hbm, ⟨9, _⟩ => ⟨S32x64x8x64, .f32⟩
  | .hbm, ⟨10, _⟩ => ⟨S32x512x8x64, .f32⟩
  | .hbm, ⟨11, _⟩ => ⟨S32x576x8x64, .f32⟩
  | .hbm, ⟨12, _⟩ => ⟨S32x512x8x64, .f32⟩
  | .hbm, ⟨13, _⟩ => ⟨S32x576x8x64, .f32⟩
  | .hbm, ⟨14, _⟩ => ⟨S64, .i32⟩
  | .hbm, ⟨15, _⟩ => ⟨S64x1, .i32⟩
  | .hbm, ⟨16, _⟩ => ⟨S_, .i32⟩
  | .hbm, ⟨17, _⟩ => ⟨S64x1, .i32⟩
  | .hbm, ⟨18, _⟩ => ⟨S64x1, .i32⟩
  | .hbm, ⟨19, _⟩ => ⟨S576, .i32⟩
  | .hbm, ⟨20, _⟩ => ⟨S1x576, .i32⟩
  | .hbm, ⟨21, _⟩ => ⟨S64x576, .i32⟩
  | .hbm, ⟨22, _⟩ => ⟨S64x576, .i32⟩
  | .hbm, ⟨23, _⟩ => ⟨S64x576, .i32⟩
  | .hbm, ⟨24, _⟩ => ⟨S8x513, .f32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S_, .i32⟩
  | .hbm, ⟨34, _⟩ => ⟨S64x576, .i32⟩
  | .hbm, ⟨35, _⟩ => ⟨S64x576, .i32⟩
  | .hbm, ⟨36, _⟩ => ⟨S_, .i32⟩
  | .hbm, ⟨37, _⟩ => ⟨S64x576, .i32⟩
  | .hbm, ⟨38, _⟩ => ⟨S64x576, .i1⟩
  | .hbm, ⟨39, _⟩ => ⟨S_, .i32⟩
  | .hbm, ⟨40, _⟩ => ⟨S64x576, .i32⟩
  | .hbm, ⟨41, _⟩ => ⟨S64x576, .i32⟩
  | .hbm, ⟨42, _⟩ => ⟨S64x576, .i32⟩
  | .hbm, ⟨43, _⟩ => ⟨S64x576x1, .i32⟩
  | .hbm, ⟨44, _⟩ => ⟨S8x64x576, .f32⟩
  | .hbm, ⟨45, _⟩ => ⟨S32x8x64x576, .f32⟩
  | .hbm, ⟨46, _⟩ => ⟨S_, .f32⟩
  | .hbm, ⟨47, _⟩ => ⟨S32x8x64x576, .f32⟩
  | .hbm, ⟨48, _⟩ => ⟨S32x8x64x576, .f32⟩
  | .hbm, ⟨49, _⟩ => ⟨S1x8x64x576, .f32⟩
  | .hbm, ⟨50, _⟩ => ⟨S32x8x64x576, .f32⟩
  | .hbm, ⟨51, _⟩ => ⟨S32x8x64x576, .f32⟩
  | .hbm, ⟨52, _⟩ => ⟨S_, .f32⟩
  | .hbm, ⟨53, _⟩ => ⟨S32x8x64, .f32⟩
  | .hbm, ⟨54, _⟩ => ⟨S_, .f32⟩
  | .hbm, ⟨55, _⟩ => ⟨S32x8x64, .f32⟩
  | .hbm, ⟨56, _⟩ => ⟨S32x8x64, .f32⟩
  | .hbm, ⟨57, _⟩ => ⟨S32x8x64x1, .f32⟩
  | .hbm, ⟨58, _⟩ => ⟨S32x8x64x576, .f32⟩
  | .hbm, ⟨59, _⟩ => ⟨S32x8x64x576, .f32⟩
  | .hbm, ⟨60, _⟩ => ⟨S32x8x64x576, .f32⟩
  | .hbm, ⟨61, _⟩ => ⟨S_, .f32⟩
  | .hbm, ⟨62, _⟩ => ⟨S32x8x64, .f32⟩
  | .hbm, ⟨63, _⟩ => ⟨S32x8x64x1, .f32⟩
  | .hbm, ⟨64, _⟩ => ⟨S32x8x64x576, .f32⟩
  | .hbm, ⟨65, _⟩ => ⟨S32x8x64x576, .f32⟩
  | .hbm, ⟨66, _⟩ => ⟨S32x8x64x64, .f32⟩
  | .hbm, ⟨67, _⟩ => ⟨S32x64x8x64, .f32⟩
  | .hbm, ⟨68, _⟩ => ⟨S32x64x512, .f32⟩
  | .hbm, ⟨69, _⟩ => ⟨S32x64x512, .bf16⟩
  | _, _ => ⟨S32x64x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Proof.Inproj.Block.lean ====
/- One row tile of the input projection: what the kernel body computes from the blocks it loads. -/
module

public import proofs.«01_k».proof.Proof.Gen.KernelIdeal.Skeleton
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws

@[expose] public section

set_option maxRecDepth 16384

noncomputable section

namespace Cert.Inproj

open Idealize.ShloMosaic Idealize.ShloMosaic.ValueIdx
open scoped BigOperators

/-- A row divided by the root of its mean square (plus a small constant) and scaled by the gain, at column `k`. -/
def nrm (x g : Fin 1024 → EReal) (k : Fin 1024) : EReal :=
  x k * Ideal.rsqrt (Ideal.div (∑ l, x l * x l) (Ideal.ofBits .f32 0x44800000#32) + Ideal.ofBits .f32 0x358637BD#32) * g k

/-- The normalised row times one column of the weights. -/
def proj (x g w : Fin 1024 → EReal) : EReal := ∑ k, nrm x g k * w k

/-- Column `n` of the projection of frame `j` of stream `b`. -/
def zat {B T : Nat} (x : (⟨3, ![B, T, 1024]⟩ : Shape).Idx → EReal) (g : (⟨2, ![1, 1024]⟩ : Shape).Idx → EReal)
    (w : (⟨3, ![1, 1024, 5632]⟩ : Shape).Idx → EReal) (b : Fin B) (j : Fin T) (n : Fin 5632) : EReal :=
  proj (fun k => x (ix3 b j k)) (fun k => g (ix2 (0 : Fin 1) k)) (fun k => w (ix3 (0 : Fin 1) k n))

open Cert.KernelIdeal Cert.KernelIdeal.Gen

/-- A reshape of three axes to two, read at an index with the same row-major position. -/
theorem flat3 {α : Type} {a b k n p : Nat} (x : (⟨3, ![a, b, k]⟩ : Shape).Idx → α)
    (h : (⟨3, ![a, b, k]⟩ : Shape).ShapeCasts ⟨2, ![n, p]⟩) (i : Fin a) (j : Fin b) (l : Fin k) (r : Fin n) (q : Fin p)
    (e : (i.val * b + j.val) * k + l.val = r.val * p + q.val) : shapeCast ⟨2, ![n, p]⟩ x h (ix2 r q) = x (ix3 i j l) := by
  refine shapeCast_apply _ _ _ _ ?_
  rw [Shape.rowMajor_val_three, Shape.rowMajor_val_two]
  exact e

/-- The last axis split into eight heads behind a new unit axis, read at an index. -/
theorem heads_apply {α : Type} {B K : Nat} (y : (⟨3, ![B, K, 512]⟩ : Shape).Idx → α)
    (h : (⟨3, ![B, K, 512]⟩ : Shape).ShapeCasts ⟨4, ![B, K, 8, 64]⟩)
    (hb : (⟨4, ![B, K, 8, 64]⟩ : Shape).BroadcastsInDim ⟨5, ![1, B, K, 8, 64]⟩ ![1, 2, 3, 4])
    (u : Fin 1) (b : Fin B) (t : Fin K) (e : Fin 8) (d : Fin 64) :
    broadcastInDim ⟨5, ![1, B, K, 8, 64]⟩ ![1, 2, 3, 4] hb (shapeCast ⟨4, ![B, K, 8, 64]⟩ y h) (ix5 u b t e d)
      = y (ix3 b t (⟨64 * e.val + d.val, by omega⟩ : Fin 512)) := by
  refine (broadcastInDim_apply _ _ _ _ (ix4 b t e d) (fun a => ?_)).trans (shapeCast_apply _ _ _ _ ?_)
  · match a with
    | ⟨0, _⟩ => show b.val = if B = 1 then 0 else b.val; split <;> omega
    | ⟨1, _⟩ => show t.val = if K = 1 then 0 else t.val; split <;> omega
    | ⟨2, _⟩ => show e.val = if (8 : Nat) = 1 then 0 else e.val; rfl
    | ⟨3, _⟩ => show d.val = if (64 : Nat) = 1 then 0 else d.val; rfl
  · rw [Shape.rowMajor_val_three, Shape.rowMajor_val_four]
    show (b.val * K + t.val) * 512 + (64 * e.val + d.val) = ((b.val * K + t.val) * 8 + e.val) * 64 + d.val
    omega

/-- Columns of the unflattened first array, read at an index. -/
theorem cols_apply {α : Type} {B T N : Nat} (o : Nat) (z : (⟨2, ![N, 1536]⟩ : Shape).Idx → α)
    (h : (⟨2, ![N, 1536]⟩ : Shape).ShapeCasts ⟨3, ![B, T, 1536]⟩)
    (hs : (⟨3, ![B, T, 1536]⟩ : Shape).Slices ![0, 0, o] ⟨3, ![B, T, 512]⟩)
    (b : Fin B) (t : Fin T) (j : Fin 512) (r : Fin N) (hr : r.val = b.val * T + t.val) (ho : o + j.val < 1536) :
    extractStridedSlice ⟨3, ![B, T, 512]⟩ ![0, 0, o] (shapeCast ⟨3, ![B, T, 1536]⟩ z h) hs (ix3 b t j)
      = z (ix2 r (⟨o + j.val, ho⟩ : Fin 1536)) := by
  refine (extractStridedSlice_apply _ _ _ _ (ix3 b t (⟨o + j.val, ho⟩ : Fin 1536)) (fun a => ?_)).trans (shapeCast_apply _ _ _ _ ?_)
  · match a with
    | ⟨0, _⟩ => show b.val = 0 + b.val; omega
    | ⟨1, _⟩ => show t.val = 0 + t.val; omega
    | ⟨2, _⟩ => show o + j.val = o + j.val; rfl
  · rw [Shape.rowMajor_val_three, Shape.rowMajor_val_two]
    show r.val * 1536 + (o + j.val) = (b.val * T + t.val) * 1536 + (o + j.val)
    rw [hr]

/-- The cached rows: frames `o ..` of each stream at the eight heads from column `q` of the projection. -/
def kept {B T K : Nat} (x : (⟨3, ![B, T, 1024]⟩ : Shape).Idx → EReal) (g : (⟨2, ![1, 1024]⟩ : Shape).Idx → EReal)
    (w : (⟨3, ![1, 1024, 5632]⟩ : Shape).Idx → EReal) (o q : Nat) (ho : o + K ≤ T) (hq : q + 512 ≤ 5632) :
    (⟨5, ![1, B, K, 8, 64]⟩ : Shape).Idx → EReal := fun i =>
  zat x g w (⟨(i 1).val, (i 1).isLt⟩ : Fin B) ⟨o + (i 2).val, by have : (i 2).val < K := (i 2).isLt; omega⟩
    ⟨q + (64 * (i 3).val + (i 4).val), by
      have h3 : (i 3).val < 8 := (i 3).isLt
      have h4 : (i 4).val < 64 := (i 4).isLt
      omega⟩

/-- The offsets of a load of a whole buffer. -/
theorem hz : (![0, 0] : Fin 2 → Nat) = fun _ => 0 := funext fun a => by fin_cases a <;> rfl

/-- A load of a column range of the weights, read at an index. -/
theorem ld_cols {sz : Nat} (o : Nat) (X : Vec Ideal S1024x5632 .bf16)
    (inb : ∀ a, (![0, o] : Fin 2 → Nat) a + (![1024, sz] : Fin 2 → Nat) a ≤ S1024x5632.size a)
    (k : Fin 1024) (n : Fin sz) (hn : o + n.val < 5632) :
    View.ld X (Rect.unit (s := S1024x5632) ![0, o] ![1024, sz] inb) (ix2 k n) = X (ix2 k (⟨o + n.val, hn⟩ : Fin 5632)) := by
  rw [View.ld_unit]
  refine extractStridedSlice_apply _ _ _ _ _ (fun a => ?_)
  match a with
  | ⟨0, _⟩ => show k.val = 0 + k.val; omega
  | ⟨1, _⟩ => show o + n.val = o + n.val; rfl

/-- The body's normalised tile at row `r`, column `k`. -/
theorem pay1_apply (v0 : Vec Ideal S512x1024 .f32) (v2 : Vec Ideal S1x1024 .f32) (r : Fin 512) (k : Fin 1024) :
    k0_pay1 v0 v2 (ix2 r k) = nrm (fun l => v0 (ix2 r l)) (fun l => v2 (ix2 (0 : Fin 1) l)) k := by
  unfold k0_pay1 nrm
  simp only [shapeCast_self, truncf_apply, mulf_apply]
  congr 1
  · congr 1
    refine (broadcastTo_apply _ broadcasts_S512x1_S512x1024 (ix2 r k) (ix2 r (0 : Fin 1))
      (fun a => by match a with | ⟨0, _⟩ => rfl | ⟨1, _⟩ => rfl)).trans ?_
    show Ideal.rsqrt (Ideal.div (shapeCast S512x1 _ shapeCasts_S512_S512x1 (ix2 r (0 : Fin 1))) _ + _) = _
    rw [show shapeCast S512x1 _ shapeCasts_S512_S512x1 (ix2 r (0 : Fin 1)) = _ from
      shapeCast_a_a1_apply _ shapeCasts_S512_S512x1 r (0 : Fin 1)]
    rw [show multiReduction .add [1] S512 _ 0x00000000#32 reduces_S512x1024_S512 (.inl rfl) rfl (ix1 r) = _ from
      Ideal.multiReduction_add_single _ _ reduces_S512x1024_S512 (.inl rfl) rfl (ix1 r)]
    refine congrArg (fun z => Ideal.rsqrt (Ideal.div z _ + _)) ?_
    refine Finset.sum_congr rfl fun l _ => ?_
    have e : reduces_S512x1024_S512.lift (ix1 r) l = ix2 r l := funext fun a => Fin.ext (by
      match a with | ⟨0, _⟩ => rfl | ⟨1, _⟩ => rfl)
    rw [e]
    rfl
  · exact broadcastTo_apply _ broadcasts_S1x1024_S512x1024 (ix2 r k) (ix2 (0 : Fin 1) k)
      (fun a => by match a with | ⟨0, _⟩ => rfl | ⟨1, _⟩ => rfl)

/-- The attention columns of the tile: the normalised row times the loaded weight column. -/
theorem pay2_apply (v0 : Vec Ideal S512x1024 .f32) (v2 : Vec Ideal S1x1024 .f32) (w : Vec Ideal S1024x1536 .bf16)
    (r : Fin 512) (n : Fin 1536) :
    k0_pay2 v0 v2 w (ix2 r n) = proj (fun l => v0 (ix2 r l)) (fun l => v2 (ix2 (0 : Fin 1) l)) (fun l => w (ix2 l n)) := by
  unfold k0_pay2 proj
  simp only [shapeCast_self]
  refine (Ideal.matmul_plain_apply none (k0_pay1 v0 v2) w (constant S512x1536 .f32 0x00000000#32) r n).trans ?_
  rw [constant_apply, Ideal.ofBits_zero_f32, zero_add]
  exact Finset.sum_congr rfl fun k _ => by rw [pay1_apply]

/-- The recurrence columns of the tile. -/
theorem pay3_apply (v0 : Vec Ideal S512x1024 .f32) (v2 : Vec Ideal S1x1024 .f32) (w : Vec Ideal S1024x2048 .bf16)
    (r : Fin 512) (n : Fin 2048) :
    k0_pay3 v0 v2 w (ix2 r n) = proj (fun l => v0 (ix2 r l)) (fun l => v2 (ix2 (0 : Fin 1) l)) (fun l => w (ix2 l n)) := by
  unfold k0_pay3 proj
  simp only [shapeCast_self]
  refine (Ideal.matmul_plain_apply none (k0_pay1 v0 v2) w (constant S512x2048 .f32 0x00000000#32) r n).trans ?_
  rw [constant_apply, Ideal.ofBits_zero_f32, zero_add]
  exact Finset.sum_congr rfl fun k _ => by rw [pay1_apply]

/-- The gate columns of the tile: the same product, whose narrowing is the identity over the reals. -/
theorem pay4_apply (v0 : Vec Ideal S512x1024 .f32) (v2 : Vec Ideal S1x1024 .f32) (w : Vec Ideal S1024x2048 .bf16)
    (r : Fin 512) (n : Fin 2048) :
    k0_pay4 v0 v2 w (ix2 r n) = proj (fun l => v0 (ix2 r l)) (fun l => v2 (ix2 (0 : Fin 1) l)) (fun l => w (ix2 l n)) :=
  pay3_apply v0 v2 w r n

end Cert.Inproj

end
-- ==== Proof.Inproj.Prompt.lean ====
/- The arrays that the input projection of the prompt batch leaves, index by index, from the launch contents of its arguments. -/
module

public import proofs.«01_k».proof.Proof.Inproj.Block
public import proofs.«01_k».proof.Proof.Gen.KernelIdeal.Frame

@[expose] public section

set_option maxRecDepth 16384

noncomputable section

namespace Cert.Inproj.Prompt

open Idealize.ShloMosaic Idealize.ShloMosaic.TcCoe Idealize.SL.Sem Idealize.ShloMosaic.ValueIdx
open Idealize.ShloMosaic.Pipeline (Dat)
open scoped BigOperators
open Cert.Inproj
open Cert.KernelIdeal Cert.KernelIdeal.Gen

variable (m : (ℓ : Loc nD τ sig) → Buf (Elt Ideal) ℓ)

/-- Token `r` of the flattened batch at column `k` of the input. -/
def xin (c : Dev nD) (r : Fin 16384) (k : Fin 1024) : EReal :=
  (m ((c : Thread nD τ).loc main_arg0) : Vec Ideal S8x2048x1024 .f32)
    (ix3 (⟨r.val / 2048, by omega⟩ : Fin 8) (⟨r.val % 2048, by omega⟩ : Fin 2048) k)

/-- Column `n` of the projection of token `r`. -/
def zin (c : Dev nD) (r : Fin 16384) (n : Fin 5632) : EReal :=
  zat (B := 8) (T := 2048) (m ((c : Thread nD τ).loc main_arg0)) (m ((c : Thread nD τ).loc main_arg1)) (m ((c : Thread nD τ).loc main_arg2))
    (⟨r.val / 2048, by omega⟩ : Fin 8) (⟨r.val % 2048, by omega⟩ : Fin 2048) n

/-- The gain of the norm at column `k`. -/
def gin (c : Dev nD) (k : Fin 1024) : EReal :=
  (m ((c : Thread nD τ).loc main_arg1) : Vec Ideal S1x1024 .f32) (ix2 (0 : Fin 1) k)

/-- The weights at row `k`, column `n`. -/
def win (c : Dev nD) (k : Fin 1024) (n : Fin 5632) : EReal :=
  (m ((c : Thread nD τ).loc main_arg2) : Vec Ideal S1x1024x5632 .f32) (ix3 (0 : Fin 1) k n)

/-- The flattened input when the region is entered. -/
theorem V_x (c : Dev nD) (r : Fin 16384) (k : Fin 1024) : V m c main_v0 (ix2 r k) = xin m c r k := by
  have e : (V m c main_v0 : Vec Ideal S16384x1024 .f32)
      = shapeCast S16384x1024 (m ((c : Thread nD τ).loc main_arg0) : Vec Ideal S8x2048x1024 .f32) shapeCasts_S8x2048x1024_S16384x1024 := by
    show StableHlo.after hostOps0 _ _ = _
    after_results <;> rfl
  rw [e]
  refine flat3 _ _ _ _ _ _ _ ?_
  show (r.val / 2048 * 2048 + r.val % 2048) * 1024 + k.val = r.val * 1024 + k.val
  omega

/-- The gain row when the region is entered. -/
theorem V_g (c : Dev nD) (k : Fin 1024) : V m c main_v2 (ix2 (0 : Fin 1) k) = gin m c k := by
  have e : (V m c main_v2 : Vec Ideal S1x1024 .f32)
      = shapeCast S1x1024 (shapeCast S1024 (m ((c : Thread nD τ).loc main_arg1) : Vec Ideal S1x1024 .f32) shapeCasts_S1x1024_S1024) shapeCasts_S1024_S1x1024 := by
    show StableHlo.after hostOps0 _ _ = _
    after_results <;> rfl
  rw [e, shapeCast_shapeCast]; rfl

/-- The weights when the region is entered; their narrowing is the identity over the reals. -/
theorem V_w (c : Dev nD) (k : Fin 1024) (n : Fin 5632) : V m c main_v4 (ix2 k n) = win m c k n := by
  have e : (V m c main_v4 : Vec Ideal S1024x5632 .bf16)
      = truncf .bf16 (shapeCast S1024x5632 (m ((c : Thread nD τ).loc main_arg2) : Vec Ideal S1x1024x5632 .f32) shapeCasts_S1x1024x5632_S1024x5632 : FVec Ideal S1024x5632 .f32) bitsLt_bf16_f32 := by
    show StableHlo.after hostOps0 _ _ = _
    after_results <;> rfl
  rw [e, truncf_apply]
  refine flat3 _ _ _ _ _ _ _ ?_
  show (0 * 1024 + k.val) * 5632 + n.val = k.val * 5632 + n.val
  omega

/-- The first result: columns 0 to 1535. -/
def Gza (c : Dev nD) : Buf (Elt Ideal) ((c : Thread nD τ).loc main_v5_0) :=
  fun i : S16384x1536.Idx => zin m c ⟨(i 0).val, (i 0).isLt⟩ ⟨(i 1).val, by have : (i 1).val < 1536 := (i 1).isLt; omega⟩

/-- The second result: columns 1536 to 3583. -/
def Gzb (c : Dev nD) : Buf (Elt Ideal) ((c : Thread nD τ).loc main_v5_1) :=
  fun i : S16384x2048.Idx => zin m c ⟨(i 0).val, (i 0).isLt⟩ ⟨1536 + (i 1).val, by have : (i 1).val < 2048 := (i 1).isLt; omega⟩

/-- The third result: columns 3584 to 5631. -/
def Gzg (c : Dev nD) : Buf (Elt Ideal) ((c : Thread nD τ).loc main_v5_2) :=
  fun i : S16384x2048.Idx => zin m c ⟨(i 0).val, (i 0).isLt⟩ ⟨3584 + (i 1).val, by have : (i 1).val < 2048 := (i 1).isLt; omega⟩

theorem lt_N (t : Fin cfg0.N) : t.val < 32 := lt_of_lt_of_eq t.isLt N_0

/-- The block index maps: row tiles move with the grid point, the gain and the weights stay. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

/-- Row `r` of tile `t` as a row of the whole array. -/
def row (t : Fin cfg0.N) (r : Fin 512) : Fin 16384 := ⟨t.val * 512 + r.val, by have := lt_N t; omega⟩

/-- The input tile at point `t`. -/
theorem blk_x (c : Dev nD) (t : Fin cfg0.N) (r : Fin 512) (k : Fin 1024) :
    (iblk m c 0 t : Vec Ideal S512x1024 .f32) (ix2 r k) = xin m c (row t r) k := by
  rw [← V_x]
  show V m c main_v0 ((win0_0.rect t).emb (ix2 r k)) = _
  refine congrArg _ (funext fun a => Fin.ext ?_)
  refine (Pipeline.Window.rect_emb_val win0_0 t (ix2 r k) a rfl).trans ?_
  match a with
  | ⟨0, _⟩ => show win0_0.index t 0 * 512 + r.val = t.val * 512 + r.val; rw [(idx0 t).1]
  | ⟨1, _⟩ => show win0_0.index t 1 * 1024 + k.val = k.val; rw [(idx0 t).2]; omega

/-- The gain at point `t`. -/
theorem blk_g (c : Dev nD) (t : Fin cfg0.N) (k : Fin 1024) :
    (iblk m c 1 t : Vec Ideal S1x1024 .f32) (ix2 (0 : Fin 1) k) = gin m c k := by
  rw [← V_g]
  show V m c main_v2 ((win0_1.rect t).emb (ix2 (0 : Fin 1) k)) = _
  refine congrArg _ (funext fun a => Fin.ext ?_)
  refine (Pipeline.Window.rect_emb_val win0_1 t (ix2 (0 : Fin 1) k) a rfl).trans ?_
  match a with
  | ⟨0, _⟩ => show win0_1.index t 0 * 1 + 0 = 0; rw [(idx1 t).1]
  | ⟨1, _⟩ => show win0_1.index t 1 * 1024 + k.val = k.val; rw [(idx1 t).2]; omega

/-- The weights at point `t`. -/
theorem blk_w (c : Dev nD) (t : Fin cfg0.N) (k : Fin 1024) (n : Fin 5632) :
    (iblk m c 2 t : Vec Ideal S1024x5632 .bf16) (ix2 k n) = win m c k n := by
  rw [← V_w]
  show V m c main_v4 ((win0_2.rect t).emb (ix2 k n)) = _
  refine congrArg _ (funext fun a => Fin.ext ?_)
  refine (Pipeline.Window.rect_emb_val win0_2 t (ix2 k n) a rfl).trans ?_
  match a with
  | ⟨0, _⟩ => show win0_2.index t 0 * 1024 + k.val = k.val; rw [(idx2 t).1]; omega
  | ⟨1, _⟩ => show win0_2.index t 1 * 5632 + n.val = n.val; rw [(idx2 t).2]; omega

/-- What point `t` writes to the first result is tile `t` of it. -/
theorem flushed_za (c : Dev nD) (t : Fin cfg0.N) :
    (dats m 0 c).flushed 3 t = ((cfg0.win 3).blk t).view.read (Elt Ideal) (Gza m c) := by
  show (cfg0.win 3).cut (grid0.coords t) ((dats m 0 c).after 3 t) = _
  rw [after0_3]
  unfold out0_3
  rw [View.canon_unit_zero hz]
  refine funext fun (y : S512x1536.Idx) => ?_
  obtain ⟨r, n, rfl⟩ : ∃ (r : Fin 512) (n : Fin 1536), y = ix2 r n := ⟨y 0, y 1, eq_ix2 _⟩
  have e : (win0_3.rect t).emb (ix2 r n) = (ix2 (row t r) n : S16384x1536.Idx) := funext fun a => Fin.ext (by
    refine (Pipeline.Window.rect_emb_val win0_3 t (ix2 r n) a rfl).trans ?_
    match a with
    | ⟨0, _⟩ => show win0_3.index t 0 * 512 + r.val = t.val * 512 + r.val; rw [(idx3 t).1]
    | ⟨1, _⟩ => show win0_3.index t 1 * 1536 + n.val = n.val; rw [(idx3 t).2]; omega)
  refine Eq.trans ?_ (congrArg (Gza m c) e).symm
  refine (pay2_apply _ _ _ r n).trans ?_
  rw [View.ld_unit_zero hz, View.ld_unit_zero hz]
  simp only [blk_x, blk_g]
  show _ = proj (xin m c (row t r)) (gin m c) (fun k => win m c k (⟨n.val, by omega⟩ : Fin 5632))
  refine congrArg (proj (xin m c (row t r)) (gin m c)) (funext fun k => ?_)
  refine (ld_cols 0 _ inb_S1024x5632_S1024x1536_0_0 k n (by omega)).trans ((blk_w m c t k _).trans ?_)
  exact congrArg (win m c k) (Fin.ext (Nat.zero_add _))

/-- Every index of the first result lies in a tile. -/
theorem cover_za (c : Dev nD) (i : S16384x1536.Idx) :
    ∃ t : Fin cfg0.N, (cfg0.win 3).flush t = true ∧ i ∈ ((cfg0.win 3).blk t).view.set := by
  have h0 : (i 0).val < 16384 := (i 0).isLt
  have hN : (i 0).val / 512 < cfg0.N := by rw [show cfg0.N = 32 from N_0]; omega
  refine ⟨⟨(i 0).val / 512, hN⟩, flush0_3 _, ?_⟩
  generalize ht : (⟨(i 0).val / 512, hN⟩ : Fin cfg0.N) = t
  have ht' : t.val = (i 0).val / 512 := by rw [← ht]
  show i ∈ ((View.whole main_v5_0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(idx3 t).1, ht']; omega
  | ⟨1, _⟩ =>
    have h1 : (i 1).val < 1536 := (i 1).isLt
    show win0_3.index t 1 * 1536 ≤ (i 1).val ∧ (i 1).val < win0_3.index t 1 * 1536 + 1536
    rw [(idx3 t).2]; omega

/-- The first result after the run. -/
theorem arr_za (c : Dev nD) : (dats m 0 c).arrAt 3 cfg0.N = Gza m c :=
  (dats m 0 c).arrAt_eq_of_cover 3 (Gza m c) (fun t _ => flushed_za m c t) (cover_za c)

/-- What point `t` writes to the second result is tile `t` of it. -/
theorem flushed_zb (c : Dev nD) (t : Fin cfg0.N) :
    (dats m 0 c).flushed 4 t = ((cfg0.win 4).blk t).view.read (Elt Ideal) (Gzb m c) := by
  show (cfg0.win 4).cut (grid0.coords t) ((dats m 0 c).after 4 t) = _
  rw [after0_4]
  unfold out0_4
  rw [View.canon_unit_zero hz]
  refine funext fun (y : S512x2048.Idx) => ?_
  obtain ⟨r, n, rfl⟩ : ∃ (r : Fin 512) (n : Fin 2048), y = ix2 r n := ⟨y 0, y 1, eq_ix2 _⟩
  have e : (win0_4.rect t).emb (ix2 r n) = (ix2 (row t r) n : S16384x2048.Idx) := funext fun a => Fin.ext (by
    refine (Pipeline.Window.rect_emb_val win0_4 t (ix2 r n) a rfl).trans ?_
    match a with
    | ⟨0, _⟩ => show win0_4.index t 0 * 512 + r.val = t.val * 512 + r.val; rw [(idx4 t).1]
    | ⟨1, _⟩ => show win0_4.index t 1 * 2048 + n.val = n.val; rw [(idx4 t).2]; omega)
  refine Eq.trans ?_ (congrArg (Gzb m c) e).symm
  refine (pay3_apply _ _ _ r n).trans ?_
  rw [View.ld_unit_zero hz, View.ld_unit_zero hz]
  simp only [blk_x, blk_g]
  show _ = proj (xin m c (row t r)) (gin m c) (fun k => win m c k (⟨1536 + n.val, by omega⟩ : Fin 5632))
  refine congrArg (proj (xin m c (row t r)) (gin m c)) (funext fun k => ?_)
  refine (ld_cols 1536 _ inb_S1024x5632_S1024x2048_0_1536 k n (by omega)).trans ((blk_w m c t k _).trans ?_)
  rfl

/-- Every index of the second result lies in a tile. -/
theorem cover_zb (c : Dev nD) (i : S16384x2048.Idx) :
    ∃ t : Fin cfg0.N, (cfg0.win 4).flush t = true ∧ i ∈ ((cfg0.win 4).blk t).view.set := by
  have h0 : (i 0).val < 16384 := (i 0).isLt
  have hN : (i 0).val / 512 < cfg0.N := by rw [show cfg0.N = 32 from N_0]; omega
  refine ⟨⟨(i 0).val / 512, hN⟩, flush0_4 _, ?_⟩
  generalize ht : (⟨(i 0).val / 512, hN⟩ : Fin cfg0.N) = t
  have ht' : t.val = (i 0).val / 512 := by rw [← ht]
  show i ∈ ((View.whole main_v5_1).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(idx4 t).1, ht']; omega
  | ⟨1, _⟩ =>
    have h1 : (i 1).val < 2048 := (i 1).isLt
    show win0_4.index t 1 * 2048 ≤ (i 1).val ∧ (i 1).val < win0_4.index t 1 * 2048 + 2048
    rw [(idx4 t).2]; omega

/-- The second result after the run. -/
theorem arr_zb (c : Dev nD) : (dats m 0 c).arrAt 4 cfg0.N = Gzb m c :=
  (dats m 0 c).arrAt_eq_of_cover 4 (Gzb m c) (fun t _ => flushed_zb m c t) (cover_zb c)

/-- What point `t` writes to the third result is tile `t` of it. -/
theorem flushed_zg (c : Dev nD) (t : Fin cfg0.N) :
    (dats m 0 c).flushed 5 t = ((cfg0.win 5).blk t).view.read (Elt Ideal) (Gzg m c) := by
  show (cfg0.win 5).cut (grid0.coords t) ((dats m 0 c).after 5 t) = _
  rw [after0_5]
  unfold out0_5
  rw [View.canon_unit_zero hz]
  refine funext fun (y : S512x2048.Idx) => ?_
  obtain ⟨r, n, rfl⟩ : ∃ (r : Fin 512) (n : Fin 2048), y = ix2 r n := ⟨y 0, y 1, eq_ix2 _⟩
  have e : (win0_5.rect t).emb (ix2 r n) = (ix2 (row t r) n : S16384x2048.Idx) := funext fun a => Fin.ext (by
    refine (Pipeline.Window.rect_emb_val win0_5 t (ix2 r n) a rfl).trans ?_
    match a with
    | ⟨0, _⟩ => show win0_5.index t 0 * 512 + r.val = t.val * 512 + r.val; rw [(idx5 t).1]
    | ⟨1, _⟩ => show win0_5.index t 1 * 2048 + n.val = n.val; rw [(idx5 t).2]; omega)
  refine Eq.trans ?_ (congrArg (Gzg m c) e).symm
  refine (pay4_apply _ _ _ r n).trans ?_
  rw [View.ld_unit_zero hz, View.ld_unit_zero hz]
  simp only [blk_x, blk_g]
  show _ = proj (xin m c (row t r)) (gin m c) (fun k => win m c k (⟨3584 + n.val, by omega⟩ : Fin 5632))
  refine congrArg (proj (xin m c (row t r)) (gin m c)) (funext fun k => ?_)
  refine (ld_cols 3584 _ inb_S1024x5632_S1024x2048_0_3584 k n (by omega)).trans ((blk_w m c t k _).trans ?_)
  rfl

/-- Every index of the third result lies in a tile. -/
theorem cover_zg (c : Dev nD) (i : S16384x2048.Idx) :
    ∃ t : Fin cfg0.N, (cfg0.win 5).flush t = true ∧ i ∈ ((cfg0.win 5).blk t).view.set := by
  have h0 : (i 0).val < 16384 := (i 0).isLt
  have hN : (i 0).val / 512 < cfg0.N := by rw [show cfg0.N = 32 from N_0]; omega
  refine ⟨⟨(i 0).val / 512, hN⟩, flush0_5 _, ?_⟩
  generalize ht : (⟨(i 0).val / 512, hN⟩ : Fin cfg0.N) = t
  have ht' : t.val = (i 0).val / 512 := by rw [← ht]
  show i ∈ ((View.whole main_v5_2).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [(idx5 t).1, ht']; omega
  | ⟨1, _⟩ =>
    have h1 : (i 1).val < 2048 := (i 1).isLt
    show win0_5.index t 1 * 2048 ≤ (i 1).val ∧ (i 1).val < win0_5.index t 1 * 2048 + 2048
    rw [(idx5 t).2]; omega

/-- The third result after the run. -/
theorem arr_zg (c : Dev nD) : (dats m 0 c).arrAt 5 cfg0.N = Gzg m c :=
  (dats m 0 c).arrAt_eq_of_cover 5 (Gzg m c) (fun t _ => flushed_zg m c t) (cover_zg c)

end Cert.Inproj.Prompt

end
-- ==== Proof.Inproj.PromptRows.lean ====
/- What the host lines after the region leave of the prompt batch's projection: the rows kept for the cache. -/
module

public import proofs.«01_k».proof.Proof.Inproj.Prompt

@[expose] public section

set_option maxRecDepth 16384

noncomputable section

namespace Cert.Inproj.Prompt

open Idealize.ShloMosaic Idealize.ShloMosaic.TcCoe Idealize.SL.Sem Idealize.ShloMosaic.ValueIdx
open scoped BigOperators
open Cert.Inproj
open Cert.KernelIdeal Cert.KernelIdeal.Gen

variable (m : (ℓ : Loc nD τ sig) → Buf (Elt Ideal) ℓ)

/-- The kept rows whose columns start at `q`. -/
def Gkept (c : Dev nD) (q : Nat) (hq : q + 512 ≤ 5632) : Vec Ideal S1x8x512x8x64 .f32 :=
  kept (B := 8) (T := 2048) (K := 512) (m ((c : Thread nD τ).loc main_arg0)) (m ((c : Thread nD τ).loc main_arg1)) (m ((c : Thread nD τ).loc main_arg2))
    1536 q (by omega) hq

/-- The first array at the row of frame `t` of stream `b`. -/
theorem Gza_row (c : Dev nD) (b : Fin 8) (t : Fin 2048) (n : Fin 1536) (r : Fin 16384) (hr : r.val = b.val * 2048 + t.val) :
    Gza m c (ix2 r n) = zat (B := 8) (T := 2048) (m ((c : Thread nD τ).loc main_arg0)) (m ((c : Thread nD τ).loc main_arg1)) (m ((c : Thread nD τ).loc main_arg2)) b t
      ⟨n.val, by omega⟩ := by
  have hb : (⟨r.val / 2048, by omega⟩ : Fin 8) = b := Fin.ext (by show r.val / 2048 = b.val; omega)
  have ht : (⟨r.val % 2048, by omega⟩ : Fin 2048) = t := Fin.ext (by show r.val % 2048 = t.val; omega)
  show zat (B := 8) (T := 2048) _ _ _ (⟨r.val / 2048, _⟩ : Fin 8) (⟨r.val % 2048, _⟩ : Fin 2048) _ = _
  rw [hb, ht]

/-- Columns of the first array by stream and frame, the kept frames cut out and the heads split, read at an index. -/
theorem kept_of_za (c : Dev nD) (q : Nat) (hq : q + 512 ≤ 1536)
    (hs : S8x2048x1536.Slices ![0, 0, q] S8x2048x512) :
    (broadcastInDim S1x8x512x8x64 ![1, 2, 3, 4] bcast_S8x512x8x64_S1x8x512x8x64_1_2_3_4 (shapeCast _ (extractStridedSlice S8x512x512 ![0, 1536, 0] (extractStridedSlice S8x2048x512 ![0, 0, q] (shapeCast S8x2048x1536 (Gza m c) shapeCasts_S16384x1536_S8x2048x1536) hs) slices_S8x2048x512_S8x512x512_0_1536_0) shapeCasts_S8x512x512_S8x512x8x64) : Vec Ideal S1x8x512x8x64 .f32)
      = Gkept m c q (by omega) := by
  refine funext fun (i : S1x8x512x8x64.Idx) => ?_
  have h1 : (i 1).val < 8 := (i 1).isLt
  have h2 : (i 2).val < 512 := (i 2).isLt
  have h3 : (i 3).val < 8 := (i 3).isLt
  have h4 : (i 4).val < 64 := (i 4).isLt
  have ei : i = ix5 (⟨(i 0).val, (i 0).isLt⟩ : Fin 1) (⟨(i 1).val, h1⟩ : Fin 8) (⟨(i 2).val, h2⟩ : Fin 512) (⟨(i 3).val, h3⟩ : Fin 8) (⟨(i 4).val, h4⟩ : Fin 64) :=
    funext fun a => match a with
      | ⟨0, _⟩ => rfl
      | ⟨1, _⟩ => rfl
      | ⟨2, _⟩ => rfl
      | ⟨3, _⟩ => rfl
      | ⟨4, _⟩ => rfl
  refine (congrArg _ ei).trans ((heads_apply (B := 8) (K := 512) _ _ _ _ _ _ _ _).trans ?_)
  refine (extractStridedSlice_apply _ _ _ _ (ix3 (⟨(i 1).val, h1⟩ : Fin 8) (⟨1536 + (i 2).val, by omega⟩ : Fin 2048) (⟨64 * (i 3).val + (i 4).val, by omega⟩ : Fin 512)) (fun a => ?_)).trans ?_
  · match a with
    | ⟨0, _⟩ => show (i 1).val = 0 + (i 1).val; omega
    | ⟨1, _⟩ => show 1536 + (i 2).val = 1536 + (i 2).val; rfl
    | ⟨2, _⟩ => show 64 * (i 3).val + (i 4).val = 0 + (64 * (i 3).val + (i 4).val); omega
  refine (cols_apply (B := 8) (T := 2048) (N := 16384) q (Gza m c) _ hs _ _ _
    (⟨(i 1).val * 2048 + (1536 + (i 2).val), by omega⟩ : Fin 16384) rfl (by show q + (64 * (i 3).val + (i 4).val) < 1536; omega)).trans ?_
  exact Gza_row m c (⟨(i 1).val, h1⟩ : Fin 8) (⟨1536 + (i 2).val, by omega⟩ : Fin 2048) _ _ (by show (i 1).val * 2048 + (1536 + (i 2).val) = (i 1).val * 2048 + (1536 + (i 2).val); omega)

/-- The key rows when the lines after the region have run. -/
theorem tail_key (c : Dev nD) :
    (Pipeline.afterTail₀ cfgs (dats m) 0 (V0 m) [hostOps1] c main_v11 : Vec Ideal S1x8x512x8x64 .f32) = Gkept m c 512 (by omega) := by
  unfold Pipeline.afterTail₀
  have h3 := (Pipeline.withArrays_arr spec0 (by decide) c (V0 m c) (fun w => (dats m 0 c).arrAt w cfg0.N) 3).trans (arr_za m c)
  revert h3
  generalize Pipeline.withArrays (cfgs 0).spec c (V0 m c) (fun w => (dats m 0 c).arrAt w (cfgs 0).N) = W
  intro h3
  replace h3 : (W (Proc.devRef .tc main_v5_0) : Vec Ideal S16384x1536 .f32) = Gza m c := h3
  refine Eq.trans ?_ (kept_of_za m c 512 (by omega) slices_S8x2048x1536_S8x2048x512_0_0_512)
  rw [← h3]
  show StableHlo.after hostOps1 _ _ = _
  after_results <;> rfl

/-- The value rows when the lines after the region have run. -/
theorem tail_value (c : Dev nD) :
    (Pipeline.afterTail₀ cfgs (dats m) 0 (V0 m) [hostOps1] c main_v14 : Vec Ideal S1x8x512x8x64 .f32) = Gkept m c 1024 (by omega) := by
  unfold Pipeline.afterTail₀
  have h3 := (Pipeline.withArrays_arr spec0 (by decide) c (V0 m c) (fun w => (dats m 0 c).arrAt w cfg0.N) 3).trans (arr_za m c)
  revert h3
  generalize Pipeline.withArrays (cfgs 0).spec c (V0 m c) (fun w => (dats m 0 c).arrAt w (cfgs 0).N) = W
  intro h3
  replace h3 : (W (Proc.devRef .tc main_v5_0) : Vec Ideal S16384x1536 .f32) = Gza m c := h3
  refine Eq.trans ?_ (kept_of_za m c 1024 (by omega) slices_S8x2048x1536_S8x2048x512_0_0_1024)
  rw [← h3]
  show StableHlo.after hostOps1 _ _ = _
  after_results <;> rfl

end Cert.Inproj.Prompt

end
-- ==== Proof.Inproj.PromptRef.lean ====
/- The reference of the prompt batch's projection, read at an index. -/
module

public import proofs.«01_k».proof.Proof.Inproj.Block
public import proofs.«01_k».proof.Proof.Gen.ReferenceIdeal.Read

@[expose] public section

set_option maxRecDepth 16384

noncomputable section

namespace Cert.Inproj.Prompt

open Idealize.ShloMosaic Idealize.ShloMosaic.TcCoe Idealize.SL.Sem Idealize.ShloMosaic.ValueIdx
open scoped BigOperators
open Cert.Inproj
open Cert.ReferenceIdeal Cert.ReferenceIdeal.Read

/-- The normalised activations of the reference. -/
theorem ref_nrm (x0 : Vec Ideal S8x2048x1024 .f32) (x1 : Vec Ideal S1x1024 .f32) (b : Fin 8) (t : Fin 2048) (k : Fin 1024) :
    val_main_v13 (F := Ideal) x0 x1 (ix3 b t k) = nrm (fun l => x0 (ix3 b t l)) (fun l => x1 (ix2 (0 : Fin 1) l)) k := by
  rw [val_main_v13_apply, val_main_v10_apply, val_main_v9_apply, val_main_v8_apply, val_main_v7_apply, val_main_v5_apply,
    val_main_v3_apply, val_main_v2_apply, val_main_v12_apply, val_main_v11_apply, val_main_v0_apply]
  simp only [val_main_v4_apply, val_main_v6_apply, val_main_cst_apply, val_main_cst_0_apply, val_main_cst_1_apply, val_main_v1_apply,
    Ideal.mulf_def, Ideal.addf_def, Ideal.hostDivf_def, Ideal.ofBits_zero_f32, zero_add]
  have e2 : ∀ l, idx_main_v2 (idx_main_v3 (idx_main_v9 (ix3 b t k))) l = ix3 b t l := fun l =>
    funext fun a => match a with | ⟨0, _⟩ => rfl | ⟨1, _⟩ => rfl | ⟨2, _⟩ => rfl
  have e0 : idx_main_v0 (idx_main_v11 (idx_main_v12 (ix3 b t k))) = ix2 (0 : Fin 1) k := funext fun a => Fin.ext (by
    match a with
    | ⟨0, _⟩ => rfl
    | ⟨1, _⟩ => show k.val % 1024 = k.val; omega)
  simp only [e2, e0]
  rw [show (FloatOps.ofBits FTy.f32 0#32 : Ideal .f32) = (0 : EReal) from Ideal.ofBits_zero_f32, zero_add]
  rfl

/-- The reference's projection of frame `t` of stream `b`. -/
theorem ref_zat (x0 : Vec Ideal S8x2048x1024 .f32) (x1 : Vec Ideal S1x1024 .f32) (x2 : Vec Ideal S1x1024x5632 .f32) (b : Fin 8) (t : Fin 2048) (n : Fin 5632) :
    val_main_v15 (F := Ideal) x0 x1 x2 (ix3 b t n) = zat (B := 8) (T := 2048) x0 x1 x2 b t n := by
  rw [val_main_v15_apply]
  unfold zat proj
  refine Finset.sum_congr (M := EReal) rfl fun k _ => ?_
  refine congrArg₂ (· * ·) ((congrArg _ ?_).trans (ref_nrm x0 x1 b t k)) ?_
  · exact funext fun a => match a with | ⟨0, _⟩ => rfl | ⟨1, _⟩ => rfl | ⟨2, _⟩ => rfl
  · rw [val_main_v14_apply]
    refine congrArg x2 (funext fun a => Fin.ext ?_)
    match a with
    | ⟨0, _⟩ => rfl
    | ⟨1, _⟩ => show (k.val * 5632 + n.val) / 5632 % 1024 = k.val; omega
    | ⟨2, _⟩ => show (k.val * 5632 + n.val) % 5632 = n.val; omega

/-- The same, flattened. -/
theorem ref_z (x0 : Vec Ideal S8x2048x1024 .f32) (x1 : Vec Ideal S1x1024 .f32) (x2 : Vec Ideal S1x1024x5632 .f32) (r : Fin 16384) (n : Fin 5632) :
    val_main_v20 (F := Ideal) x0 x1 x2 (ix2 r n)
      = zat (B := 8) (T := 2048) x0 x1 x2 (⟨r.val / 2048, by omega⟩ : Fin 8) (⟨r.val % 2048, by omega⟩ : Fin 2048) n := by
  rw [val_main_v20_apply]
  have e : idx_main_v20 (ix2 r n) = ix3 (⟨r.val / 2048, by omega⟩ : Fin 8) (⟨r.val % 2048, by omega⟩ : Fin 2048) n := funext fun a => Fin.ext (by
    match a with
    | ⟨0, _⟩ => show (r.val * 5632 + n.val) / 11534336 = r.val / 2048; omega
    | ⟨1, _⟩ => show (r.val * 5632 + n.val) / 5632 % 2048 = r.val % 2048; omega
    | ⟨2, _⟩ => show (r.val * 5632 + n.val) % 5632 = n.val; omega)
  rw [e]
  exact ref_zat x0 x1 x2 _ _ n

/-- The reference's key rows. -/
theorem ref_key (x0 : Vec Ideal S8x2048x1024 .f32) (x1 : Vec Ideal S1x1024 .f32) (x2 : Vec Ideal S1x1024x5632 .f32) :
    val_main_v26 (F := Ideal) x0 x1 x2 = kept (B := 8) (T := 2048) (K := 512) x0 x1 x2 1536 512 (by omega) (by omega) := by
  refine funext fun (i : S1x8x512x8x64.Idx) => ?_
  have h1 : (i 1).val < 8 := (i 1).isLt
  have h2 : (i 2).val < 512 := (i 2).isLt
  have h3 : (i 3).val < 8 := (i 3).isLt
  have h4 : (i 4).val < 64 := (i 4).isLt
  rw [val_main_v26_apply, val_main_v25_apply, val_main_v17_apply, val_main_v16_apply]
  refine (congrArg _ ?_).trans (ref_zat x0 x1 x2 (⟨(i 1).val, h1⟩ : Fin 8) (⟨1536 + (i 2).val, by omega⟩ : Fin 2048)
    (⟨512 + (64 * (i 3).val + (i 4).val), by omega⟩ : Fin 5632))
  refine funext fun a => Fin.ext ?_
  match a with
  | ⟨0, _⟩ => show ((((i 1).val * 2048 + (1536 + (i 2).val)) * 8 + (i 3).val) * 64 + (i 4).val) / 1048576 = (i 1).val; omega
  | ⟨1, _⟩ => show ((((i 1).val * 2048 + (1536 + (i 2).val)) * 8 + (i 3).val) * 64 + (i 4).val) / 512 % 2048 = 1536 + (i 2).val; omega
  | ⟨2, _⟩ => show 512 + ((((i 1).val * 2048 + (1536 + (i 2).val)) * 8 + (i 3).val) * 64 + (i 4).val) % 512 = 512 + (64 * (i 3).val + (i 4).val); omega

/-- The reference's value rows. -/
theorem ref_value (x0 : Vec Ideal S8x2048x1024 .f32) (x1 : Vec Ideal S1x1024 .f32) (x2 : Vec Ideal S1x1024x5632 .f32) :
    val_main_v28 (F := Ideal) x0 x1 x2 = kept (B := 8) (T := 2048) (K := 512) x0 x1 x2 1536 1024 (by omega) (by omega) := by
  refine funext fun (i : S1x8x512x8x64.Idx) => ?_
  have h1 : (i 1).val < 8 := (i 1).isLt
  have h2 : (i 2).val < 512 := (i 2).isLt
  have h3 : (i 3).val < 8 := (i 3).isLt
  have h4 : (i 4).val < 64 := (i 4).isLt
  rw [val_main_v28_apply, val_main_v27_apply, val_main_v19_apply, val_main_v18_apply]
  refine (congrArg _ ?_).trans (ref_zat x0 x1 x2 (⟨(i 1).val, h1⟩ : Fin 8) (⟨1536 + (i 2).val, by omega⟩ : Fin 2048)
    (⟨1024 + (64 * (i 3).val + (i 4).val), by omega⟩ : Fin 5632))
  refine funext fun a => Fin.ext ?_
  match a with
  | ⟨0, _⟩ => show ((((i 1).val * 2048 + (1536 + (i 2).val)) * 8 + (i 3).val) * 64 + (i 4).val) / 1048576 = (i 1).val; omega
  | ⟨1, _⟩ => show ((((i 1).val * 2048 + (1536 + (i 2).val)) * 8 + (i 3).val) * 64 + (i 4).val) / 512 % 2048 = 1536 + (i 2).val; omega
  | ⟨2, _⟩ => show 1024 + ((((i 1).val * 2048 + (1536 + (i 2).val)) * 8 + (i 3).val) * 64 + (i 4).val) % 512 = 1024 + (64 * (i 3).val + (i 4).val); omega

end Cert.Inproj.Prompt

end
-- ==== Proof.Inproj.PromptClaims.lean ====
/- The claims about the projection of the prompt batch. -/
module

public import proofs.«01_k».proof.Defs
public import proofs.«01_k».proof.Proof.Gen.Kernel.Frame
public import proofs.«01_k».proof.Proof.Inproj.PromptRows
public import proofs.«01_k».proof.Proof.Inproj.PromptRef
public import Idealize.ShloMosaic.Lib.Quiescent

@[expose] public section

set_option maxRecDepth 16384

noncomputable section

namespace Cert.Inproj.Prompt

open Idealize.ShloMosaic Idealize.ShloMosaic.TcCoe Idealize.SL.Sem Idealize.ShloMosaic.ValueIdx

/-- The kernel runs, keeps its arguments and leaves no semaphore raised. -/
theorem frame_kernel : Cert.quiescent_Kernel := fun m ρ _ => Cert.Kernel.Gen.frame m ρ

/-- The same of its reading over the extended reals. -/
theorem frame_kernelIdeal : Cert.quiescent_KernelIdeal := fun m ρ _ => Cert.KernelIdeal.Gen.frame m ρ

/-- The same of the reference. -/
theorem frame_referenceIdeal : Cert.quiescent_ReferenceIdeal := fun m ρ _ =>
  (θ_run _ _ _).mono (fun r h => ⟨fun c => ⟨(h c).2.2.2.2.2.1, (h c).2.2.2.2.2.2.1, (h c).2.2.2.2.2.2.2⟩, Idealize.ShloMosaic.sem_eq_zero_of_no_sems (by decide) r.2⟩)
    (Cert.ReferenceIdeal.Value.run (F := Ideal) m ρ)

open Cert.KernelIdeal Cert.KernelIdeal.Gen in
/-- Over the extended reals the kernel's five results are the reference's. -/
theorem algebraic : Cert.algebraic_KernelIdeal_ReferenceIdeal := by
  intro m g m' g' _ hm
  refine ⟨Gza m, Gzb m, Gzg m, fun c => Gkept m c 512 (by omega), fun c => Gkept m c 1024 (by omega),
    (θ_run _ _ _).mono (fun r h c => ?_) (θ_run_and (run_main m g) (unchanged m g)),
    (θ_run _ _ _).mono (fun r h c => ?_) (Cert.ReferenceIdeal.Value.run (F := Ideal) m' g')⟩
  · obtain ⟨hf, ha⟩ := h
    obtain ⟨hw, hr⟩ := hf c
    exact ⟨(hw 3).trans (arr_za m c), (hw 4).trans (arr_zb m c), (hw 5).trans (arr_zg m c),
      (hr main_v11 (Pipeline.mem_restRefs_of main_v11 (by decide) (by decide))).trans (tail_key m c),
      (hr main_v14 (Pipeline.mem_restRefs_of main_v14 (by decide) (by decide))).trans (tail_value m c), ha c⟩
  · obtain ⟨h0, h1, h2, h3, h4, ha⟩ := h c
    obtain ⟨e0, e1, e2⟩ := hm c
    refine ⟨h0.trans ?_, h1.trans ?_, h2.trans ?_, h3.trans ?_, h4.trans ?_, ha⟩
    · rw [e0, e1, e2, Cert.ReferenceIdeal.Read.val_main_v21_eq]
      refine funext fun (i : Cert.ReferenceIdeal.S16384x1536.Idx) => ?_
      exact (Cert.ReferenceIdeal.Read.val_main_v21_apply _ _ _ i).trans
        ((congrArg _ (eq_ix2 _)).trans (ref_z _ _ _ ⟨(i 0).val, (i 0).isLt⟩ ⟨(i 1).val, by have : (i 1).val < 1536 := (i 1).isLt; omega⟩))
    · rw [e0, e1, e2, Cert.ReferenceIdeal.Read.val_main_v22_eq]
      refine funext fun (i : Cert.ReferenceIdeal.S16384x2048.Idx) => ?_
      exact (Cert.ReferenceIdeal.Read.val_main_v22_apply _ _ _ i).trans
        ((congrArg _ (eq_ix2 _)).trans (ref_z _ _ _ ⟨(i 0).val, (i 0).isLt⟩ ⟨1536 + (i 1).val, by have : (i 1).val < 2048 := (i 1).isLt; omega⟩))
    · rw [e0, e1, e2, Cert.ReferenceIdeal.Read.val_main_v24_eq]
      refine funext fun (i : Cert.ReferenceIdeal.S16384x2048.Idx) => ?_
      exact (Cert.ReferenceIdeal.Read.val_main_v23_apply _ _ _ i).trans
        ((congrArg _ (eq_ix2 _)).trans (ref_z _ _ _ ⟨(i 0).val, (i 0).isLt⟩ ⟨3584 + (i 1).val, by have : (i 1).val < 2048 := (i 1).isLt; omega⟩))
    · rw [e0, e1, e2, Cert.ReferenceIdeal.Read.val_main_v26_eq]
      exact ref_key _ _ _
    · rw [e0, e1, e2, Cert.ReferenceIdeal.Read.val_main_v28_eq]
      exact ref_value _ _ _

end Cert.Inproj.Prompt

end
-- ==== Proof.Inproj.Sample.lean ====
/- The arrays that the input projection of the sample batch leaves, index by index, from the launch contents of its arguments. -/
module

public import proofs.«01_k».proof.Proof.Inproj.Block
public import proofs.«01_k».proof.Proof.Gen.Kernel2Ideal.Frame

@[expose] public section

set_option maxRecDepth 16384

noncomputable section

namespace Cert.Inproj.Sample

open Idealize.ShloMosaic Idealize.ShloMosaic.TcCoe Idealize.SL.Sem Idealize.ShloMosaic.ValueIdx
open Idealize.ShloMosaic.Pipeline (Dat)
open scoped BigOperators
open Cert.Inproj
open Cert.Kernel2Ideal Cert.Kernel2Ideal.Gen

variable (m : (ℓ : Loc nD τ sig) → Buf (Elt Ideal) ℓ)

/-- Token `r` of the flattened batch at column `k` of the input. -/
def xin (c : Dev nD) (r : Fin 2048) (k : Fin 1024) : EReal :=
  (m ((c : Thread nD τ).loc main_arg0) : Vec Ideal S32x64x1024 .f32)
    (ix3 (⟨r.val / 64, by omega⟩ : Fin 32) (⟨r.val % 64, by omega⟩ : Fin 64) k)

/-- Column `n` of the projection of token `r`. -/
def zin (c : Dev nD) (r : Fin 2048) (n : Fin 5632) : EReal :=
  zat (B := 32) (T := 64) (m ((c : Thread nD τ).loc main_arg0)) (m ((c : Thread nD τ).loc main_arg1)) (m ((c : Thread nD τ).loc main_arg2))
    (⟨r.val / 64, by omega⟩ : Fin 32) (⟨r.val % 64, by omega⟩ : Fin 64) n

/-- The gain of the norm at column `k`. -/
def gin (c : Dev nD) (k : Fin 1024) : EReal :=
  (m ((c : Thread nD τ).loc main_arg1) : Vec Ideal S1x1024 .f32) (ix2 (0 : Fin 1) k)

/-- The weights at row `k`, column `n`. -/
def win (c : Dev nD) (k : Fin 1024) (n : Fin 5632) : EReal :=
  (m ((c : Thread nD τ).loc main_arg2) : Vec Ideal S1x1024x5632 .f32) (ix3 (0 : Fin 1) k n)

/-- The flattened input when the region is entered. -/
theorem V_x (c : Dev nD) (r : Fin 2048) (k : Fin 1024) : V m c main_v0 (ix2 r k) = xin m c r k := by
  have e : (V m c main_v0 : Vec Ideal S2048x1024 .f32)
      = shapeCast S2048x1024 (m ((c : Thread nD τ).loc main_arg0) : Vec Ideal S32x64x1024 .f32) shapeCasts_S32x64x1024_S2048x1024 := by
    show StableHlo.after hostOps0 _ _ = _
    after_results <;> rfl
  rw [e]
  refine flat3 _ _ _ _ _ _ _ ?_
  show (r.val / 64 * 64 + r.val % 64) * 1024 + k.val = r.val * 1024 + k.val
  omega

/-- The gain row when the region is entered. -/
theorem V_g (c : Dev nD) (k : Fin 1024) : V m c main_v2 (ix2 (0 : Fin 1) k) = gin m c k := by
  have e : (V m c main_v2 : Vec Ideal S1x1024 .f32)
      = shapeCast S1x1024 (shapeCast S1024 (m ((c : Thread nD τ).loc main_arg1) : Vec Ideal S1x1024 .f32) shapeCasts_S1x1024_S1024) shapeCasts_S1024_S1x1024 := by
    show StableHlo.after hostOps0 _ _ = _
    after_results <;> rfl
  rw [e, shapeCast_shapeCast]; rfl

/-- The weights when the region is entered; their narrowing is the identity over the reals. -/
theorem V_w (c : Dev nD) (k : Fin 1024) (n : Fin 5632) : V m c main_v4 (ix2 k n) = win m c k n := by
  have e : (V m c main_v4 : Vec Ideal S1024x5632 .bf16)
      = truncf .bf16 (shapeCast S1024x5632 (m ((c : Thread nD τ).loc main_arg2) : Vec Ideal S1x1024x5632 .f32) shapeCasts_S1x1024x5632_S1024x5632 : FVec Ideal S1024x5632 .f32) bitsLt_bf16_f32 := by
    show StableHlo.after hostOps0 _ _ = _
    after_results <;> rfl
  rw [e, truncf_apply]
  refine flat3 _ _ _ _ _ _ _ ?_
  show (0 * 1024 + k.val) * 5632 + n.val = k.val * 5632 + n.val
  omega

/-- The first result: columns 0 to 1535. -/
def Gza (c : Dev nD) : Buf (Elt Ideal) ((c : Thread nD τ).loc main_v5_0) :=
  fun i : S2048x1536.Idx => zin m c ⟨(i 0).val, (i 0).isLt⟩ ⟨(i 1).val, by have : (i 1).val < 1536 := (i 1).isLt; omega⟩

/-- The second result: columns 1536 to 3583. -/
def Gzb (c : Dev nD) : Buf (Elt Ideal) ((c : Thread nD τ).loc main_v5_1) :=
  fun i : S2048x2048.Idx => zin m c ⟨(i 0).val, (i 0).isLt⟩ ⟨1536 + (i 1).val, by have : (i 1).val < 2048 := (i 1).isLt; omega⟩

/-- The third result: columns 3584 to 5631. -/
def Gzg (c : Dev nD) : Buf (Elt Ideal) ((c : Thread nD τ).loc main_v5_2) :=
  fun i : S2048x2048.Idx => zin m c ⟨(i 0).val, (i 0).isLt⟩ ⟨3584 + (i 1).val, by have : (i 1).val < 2048 := (i 1).isLt; omega⟩

theorem lt_N (t : Fin cfg0.N) : t.val < 4 := lt_of_lt_of_eq t.isLt N_0

/-- The block index maps: row tiles move with the grid point, the gain and the weights stay. -/
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)

/-- Row `r` of tile `t` as a row of the whole array. -/
def row (t : Fin cfg0.N) (r : Fin 512) : Fin 2048 := ⟨t.val * 512 + r.val, by have := lt_N t; omega⟩

/-- The input tile at point `t`. -/
theorem blk_x (c : Dev nD) (t : Fin cfg0.N) (r : Fin 512) (k : Fin 1024) :
    (iblk m c 0 t : Vec Ideal S512x1024 .f32) (ix2 r k) = xin m c (row t r) k := by
  rw [← V_x]
  show V m c main_v0 ((win0_0.rect t).emb (ix2 r k)) = _
  refine congrArg _ (funext fun a => Fin.ext ?_)
  refine (Pipeline.Window.rect_emb_val win0_0 t (ix2 r k) a rfl).trans ?_
  match a with
  | ⟨0, _⟩ => show win0_0.index t 0 * 512 + r.val = t.val * 512 + r.val; rw [(idx0 t).1]
  | ⟨1, _⟩ => show win0_0.index t 1 * 1024 + k.val = k.val; rw [(idx0 t).2]; omega

/-- The gain at point `t`. -/
theorem blk_g (c : Dev nD) (t : Fin cfg0.N) (k : Fin 1024) :
    (iblk m c 1 t : Vec Ideal S1x1024 .f32) (ix2 (0 : Fin 1) k) = gin m c k := by
  rw [← V_g]
  show V m c main_v2 ((win0_1.rect t).emb (ix2 (0 : Fin 1) k)) = _
  refine congrArg _ (funext fun a => Fin.ext ?_)
  refine (Pipeline.Window.rect_emb_val win0_1 t (ix2 (0 : Fin 1) k) a rfl).trans ?_
  match a with
  | ⟨0, _⟩ => show win0_1.index t 0 * 1 + 0 = 0; rw [(idx1 t).1]
  | ⟨1, _⟩ => show win0_1.index t 1 * 1024 + k.val = k.val; rw [(idx1 t).2]; omega

/-- The weights at point `t`. -/
theorem blk_w (c : Dev nD) (t : Fin cfg0.N) (k : Fin 1024) (n : Fin 5632) :
    (iblk m c 2 t : Vec Ideal S1024x5632 .bf16) (ix2 k n) = win m c k n := by
  rw [← V_w]
  show V m c main_v4 ((win0_2.rect t).emb (ix2 k n)) = _
  refine congrArg _ (funext fun a => Fin.ext ?_)
  refine (Pipeline.Window.rect_emb_val win0_2 t (ix2 k n) a rfl).trans ?_
  match a with
  | ⟨0, _⟩ => show win0_2.index t 0 * 1024 + k.val = k.val; rw [(idx2 t).1]; omega
  | ⟨1, _⟩ => show win0_2.index t 1 * 5632 + n.val = n.val; rw [(idx2 t).2]; omega

/-- What point `t` writes to the first result is tile `t` of it. -/
theorem flushed_za (c : Dev nD) (t : Fin cfg0.N) :
    (dats m 0 c).flushed 3 t = ((cfg0.win 3).blk t).view.read (Elt Ideal) (Gza m c) := by
  show (cfg0.win 3).cut (grid0.coords t) ((dats m 0 c).after 3 t) = _
  rw [after0_3]
  unfold out0_3
  rw [View.canon_unit_zero hz]
  refine funext fun (y : S512x1536.Idx) => ?_
  obtain ⟨r, n, rfl⟩ : ∃ (r : Fin 512) (n : Fin 1536), y = ix2 r n := ⟨y 0, y 1, eq_ix2 _⟩
  have e : (win0_3.rect t).emb (ix2 r n) = (ix2 (row t r) n : S2048x1536.Idx) := funext fun a => Fin.ext (by
    refine (Pipeline.Window.rect_emb_val win0_3 t (ix2 r n) a rfl).trans ?_
    match a with
    | ⟨0, _⟩ => show win0_3.index t 0 * 512 + r.val = t.val * 512 + r.val; rw [(idx3 t).1]
    | ⟨1, _⟩ => show win0_3.index t 1 * 1536 + n.val = n.val; rw [(idx3 t).2]; omega)
  refine Eq.trans ?_ (congrArg (Gza m c) e).symm
  refine (pay2_apply _ _ _ r n).trans ?_
  rw [View.ld_unit_zero hz, View.ld_unit_zero hz]
  simp only [blk_x, blk_g]
  show _ = proj (xin m c (row t r)) (gin m c) (fun k => win m c k (⟨n.val, by omega⟩ : Fin 5632))
  refine congrArg (proj (xin m c (row t r)) (gin m c)) (funext fun k => ?_)
  refine (ld_cols 0 _ inb_S1024x5632_S1024x1536_0_0 k n (by omega)).trans ((blk_w m c t k _).trans ?_)
  exact congrArg (win m c k) (Fin.ext (Nat.zero_add _))

/-- Every index of the first result lies in a tile. -/
theorem cover_za (c : Dev nD) (i : S2048x1536.Idx) :
    ∃ t : Fin cfg0.N, (cfg0.win 3).flush t = true ∧ i ∈ ((cfg0.win 3).blk t).view.set := by
  have h0 : (i 0).val < 2048 := (i 0).isLt
  have hN : (i 0).val / 512 < cfg0.N := by rw [show cfg0.N = 4 from N_0]; omega
  refine ⟨⟨(i 0).val / 512, hN⟩, flush0_3 _, ?_⟩
  generalize ht : (⟨(i 0).val / 512, hN⟩ : Fin cfg0.N) = t
  have ht' : t.val = (i 0).val / 512 := by rw [← ht]
  show i ∈ ((View.whole main_v5_0).slice (win0_3.rect t)).set
  rw [View.set_slice_whole, Rect.mem_set_unit]
  intro a
  match a with
  | ⟨0, _⟩ =>
    show win0_3.index t 0 * 512 ≤ (i 0).val ∧ (i 0).val < win0_3.index t 0 * 512 + 512
    rw [(idx3 t).1, ht']; omega
  | ⟨1, _⟩ =>
    have h1 : (i 1).val < 1536 := (i 1).isLt
    show win0_3.index t 1 * 1536 ≤ (i 1).val ∧ (i 1).val < win0_3.index t 1 * 1536 + 1536
    rw [(idx3 t).2]; omega

/-- The first result after the run. -/
theorem arr_za (c : Dev nD) : (dats m 0 c).arrAt 3 cfg0.N = Gza m c :=
  (dats m 0 c).arrAt_eq_of_cover 3 (Gza m c) (fun t _ => flushed_za m c t) (cover_za c)

/-- What point `t` writes to the second result is tile `t` of it. -/
theorem flushed_zb (c : Dev nD) (t : Fin cfg0.N) :
    (dats m 0 c).flushed 4 t = ((cfg0.win 4).blk t).view.read (Elt Ideal) (Gzb m c) := by
  show (cfg0.win 4).cut (grid0.coords t) ((dats m 0 c).after 4 t) = _
  rw [after0_4]
  unfold out0_4
  rw [View.canon_unit_zero hz]
  refine funext fun (y : S512x2048.Idx) => ?_
  obtain ⟨r, n, rfl⟩ : ∃ (r : Fin 512) (n : Fin 2048), y = ix2 r n := ⟨y 0, y 1, eq_ix2 _⟩
  have e : (win0_4.rect t).emb (ix2 r n) = (ix2 (row t r) n : S2048x2048.Idx) := funext fun a => Fin.ext (by
    refine (Pipeline.Window.rect_emb_val win0_4 t (ix2 r n) a rfl).trans ?_
    match a with
    | ⟨0, _⟩ => show win0_4.index t 0 * 512 + r.val = t.val * 512 + r.val; rw [(idx4 t).1]
    | ⟨1, _⟩ => show win0_4.index t 1 * 2048 + n.val = n.val; rw [(idx4 t).2]; omega)
  refine Eq.trans ?_ (congrArg (Gzb m c) e).symm
  refine (pay3_apply _ _ _ r n).trans ?_
  rw [View.ld_unit_zero hz, View.ld_unit_zero hz]
  simp only [blk_x, blk_g]
  show _ = proj (xin m c (row t r)) (gin m c) (fun k => win m c k (⟨1536 + n.val, by omega⟩ : Fin 5632))
  refine congrArg (proj (xin m c (row t r)) (gin m c)) (funext fun k => ?_)
  refine (ld_cols 1536 _ inb_S1024x5632_S1024x2048_0_1536 k n (by omega)).trans ((blk_w m c t k _).trans ?_)
  rfl

/-- Every index of the second result lies in a tile. -/
theorem cover_zb (c : Dev nD) (i : S2048x2048.Idx) :
    ∃ t : Fin cfg0.N, (cfg0.win 4).flush t = true ∧ i ∈ ((cfg0.win 4).blk t).view.set := by
  have h0 : (i 0).val < 2048 := (i 0).isLt
  have hN : (i 0).val / 512 < cfg0.N := by rw [show cfg0.N = 4 from N_0]; omega
  refine ⟨⟨(i 0).val / 512, hN⟩, flush0_4 _, ?_⟩
  generalize ht : (⟨(i 0).val / 512, hN⟩ : Fin cfg0.N) = t
  have ht' : t.val = (i 0).val / 512 := by rw [← ht]
  show i ∈ ((View.whole main_v5_1).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    rw [(idx4 t).1, ht']; omega
  | ⟨1, _⟩ =>
    have h1 : (i 1).val < 2048 := (i 1).isLt
    show win0_4.index t 1 * 2048 ≤ (i 1).val ∧ (i 1).val < win0_4.index t 1 * 2048 + 2048
    rw [(idx4 t).2]; omega

/-- The second result after the run. -/
theorem arr_zb (c : Dev nD) : (dats m 0 c).arrAt 4 cfg0.N = Gzb m c :=
  (dats m 0 c).arrAt_eq_of_cover 4 (Gzb m c) (fun t _ => flushed_zb m c t) (cover_zb c)

/-- What point `t` writes to the third result is tile `t` of it. -/
theorem flushed_zg (c : Dev nD) (t : Fin cfg0.N) :
    (dats m 0 c).flushed 5 t = ((cfg0.win 5).blk t).view.read (Elt Ideal) (Gzg m c) := by
  show (cfg0.win 5).cut (grid0.coords t) ((dats m 0 c).after 5 t) = _
  rw [after0_5]
  unfold out0_5
  rw [View.canon_unit_zero hz]
  refine funext fun (y : S512x2048.Idx) => ?_
  obtain ⟨r, n, rfl⟩ : ∃ (r : Fin 512) (n : Fin 2048), y = ix2 r n := ⟨y 0, y 1, eq_ix2 _⟩
  have e : (win0_5.rect t).emb (ix2 r n) = (ix2 (row t r) n : S2048x2048.Idx) := funext fun a => Fin.ext (by
    refine (Pipeline.Window.rect_emb_val win0_5 t (ix2 r n) a rfl).trans ?_
    match a with
    | ⟨0, _⟩ => show win0_5.index t 0 * 512 + r.val = t.val * 512 + r.val; rw [(idx5 t).1]
    | ⟨1, _⟩ => show win0_5.index t 1 * 2048 + n.val = n.val; rw [(idx5 t).2]; omega)
  refine Eq.trans ?_ (congrArg (Gzg m c) e).symm
  refine (pay4_apply _ _ _ r n).trans ?_
  rw [View.ld_unit_zero hz, View.ld_unit_zero hz]
  simp only [blk_x, blk_g]
  show _ = proj (xin m c (row t r)) (gin m c) (fun k => win m c k (⟨3584 + n.val, by omega⟩ : Fin 5632))
  refine congrArg (proj (xin m c (row t r)) (gin m c)) (funext fun k => ?_)
  refine (ld_cols 3584 _ inb_S1024x5632_S1024x2048_0_3584 k n (by omega)).trans ((blk_w m c t k _).trans ?_)
  rfl

/-- Every index of the third result lies in a tile. -/
theorem cover_zg (c : Dev nD) (i : S2048x2048.Idx) :
    ∃ t : Fin cfg0.N, (cfg0.win 5).flush t = true ∧ i ∈ ((cfg0.win 5).blk t).view.set := by
  have h0 : (i 0).val < 2048 := (i 0).isLt
  have hN : (i 0).val / 512 < cfg0.N := by rw [show cfg0.N = 4 from N_0]; omega
  refine ⟨⟨(i 0).val / 512, hN⟩, flush0_5 _, ?_⟩
  generalize ht : (⟨(i 0).val / 512, hN⟩ : Fin cfg0.N) = t
  have ht' : t.val = (i 0).val / 512 := by rw [← ht]
  show i ∈ ((View.whole main_v5_2).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    rw [(idx5 t).1, ht']; omega
  | ⟨1, _⟩ =>
    have h1 : (i 1).val < 2048 := (i 1).isLt
    show win0_5.index t 1 * 2048 ≤ (i 1).val ∧ (i 1).val < win0_5.index t 1 * 2048 + 2048
    rw [(idx5 t).2]; omega

/-- The third result after the run. -/
theorem arr_zg (c : Dev nD) : (dats m 0 c).arrAt 5 cfg0.N = Gzg m c :=
  (dats m 0 c).arrAt_eq_of_cover 5 (Gzg m c) (fun t _ => flushed_zg m c t) (cover_zg c)

end Cert.Inproj.Sample

end
-- ==== Proof.Inproj.SampleRows.lean ====
/- What the host lines after the region leave of the sample batch's projection: the rows kept for the cache. -/
module

public import proofs.«01_k».proof.Proof.Inproj.Sample

@[expose] public section

set_option maxRecDepth 16384

noncomputable section

namespace Cert.Inproj.Sample

open Idealize.ShloMosaic Idealize.ShloMosaic.TcCoe Idealize.SL.Sem Idealize.ShloMosaic.ValueIdx
open scoped BigOperators
open Cert.Inproj
open Cert.Kernel2Ideal Cert.Kernel2Ideal.Gen

variable (m : (ℓ : Loc nD τ sig) → Buf (Elt Ideal) ℓ)

/-- The kept rows whose columns start at `q`. -/
def Gkept (c : Dev nD) (q : Nat) (hq : q + 512 ≤ 5632) : Vec Ideal S1x32x64x8x64 .f32 :=
  kept (B := 32) (T := 64) (K := 64) (m ((c : Thread nD τ).loc main_arg0)) (m ((c : Thread nD τ).loc main_arg1)) (m ((c : Thread nD τ).loc main_arg2))
    0 q (by omega) hq

/-- The first array at the row of frame `t` of stream `b`. -/
theorem Gza_row (c : Dev nD) (b : Fin 32) (t : Fin 64) (n : Fin 1536) (r : Fin 2048) (hr : r.val = b.val * 64 + t.val) :
    Gza m c (ix2 r n) = zat (B := 32) (T := 64) (m ((c : Thread nD τ).loc main_arg0)) (m ((c : Thread nD τ).loc main_arg1)) (m ((c : Thread nD τ).loc main_arg2)) b t
      ⟨n.val, by omega⟩ := by
  have hb : (⟨r.val / 64, by omega⟩ : Fin 32) = b := Fin.ext (by show r.val / 64 = b.val; omega)
  have ht : (⟨r.val % 64, by omega⟩ : Fin 64) = t := Fin.ext (by show r.val % 64 = t.val; omega)
  show zat (B := 32) (T := 64) _ _ _ (⟨r.val / 64, _⟩ : Fin 32) (⟨r.val % 64, _⟩ : Fin 64) _ = _
  rw [hb, ht]

/-- Columns of the first array by stream and frame, the kept frames cut out and the heads split, read at an index. -/
theorem kept_of_za (c : Dev nD) (q : Nat) (hq : q + 512 ≤ 1536)
    (hs : S32x64x1536.Slices ![0, 0, q] S32x64x512) :
    (broadcastInDim S1x32x64x8x64 ![1, 2, 3, 4] bcast_S32x64x8x64_S1x32x64x8x64_1_2_3_4 (shapeCast _ ((extractStridedSlice S32x64x512 ![0, 0, q] (shapeCast S32x64x1536 (Gza m c) shapeCasts_S2048x1536_S32x64x1536) hs)) shapeCasts_S32x64x512_S32x64x8x64) : Vec Ideal S1x32x64x8x64 .f32)
      = Gkept m c q (by omega) := by
  refine funext fun (i : S1x32x64x8x64.Idx) => ?_
  have h1 : (i 1).val < 32 := (i 1).isLt
  have h2 : (i 2).val < 64 := (i 2).isLt
  have h3 : (i 3).val < 8 := (i 3).isLt
  have h4 : (i 4).val < 64 := (i 4).isLt
  have ei : i = ix5 (⟨(i 0).val, (i 0).isLt⟩ : Fin 1) (⟨(i 1).val, h1⟩ : Fin 32) (⟨(i 2).val, h2⟩ : Fin 64) (⟨(i 3).val, h3⟩ : Fin 8) (⟨(i 4).val, h4⟩ : Fin 64) :=
    funext fun a => match a with
      | ⟨0, _⟩ => rfl
      | ⟨1, _⟩ => rfl
      | ⟨2, _⟩ => rfl
      | ⟨3, _⟩ => rfl
      | ⟨4, _⟩ => rfl
  refine (congrArg _ ei).trans ((heads_apply (B := 32) (K := 64) _ _ _ _ _ _ _ _).trans ?_)
  refine (cols_apply (B := 32) (T := 64) (N := 2048) q (Gza m c) _ hs _ _ _
    (⟨(i 1).val * 64 + ((i 2).val), by omega⟩ : Fin 2048) rfl (by show q + (64 * (i 3).val + (i 4).val) < 1536; omega)).trans ?_
  exact Gza_row m c (⟨(i 1).val, h1⟩ : Fin 32) (⟨0 + (i 2).val, by omega⟩ : Fin 64) _ _ (by show (i 1).val * 64 + ((i 2).val) = (i 1).val * 64 + (0 + (i 2).val); omega)

/-- The key rows when the lines after the region have run. -/
theorem tail_key (c : Dev nD) :
    (Pipeline.afterTail₀ cfgs (dats m) 0 (V0 m) [hostOps1] c main_v10 : Vec Ideal S1x32x64x8x64 .f32) = Gkept m c 512 (by omega) := by
  unfold Pipeline.afterTail₀
  have h3 := (Pipeline.withArrays_arr spec0 (by decide) c (V0 m c) (fun w => (dats m 0 c).arrAt w cfg0.N) 3).trans (arr_za m c)
  revert h3
  generalize Pipeline.withArrays (cfgs 0).spec c (V0 m c) (fun w => (dats m 0 c).arrAt w (cfgs 0).N) = W
  intro h3
  replace h3 : (W (Proc.devRef .tc main_v5_0) : Vec Ideal S2048x1536 .f32) = Gza m c := h3
  refine Eq.trans ?_ (kept_of_za m c 512 (by omega) slices_S32x64x1536_S32x64x512_0_0_512)
  rw [← h3]
  show StableHlo.after hostOps1 _ _ = _
  after_results <;> rfl

/-- The value rows when the lines after the region have run. -/
theorem tail_value (c : Dev nD) :
    (Pipeline.afterTail₀ cfgs (dats m) 0 (V0 m) [hostOps1] c main_v12 : Vec Ideal S1x32x64x8x64 .f32) = Gkept m c 1024 (by omega) := by
  unfold Pipeline.afterTail₀
  have h3 := (Pipeline.withArrays_arr spec0 (by decide) c (V0 m c) (fun w => (dats m 0 c).arrAt w cfg0.N) 3).trans (arr_za m c)
  revert h3
  generalize Pipeline.withArrays (cfgs 0).spec c (V0 m c) (fun w => (dats m 0 c).arrAt w (cfgs 0).N) = W
  intro h3
  replace h3 : (W (Proc.devRef .tc main_v5_0) : Vec Ideal S2048x1536 .f32) = Gza m c := h3
  refine Eq.trans ?_ (kept_of_za m c 1024 (by omega) slices_S32x64x1536_S32x64x512_0_0_1024)
  rw [← h3]
  show StableHlo.after hostOps1 _ _ = _
  after_results <;> rfl

end Cert.Inproj.Sample

end
-- ==== Proof.Inproj.SampleRef.lean ====
/- The reference of the sample batch's projection, read at an index. -/
module

public import proofs.«01_k».proof.Proof.Inproj.Block
public import proofs.«01_k».proof.Proof.Gen.Reference2Ideal.Read

@[expose] public section

set_option maxRecDepth 16384

noncomputable section

namespace Cert.Inproj.Sample

open Idealize.ShloMosaic Idealize.ShloMosaic.TcCoe Idealize.SL.Sem Idealize.ShloMosaic.ValueIdx
open scoped BigOperators
open Cert.Inproj
open Cert.Reference2Ideal Cert.Reference2Ideal.Read

/-- The normalised activations of the reference. -/
theorem ref_nrm (x0 : Vec Ideal S32x64x1024 .f32) (x1 : Vec Ideal S1x1024 .f32) (b : Fin 32) (t : Fin 64) (k : Fin 1024) :
    val_main_v13 (F := Ideal) x0 x1 (ix3 b t k) = nrm (fun l => x0 (ix3 b t l)) (fun l => x1 (ix2 (0 : Fin 1) l)) k := by
  rw [val_main_v13_apply, val_main_v10_apply, val_main_v9_apply, val_main_v8_apply, val_main_v7_apply, val_main_v5_apply,
    val_main_v3_apply, val_main_v2_apply, val_main_v12_apply, val_main_v11_apply, val_main_v0_apply]
  simp only [val_main_v4_apply, val_main_v6_apply, val_main_cst_apply, val_main_cst_0_apply, val_main_cst_1_apply, val_main_v1_apply,
    Ideal.mulf_def, Ideal.addf_def, Ideal.hostDivf_def, Ideal.ofBits_zero_f32, zero_add]
  have e2 : ∀ l, idx_main_v2 (idx_main_v3 (idx_main_v9 (ix3 b t k))) l = ix3 b t l := fun l =>
    funext fun a => match a with | ⟨0, _⟩ => rfl | ⟨1, _⟩ => rfl | ⟨2, _⟩ => rfl
  have e0 : idx_main_v0 (idx_main_v11 (idx_main_v12 (ix3 b t k))) = ix2 (0 : Fin 1) k := funext fun a => Fin.ext (by
    match a with
    | ⟨0, _⟩ => rfl
    | ⟨1, _⟩ => show k.val % 1024 = k.val; omega)
  simp only [e2, e0]
  rw [show (FloatOps.ofBits FTy.f32 0#32 : Ideal .f32) = (0 : EReal) from Ideal.ofBits_zero_f32, zero_add]
  rfl

/-- The reference's projection of frame `t` of stream `b`. -/
theorem ref_zat (x0 : Vec Ideal S32x64x1024 .f32) (x1 : Vec Ideal S1x1024 .f32) (x2 : Vec Ideal S1x1024x5632 .f32) (b : Fin 32) (t : Fin 64) (n : Fin 5632) :
    val_main_v15 (F := Ideal) x0 x1 x2 (ix3 b t n) = zat (B := 32) (T := 64) x0 x1 x2 b t n := by
  rw [val_main_v15_apply]
  unfold zat proj
  refine Finset.sum_congr (M := EReal) rfl fun k _ => ?_
  refine congrArg₂ (· * ·) ((congrArg _ ?_).trans (ref_nrm x0 x1 b t k)) ?_
  · exact funext fun a => match a with | ⟨0, _⟩ => rfl | ⟨1, _⟩ => rfl | ⟨2, _⟩ => rfl
  · rw [val_main_v14_apply]
    refine congrArg x2 (funext fun a => Fin.ext ?_)
    match a with
    | ⟨0, _⟩ => rfl
    | ⟨1, _⟩ => show (k.val * 5632 + n.val) / 5632 % 1024 = k.val; omega
    | ⟨2, _⟩ => show (k.val * 5632 + n.val) % 5632 = n.val; omega

/-- The same, flattened. -/
theorem ref_z (x0 : Vec Ideal S32x64x1024 .f32) (x1 : Vec Ideal S1x1024 .f32) (x2 : Vec Ideal S1x1024x5632 .f32) (r : Fin 2048) (n : Fin 5632) :
    val_main_v20 (F := Ideal) x0 x1 x2 (ix2 r n)
      = zat (B := 32) (T := 64) x0 x1 x2 (⟨r.val / 64, by omega⟩ : Fin 32) (⟨r.val % 64, by omega⟩ : Fin 64) n := by
  rw [val_main_v20_apply]
  have e : idx_main_v20 (ix2 r n) = ix3 (⟨r.val / 64, by omega⟩ : Fin 32) (⟨r.val % 64, by omega⟩ : Fin 64) n := funext fun a => Fin.ext (by
    match a with
    | ⟨0, _⟩ => show (r.val * 5632 + n.val) / 360448 = r.val / 64; omega
    | ⟨1, _⟩ => show (r.val * 5632 + n.val) / 5632 % 64 = r.val % 64; omega
    | ⟨2, _⟩ => show (r.val * 5632 + n.val) % 5632 = n.val; omega)
  rw [e]
  exact ref_zat x0 x1 x2 _ _ n

/-- The reference's key rows. -/
theorem ref_key (x0 : Vec Ideal S32x64x1024 .f32) (x1 : Vec Ideal S1x1024 .f32) (x2 : Vec Ideal S1x1024x5632 .f32) :
    val_main_v25 (F := Ideal) x0 x1 x2 = kept (B := 32) (T := 64) (K := 64) x0 x1 x2 0 512 (by omega) (by omega) := by
  refine funext fun (i : S1x32x64x8x64.Idx) => ?_
  have h1 : (i 1).val < 32 := (i 1).isLt
  have h2 : (i 2).val < 64 := (i 2).isLt
  have h3 : (i 3).val < 8 := (i 3).isLt
  have h4 : (i 4).val < 64 := (i 4).isLt
  rw [val_main_v25_apply, val_main_v17_apply, val_main_v16_apply]
  refine (congrArg _ ?_).trans (ref_zat x0 x1 x2 (⟨(i 1).val, h1⟩ : Fin 32) (⟨0 + (i 2).val, by omega⟩ : Fin 64)
    (⟨512 + (64 * (i 3).val + (i 4).val), by omega⟩ : Fin 5632))
  refine funext fun a => Fin.ext ?_
  match a with
  | ⟨0, _⟩ => show ((((i 1).val * 64 + ((i 2).val)) * 8 + (i 3).val) * 64 + (i 4).val) / 32768 = (i 1).val; omega
  | ⟨1, _⟩ => show ((((i 1).val * 64 + ((i 2).val)) * 8 + (i 3).val) * 64 + (i 4).val) / 512 % 64 = 0 + (i 2).val; omega
  | ⟨2, _⟩ => show 512 + ((((i 1).val * 64 + ((i 2).val)) * 8 + (i 3).val) * 64 + (i 4).val) % 512 = 512 + (64 * (i 3).val + (i 4).val); omega

/-- The reference's value rows. -/
theorem ref_value (x0 : Vec Ideal S32x64x1024 .f32) (x1 : Vec Ideal S1x1024 .f32) (x2 : Vec Ideal S1x1024x5632 .f32) :
    val_main_v26 (F := Ideal) x0 x1 x2 = kept (B := 32) (T := 64) (K := 64) x0 x1 x2 0 1024 (by omega) (by omega) := by
  refine funext fun (i : S1x32x64x8x64.Idx) => ?_
  have h1 : (i 1).val < 32 := (i 1).isLt
  have h2 : (i 2).val < 64 := (i 2).isLt
  have h3 : (i 3).val < 8 := (i 3).isLt
  have h4 : (i 4).val < 64 := (i 4).isLt
  rw [val_main_v26_apply, val_main_v19_apply, val_main_v18_apply]
  refine (congrArg _ ?_).trans (ref_zat x0 x1 x2 (⟨(i 1).val, h1⟩ : Fin 32) (⟨0 + (i 2).val, by omega⟩ : Fin 64)
    (⟨1024 + (64 * (i 3).val + (i 4).val), by omega⟩ : Fin 5632))
  refine funext fun a => Fin.ext ?_
  match a with
  | ⟨0, _⟩ => show ((((i 1).val * 64 + ((i 2).val)) * 8 + (i 3).val) * 64 + (i 4).val) / 32768 = (i 1).val; omega
  | ⟨1, _⟩ => show ((((i 1).val * 64 + ((i 2).val)) * 8 + (i 3).val) * 64 + (i 4).val) / 512 % 64 = 0 + (i 2).val; omega
  | ⟨2, _⟩ => show 1024 + ((((i 1).val * 64 + ((i 2).val)) * 8 + (i 3).val) * 64 + (i 4).val) % 512 = 1024 + (64 * (i 3).val + (i 4).val); omega

end Cert.Inproj.Sample

end
-- ==== Proof.Inproj.SampleClaims.lean ====
/- The claims about the projection of the sample batch. -/
module

public import proofs.«01_k».proof.Defs
public import proofs.«01_k».proof.Proof.Gen.Kernel2.Frame
public import proofs.«01_k».proof.Proof.Inproj.SampleRows
public import proofs.«01_k».proof.Proof.Inproj.SampleRef
public import Idealize.ShloMosaic.Lib.Quiescent

@[expose] public section

set_option maxRecDepth 16384

noncomputable section

namespace Cert.Inproj.Sample

open Idealize.ShloMosaic Idealize.ShloMosaic.TcCoe Idealize.SL.Sem Idealize.ShloMosaic.ValueIdx

/-- The kernel runs, keeps its arguments and leaves no semaphore raised. -/
theorem frame_kernel : Cert.quiescent_Kernel2 := fun m ρ _ => Cert.Kernel2.Gen.frame m ρ

/-- The same of its reading over the extended reals. -/
theorem frame_kernelIdeal : Cert.quiescent_Kernel2Ideal := fun m ρ _ => Cert.Kernel2Ideal.Gen.frame m ρ

/-- The same of the reference. -/
theorem frame_referenceIdeal : Cert.quiescent_Reference2Ideal := fun m ρ _ =>
  (θ_run _ _ _).mono (fun r h => ⟨fun c => ⟨(h c).2.2.2.2.2.1, (h c).2.2.2.2.2.2.1, (h c).2.2.2.2.2.2.2⟩, Idealize.ShloMosaic.sem_eq_zero_of_no_sems (by decide) r.2⟩)
    (Cert.Reference2Ideal.Value.run (F := Ideal) m ρ)

open Cert.Kernel2Ideal Cert.Kernel2Ideal.Gen in
/-- Over the extended reals the kernel's five results are the reference's. -/
theorem algebraic : Cert.algebraic_Kernel2Ideal_Reference2Ideal := by
  intro m g m' g' _ hm
  refine ⟨Gza m, Gzb m, Gzg m, fun c => Gkept m c 512 (by omega), fun c => Gkept m c 1024 (by omega),
    (θ_run _ _ _).mono (fun r h c => ?_) (θ_run_and (run_main m g) (unchanged m g)),
    (θ_run _ _ _).mono (fun r h c => ?_) (Cert.Reference2Ideal.Value.run (F := Ideal) m' g')⟩
  · obtain ⟨hf, ha⟩ := h
    obtain ⟨hw, hr⟩ := hf c
    exact ⟨(hw 3).trans (arr_za m c), (hw 4).trans (arr_zb m c), (hw 5).trans (arr_zg m c),
      (hr main_v10 (Pipeline.mem_restRefs_of main_v10 (by decide) (by decide))).trans (tail_key m c),
      (hr main_v12 (Pipeline.mem_restRefs_of main_v12 (by decide) (by decide))).trans (tail_value m c), ha c⟩
  · obtain ⟨h0, h1, h2, h3, h4, ha⟩ := h c
    obtain ⟨e0, e1, e2⟩ := hm c
    refine ⟨h0.trans ?_, h1.trans ?_, h2.trans ?_, h3.trans ?_, h4.trans ?_, ha⟩
    · rw [e0, e1, e2, Cert.Reference2Ideal.Read.val_main_v21_eq]
      refine funext fun (i : Cert.Reference2Ideal.S2048x1536.Idx) => ?_
      exact (Cert.Reference2Ideal.Read.val_main_v21_apply _ _ _ i).trans
        ((congrArg _ (eq_ix2 _)).trans (ref_z _ _ _ ⟨(i 0).val, (i 0).isLt⟩ ⟨(i 1).val, by have : (i 1).val < 1536 := (i 1).isLt; omega⟩))
    · rw [e0, e1, e2, Cert.Reference2Ideal.Read.val_main_v22_eq]
      refine funext fun (i : Cert.Reference2Ideal.S2048x2048.Idx) => ?_
      exact (Cert.Reference2Ideal.Read.val_main_v22_apply _ _ _ i).trans
        ((congrArg _ (eq_ix2 _)).trans (ref_z _ _ _ ⟨(i 0).val, (i 0).isLt⟩ ⟨1536 + (i 1).val, by have : (i 1).val < 2048 := (i 1).isLt; omega⟩))
    · rw [e0, e1, e2, Cert.Reference2Ideal.Read.val_main_v24_eq]
      refine funext fun (i : Cert.Reference2Ideal.S2048x2048.Idx) => ?_
      exact (Cert.Reference2Ideal.Read.val_main_v23_apply _ _ _ i).trans
        ((congrArg _ (eq_ix2 _)).trans (ref_z _ _ _ ⟨(i 0).val, (i 0).isLt⟩ ⟨3584 + (i 1).val, by have : (i 1).val < 2048 := (i 1).isLt; omega⟩))
    · rw [e0, e1, e2, Cert.Reference2Ideal.Read.val_main_v25_eq]
      exact ref_key _ _ _
    · rw [e0, e1, e2, Cert.Reference2Ideal.Read.val_main_v26_eq]
      exact ref_value _ _ _

end Cert.Inproj.Sample

end
-- ==== Proof.Finish.Block.lean ====
/- One row of the gated output projection, and the tile of it that the kernel body computes. -/
module

public import proofs.«01_k».proof.Proof.Inproj.Block
public import proofs.«01_k».proof.Proof.Gen.Kernel3Ideal.Skeleton

@[expose] public section

set_option maxRecDepth 16384

noncomputable section

namespace Cert.Finish

open Idealize.ShloMosaic Idealize.ShloMosaic.TcCoe Idealize.SL.Sem Idealize.ShloMosaic.ValueIdx
open scoped BigOperators

/-- Column `d` of the gated merge of the two mixers' outputs `oa`, `ob` of a token whose gate logits are `z`. -/
def merged (oa ob : Fin 512 → EReal) (wa wb : Fin 512 → Fin 1024 → EReal) (z : Fin 2048 → EReal) (d : Fin 1024) : EReal :=
  Ideal.logistic (z ⟨d.val, by omega⟩) * (∑ k : Fin 512, oa k * wa k d)
    + Ideal.logistic (z ⟨1024 + d.val, by omega⟩) * (∑ k : Fin 512, ob k * wb k d)

/-- Column `n` of the residual plus the projected merge. -/
def fin (x : Fin 1024 → EReal) (oa ob : Fin 512 → EReal) (wa wb : Fin 512 → Fin 1024 → EReal) (z : Fin 2048 → EReal)
    (wo : Fin 1024 → Fin 1024 → EReal) (n : Fin 1024) : EReal :=
  x n + ∑ d : Fin 1024, merged oa ob wa wb z d * wo d n

open Cert.Kernel3Ideal Cert.Kernel3Ideal.Gen

/-- The body's tile at row `r`, column `n`, from the blocks it loads and the two halves `za`, `zb` of the gate block. -/
theorem pay1_apply (oa : Vec Ideal S1024x512 .bf16) (wa : Vec Ideal S512x1024 .bf16) (ob : Vec Ideal S1024x512 .bf16)
    (wb : Vec Ideal S512x1024 .bf16) (za zb : Vec Ideal S1024x1024 .bf16) (x : Vec Ideal S1024x1024 .f32) (wo : Vec Ideal S1024x1024 .bf16)
    (z : Fin 2048 → EReal) (r n : Fin 1024)
    (ha : ∀ d : Fin 1024, za (ix2 r d) = z ⟨d.val, by omega⟩) (hb : ∀ d : Fin 1024, zb (ix2 r d) = z ⟨1024 + d.val, by omega⟩) :
    k0_pay1 oa wa ob wb za zb x wo (ix2 r n)
      = fin (fun d => x (ix2 r d)) (fun k => oa (ix2 r k)) (fun k => ob (ix2 r k)) (fun k d => wa (ix2 k d)) (fun k d => wb (ix2 k d))
          z (fun d e => wo (ix2 d e)) n := by
  unfold k0_pay1 fin
  simp only [shapeCast_self]
  refine congrArg₂ (· + ·) rfl ?_
  refine (Ideal.matmul_plain_apply none _ wo (constant S1024x1024 .f32 0x00000000#32) r n).trans ?_
  rw [constant_apply, Ideal.ofBits_zero_f32, zero_add]
  refine Finset.sum_congr (M := EReal) rfl fun d _ => congrArg₂ (· * ·) ?_ rfl
  refine congrArg₂ (· + ·) (congrArg₂ (· * ·) (congrArg Ideal.logistic (ha d)) ?_) (congrArg₂ (· * ·) (congrArg Ideal.logistic (hb d)) ?_)
  · refine (Ideal.matmul_plain_apply none oa wa (constant S1024x1024 .f32 0x00000000#32) r d).trans ?_
    rw [constant_apply, Ideal.ofBits_zero_f32, zero_add]
  · refine (Ideal.matmul_plain_apply none ob wb (constant S1024x1024 .f32 0x00000000#32) r d).trans ?_
    rw [constant_apply, Ideal.ofBits_zero_f32, zero_add]

end Cert.Finish

end
-- ==== Proof.Finish.Array.lean ====
/- The array that the gated output projection leaves, index by index, from the launch contents of its arguments. -/
module

public import proofs.«01_k».proof.Proof.Finish.Block
public import proofs.«01_k».proof.Proof.Gen.Kernel3Ideal.Frame

@[expose] public section

set_option maxRecDepth 16384

noncomputable section

namespace Cert.Finish

open Idealize.ShloMosaic Idealize.ShloMosaic.TcCoe Idealize.SL.Sem Idealize.ShloMosaic.ValueIdx
open scoped BigOperators
open Cert.Inproj (flat3 hz)
open Cert.Kernel3Ideal Cert.Kernel3Ideal.Gen

variable (m : (ℓ : Loc nD τ sig) → Buf (Elt Ideal) ℓ)

/-- The result from the arguments: token `t` of stream `b` at column `n`. -/
def finat (x : (⟨3, ![8, 2048, 1024]⟩ : Shape).Idx → EReal) (oa ob : (⟨3, ![8, 2048, 512]⟩ : Shape).Idx → EReal)
    (z : (⟨2, ![16384, 2048]⟩ : Shape).Idx → EReal) (wa wb : (⟨3, ![1, 512, 1024]⟩ : Shape).Idx → EReal)
    (wo : (⟨3, ![1, 1024, 1024]⟩ : Shape).Idx → EReal) (b : Fin 8) (t : Fin 2048) (n : Fin 1024) : EReal :=
  fin (fun d => x (ix3 b t d)) (fun k => oa (ix3 b t k)) (fun k => ob (ix3 b t k))
    (fun k d => wa (ix3 (0 : Fin 1) k d)) (fun k d => wb (ix3 (0 : Fin 1) k d))
    (fun d => z (ix2 (⟨b.val * 2048 + t.val, by omega⟩ : Fin 16384) d)) (fun d e => wo (ix3 (0 : Fin 1) d e)) n

/-- The flattened residual when the region is entered. -/
theorem V_x (c : Dev nD) (r : Fin 16384) (k : Fin 1024) : V m c main_v0 (ix2 r k)
    = (m ((c : Thread nD τ).loc main_arg0) : Vec Ideal S8x2048x1024 .f32) (ix3 (⟨r.val / 2048, by omega⟩ : Fin 8) (⟨r.val % 2048, by omega⟩ : Fin 2048) k) := by
  have e : (V m c main_v0 : Vec Ideal S16384x1024 .f32) = shapeCast S16384x1024 (m ((c : Thread nD τ).loc main_arg0) : Vec Ideal S8x2048x1024 .f32) shapeCasts_S8x2048x1024_S16384x1024 := by
    show StableHlo.after hostOps0 _ _ = _
    after_results <;> rfl
  rw [e]
  refine flat3 _ _ _ _ _ _ _ ?_
  show (r.val / 2048 * 2048 + r.val % 2048) * 1024 + k.val = r.val * 1024 + k.val
  omega

/-- The first mixer's flattened output when the region is entered. -/
theorem V_oa (c : Dev nD) (r : Fin 16384) (k : Fin 512) : V m c main_v1 (ix2 r k)
    = (m ((c : Thread nD τ).loc main_arg1) : Vec Ideal S8x2048x512 .bf16) (ix3 (⟨r.val / 2048, by omega⟩ : Fin 8) (⟨r.val % 2048, by omega⟩ : Fin 2048) k) := by
  have e : (V m c main_v1 : Vec Ideal S16384x512 .bf16) = shapeCast S16384x512 (m ((c : Thread nD τ).loc main_arg1) : Vec Ideal S8x2048x512 .bf16) shapeCasts_S8x2048x512_S16384x512 := by
    show StableHlo.after hostOps0 _ _ = _
    after_results <;> rfl
  rw [e]
  refine flat3 _ _ _ _ _ _ _ ?_
  show (r.val / 2048 * 2048 + r.val % 2048) * 512 + k.val = r.val * 512 + k.val
  omega

/-- The second mixer's flattened output when the region is entered. -/
theorem V_ob (c : Dev nD) (r : Fin 16384) (k : Fin 512) : V m c main_v2 (ix2 r k)
    = (m ((c : Thread nD τ).loc main_arg2) : Vec Ideal S8x2048x512 .bf16) (ix3 (⟨r.val / 2048, by omega⟩ : Fin 8) (⟨r.val % 2048, by omega⟩ : Fin 2048) k) := by
  have e : (V m c main_v2 : Vec Ideal S16384x512 .bf16) = shapeCast S16384x512 (m ((c : Thread nD τ).loc main_arg2) : Vec Ideal S8x2048x512 .bf16) shapeCasts_S8x2048x512_S16384x512 := by
    show StableHlo.after hostOps0 _ _ = _
    after_results <;> rfl
  rw [e]
  refine flat3 _ _ _ _ _ _ _ ?_
  show (r.val / 2048 * 2048 + r.val % 2048) * 512 + k.val = r.val * 512 + k.val
  omega

/-- The first mixer's weights when the region is entered. -/
theorem V_wa (c : Dev nD) (r : Fin 512) (k : Fin 1024) : V m c main_v4 (ix2 r k)
    = (m ((c : Thread nD τ).loc main_arg4) : Vec Ideal S1x512x1024 .f32) (ix3 (0 : Fin 1) r k) := by
  have e : (V m c main_v4 : Vec Ideal S512x1024 .bf16) = truncf .bf16 (shapeCast S512x1024 (m ((c : Thread nD τ).loc main_arg4) : Vec Ideal S1x512x1024 .f32) shapeCasts_S1x512x1024_S512x1024 : FVec Ideal S512x1024 .f32) bitsLt_bf16_f32 := by
    show StableHlo.after hostOps0 _ _ = _
    after_results <;> rfl
  rw [e]; rw [truncf_apply]
  refine flat3 _ _ _ _ _ _ _ ?_
  show (0 * 512 + r.val) * 1024 + k.val = r.val * 1024 + k.val
  omega

/-- The second mixer's weights when the region is entered. -/
theorem V_wb (c : Dev nD) (r : Fin 512) (k : Fin 1024) : V m c main_v6 (ix2 r k)
    = (m ((c : Thread nD τ).loc main_arg5) : Vec Ideal S1x512x1024 .f32) (ix3 (0 : Fin 1) r k) := by
  have e : (V m c main_v6 : Vec Ideal S512x1024 .bf16) = truncf .bf16 (shapeCast S512x1024 (m ((c : Thread nD τ).loc main_arg5) : Vec Ideal S1x512x1024 .f32) shapeCasts_S1x512x1024_S512x1024 : FVec Ideal S512x1024 .f32) bitsLt_bf16_f32 := by
    show StableHlo.after hostOps0 _ _ = _
    after_results <;> rfl
  rw [e]; rw [truncf_apply]
  refine flat3 _ _ _ _ _ _ _ ?_
  show (0 * 512 + r.val) * 1024 + k.val = r.val * 1024 + k.val
  omega

/-- The output weights when the region is entered. -/
theorem V_wo (c : Dev nD) (r : Fin 1024) (k : Fin 1024) : V m c main_v8 (ix2 r k)
    = (m ((c : Thread nD τ).loc main_arg6) : Vec Ideal S1x1024x1024 .f32) (ix3 (0 : Fin 1) r k) := by
  have e : (V m c main_v8 : Vec Ideal S1024x1024 .bf16) = truncf .bf16 (shapeCast S1024x1024 (m ((c : Thread nD τ).loc main_arg6) : Vec Ideal S1x1024x1024 .f32) shapeCasts_S1x1024x1024_S1024x1024 : FVec Ideal S1024x1024 .f32) bitsLt_bf16_f32 := by
    show StableHlo.after hostOps0 _ _ = _
    after_results <;> rfl
  rw [e]; rw [truncf_apply]
  refine flat3 _ _ _ _ _ _ _ ?_
  show (0 * 1024 + r.val) * 1024 + k.val = r.val * 1024 + k.val
  omega

/-- The gate logits when the region is entered. -/
theorem V_z (c : Dev nD) : V m c main_arg3 = m ((c : Thread nD τ).loc main_arg3) := by
  show StableHlo.after hostOps0 _ _ = _
  after_results <;> rfl

/-- The flat result: row `r`, column `n`. -/
def Gy (c : Dev nD) : (⟨S16384x1024, .f32⟩ : BufTy).Contents (Elt Ideal) :=
  fun i : S16384x1024.Idx => finat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (⟨(i 0).val / 2048, by have : (i 0).val < 16384 := (i 0).isLt; omega⟩ : Fin 8) (⟨(i 0).val % 2048, by omega⟩ : Fin 2048) ⟨(i 1).val, (i 1).isLt⟩

theorem lt_N (t : Fin cfg0.N) : t.val < 16 := lt_of_lt_of_eq t.isLt N_0

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

/-- Row `r` of tile `t` as a row of the whole array. -/
def row (t : Fin cfg0.N) (r : Fin 1024) : Fin 16384 := ⟨t.val * 1024 + r.val, by have := lt_N t; omega⟩

/-- The residual tile at point `t`. -/
theorem blk_x (c : Dev nD) (t : Fin cfg0.N) (r : Fin 1024) (k : Fin 1024) :
    (iblk m c 0 t : Vec Ideal S1024x1024 .f32) (ix2 r k)
      = (m ((c : Thread nD τ).loc main_arg0) : Vec Ideal S8x2048x1024 .f32) (ix3 (⟨(row t r).val / 2048, by omega⟩ : Fin 8) (⟨(row t r).val % 2048, by omega⟩ : Fin 2048) k) := by
  refine Eq.trans ?_ (V_x m c (row t r) k)
  show V m c main_v0 ((win0_0.rect t).emb (ix2 r k)) = _
  refine congrArg _ (funext fun a => Fin.ext ?_)
  refine (Pipeline.Window.rect_emb_val win0_0 t (ix2 r k) a rfl).trans ?_
  match a with
  | ⟨0, _⟩ => show win0_0.index t 0 * 1024 + r.val = t.val * 1024 + r.val; rw [(idx0 t).1]
  | ⟨1, _⟩ => show win0_0.index t 1 * 1024 + k.val = k.val; rw [(idx0 t).2]; omega

/-- The first mixer's tile at point `t`. -/
theorem blk_oa (c : Dev nD) (t : Fin cfg0.N) (r : Fin 1024) (k : Fin 512) :
    (iblk m c 1 t : Vec Ideal S1024x512 .bf16) (ix2 r k)
      = (m ((c : Thread nD τ).loc main_arg1) : Vec Ideal S8x2048x512 .bf16) (ix3 (⟨(row t r).val / 2048, by omega⟩ : Fin 8) (⟨(row t r).val % 2048, by omega⟩ : Fin 2048) k) := by
  refine Eq.trans ?_ (V_oa m c (row t r) k)
  show V m c main_v1 ((win0_1.rect t).emb (ix2 r k)) = _
  refine congrArg _ (funext fun a => Fin.ext ?_)
  refine (Pipeline.Window.rect_emb_val win0_1 t (ix2 r k) a rfl).trans ?_
  match a with
  | ⟨0, _⟩ => show win0_1.index t 0 * 1024 + r.val = t.val * 1024 + r.val; rw [(idx1 t).1]
  | ⟨1, _⟩ => show win0_1.index t 1 * 512 + k.val = k.val; rw [(idx1 t).2]; omega

/-- The second mixer's tile at point `t`. -/
theorem blk_ob (c : Dev nD) (t : Fin cfg0.N) (r : Fin 1024) (k : Fin 512) :
    (iblk m c 2 t : Vec Ideal S1024x512 .bf16) (ix2 r k)
      = (m ((c : Thread nD τ).loc main_arg2) : Vec Ideal S8x2048x512 .bf16) (ix3 (⟨(row t r).val / 2048, by omega⟩ : Fin 8) (⟨(row t r).val % 2048, by omega⟩ : Fin 2048) k) := by
  refine Eq.trans ?_ (V_ob m c (row t r) k)
  show V m c main_v2 ((win0_2.rect t).emb (ix2 r k)) = _
  refine congrArg _ (funext fun a => Fin.ext ?_)
  refine (Pipeline.Window.rect_emb_val win0_2 t (ix2 r k) a rfl).trans ?_
  match a with
  | ⟨0, _⟩ => show win0_2.index t 0 * 1024 + r.val = t.val * 1024 + r.val; rw [(idx2 t).1]
  | ⟨1, _⟩ => show win0_2.index t 1 * 512 + k.val = k.val; rw [(idx2 t).2]; omega

/-- The gate tile at point `t`. -/
theorem blk_z (c : Dev nD) (t : Fin cfg0.N) (r : Fin 1024) (k : Fin 2048) :
    (iblk m c 3 t : Vec Ideal S1024x2048 .bf16) (ix2 r k)
      = (m ((c : Thread nD τ).loc main_arg3) : Vec Ideal S16384x2048 .bf16) (ix2 (row t r) k) := by
  refine Eq.trans ?_ (congrFun (V_z m c) (ix2 (row t r) k))
  show V m c main_arg3 ((win0_3.rect t).emb (ix2 r k)) = _
  refine congrArg _ (funext fun a => Fin.ext ?_)
  refine (Pipeline.Window.rect_emb_val win0_3 t (ix2 r k) a rfl).trans ?_
  match a with
  | ⟨0, _⟩ => show win0_3.index t 0 * 1024 + r.val = t.val * 1024 + r.val; rw [(idx3 t).1]
  | ⟨1, _⟩ => show win0_3.index t 1 * 2048 + k.val = k.val; rw [(idx3 t).2]; omega

/-- The first mixer's weights at point `t`. -/
theorem blk_wa (c : Dev nD) (t : Fin cfg0.N) (r : Fin 512) (k : Fin 1024) :
    (iblk m c 4 t : Vec Ideal S512x1024 .bf16) (ix2 r k)
      = (m ((c : Thread nD τ).loc main_arg4) : Vec Ideal S1x512x1024 .f32) (ix3 (0 : Fin 1) r k) := by
  refine Eq.trans ?_ (V_wa m c r k)
  show V m c main_v4 ((win0_4.rect t).emb (ix2 r k)) = _
  refine congrArg _ (funext fun a => Fin.ext ?_)
  refine (Pipeline.Window.rect_emb_val win0_4 t (ix2 r k) a rfl).trans ?_
  match a with
  | ⟨0, _⟩ => show win0_4.index t 0 * 512 + r.val = r.val; rw [(idx4 t).1]; omega
  | ⟨1, _⟩ => show win0_4.index t 1 * 1024 + k.val = k.val; rw [(idx4 t).2]; omega

/-- The second mixer's weights at point `t`. -/
theorem blk_wb (c : Dev nD) (t : Fin cfg0.N) (r : Fin 512) (k : Fin 1024) :
    (iblk m c 5 t : Vec Ideal S512x1024 .bf16) (ix2 r k)
      = (m ((c : Thread nD τ).loc main_arg5) : Vec Ideal S1x512x1024 .f32) (ix3 (0 : Fin 1) r k) := by
  refine Eq.trans ?_ (V_wb m c r k)
  show V m c main_v6 ((win0_5.rect t).emb (ix2 r k)) = _
  refine congrArg _ (funext fun a => Fin.ext ?_)
  refine (Pipeline.Window.rect_emb_val win0_5 t (ix2 r k) a rfl).trans ?_
  match a with
  | ⟨0, _⟩ => show win0_5.index t 0 * 512 + r.val = r.val; rw [(idx5 t).1]; omega
  | ⟨1, _⟩ => show win0_5.index t 1 * 1024 + k.val = k.val; rw [(idx5 t).2]; omega

/-- The output weights at point `t`. -/
theorem blk_wo (c : Dev nD) (t : Fin cfg0.N) (r : Fin 1024) (k : Fin 1024) :
    (iblk m c 6 t : Vec Ideal S1024x1024 .bf16) (ix2 r k)
      = (m ((c : Thread nD τ).loc main_arg6) : Vec Ideal S1x1024x1024 .f32) (ix3 (0 : Fin 1) r k) := by
  refine Eq.trans ?_ (V_wo m c r k)
  show V m c main_v8 ((win0_6.rect t).emb (ix2 r k)) = _
  refine congrArg _ (funext fun a => Fin.ext ?_)
  refine (Pipeline.Window.rect_emb_val win0_6 t (ix2 r k) a rfl).trans ?_
  match a with
  | ⟨0, _⟩ => show win0_6.index t 0 * 1024 + r.val = r.val; rw [(idx6 t).1]; omega
  | ⟨1, _⟩ => show win0_6.index t 1 * 1024 + k.val = k.val; rw [(idx6 t).2]; omega

/-- A load of half of the gate tile's columns, read at an index. -/
theorem ld_half (o : Nat) (X : Vec Ideal S1024x2048 .bf16)
    (inb : ∀ a, (![0, o] : Fin 2 → Nat) a + (![1024, 1024] : Fin 2 → Nat) a ≤ S1024x2048.size a)
    (r d : Fin 1024) (hn : o + d.val < 2048) :
    View.ld X (Rect.unit (s := S1024x2048) ![0, o] ![1024, 1024] inb) (ix2 r d) = X (ix2 r (⟨o + d.val, hn⟩ : Fin 2048)) := by
  rw [View.ld_unit]
  refine extractStridedSlice_apply _ _ _ _ _ (fun a => ?_)
  match a with
  | ⟨0, _⟩ => show r.val = 0 + r.val; omega
  | ⟨1, _⟩ => show o + d.val = o + d.val; rfl

/-- What point `t` writes is tile `t` of the result. -/
theorem flushed_y (c : Dev nD) (t : Fin cfg0.N) :
    (dats m 0 c).flushed 7 t = ((cfg0.win 7).blk t).view.read (Elt Ideal) (Gy m c) := by
  show (cfg0.win 7).cut (grid0.coords t) ((dats m 0 c).after 7 t) = _
  rw [after0_7]
  unfold out0_7
  rw [View.canon_unit_zero hz]
  refine funext fun (y : S1024x1024.Idx) => ?_
  obtain ⟨r, n, rfl⟩ : ∃ (r n : Fin 1024), y = ix2 r n := ⟨y 0, y 1, eq_ix2 _⟩
  have e : (win0_7.rect t).emb (ix2 r n) = (ix2 (row t r) n : S16384x1024.Idx) := funext fun a => Fin.ext (by
    refine (Pipeline.Window.rect_emb_val win0_7 t (ix2 r n) a rfl).trans ?_
    match a with
    | ⟨0, _⟩ => show win0_7.index t 0 * 1024 + r.val = t.val * 1024 + r.val; rw [(idx7 t).1]
    | ⟨1, _⟩ => show win0_7.index t 1 * 1024 + n.val = n.val; rw [(idx7 t).2]; omega)
  refine Eq.trans ?_ (congrArg (Gy m c) e).symm
  refine (pay1_apply _ _ _ _ _ _ _ _ (fun d => (m ((c : Thread nD τ).loc main_arg3) : Vec Ideal S16384x2048 .bf16) (ix2 (row t r) d)) r n (fun d => ?_) (fun d => ?_)).trans ?_
  · refine (ld_half 0 _ inb_S1024x2048_S1024x1024_0_0 r d (by omega)).trans ((blk_z m c t r _).trans ?_)
    exact congrArg (fun q => (m ((c : Thread nD τ).loc main_arg3) : Vec Ideal S16384x2048 .bf16) (ix2 (row t r) q)) (Fin.ext (Nat.zero_add _))
  · exact (ld_half 1024 _ inb_S1024x2048_S1024x1024_0_1024 r d (by omega)).trans (blk_z m c t r _)
  rw [View.ld_unit_zero hz, View.ld_unit_zero hz, View.ld_unit_zero hz, View.ld_unit_zero hz, View.ld_unit_zero hz, View.ld_unit_zero hz]
  simp only [blk_x, blk_oa, blk_ob, blk_wa, blk_wb, blk_wo]
  have er : (⟨(row t r).val / 2048 * 2048 + (row t r).val % 2048, by omega⟩ : Fin 16384) = row t r := Fin.ext (by
    show (row t r).val / 2048 * 2048 + (row t r).val % 2048 = (row t r).val; omega)
  exact congrArg (fun q : Fin 16384 => fin _ _ _ _ _ (fun d => (m ((c : Thread nD τ).loc main_arg3) : Vec Ideal S16384x2048 .bf16) (ix2 q d)) _ n) er.symm

/-- Every index of the result lies in a tile. -/
theorem cover_y (c : Dev nD) (i : S16384x1024.Idx) :
    ∃ t : Fin cfg0.N, (cfg0.win 7).flush t = true ∧ i ∈ ((cfg0.win 7).blk t).view.set := by
  have h0 : (i 0).val < 16384 := (i 0).isLt
  have hN : (i 0).val / 1024 < cfg0.N := by rw [show cfg0.N = 16 from N_0]; omega
  refine ⟨⟨(i 0).val / 1024, hN⟩, flush0_7 _, ?_⟩
  generalize ht : (⟨(i 0).val / 1024, hN⟩ : Fin cfg0.N) = t
  have ht' : t.val = (i 0).val / 1024 := by rw [← ht]
  show i ∈ ((View.whole main_v9).slice (win0_7.rect t)).set
  rw [View.set_slice_whole, Rect.mem_set_unit]
  intro a
  match a with
  | ⟨0, _⟩ =>
    show win0_7.index t 0 * 1024 ≤ (i 0).val ∧ (i 0).val < win0_7.index t 0 * 1024 + 1024
    rw [(idx7 t).1, ht']; omega
  | ⟨1, _⟩ =>
    have h1 : (i 1).val < 1024 := (i 1).isLt
    show win0_7.index t 1 * 1024 ≤ (i 1).val ∧ (i 1).val < win0_7.index t 1 * 1024 + 1024
    rw [(idx7 t).2]; omega

/-- The flat result after the run. -/
theorem arr_y (c : Dev nD) : (dats m 0 c).arrAt 7 cfg0.N = Gy m c :=
  (dats m 0 c).arrAt_eq_of_cover 7 (Gy m c) (fun t _ => flushed_y m c t) (cover_y c)

/-- The result by stream and frame. -/
def Gout (c : Dev nD) : (⟨S8x2048x1024, .f32⟩ : BufTy).Contents (Elt Ideal) :=
  fun i : S8x2048x1024.Idx => finat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ⟨(i 0).val, (i 0).isLt⟩ ⟨(i 1).val, (i 1).isLt⟩ ⟨(i 2).val, (i 2).isLt⟩

/-- The unflattening of the flat result. -/
theorem unflat (c : Dev nD) : (shapeCast S8x2048x1024 (Gy m c) shapeCasts_S16384x1024_S8x2048x1024 : Vec Ideal S8x2048x1024 .f32) = Gout m c := by
  refine funext fun (i : S8x2048x1024.Idx) => ?_
  obtain ⟨b, t, n, rfl⟩ : ∃ (b : Fin 8) (t : Fin 2048) (n : Fin 1024), i = ix3 b t n := ⟨i 0, i 1, i 2, eq_ix3 _⟩
  refine (shapeCast_apply _ _ _ (ix2 (⟨b.val * 2048 + t.val, by omega⟩ : Fin 16384) n) ?_).trans ?_
  · rw [Shape.rowMajor_val_three, Shape.rowMajor_val_two]; rfl
  · have hb : (⟨(b.val * 2048 + t.val) / 2048, by omega⟩ : Fin 8) = b := Fin.ext (by show (b.val * 2048 + t.val) / 2048 = b.val; omega)
    have ht : (⟨(b.val * 2048 + t.val) % 2048, by omega⟩ : Fin 2048) = t := Fin.ext (by show (b.val * 2048 + t.val) % 2048 = t.val; omega)
    show finat _ _ _ _ _ _ _ (⟨(b.val * 2048 + t.val) / 2048, _⟩ : Fin 8) (⟨(b.val * 2048 + t.val) % 2048, _⟩ : Fin 2048) _ = _
    rw [hb, ht]
    rfl

/-- The result when the line after the region has run. -/
theorem tail_y (c : Dev nD) :
    (Pipeline.afterTail₀ cfgs (dats m) 0 (V0 m) [hostOps1] c main_v10 : Vec Ideal S8x2048x1024 .f32) = Gout m c := by
  unfold Pipeline.afterTail₀
  have h3 := (Pipeline.withArrays_arr spec0 (by decide) c (V0 m c) (fun w => (dats m 0 c).arrAt w cfg0.N) 7).trans (arr_y m c)
  revert h3
  generalize Pipeline.withArrays (cfgs 0).spec c (V0 m c) (fun w => (dats m 0 c).arrAt w (cfgs 0).N) = W
  intro h3
  replace h3 : (W (Proc.devRef .tc main_v9) : Vec Ideal S16384x1024 .f32) = Gy m c := h3
  refine Eq.trans ?_ (unflat m c)
  rw [← h3]
  show StableHlo.after hostOps1 _ _ = _
  after_results <;> rfl

end Cert.Finish

end
-- ==== Proof.Finish.Ref.lean ====
/- The reference of the gated output projection, read at an index. -/
module

public import proofs.«01_k».proof.Proof.Finish.Array
public import proofs.«01_k».proof.Proof.Gen.Reference3Ideal.Read
public import Idealize.ShloMosaic.Lib.IdealHost

@[expose] public section

set_option maxRecDepth 16384

noncomputable section

namespace Cert.Finish

open Idealize.ShloMosaic Idealize.ShloMosaic.TcCoe Idealize.SL.Sem Idealize.ShloMosaic.ValueIdx
open scoped BigOperators
open Cert.Reference3Ideal Cert.Reference3Ideal.Read

/-- The constant one of the reference's gate. -/
theorem one_f32 : (FloatOps.ofBits FTy.f32 0x3F800000#32 : Ideal .f32) = (1 : EReal) := Ideal.ofBits_one_f32

/-- The reference's first gate. -/
theorem ref_gate_first (x3 : Vec Ideal S16384x2048 .bf16) (b : Fin 8) (t : Fin 2048) (d : Fin 1024) :
    val_main_v9 (F := Ideal) x3 (ix3 b t d)
      = Ideal.logistic (x3 (ix2 (⟨b.val * 2048 + t.val, by omega⟩ : Fin 16384) (⟨d.val, by omega⟩ : Fin 2048))) := by
  rw [val_main_v9_apply, val_main_v8_apply, val_main_cst_0_apply, val_main_v7_apply, val_main_v6_apply, val_main_cst_apply, val_main_v5_apply, val_main_v4_apply, val_main_v2_apply, val_main_v1_apply, val_main_v0_apply]
  have e : idx_main_v1 (idx_main_v2 (ix3 b t d)) = ix2 (⟨b.val * 2048 + t.val, by omega⟩ : Fin 16384) (⟨d.val, by omega⟩ : Fin 2048) :=
    funext fun a => Fin.ext (by
      match a with
      | ⟨0, _⟩ => show ((b.val * 2048 + t.val) * 2048 + (d.val)) / 2048 = b.val * 2048 + t.val; omega
      | ⟨1, _⟩ => show ((b.val * 2048 + t.val) * 2048 + (d.val)) % 2048 = d.val; omega)
  rw [e, one_f32]
  rfl

/-- The reference's second gate. -/
theorem ref_gate_second (x3 : Vec Ideal S16384x2048 .bf16) (b : Fin 8) (t : Fin 2048) (d : Fin 1024) :
    val_main_v19 (F := Ideal) x3 (ix3 b t d)
      = Ideal.logistic (x3 (ix2 (⟨b.val * 2048 + t.val, by omega⟩ : Fin 16384) (⟨1024 + d.val, by omega⟩ : Fin 2048))) := by
  rw [val_main_v19_apply, val_main_v18_apply, val_main_cst_2_apply, val_main_v17_apply, val_main_v16_apply, val_main_cst_1_apply, val_main_v15_apply, val_main_v14_apply, val_main_v3_apply, val_main_v1_apply, val_main_v0_apply]
  have e : idx_main_v1 (idx_main_v3 (ix3 b t d)) = ix2 (⟨b.val * 2048 + t.val, by omega⟩ : Fin 16384) (⟨1024 + d.val, by omega⟩ : Fin 2048) :=
    funext fun a => Fin.ext (by
      match a with
      | ⟨0, _⟩ => show ((b.val * 2048 + t.val) * 2048 + (1024 + d.val)) / 2048 = b.val * 2048 + t.val; omega
      | ⟨1, _⟩ => show ((b.val * 2048 + t.val) * 2048 + (1024 + d.val)) % 2048 = 1024 + d.val; omega)
  rw [e, one_f32]
  rfl

/-- The reference's first mixer product. -/
theorem ref_first (xa : Vec Ideal S8x2048x512 .bf16) (xw : Vec Ideal S1x512x1024 .f32) (b : Fin 8) (t : Fin 2048) (d : Fin 1024) :
    val_main_v12 (F := Ideal) xa xw (ix3 b t d) = ∑ k : Fin 512, xa (ix3 b t k) * xw (ix3 (0 : Fin 1) k d) := by
  rw [val_main_v12_apply]
  refine Finset.sum_congr (M := EReal) rfl fun k _ => ?_
  refine congrArg₂ (· * ·) (congrArg xa (funext fun a => match a with | ⟨0, _⟩ => rfl | ⟨1, _⟩ => rfl | ⟨2, _⟩ => rfl)) ?_
  rw [val_main_v11_apply]
  refine congrArg xw (funext fun a => Fin.ext ?_)
  match a with
  | ⟨0, _⟩ => rfl
  | ⟨1, _⟩ => show (k.val * 1024 + d.val) / 1024 % 512 = k.val; omega
  | ⟨2, _⟩ => show (k.val * 1024 + d.val) % 1024 = d.val; omega

/-- The reference's second mixer product. -/
theorem ref_second (xa : Vec Ideal S8x2048x512 .bf16) (xw : Vec Ideal S1x512x1024 .f32) (b : Fin 8) (t : Fin 2048) (d : Fin 1024) :
    val_main_v22 (F := Ideal) xa xw (ix3 b t d) = ∑ k : Fin 512, xa (ix3 b t k) * xw (ix3 (0 : Fin 1) k d) := by
  rw [val_main_v22_apply]
  refine Finset.sum_congr (M := EReal) rfl fun k _ => ?_
  refine congrArg₂ (· * ·) (congrArg xa (funext fun a => match a with | ⟨0, _⟩ => rfl | ⟨1, _⟩ => rfl | ⟨2, _⟩ => rfl)) ?_
  rw [val_main_v21_apply]
  refine congrArg xw (funext fun a => Fin.ext ?_)
  match a with
  | ⟨0, _⟩ => rfl
  | ⟨1, _⟩ => show (k.val * 1024 + d.val) / 1024 % 512 = k.val; omega
  | ⟨2, _⟩ => show (k.val * 1024 + d.val) % 1024 = d.val; omega

/-- The reference's result at an index. -/
theorem ref_out (x0 : Vec Ideal S8x2048x1024 .f32) (x1 x2 : Vec Ideal S8x2048x512 .bf16) (x3 : Vec Ideal S16384x2048 .bf16) (x4 x5 : Vec Ideal S1x512x1024 .f32) (x6 : Vec Ideal S1x1024x1024 .f32) (b : Fin 8) (t : Fin 2048) (n : Fin 1024) :
    val_main_v27 (F := Ideal) x0 x1 x2 x3 x4 x5 x6 (ix3 b t n) = finat x0 x1 x2 x3 x4 x5 x6 b t n := by
  rw [val_main_v27_apply, val_main_v26_apply]
  unfold finat fin
  refine congrArg₂ (· + ·) rfl ?_
  refine Finset.sum_congr (M := EReal) rfl fun d _ => ?_
  refine congrArg₂ (· * ·) ?_ ?_
  · refine (congrArg _ (?_ : _ = ix3 b t d)).trans ?_
    · exact funext fun a => match a with | ⟨0, _⟩ => rfl | ⟨1, _⟩ => rfl | ⟨2, _⟩ => rfl
    · rw [val_main_v24_apply, val_main_v13_apply, val_main_v23_apply, ref_gate_first, ref_gate_second, ref_first, ref_second]
      rfl
  · rw [val_main_v25_apply]
    refine congrArg x6 (funext fun a => Fin.ext ?_)
    match a with
    | ⟨0, _⟩ => rfl
    | ⟨1, _⟩ => show (d.val * 1024 + n.val) / 1024 % 1024 = d.val; omega
    | ⟨2, _⟩ => show (d.val * 1024 + n.val) % 1024 = n.val; omega

end Cert.Finish

end
-- ==== Proof.Finish.Claims.lean ====
/- The claims about the gated output projection. -/
module

public import proofs.«01_k».proof.Defs
public import proofs.«01_k».proof.Proof.Gen.Kernel3.Frame
public import proofs.«01_k».proof.Proof.Finish.Ref
public import Idealize.ShloMosaic.Lib.Quiescent

@[expose] public section

set_option maxRecDepth 16384

noncomputable section

namespace Cert.Finish

open Idealize.ShloMosaic Idealize.ShloMosaic.TcCoe Idealize.SL.Sem Idealize.ShloMosaic.ValueIdx
open scoped BigOperators

/-- The kernel runs, keeps its arguments and leaves no semaphore raised. -/
theorem frame_kernel : Cert.quiescent_Kernel3 := fun m ρ _ => Cert.Kernel3.Gen.frame m ρ

/-- The same of its reading over the extended reals. -/
theorem frame_kernelIdeal : Cert.quiescent_Kernel3Ideal := fun m ρ _ => Cert.Kernel3Ideal.Gen.frame m ρ

/-- The same of the reference. -/
theorem frame_referenceIdeal : Cert.quiescent_Reference3Ideal := fun m ρ _ =>
  (θ_run _ _ _).mono (fun r h => ⟨fun c => (h c).2, Idealize.ShloMosaic.sem_eq_zero_of_no_sems (by decide) r.2⟩)
    (Cert.Reference3Ideal.Value.run (F := Ideal) m ρ)

open Cert.Kernel3Ideal Cert.Kernel3Ideal.Gen in
/-- Over the extended reals the kernel's result is the reference's. -/
theorem algebraic : Cert.algebraic_Kernel3Ideal_Reference3Ideal := by
  intro m g m' g' _ hm
  refine ⟨Gout m, (θ_run _ _ _).mono (fun r h c => ?_) (θ_run_and (run_main m g) (unchanged m g)),
    (θ_run _ _ _).mono (fun r h c => ?_) (Cert.Reference3Ideal.Value.run (F := Ideal) m' g')⟩
  · obtain ⟨hf, ha⟩ := h
    exact ⟨((hf c).2 main_v10 (Pipeline.mem_restRefs_of main_v10 (by decide) (by decide))).trans (tail_y m c), ha c⟩
  · obtain ⟨h0, ha⟩ := h c
    obtain ⟨e0, e1, e2, e3, e4, e5, e6⟩ := hm c
    refine ⟨h0.trans ?_, ha⟩
    rw [e0, e1, e2, e3, e4, e5, e6, Cert.Reference3Ideal.Read.val_main_v27_eq]
    refine funext fun (i : Cert.Reference3Ideal.S8x2048x1024.Idx) => ?_
    exact (congrArg _ (eq_ix3 _)).trans (ref_out _ _ _ _ _ _ _ ⟨(i 0).val, (i 0).isLt⟩ ⟨(i 1).val, (i 1).isLt⟩ ⟨(i 2).val, (i 2).isLt⟩)

end Cert.Finish

end
-- ==== Proof.Attn.Block.lean ====
module

public import proofs.«01_k».proof.Proof.Gen.Kernel4Ideal.Value
public import proofs.«01_k».proof.Proof.Gen.Kernel4
public import proofs.«01_k».proof.Proof.Gen.Kernel4.Frame
public import proofs.«01_k».proof.Proof.Gen.Reference4Ideal.Run
public import proofs.«01_k».proof.Proof.Gen.Reference4Ideal.Read

@[expose] public section
end
-- ==== Proof.Attn.Soft.lean ====
/- A softmax-weighted sum over a finite row of scores: its maximum, its invariance under dropping
   entries whose score is −∞, and that dividing the weighted sum by the denominator is the same as
   weighting by divided exponentials. -/
module

public import proofs.«01_k».proof.Proof.Attn.Block

@[expose] public section

noncomputable section

namespace Cert.Attn

open Idealize.ShloMosaic
open scoped BigOperators

/-- The largest of a row of scores, −∞ for an empty row. -/
def top {n : ℕ} (s : Fin n → EReal) : EReal := Finset.univ.fold max ⊥ s

/-- The weighted sum of `v` with the weights `exp (s j − top s)`, divided by the sum of the weights. -/
def soft {n : ℕ} (s v : Fin n → EReal) : EReal :=
  Ideal.div (∑ j, Ideal.exp (s j - top s) * v j) (∑ j, Ideal.exp (s j - top s))

/-- The fold of `max` from −∞ is the supremum. -/
theorem top_eq_sup {n : ℕ} (s : Fin n → EReal) : top s = Finset.univ.sup s := rfl

/-- Every score is at most the maximum. -/
theorem le_top' {n : ℕ} (s : Fin n → EReal) (j : Fin n) : s j ≤ top s := by
  rw [top_eq_sup]; exact Finset.le_sup (Finset.mem_univ j)

/-- Scores below +∞ have a maximum below +∞. -/
theorem top_ne_top {n : ℕ} (s : Fin n → EReal) (h : ∀ j, s j ≠ ⊤) : top s ≠ ⊤ := by
  rw [top_eq_sup, ← lt_top_iff_ne_top, Finset.sup_lt_iff (by simp)]
  exact fun j _ => lt_top_iff_ne_top.mpr (h j)

/-- The exponential of −∞ is zero, whatever is subtracted first. -/
theorem exp_bot_sub (M : EReal) : Ideal.exp (⊥ - M) = 0 := by
  rw [sub_eq_add_neg, EReal.bot_add]; rfl

/-- Dropping entries whose score is −∞ leaves the maximum. -/
theorem top_comp {n N : ℕ} (e : Fin n → Fin N) (S : Fin N → EReal) (h : ∀ P, P ∉ Set.range e → S P = ⊥) :
    top (fun j => S (e j)) = top S := by
  apply le_antisymm
  · rw [top_eq_sup]
    exact Finset.sup_le fun j _ => le_top' S (e j)
  · rw [top_eq_sup S]
    refine Finset.sup_le fun P _ => ?_
    by_cases hP : P ∈ Set.range e
    · obtain ⟨j, rfl⟩ := hP
      exact le_top' (fun j => S (e j)) j
    · rw [h P hP]; exact bot_le

/-- Dropping entries whose score is −∞ leaves the softmax-weighted sum. -/
theorem soft_comp {n N : ℕ} (e : Fin n → Fin N) (he : Function.Injective e) (S V : Fin N → EReal)
    (h : ∀ P, P ∉ Set.range e → S P = ⊥) :
    soft (fun j => S (e j)) (fun j => V (e j)) = soft S V := by
  unfold soft
  rw [top_comp e S h]
  congr 1
  · exact Fintype.sum_of_injective e he _ _ (fun P hP => by rw [h P hP, exp_bot_sub, zero_mul]) fun j => rfl
  · exact Fintype.sum_of_injective e he _ _ (fun P hP => by rw [h P hP, exp_bot_sub]) fun j => rfl

/-- A nonnegative real factor comes out of a sum on the right. -/
theorem sum_mul_coe {n : ℕ} (f : Fin n → EReal) (c : ℝ) (hc : 0 ≤ c) :
    ∑ j, f j * (c : EReal) = (∑ j, f j) * (c : EReal) := by
  classical
  induction (Finset.univ : Finset (Fin n)) using Finset.induction_on with
  | empty => simp
  | insert a t ha ih =>
    rw [Finset.sum_insert ha, Finset.sum_insert ha, ih,
      EReal.right_distrib_of_nonneg_of_ne_top (EReal.coe_nonneg.mpr hc) (EReal.coe_ne_top c)]

/-- With scores below +∞, one of them real, dividing each weight by the denominator first gives the same
    weighted sum. -/
theorem sum_div_mul {n : ℕ} (s v : Fin n → EReal) (h : ∀ j, s j ≠ ⊤) (h' : ∃ j, s j ≠ ⊥) :
    ∑ j, Ideal.div (Ideal.exp (s j - top s)) (∑ i, Ideal.exp (s i - top s)) * v j = soft s v := by
  unfold soft
  obtain ⟨j0, hj0⟩ := h'
  have hM : top s ≠ ⊤ := top_ne_top s h
  have hM' : top s ≠ ⊥ := fun hb => hj0 (le_bot_iff.mp (hb ▸ le_top' s j0))
  have key : ∀ j, ∃ r : ℝ, 0 ≤ r ∧ (s j ≠ ⊥ → 0 < r) ∧ Ideal.exp (s j - top s) = (r : EReal) := by
    intro j
    by_cases hb : s j = ⊥
    · exact ⟨0, le_rfl, fun h => absurd hb h, by rw [hb, exp_bot_sub]; rfl⟩
    · lift top s to ℝ using ⟨hM, hM'⟩ with M
      lift s j to ℝ using ⟨h j, hb⟩ with x
      exact ⟨Real.exp (x - M), (Real.exp_pos _).le, fun _ => Real.exp_pos _, by
        rw [← EReal.coe_sub]; exact Ideal.exp_coe _⟩
  choose e he0 hpos he using key
  have hsum : ∑ i, Ideal.exp (s i - top s) = ((∑ i, e i : ℝ) : EReal) := by
    rw [Finset.sum_congr rfl fun i _ => he i]
    exact (map_sum (⟨⟨Real.toEReal, rfl⟩, EReal.coe_add⟩ : ℝ →+ EReal) e Finset.univ).symm
  have hL : (0 : ℝ) < ∑ i, e i :=
    Finset.sum_pos' (fun i _ => he0 i) ⟨j0, Finset.mem_univ _, hpos j0 hj0⟩
  rw [hsum, Ideal.div_coe hL.ne', ← sum_mul_coe _ _ (by positivity)]
  refine Finset.sum_congr rfl fun j _ => ?_
  rw [Ideal.div_coe hL.ne', mul_right_comm]

end Cert.Attn

end
-- ==== Proof.Attn.Pair.lean ====
/- One pair of heads of the prompt attention's tile: its two softmaxes, stacked as 512 rows over `nk`
   keys, read at an index. -/
module

public import proofs.«01_k».proof.Proof.Attn.Soft
public import Idealize.ShloMosaic.Lib.MatmulPlain
public import Idealize.ShloMosaic.Lib.IdealHost
public import Idealize.ShloMosaic.Lib.ValueLayout
public import Idealize.ShloMosaic.Lib.ValueLayoutCasts

@[expose] public section

set_option maxRecDepth 16384

noncomputable section

namespace Cert.Attn

open Idealize.ShloMosaic Idealize.ShloMosaic.TcCoe Idealize.SL.Sem Idealize.ShloMosaic.ValueIdx
open scoped BigOperators
open Cert.Kernel4Ideal Cert.Kernel4Ideal.Gen

/-- One eighth, the factor of the queries. -/
theorem eighth : Ideal.ofBits .f32 0x3E000000#32 = ((1 / 8 : ℝ) : EReal) := by
  simp [Ideal.ofBits, Ideal.ieee, -EReal.coe_mul, Nat.testBit]; norm_num

/-- What the shapes with `nk` keys satisfy. -/
structure Keys (nk : ℕ) : Prop where
  rows : (⟨3, ![1, nk, 128]⟩ : Shape).ShapeCasts ⟨2, ![nk, 128]⟩
  bias : (⟨3, ![1, 256, nk]⟩ : Shape).ShapeCasts ⟨2, ![256, nk]⟩
  stack : Shape.Concatenates [(⟨2, ![256, nk]⟩ : Shape), ⟨2, ![256, nk]⟩] ⟨2, ![512, nk]⟩ 0
  red : (⟨2, ![512, nk]⟩ : Shape).Reduces [1] ⟨1, ![512]⟩
  wide : (⟨2, ![512, 1]⟩ : Shape).Broadcasts ⟨2, ![512, nk]⟩

/-- The lanes of the pair's first head. -/
def firstHead : IVec S1x128 1 := cmpi .slt (iota .tc S1x128 32 [1] iota_S1x128_d1_w32) (broadcast S1x128 64#32)

/-- The same lanes on 256 rows. -/
def firstHead' : IVec S256x128 1 :=
  broadcastTo S256x128 (shapeCast S1x128 firstHead shapeCasts_S1x128_S1x128) broadcasts_S1x128_S256x128

/-- The queries of the pair, scaled and stacked: the first head's on rows 0 to 255, the second's after them,
    each with zeros on the other's lanes. -/
def stackQ (q : FVec Ideal S1x256x128 .f32) : FVec Ideal S512x128 .f32 :=
  concatenate S512x128 0
    [⟨S256x128, select firstHead'
        (mulf (shapeCast S256x128 q shapeCasts_S1x256x128_S256x128) (broadcast S256x128 (Scalar.ofBits .f32 0x3E000000#32)))
        (broadcast S256x128 (Scalar.ofBits .f32 0x00000000#32))⟩,
     ⟨S256x128, select firstHead' (broadcast S256x128 (Scalar.ofBits .f32 0x00000000#32))
        (mulf (shapeCast S256x128 q shapeCasts_S1x256x128_S256x128) (broadcast S256x128 (Scalar.ofBits .f32 0x3E000000#32)))⟩]
    concatenates_S256x128_S256x128_S512x128_d0

/-- The stacked scores of the pair: the products with the keys plus the two heads' biases. -/
def scores {nk : ℕ} (H : Keys nk) (k : FVec Ideal ⟨3, ![1, nk, 128]⟩ .f32) (q : FVec Ideal S1x256x128 .f32)
    (b0 b1 : FVec Ideal ⟨3, ![1, 256, nk]⟩ .f32) : FVec Ideal ⟨2, ![512, nk]⟩ .f32 :=
  addf (matmul (DotDims.transposedRhs 512 128 nk) none (truncf .bf16 (stackQ q) bitsLt_bf16_f32)
      (truncf .bf16 (shapeCast ⟨2, ![nk, 128]⟩ k H.rows) bitsLt_bf16_f32) (constant ⟨2, ![512, nk]⟩ .f32 0x00000000#32))
    (concatenate ⟨2, ![512, nk]⟩ 0
      [⟨⟨2, ![256, nk]⟩, shapeCast ⟨2, ![256, nk]⟩ b0 H.bias⟩, ⟨⟨2, ![256, nk]⟩, shapeCast ⟨2, ![256, nk]⟩ b1 H.bias⟩] H.stack)

/-- The exponentials of the scores less their row's largest. -/
def weights {nk : ℕ} (H : Keys nk) (x : FVec Ideal ⟨2, ![512, nk]⟩ .f32) : FVec Ideal ⟨2, ![512, nk]⟩ .f32 :=
  exp (subf x (broadcastTo ⟨2, ![512, nk]⟩
    (shapeCast S512x1 (multiReduction .maximumf [1] S512 x 0xFF800000#32 H.red (.inl rfl) rfl) shapeCasts_S512_S512x1) H.wide))

/-- The stacked weighted values over their denominators. -/
def stackO {nk : ℕ} (H : Keys nk) (x : FVec Ideal ⟨2, ![512, nk]⟩ .f32) (v : FVec Ideal ⟨3, ![1, nk, 128]⟩ .f32) :
    FVec Ideal S512x128 .f32 :=
  divf (matmul (DotDims.plain 512 nk 128) none (truncf .bf16 (weights H x) bitsLt_bf16_f32)
      (truncf .bf16 (shapeCast ⟨2, ![nk, 128]⟩ v H.rows) bitsLt_bf16_f32) (constant S512x128 .f32 0x00000000#32))
    (broadcastTo S512x128
      (shapeCast S512x1 (multiReduction .add [1] S512 (weights H x) 0x00000000#32 H.red (.inl rfl) rfl) shapeCasts_S512_S512x1)
      broadcasts_S512x1_S512x128)

/-- The pair's tile: each head's own lanes of its own rows. -/
def pairOut {nk : ℕ} (H : Keys nk) (k : FVec Ideal ⟨3, ![1, nk, 128]⟩ .f32) (v : FVec Ideal ⟨3, ![1, nk, 128]⟩ .f32)
    (q : FVec Ideal S1x256x128 .f32) (b0 b1 : FVec Ideal ⟨3, ![1, 256, nk]⟩ .f32) : FVec Ideal S1x256x128 .bf16 :=
  shapeCast S1x256x128 (truncf .bf16 (select firstHead'
      (extractStridedSlice S256x128 ![0, 0] (stackO H (scores H k q b0 b1) v) slices_S512x128_o0_0_S256x128)
      (extractStridedSlice S256x128 ![256, 0] (stackO H (scores H k q b0 b1) v) slices_S512x128_o256_0_S256x128))
    bitsLt_bf16_f32) shapeCasts_S256x128_S1x256x128

/-- Whether a lane is the first head's. -/
theorem firstHead'_apply (r : Fin 256) (l : Fin 128) : firstHead' (ix2 r l) = if l.val < 64 then 1#1 else 0#1 := by
  have e : firstHead' (ix2 r l) = firstHead (ix2 (0 : Fin 1) l) := by
    unfold firstHead'
    rw [shapeCast_self]
    exact broadcastTo_apply _ broadcasts_S1x128_S256x128 (ix2 r l) (ix2 (0 : Fin 1) l)
      (fun a => by match a with | ⟨0, _⟩ => rfl | ⟨1, _⟩ => rfl)
  rw [e]
  show IntOp.cmpi .slt (iota .tc S1x128 32 [1] iota_S1x128_d1_w32 (ix2 (0 : Fin 1) l)) 64#32 = _
  rw [iota_single_apply]
  exact (by decide +kernel : ∀ l : Fin 128, IntOp.cmpi .slt (BitVec.ofNat 32 l.val) 64#32 = if l.val < 64 then 1#1 else 0#1) l

/-- The stacked queries at row `256 s + r`: head `s`'s lanes of query `r` over eight, zero elsewhere. -/
theorem stackQ_apply (q : FVec Ideal S1x256x128 .f32) (s : Fin 2) (r : Fin 256) (l : Fin 128) (R : Fin 512)
    (hR : R.val = 256 * s.val + r.val) :
    stackQ q (ix2 R l) = if l.val / 64 = s.val then q (ix3 (0 : Fin 1) r l) * ((1 / 8 : ℝ) : EReal) else 0 := by
  have hq : mulf (shapeCast S256x128 q shapeCasts_S1x256x128_S256x128) (broadcast S256x128 (Scalar.ofBits .f32 0x3E000000#32)) (ix2 r l)
      = q (ix3 (0 : Fin 1) r l) * ((1 / 8 : ℝ) : EReal) := by
    show shapeCast S256x128 q shapeCasts_S1x256x128_S256x128 (ix2 r l) * Ideal.ofBits .f32 0x3E000000#32 = _
    rw [eighth]
    exact congrArg (· * ((1 / 8 : ℝ) : EReal)) (shapeCast_1ab_ab_apply q shapeCasts_S1x256x128_S256x128 r l)
  have h0 : (broadcast S256x128 (Scalar.ofBits .f32 0x00000000#32) : FVec Ideal S256x128 .f32) (ix2 r l) = (0 : EReal) := Ideal.ofBits_zero_f32
  have hl : l.val < 128 := l.isLt
  unfold stackQ
  match s, hR with
  | ⟨0, _⟩, hR =>
    have hR : R.val = 256 * 0 + r.val := hR
    refine (concatenate_pair_apply_left _ _ _ concatenates_S256x128_S256x128_S512x128_d0 (ix2 R l) rfl (ix2 r l)
      (fun b => by match b with | ⟨0, _⟩ => show r.val = R.val; omega | ⟨1, _⟩ => rfl)).trans ?_
    rw [select_apply, firstHead'_apply, hq, h0]
    show _ = if l.val / 64 = 0 then _ else _
    by_cases hc : l.val < 64
    · rw [if_pos hc, if_pos (by omega)]; rfl
    · rw [if_neg hc, if_neg (by omega)]; rfl
  | ⟨1, _⟩, hR =>
    have hR : R.val = 256 * 1 + r.val := hR
    refine (concatenate_pair_apply_right _ _ _ concatenates_S256x128_S256x128_S512x128_d0 (ix2 R l) rfl rfl (ix2 r l)
      (fun b hb => by match b, hb with | ⟨0, _⟩, hb => exact absurd rfl hb | ⟨1, _⟩, _ => rfl)
      (by show r.val + 256 = R.val; omega)).trans ?_
    rw [select_apply, firstHead'_apply, hq, h0]
    show _ = if l.val / 64 = 1 then _ else _
    by_cases hc : l.val < 64
    · rw [if_pos hc, if_neg (by omega)]; rfl
    · rw [if_neg hc, if_pos (by omega)]; rfl

/-- A product over the 128 lanes in which only one head's half counts. -/
theorem half_sum (s : Fin 2) (x y : Fin 128 → EReal) (c : ℝ) (hc : 0 ≤ c) :
    ∑ l : Fin 128, (if l.val / 64 = s.val then x l * (c : EReal) else 0) * y l
      = (∑ d : Fin 64, x ⟨64 * s.val + d.val, by omega⟩ * y ⟨64 * s.val + d.val, by omega⟩) * (c : EReal) := by
  rw [← sum_mul_coe _ _ hc]
  refine (Fintype.sum_of_injective (fun d : Fin 64 => (⟨64 * s.val + d.val, by omega⟩ : Fin 128)) ?_ _ _ ?_ ?_).symm
  · intro a b h
    have := congrArg Fin.val h
    exact Fin.ext (by simpa using this)
  · intro l hl
    rw [if_neg, zero_mul]
    intro h
    exact hl ⟨⟨l.val - 64 * s.val, by omega⟩, Fin.ext (by show 64 * s.val + (l.val - 64 * s.val) = l.val; omega)⟩
  · intro d
    show _ = (if (64 * s.val + d.val) / 64 = s.val then _ else _) * _
    rw [if_pos (by omega), mul_right_comm]

/-- A head's score of query `r` and key `j` of the pair. -/
def score {nk : ℕ} (k : FVec Ideal ⟨3, ![1, nk, 128]⟩ .f32) (q : FVec Ideal S1x256x128 .f32)
    (b0 b1 : FVec Ideal ⟨3, ![1, 256, nk]⟩ .f32) (s : Fin 2) (r : Fin 256) (j : Fin nk) : EReal :=
  (∑ d : Fin 64, q (ix3 (0 : Fin 1) r (⟨64 * s.val + d.val, by omega⟩ : Fin 128))
      * k (ix3 (0 : Fin 1) j (⟨64 * s.val + d.val, by omega⟩ : Fin 128))) * ((1 / 8 : ℝ) : EReal)
    + (if s.val = 0 then b0 (ix3 (0 : Fin 1) r j) else b1 (ix3 (0 : Fin 1) r j))

/-- The stacked scores at row `256 s + r`. -/
theorem scores_apply {nk : ℕ} (H : Keys nk) (k : FVec Ideal ⟨3, ![1, nk, 128]⟩ .f32) (q : FVec Ideal S1x256x128 .f32)
    (b0 b1 : FVec Ideal ⟨3, ![1, 256, nk]⟩ .f32) (s : Fin 2) (r : Fin 256) (R : Fin 512) (hR : R.val = 256 * s.val + r.val) (j : Fin nk) :
    scores H k q b0 b1 (ix2 R j) = score k q b0 b1 s r j := by
  unfold scores score
  rw [addf_apply]
  congr 1
  · refine (Ideal.matmul_transposedRhs_apply none _ _ _ R j).trans ?_
    rw [constant_apply, Ideal.ofBits_zero_f32, zero_add]
    refine Eq.trans (Finset.sum_congr (M := EReal) rfl fun l _ => ?_)
      (half_sum s (fun l => q (ix3 (0 : Fin 1) r l)) (fun l => k (ix3 (0 : Fin 1) j l)) (1 / 8) (by norm_num))
    rw [truncf_apply, truncf_apply, stackQ_apply q s r l R hR]
    exact congrArg (_ * ·) (shapeCast_1ab_ab_apply k H.rows j l)
  · match s, hR with
    | ⟨0, _⟩, hR =>
      have hR : R.val = 256 * 0 + r.val := hR
      refine (concatenate_pair_apply_left _ _ _ H.stack (ix2 R j) rfl (ix2 r j)
        (fun b => by match b with | ⟨0, _⟩ => show r.val = R.val; omega | ⟨1, _⟩ => rfl)).trans ?_
      exact shapeCast_1ab_ab_apply b0 H.bias r j
    | ⟨1, _⟩, hR =>
      have hR : R.val = 256 * 1 + r.val := hR
      refine (concatenate_pair_apply_right _ _ _ H.stack (ix2 R j) rfl rfl (ix2 r j)
        (fun b hb => by match b, hb with | ⟨0, _⟩, hb => exact absurd rfl hb | ⟨1, _⟩, _ => rfl)
        (by show r.val + 256 = R.val; omega)).trans ?_
      exact shapeCast_1ab_ab_apply b1 H.bias r j

/-- Row `R` of a reduction over the keys, with the key put back. -/
theorem lift_keys {nk : ℕ} (H : Keys nk) (R : Fin 512) (j : Fin nk) : H.red.lift (ix1 R) j = ix2 R j :=
  funext fun a => Fin.ext (by match a with | ⟨0, _⟩ => rfl | ⟨1, _⟩ => rfl)

/-- The exponentials read at an index. -/
theorem weights_apply {nk : ℕ} (H : Keys nk) (x : FVec Ideal ⟨2, ![512, nk]⟩ .f32) (R : Fin 512) (j : Fin nk) :
    weights H x (ix2 R j) = Ideal.exp (x (ix2 R j) - top fun i => x (ix2 R i)) := by
  unfold weights
  show Ideal.exp (x (ix2 R j) - broadcastTo ⟨2, ![512, nk]⟩ _ H.wide (ix2 R j)) = _
  congr 2
  refine (broadcastTo_apply _ H.wide (ix2 R j) (ix2 R (0 : Fin 1))
    (fun a => by match a with | ⟨0, _⟩ => rfl | ⟨1, _⟩ => rfl)).trans ?_
  refine (shapeCast_a_a1_apply _ shapeCasts_S512_S512x1 R (0 : Fin 1)).trans ?_
  refine (Ideal.multiReduction_maximumf_single x _ H.red (.inl rfl) rfl (ix1 R)).trans ?_
  have hb : (FloatOps.ofBits FTy.f32 0xFF800000#32 : Ideal .f32) = (⊥ : EReal) := by
    show Ideal.ofBits .f32 0xFF800000#32 = ⊥
    simp [Ideal.ofBits, Ideal.ieee]
  show Finset.fold max (FloatOps.ofBits FTy.f32 0xFF800000#32 : Ideal .f32) _ _ = _
  rw [hb]
  unfold top
  congr 1
  exact funext fun i => congrArg x (lift_keys H R i)

/-- The stacked output at an index: a softmax-weighted sum of the values. -/
theorem stackO_apply {nk : ℕ} (H : Keys nk) (x : FVec Ideal ⟨2, ![512, nk]⟩ .f32) (v : FVec Ideal ⟨3, ![1, nk, 128]⟩ .f32)
    (R : Fin 512) (l : Fin 128) :
    stackO H x v (ix2 R l) = soft (fun j => x (ix2 R j)) (fun j => v (ix3 (0 : Fin 1) j l)) := by
  unfold stackO soft
  rw [divf_apply]
  congr 1
  · refine (Ideal.matmul_plain_apply none _ _ _ R l).trans ?_
    rw [constant_apply, Ideal.ofBits_zero_f32, zero_add]
    refine Finset.sum_congr (M := EReal) rfl fun j _ => ?_
    rw [truncf_apply, truncf_apply, weights_apply]
    exact congrArg (_ * ·) (shapeCast_1ab_ab_apply v H.rows j l)
  · refine (broadcastTo_apply _ broadcasts_S512x1_S512x128 (ix2 R l) (ix2 R (0 : Fin 1))
      (fun a => by match a with | ⟨0, _⟩ => rfl | ⟨1, _⟩ => rfl)).trans ?_
    refine (shapeCast_a_a1_apply _ shapeCasts_S512_S512x1 R (0 : Fin 1)).trans ?_
    refine (Ideal.multiReduction_add_single _ _ H.red (.inl rfl) rfl (ix1 R)).trans ?_
    refine Finset.sum_congr (M := EReal) rfl fun j _ => ?_
    rw [← weights_apply H x R j]
    exact congrArg (weights H x) (lift_keys H R j)

/-- The pair's tile at query `r`, lane `l` of head `s`. -/
theorem pairOut_apply {nk : ℕ} (H : Keys nk) (k v : FVec Ideal ⟨3, ![1, nk, 128]⟩ .f32) (q : FVec Ideal S1x256x128 .f32)
    (b0 b1 : FVec Ideal ⟨3, ![1, 256, nk]⟩ .f32) (u : Fin 1) (s : Fin 2) (r : Fin 256) (l : Fin 128) (hl : l.val / 64 = s.val) :
    pairOut H k v q b0 b1 (ix3 u r l) = soft (score k q b0 b1 s r) (fun j => v (ix3 (0 : Fin 1) j l)) := by
  unfold pairOut
  refine (shapeCast_ab_1ab_apply _ shapeCasts_S256x128_S1x256x128 u r l).trans ?_
  rw [truncf_apply, select_apply, firstHead'_apply]
  have hs : ∀ (o : ℕ) (hsl : S512x128.Slices ![o, 0] S256x128), o = 256 * s.val →
      extractStridedSlice S256x128 ![o, 0] (stackO H (scores H k q b0 b1) v) hsl (ix2 r l)
        = soft (score k q b0 b1 s r) (fun j => v (ix3 (0 : Fin 1) j l)) := by
    intro o hsl ho
    refine (extractStridedSlice_apply _ _ _ _ (ix2 (⟨256 * s.val + r.val, by omega⟩ : Fin 512) l) (fun a => ?_)).trans ?_
    · match a with
      | ⟨0, _⟩ => show 256 * s.val + r.val = o + r.val; omega
      | ⟨1, _⟩ => show l.val = 0 + l.val; omega
    · rw [stackO_apply]
      exact congrArg (soft · _) (funext fun j => scores_apply H k q b0 b1 s r _ rfl j)
  by_cases hc : l.val < 64
  · rw [if_pos hc]
    exact hs 0 slices_S512x128_o0_0_S256x128 (by omega)
  · rw [if_neg hc]
    exact hs 256 slices_S512x128_o256_0_S256x128 (by omega)

end Cert.Attn

end
-- ==== Proof.Attn.Tile.lean ====
/- The tile the attention leaves at a grid point, from its blocks: one softmax per query and head, over the
   `nk` keys from row `o` on, with the bias columns from `bo` on. -/
module

public import proofs.«01_k».proof.Proof.Attn.Pair
public import Idealize.ShloMosaic.Lib.Writes

@[expose] public section

set_option maxRecDepth 16384

noncomputable section

namespace Cert.Attn

open Idealize.ShloMosaic Idealize.ShloMosaic.TcCoe Idealize.SL.Sem Idealize.ShloMosaic.ValueIdx
open scoped BigOperators
open Cert.Kernel4Ideal Cert.Kernel4Ideal.Gen

/-- The score of query `r` and the key at row `o + j`, for head `h`. -/
def tscore (x0 : Vec Ideal S1x256x512 .f32) (x1 : Vec Ideal S1x2048x512 .f32) (x3 : Vec Ideal S8x256x768 .f32)
    (nk o bo : ℕ) (ho : o + nk ≤ 2048) (hb : bo + nk ≤ 768) (h : Fin 8) (r : Fin 256) (j : Fin nk) : EReal :=
  (∑ d : Fin 64, x0 (ix3 (0 : Fin 1) r (⟨64 * h.val + d.val, by omega⟩ : Fin 512))
      * x1 (ix3 (0 : Fin 1) (⟨o + j.val, by omega⟩ : Fin 2048) (⟨64 * h.val + d.val, by omega⟩ : Fin 512))) * ((1 / 8 : ℝ) : EReal)
    + x3 (ix3 h r (⟨bo + j.val, by omega⟩ : Fin 768))

/-- The tile at query `r`, column `n`. -/
def tile (x0 : Vec Ideal S1x256x512 .f32) (x1 x2 : Vec Ideal S1x2048x512 .f32) (x3 : Vec Ideal S8x256x768 .f32)
    (nk o bo : ℕ) (ho : o + nk ≤ 2048) (hb : bo + nk ≤ 768) : Vec Ideal S1x256x512 .bf16 :=
  fun i : S1x256x512.Idx =>
    soft (tscore x0 x1 x3 nk o bo ho hb (⟨(i 2).val / 64, by have : (i 2).val < 512 := (i 2).isLt; omega⟩ : Fin 8) ⟨(i 1).val, (i 1).isLt⟩)
      (fun j => x2 (ix3 (0 : Fin 1) (⟨o + j.val, by omega⟩ : Fin 2048) (⟨(i 2).val, (i 2).isLt⟩ : Fin 512)))

/-- A load through a whole buffer of a rank three array, read at an index. -/
theorem load_apply {A B C a b c : ℕ} {e : EltTy} (M : Memref sig .tc .vmem ⟨3, ![A, B, C]⟩ e) (hM : M.IsWhole)
    (X : Vec Ideal ⟨3, ![A, B, C]⟩ e) (off : Fin 3 → ℕ) (inb : ∀ x, off x + (![a, b, c] : Fin 3 → ℕ) x ≤ (⟨3, ![A, B, C]⟩ : Shape).size x)
    (p q s : ℕ) (hoff : off = ![p, q, s]) (i : Fin a) (j : Fin b) (k : Fin c) (i' : Fin A) (j' : Fin B) (k' : Fin C)
    (hi : i'.val = p + i.val) (hj : j'.val = q + j.val) (hk : k'.val = s + k.val) :
    View.readAt (Elt Ideal) M.view (Rect.unit (s := ⟨3, ![A, B, C]⟩) off ![a, b, c] inb).toLoadRect (hM.unread X) (ix3 i j k)
      = X (ix3 i' j' k') := by
  subst hoff
  rw [View.readAt_eq_ld, Memref.IsWhole.read_unread]
  rw [View.ld_unit]
  refine extractStridedSlice_apply _ _ _ _ _ (fun x => ?_)
  match x with
  | ⟨0, _⟩ => exact hi
  | ⟨1, _⟩ => exact hj
  | ⟨2, _⟩ => exact hk

/-- The pair's tile from operands that are parts of the blocks. -/
theorem pair_tile {nk : ℕ} (H : Keys nk) (k v : FVec Ideal ⟨3, ![1, nk, 128]⟩ .f32) (q : FVec Ideal S1x256x128 .f32)
    (b0 b1 : FVec Ideal ⟨3, ![1, 256, nk]⟩ .f32)
    (x0 : Vec Ideal S1x256x512 .f32) (x1 x2 : Vec Ideal S1x2048x512 .f32) (x3 : Vec Ideal S8x256x768 .f32)
    (p o bo : ℕ) (hp : p < 4) (ho : o + nk ≤ 2048) (hb : bo + nk ≤ 768)
    (hk : ∀ (j : Fin nk) (l : Fin 128), k (ix3 (0 : Fin 1) j l) = x1 (ix3 (0 : Fin 1) (⟨o + j.val, by omega⟩ : Fin 2048) (⟨128 * p + l.val, by omega⟩ : Fin 512)))
    (hv : ∀ (j : Fin nk) (l : Fin 128), v (ix3 (0 : Fin 1) j l) = x2 (ix3 (0 : Fin 1) (⟨o + j.val, by omega⟩ : Fin 2048) (⟨128 * p + l.val, by omega⟩ : Fin 512)))
    (hq : ∀ (r : Fin 256) (l : Fin 128), q (ix3 (0 : Fin 1) r l) = x0 (ix3 (0 : Fin 1) r (⟨128 * p + l.val, by omega⟩ : Fin 512)))
    (h0 : ∀ (r : Fin 256) (j : Fin nk), b0 (ix3 (0 : Fin 1) r j) = x3 (ix3 (⟨2 * p, by omega⟩ : Fin 8) r (⟨bo + j.val, by omega⟩ : Fin 768)))
    (h1 : ∀ (r : Fin 256) (j : Fin nk), b1 (ix3 (0 : Fin 1) r j) = x3 (ix3 (⟨2 * p + 1, by omega⟩ : Fin 8) r (⟨bo + j.val, by omega⟩ : Fin 768)))
    (u : Fin 1) (r : Fin 256) (l : Fin 128) :
    pairOut H k v q b0 b1 (ix3 u r l)
      = tile x0 x1 x2 x3 nk o bo ho hb (ix3 (0 : Fin 1) r (⟨128 * p + l.val, by omega⟩ : Fin 512)) := by
  have hl : l.val < 128 := l.isLt
  rw [pairOut_apply H k v q b0 b1 u (⟨l.val / 64, by omega⟩ : Fin 2) r l rfl]
  show soft _ _ = soft (tscore x0 x1 x3 nk o bo ho hb (⟨(128 * p + l.val) / 64, by omega⟩ : Fin 8) r)
      (fun j => x2 (ix3 (0 : Fin 1) (⟨o + j.val, by omega⟩ : Fin 2048) (⟨128 * p + l.val, by omega⟩ : Fin 512)))
  refine congrArg₂ soft (funext fun j => ?_) (funext fun j => hv j l)
  unfold score tscore
  refine congrArg₂ (· + ·) (congrArg (· * ((1 / 8 : ℝ) : EReal)) (Finset.sum_congr (M := EReal) rfl fun d _ => ?_)) ?_
  · rw [hq, hk]
    have e : (⟨128 * p + (64 * (l.val / 64) + d.val), by omega⟩ : Fin 512) = ⟨64 * ((128 * p + l.val) / 64) + d.val, by omega⟩ :=
      Fin.ext (by show 128 * p + (64 * (l.val / 64) + d.val) = 64 * ((128 * p + l.val) / 64) + d.val; omega)
    exact congrArg₂ (· * ·) (congrArg (fun z => x0 (ix3 (0 : Fin 1) r z)) e)
      (congrArg (fun z => x1 (ix3 (0 : Fin 1) (⟨o + j.val, by omega⟩ : Fin 2048) z)) e)
  · show (if l.val / 64 = 0 then _ else _) = _
    by_cases hc : l.val / 64 = 0
    · rw [if_pos hc, h0]
      exact congrArg (fun z => x3 (ix3 z r (⟨bo + j.val, by omega⟩ : Fin 768))) (Fin.ext (by show 2 * p = (128 * p + l.val) / 64; omega))
    · rw [if_neg hc, h1]
      exact congrArg (fun z => x3 (ix3 z r (⟨bo + j.val, by omega⟩ : Fin 768))) (Fin.ext (by show 2 * p + 1 = (128 * p + l.val) / 64; omega))

/-- The tile of pair `p` is columns `128 p ..` of the tile. -/
theorem piece {nk : ℕ} (H : Keys nk) (a2 : Memref sig .tc .vmem S1x256x512 .f32) (h2 : a2.IsWhole)
    (a3 : Memref sig .tc .vmem S1x2048x512 .f32) (h3 : a3.IsWhole) (a4 : Memref sig .tc .vmem S1x2048x512 .f32) (h4 : a4.IsWhole)
    (a5 : Memref sig .tc .vmem S8x256x768 .f32) (h5 : a5.IsWhole)
    (x0 : Vec Ideal S1x256x512 .f32) (x1 x2 : Vec Ideal S1x2048x512 .f32) (x3 : Vec Ideal S8x256x768 .f32)
    (p o bo : ℕ) (hp : p < 4) (ho : o + nk ≤ 2048) (hb : bo + nk ≤ 768)
    (ok oq o0 o1 : Fin 3 → ℕ) (hk : ok = ![0, o, 128 * p]) (hq : oq = ![0, 0, 128 * p]) (h0 : o0 = ![2 * p, 0, bo]) (h1 : o1 = ![2 * p + 1, 0, bo])
    (ik : ∀ x, ok x + (![1, nk, 128] : Fin 3 → ℕ) x ≤ S1x2048x512.size x)
    (iq : ∀ x, oq x + (![1, 256, 128] : Fin 3 → ℕ) x ≤ S1x256x512.size x)
    (i0 : ∀ x, o0 x + (![1, 256, nk] : Fin 3 → ℕ) x ≤ S8x256x768.size x)
    (i1 : ∀ x, o1 x + (![1, 256, nk] : Fin 3 → ℕ) x ≤ S8x256x768.size x)
    (x : S1x256x128.Idx) :
    pairOut H
        (View.readAt (Elt Ideal) a3.view (Rect.unit (s := S1x2048x512) ok ![1, nk, 128] ik).toLoadRect (h3.unread x1))
        (View.readAt (Elt Ideal) a4.view (Rect.unit (s := S1x2048x512) ok ![1, nk, 128] ik).toLoadRect (h4.unread x2))
        (View.readAt (Elt Ideal) a2.view (Rect.unit (s := S1x256x512) oq ![1, 256, 128] iq).toLoadRect (h2.unread x0))
        (View.readAt (Elt Ideal) a5.view (Rect.unit (s := S8x256x768) o0 ![1, 256, nk] i0).toLoadRect (h5.unread x3))
        (View.readAt (Elt Ideal) a5.view (Rect.unit (s := S8x256x768) o1 ![1, 256, nk] i1).toLoadRect (h5.unread x3)) x
      = tile x0 x1 x2 x3 nk o bo ho hb ((Rect.unit (s := S1x256x512) oq ![1, 256, 128] iq).emb x) := by
  obtain ⟨u, r, l, rfl⟩ : ∃ (u : Fin 1) (r : Fin 256) (l : Fin 128), x = ix3 u r l := ⟨x 0, x 1, x 2, eq_ix3 x⟩
  have hu : u.val = 0 := by omega
  have e : (Rect.unit (s := S1x256x512) oq ![1, 256, 128] iq).emb (ix3 u r l) = ix3 (0 : Fin 1) r (⟨128 * p + l.val, by omega⟩ : Fin 512) := by
    subst hq
    refine funext fun a => Fin.ext ?_
    match a with
    | ⟨0, _⟩ => show 0 + 1 * u.val = 0; omega
    | ⟨1, _⟩ => show 0 + 1 * r.val = r.val; omega
    | ⟨2, _⟩ => show 128 * p + 1 * l.val = 128 * p + l.val; omega
  rw [e]
  refine pair_tile H _ _ _ _ _ x0 x1 x2 x3 p o bo hp ho hb (fun j l => ?_) (fun j l => ?_) (fun r l => ?_) (fun r j => ?_) (fun r j => ?_) u r l
  · exact load_apply a3 h3 x1 ok ik 0 o (128 * p) hk (0 : Fin 1) j l _ _ _ rfl rfl rfl
  · exact load_apply a4 h4 x2 ok ik 0 o (128 * p) hk (0 : Fin 1) j l _ _ _ rfl rfl rfl
  · exact load_apply a2 h2 x0 oq iq 0 0 (128 * p) hq (0 : Fin 1) r l _ _ _ rfl (Nat.zero_add _).symm rfl
  · exact load_apply a5 h5 x3 o0 i0 (2 * p) 0 bo h0 (0 : Fin 1) r j _ _ _ rfl (Nat.zero_add _).symm rfl
  · exact load_apply a5 h5 x3 o1 i1 (2 * p + 1) 0 bo h1 (0 : Fin 1) r j _ _ _ rfl (Nat.zero_add _).symm rfl

/-- The shapes of a whole band. -/
theorem keys768 : Keys 768 := ⟨shapeCasts_S1x768x128_S768x128, shapeCasts_S1x256x768_S256x768, concatenates_S256x768_S256x768_S512x768_d0, reduces_S512x768_S512, broadcasts_S512x1_S512x768⟩
/-- The shapes of the second query block. -/
theorem keys512 : Keys 512 := ⟨shapeCasts_S1x512x128_S512x128, shapeCasts_S1x256x512_S256x512, concatenates_S256x512_S256x512_S512x512_d0, reduces_S512x512_S512, broadcasts_S512x1_S512x512⟩
/-- The shapes of the first query block. -/
theorem keys256 : Keys 256 := ⟨shapeCasts_S1x256x128_S256x128, shapeCasts_S1x256x256_S256x256, concatenates_S256x256_S256x256_S512x256_d0, reduces_S512x256_S512, broadcasts_S512x1_S512x256⟩

variable (c : Dev nD) (i : grid0.Coords) (a2 : Memref sig .tc .vmem S1x256x512 .f32) (h2 : a2.IsWhole) (a3 : Memref sig .tc .vmem S1x2048x512 .f32) (h3 : a3.IsWhole) (a4 : Memref sig .tc .vmem S1x2048x512 .f32) (h4 : a4.IsWhole) (a5 : Memref sig .tc .vmem S8x256x768 .f32) (h5 : a5.IsWhole) (a6 : Memref sig .tc .vmem S1x256x512 .bf16) (h6 : a6.IsWhole)
    (x0 : Vec Ideal S1x256x512 .f32) (x1 x2 : Vec Ideal S1x2048x512 .f32) (x3 : Vec Ideal S8x256x768 .f32)

/-- What a later query block leaves: the tile over 768 keys. -/
theorem out_C (hc0 : ¬cond0_0 i) (hc1 : ¬cond0_1 i) (hc2 : cond0_2 i) (o : ℕ) (ho : o + 768 ≤ 2048)
    (e1 : k0_off1 i = ![0, o, 0]) (e2 : k0_off2 i = ![0, o, 128]) (e3 : k0_off3 i = ![0, o, 256]) (e4 : k0_off4 i = ![0, o, 384]) :
    out0_C_4 (F := Ideal) c i a2 h2 a3 h3 a4 h4 a5 h5 a6 h6 hc0 hc1 hc2 x0 x1 x2 x3 = tile x0 x1 x2 x3 768 o 0 ho (by omega) := by
  funext y
  unfold out0_C_4
  refine View.read_writes_apply_of_pieces _ _ (tile x0 x1 x2 x3 768 o 0 ho (by omega)) _ ?_ y (cover0_C_4 c i a2 h2 a3 h3 a4 h4 a5 h5 a6 h6 hc0 hc1 hc2 x0 x1 x2 x3 y)
  unfold kernelRun0_C
  dsimp only
  rw [List.forall_mem_cons, List.forall_mem_cons, List.forall_mem_cons, List.forall_mem_cons]
  refine ⟨fun x => ?_, fun x => ?_, fun x => ?_, fun x => ?_, fun p hp => absurd hp List.not_mem_nil⟩
  · exact piece keys768 a2 h2 a3 h3 a4 h4 a5 h5 x0 x1 x2 x3 3 o 0 (by omega) ho (by omega) (k0_off4 i) ![0, 0, 384] ![6, 0, 0] ![7, 0, 0] e4 rfl rfl rfl (k0_off4_inb i hc2) _ inb_S8x256x768_S1x256x768_6_0_0 inb_S8x256x768_S1x256x768_7_0_0 x
  · exact piece keys768 a2 h2 a3 h3 a4 h4 a5 h5 x0 x1 x2 x3 2 o 0 (by omega) ho (by omega) (k0_off3 i) ![0, 0, 256] ![4, 0, 0] ![5, 0, 0] e3 rfl rfl rfl (k0_off3_inb i hc2) _ inb_S8x256x768_S1x256x768_4_0_0 inb_S8x256x768_S1x256x768_5_0_0 x
  · exact piece keys768 a2 h2 a3 h3 a4 h4 a5 h5 x0 x1 x2 x3 1 o 0 (by omega) ho (by omega) (k0_off2 i) ![0, 0, 128] ![2, 0, 0] ![3, 0, 0] e2 rfl rfl rfl (k0_off2_inb i hc2) _ inb_S8x256x768_S1x256x768_2_0_0 inb_S8x256x768_S1x256x768_3_0_0 x
  · exact piece keys768 a2 h2 a3 h3 a4 h4 a5 h5 x0 x1 x2 x3 0 o 0 (by omega) ho (by omega) (k0_off1 i) ![0, 0, 0] ![0, 0, 0] ![1, 0, 0] e1 rfl rfl rfl (k0_off1_inb i hc2) _ inb_S8x256x768_S1x256x768_0_0_0 inb_S8x256x768_S1x256x768_1_0_0 x

/-- What the first query block of a stream leaves: the tile over its own 256 keys. -/
theorem out_A (hc0 : cond0_0 i) (hc1 : ¬cond0_1 i) (hc2 : ¬cond0_2 i) :
    out0_A_4 (F := Ideal) c i a2 h2 a3 h3 a4 h4 a5 h5 a6 h6 hc0 hc1 hc2 x0 x1 x2 x3 = tile x0 x1 x2 x3 256 0 512 (by omega) (by omega) := by
  funext y
  unfold out0_A_4
  refine View.read_writes_apply_of_pieces _ _ (tile x0 x1 x2 x3 256 0 512 (by omega) (by omega)) _ ?_ y (cover0_A_4 c i a2 h2 a3 h3 a4 h4 a5 h5 a6 h6 hc0 hc1 hc2 x0 x1 x2 x3 y)
  unfold kernelRun0_A
  dsimp only
  rw [List.forall_mem_cons, List.forall_mem_cons, List.forall_mem_cons, List.forall_mem_cons]
  refine ⟨fun x => ?_, fun x => ?_, fun x => ?_, fun x => ?_, fun p hp => absurd hp List.not_mem_nil⟩
  · exact piece keys256 a2 h2 a3 h3 a4 h4 a5 h5 x0 x1 x2 x3 3 0 512 (by omega) (by omega) (by omega) ![0, 0, 384] ![0, 0, 384] ![6, 0, 512] ![7, 0, 512] rfl rfl rfl rfl inb_S1x2048x512_S1x256x128_0_0_384 _ inb_S8x256x768_S1x256x256_6_0_512 inb_S8x256x768_S1x256x256_7_0_512 x
  · exact piece keys256 a2 h2 a3 h3 a4 h4 a5 h5 x0 x1 x2 x3 2 0 512 (by omega) (by omega) (by omega) ![0, 0, 256] ![0, 0, 256] ![4, 0, 512] ![5, 0, 512] rfl rfl rfl rfl inb_S1x2048x512_S1x256x128_0_0_256 _ inb_S8x256x768_S1x256x256_4_0_512 inb_S8x256x768_S1x256x256_5_0_512 x
  · exact piece keys256 a2 h2 a3 h3 a4 h4 a5 h5 x0 x1 x2 x3 1 0 512 (by omega) (by omega) (by omega) ![0, 0, 128] ![0, 0, 128] ![2, 0, 512] ![3, 0, 512] rfl rfl rfl rfl inb_S1x2048x512_S1x256x128_0_0_128 _ inb_S8x256x768_S1x256x256_2_0_512 inb_S8x256x768_S1x256x256_3_0_512 x
  · exact piece keys256 a2 h2 a3 h3 a4 h4 a5 h5 x0 x1 x2 x3 0 0 512 (by omega) (by omega) (by omega) ![0, 0, 0] ![0, 0, 0] ![0, 0, 512] ![1, 0, 512] rfl rfl rfl rfl inb_S1x2048x512_S1x256x128_0_0_0 _ inb_S8x256x768_S1x256x256_0_0_512 inb_S8x256x768_S1x256x256_1_0_512 x

/-- What the second query block of a stream leaves: the tile over the first 512 keys. -/
theorem out_B (hc0 : ¬cond0_0 i) (hc1 : cond0_1 i) (hc2 : ¬cond0_2 i) :
    out0_B_4 (F := Ideal) c i a2 h2 a3 h3 a4 h4 a5 h5 a6 h6 hc0 hc1 hc2 x0 x1 x2 x3 = tile x0 x1 x2 x3 512 0 256 (by omega) (by omega) := by
  funext y
  unfold out0_B_4
  refine View.read_writes_apply_of_pieces _ _ (tile x0 x1 x2 x3 512 0 256 (by omega) (by omega)) _ ?_ y (cover0_B_4 c i a2 h2 a3 h3 a4 h4 a5 h5 a6 h6 hc0 hc1 hc2 x0 x1 x2 x3 y)
  unfold kernelRun0_B
  dsimp only
  rw [List.forall_mem_cons, List.forall_mem_cons, List.forall_mem_cons, List.forall_mem_cons]
  refine ⟨fun x => ?_, fun x => ?_, fun x => ?_, fun x => ?_, fun p hp => absurd hp List.not_mem_nil⟩
  · exact piece keys512 a2 h2 a3 h3 a4 h4 a5 h5 x0 x1 x2 x3 3 0 256 (by omega) (by omega) (by omega) ![0, 0, 384] ![0, 0, 384] ![6, 0, 256] ![7, 0, 256] rfl rfl rfl rfl inb_S1x2048x512_S1x512x128_0_0_384 _ inb_S8x256x768_S1x256x512_6_0_256 inb_S8x256x768_S1x256x512_7_0_256 x
  · exact piece keys512 a2 h2 a3 h3 a4 h4 a5 h5 x0 x1 x2 x3 2 0 256 (by omega) (by omega) (by omega) ![0, 0, 256] ![0, 0, 256] ![4, 0, 256] ![5, 0, 256] rfl rfl rfl rfl inb_S1x2048x512_S1x512x128_0_0_256 _ inb_S8x256x768_S1x256x512_4_0_256 inb_S8x256x768_S1x256x512_5_0_256 x
  · exact piece keys512 a2 h2 a3 h3 a4 h4 a5 h5 x0 x1 x2 x3 1 0 256 (by omega) (by omega) (by omega) ![0, 0, 128] ![0, 0, 128] ![2, 0, 256] ![3, 0, 256] rfl rfl rfl rfl inb_S1x2048x512_S1x512x128_0_0_128 _ inb_S8x256x768_S1x256x512_2_0_256 inb_S8x256x768_S1x256x512_3_0_256 x
  · exact piece keys512 a2 h2 a3 h3 a4 h4 a5 h5 x0 x1 x2 x3 0 0 256 (by omega) (by omega) (by omega) ![0, 0, 0] ![0, 0, 0] ![0, 0, 256] ![1, 0, 256] rfl rfl rfl rfl inb_S1x2048x512_S1x512x128_0_0_0 _ inb_S8x256x768_S1x256x512_0_0_256 inb_S8x256x768_S1x256x512_1_0_256 x

end Cert.Attn

end
-- ==== Proof.Attn.Table.lean ====
/- The bias table the host builds for the attention: one row of relative-position biases per query of a block,
   one column per key of its band, −∞ outside the band. -/
module

public import proofs.«01_k».proof.Proof.Attn.Pair

@[expose] public section

set_option maxRecDepth 16384

noncomputable section

namespace Cert.Attn

open Idealize.ShloMosaic Idealize.ShloMosaic.TcCoe Idealize.SL.Sem Idealize.ShloMosaic.ValueIdx
open scoped BigOperators
open Cert.Kernel4Ideal Cert.Kernel4Ideal.Gen

/-- The floor of a division by 64, as the host spells it on words. -/
def fdiv {s : Shape} (h : (S_ : Shape).BroadcastsInDim s ![]) (x : IVec s 32) : IVec s 32 :=
  select (andi (cmpi .ne (signi x) (broadcastInDim s ![] h (signi (constantI S_ 32 64#32))))
      (cmpi .ne (Host.remsi x (broadcastInDim s ![] h (constantI S_ 32 64#32))) (broadcastInDim s ![] h (constantI S_ 32 0#32))))
    (subi (Host.divsi x (broadcastInDim s ![] h (constantI S_ 32 64#32))) (broadcastInDim s ![] h (constantI S_ 32 1#32)))
    (Host.divsi x (broadcastInDim s ![] h (constantI S_ 32 64#32)))

/-- The chunk of each query of a block. -/
def qch : IVec S256x1 32 := fdiv bcast_S_S256x1 (broadcastInDim S256x1 ![0] bcast_S256_S256x1_0 (iotaInDim S256 32 0))

/-- The chunk of each key of a band. -/
def kch : IVec S1x768 32 := fdiv bcast_S_S1x768 (broadcastInDim S1x768 ![1] bcast_S768_S1x768_1 (iotaInDim S768 32 0))

/-- Whether a key is in the query's band. -/
def band : IVec S256x768 1 :=
  andi (cmpi .sge (broadcastInDim S256x768 ![0, 1] bcast_S1x768_S256x768_0_1 kch) (broadcastInDim S256x768 ![0, 1] bcast_S256x1_S256x768_0_1 qch))
    (cmpi .sle (broadcastInDim S256x768 ![0, 1] bcast_S1x768_S256x768_0_1 kch)
      (broadcastInDim S256x768 ![0, 1] bcast_S256x1_S256x768_0_1 (addi qch (broadcastInDim S256x1 ![] bcast_S_S256x1 (constantI S_ 32 8#32)))))

/-- The biases with nothing put before the first head and after the last. -/
def rows (x : Vec Ideal S1x8x513 .f32) : FVec Ideal S8x513 .f32 :=
  concatenate S8x513 0
    [⟨S0x513, shapeCast S0x513 (broadcastInDim S1x0x513 ![0, 2] bcast_S1x513_S1x0x513_0_2 (extractStridedSlice S1x513 ![0, 0] (shapeCast S8x513 x shapeCasts_S1x8x513_S8x513) slices_S8x513_S1x513_0_0)) shapeCasts_S1x0x513_S0x513⟩,
     ⟨S8x513, shapeCast S8x513 x shapeCasts_S1x8x513_S8x513⟩,
     ⟨S0x513, shapeCast S0x513 (broadcastInDim S1x0x513 ![0, 2] bcast_S1x513_S1x0x513_0_2 (extractStridedSlice S1x513 ![7, 0] (shapeCast S8x513 x shapeCasts_S1x8x513_S8x513) slices_S8x513_S1x513_7_0)) shapeCasts_S1x0x513_S0x513⟩]
    concatenates_S0x513_S8x513_S0x513_S8x513_d0

/-- The biases with the last one repeated 511 times after it. -/
def ext (y : FVec Ideal S8x513 .f32) : FVec Ideal S8x1024 .f32 :=
  concatenate S8x1024 1
    [⟨S8x0, shapeCast S8x0 (broadcastInDim S8x1x0 ![0, 1] bcast_S8x1_S8x1x0_0_1 (extractStridedSlice S8x1 ![0, 0] y slices_S8x513_S8x1_0_0)) shapeCasts_S8x1x0_S8x0⟩,
     ⟨S8x513, y⟩,
     ⟨S8x511, shapeCast S8x511 (broadcastInDim S8x1x511 ![0, 1] bcast_S8x1_S8x1x511_0_1 (extractStridedSlice S8x1 ![0, 512] y slices_S8x513_S8x1_0_512)) shapeCasts_S8x1x511_S8x511⟩]
    concatenates_S8x0_S8x513_S8x511_S8x1024_d1

/-- The sheared table: the reversed biases laid out 256 times, one entry less per row. -/
def shear (e : FVec Ideal S8x1024 .f32) : FVec Ideal S8x256x768 .f32 :=
  extractStridedSlice S8x256x768 ![0, 0, 0]
    (shapeCast S8x256x1022
      (extractStridedSlice S8x261632 ![0, 255]
        (shapeCast S8x261888
          (broadcastInDim S1x8x256x1023 ![0, 1, 2, 3] bcast_S1x8x1x1023_S1x8x256x1023_0_1_2_3
            (shapeCast S1x8x1x1023 (Host.reverse [1] (extractStridedSlice S8x1023 ![0, 1] e slices_S8x1024_S8x1023_0_1)) shapeCasts_S8x1023_S1x8x1x1023))
          shapeCasts_S1x8x256x1023_S8x261888)
        slices_S8x261888_S8x261632_0_255)
      shapeCasts_S8x261632_S8x256x1022)
    slices_S8x256x1022_S8x256x768_0_0_0

/-- The whole table. -/
def table (x : Vec Ideal S1x8x513 .f32) : FVec Ideal S8x256x768 .f32 :=
  select (broadcastInDim S8x256x768 ![0, 1, 2] bcast_S1x256x768_S8x256x768_0_1_2 (broadcastInDim S1x256x768 ![1, 2] bcast_S256x768_S1x256x768_1_2 band))
    (shear (ext (rows x))) (broadcastInDim S8x256x768 ![] bcast_S_S8x256x768 (constant S_ .f32 0xFF800000#32))

variable (m : (ℓ : Loc nD τ sig) → Buf (Elt Ideal) ℓ)

set_option maxHeartbeats 2000000 in
/-- The bias table when the region is entered. -/
theorem V_table (c : Dev nD) : (V m c main_v39 : Vec Ideal S8x256x768 .f32) = table (m ((c : Thread nD τ).loc main_arg1)) := by
  show StableHlo.after (List.flatten [hostOps0, hostOps0_1, hostOps0_2, hostOps0_3, hostOps0_4, hostOps0_5]) _ _ = _
  simp only [hostOps0, hostOps0_1, hostOps0_2, hostOps0_3, hostOps0_4, hostOps0_5, List.flatten_cons, List.flatten_nil, List.append_nil, List.cons_append, List.nil_append]
  after_results_simp
  rfl

end Cert.Attn

end
-- ==== Proof.Attn.TableRead.lean ====
/- The bias table read at an entry. -/
module

public import proofs.«01_k».proof.Proof.Attn.Table

@[expose] public section

set_option maxRecDepth 16384

noncomputable section

namespace Cert.Attn

open Idealize.ShloMosaic Idealize.ShloMosaic.TcCoe Idealize.SL.Sem Idealize.ShloMosaic.ValueIdx
open scoped BigOperators
open Cert.Kernel4Ideal Cert.Kernel4Ideal.Gen

/-- The floor of one word's division by 64. -/
def fdiv1 (w : BitVec 32) : BitVec 32 := fdiv (s := S_) (by decide) (fun _ => w) (Shape.Idx.first (by decide))

/-- The floor is taken entry by entry. -/
theorem fdiv_apply {s : Shape} (h : (S_ : Shape).BroadcastsInDim s ![]) (x : IVec s 32) (i : s.Idx) : fdiv h x i = fdiv1 (x i) := rfl

/-- On the small words of a band the floor is the quotient. -/
theorem fdiv1_val : ∀ n : Fin 768, fdiv1 (BitVec.ofNat 32 n.val) = BitVec.ofNat 32 (n.val / 64) := by decide +kernel

/-- A query's chunk. -/
theorem qch_apply (r : Fin 256) : qch (ix2 r 0) = BitVec.ofNat 32 (r.val / 64) :=
  (fdiv_apply _ _ _).trans (fdiv1_val ⟨r.val, by omega⟩)

/-- A key's chunk. -/
theorem kch_apply (j : Fin 768) : kch (ix2 0 j) = BitVec.ofNat 32 (j.val / 64) :=
  (fdiv_apply _ _ _).trans (fdiv1_val j)

/-- The band's two comparisons on small words. -/
theorem cmp_val : ∀ (a : Fin 12) (b : Fin 12), IntOp.andi (IntOp.cmpi .sge (BitVec.ofNat 32 a.val) (BitVec.ofNat 32 b.val))
    (IntOp.cmpi .sle (BitVec.ofNat 32 a.val) (IntOp.addi (BitVec.ofNat 32 b.val) 8#32)) = if b.val ≤ a.val ∧ a.val ≤ b.val + 8 then 1#1 else 0#1 := by
  decide +kernel

/-- The band at a query and a key. -/
theorem band_apply (r : Fin 256) (j : Fin 768) : band (ix2 r j) = if r.val / 64 ≤ j.val / 64 ∧ j.val / 64 ≤ r.val / 64 + 8 then 1#1 else 0#1 := by
  have ek : broadcastInDim S256x768 ![0, 1] bcast_S1x768_S256x768_0_1 kch (ix2 r j) = BitVec.ofNat 32 (j.val / 64) :=
    (broadcastInDim_apply _ _ _ _ (ix2 0 j) (fun a => by match a with | 0 => rfl | 1 => rfl)).trans (kch_apply j)
  have eq : ∀ y : IVec S256x1 32, broadcastInDim S256x768 ![0, 1] bcast_S256x1_S256x768_0_1 y (ix2 r j) = y (ix2 r 0) := fun y =>
    broadcastInDim_apply _ _ _ _ (ix2 r 0) (fun a => by match a with | 0 => rfl | 1 => rfl)
  have e8 : addi qch (broadcastInDim S256x1 ![] bcast_S_S256x1 (constantI S_ 32 8#32)) (ix2 r 0) = IntOp.addi (BitVec.ofNat 32 (r.val / 64)) 8#32 :=
    congrArg (fun w => IntOp.addi w 8#32) (qch_apply r)
  have H := cmp_val ⟨j.val / 64, by omega⟩ ⟨r.val / 64, by omega⟩
  show IntOp.andi (IntOp.cmpi .sge (broadcastInDim S256x768 ![0, 1] bcast_S1x768_S256x768_0_1 kch (ix2 r j)) (broadcastInDim S256x768 ![0, 1] bcast_S256x1_S256x768_0_1 qch (ix2 r j)))
    (IntOp.cmpi .sle (broadcastInDim S256x768 ![0, 1] bcast_S1x768_S256x768_0_1 kch (ix2 r j))
      (broadcastInDim S256x768 ![0, 1] bcast_S256x1_S256x768_0_1 (addi qch (broadcastInDim S256x1 ![] bcast_S_S256x1 (constantI S_ 32 8#32))) (ix2 r j))) = _
  rw [ek, eq, eq, e8, qch_apply]
  exact H

/-- The biases with nothing around them are the biases. -/
theorem rows_apply (x : Vec Ideal S1x8x513 .f32) (h : Fin 8) (k : Fin 513) : rows x (ix2 h k) = x (ix3 0 h k) := by
  unfold rows
  rw [concatenate_apply_piece _ _ _ (ix2 h k) 1 (by show 1 < 3; omega) S8x513 (shapeCast S8x513 x shapeCasts_S1x8x513_S8x513) rfl rfl 0 rfl (ix2 h k)
    (fun b _ => by match b with | 0 => rfl | 1 => rfl) (by show 0 + h.val = h.val; omega)]
  exact shapeCast_1ab_ab_apply _ _ _ _

/-- The lengthened biases: past the last, the last again. -/
theorem ext_apply (y : FVec Ideal S8x513 .f32) (h : Fin 8) (k : Fin 1024) : ext y (ix2 h k) = y (ix2 h ⟨min k.val 512, by omega⟩) := by
  unfold ext
  by_cases hk : k.val < 513
  · rw [concatenate_apply_piece _ _ _ (ix2 h k) 1 (by show 1 < 3; omega) S8x513 y rfl rfl 0 rfl (ix2 h ⟨k.val, hk⟩)
      (fun b hb => by match b with | 0 => rfl | 1 => exact absurd rfl hb) (by show 0 + k.val = k.val; omega)]
    exact congrArg (fun z => y (ix2 h z)) (Fin.ext (show k.val = min k.val 512 by omega))
  · rw [concatenate_apply_piece _ _ _ (ix2 h k) 2 (by show 2 < 3; omega) S8x511 _ rfl rfl 513 rfl (ix2 h ⟨k.val - 513, by omega⟩)
      (fun b hb => by match b with | 0 => rfl | 1 => exact absurd rfl hb) (by show 513 + (k.val - 513) = k.val; omega)]
    rw [shapeCast_apply _ _ _ (ix3 h 0 ⟨k.val - 513, by omega⟩) (by
        rw [Shape.rowMajor_val_two, Shape.rowMajor_val_three]; show (h.val * 1 + 0) * 511 + (k.val - 513) = h.val * 511 + (k.val - 513); omega)]
    rw [broadcastInDim_apply _ _ _ _ (ix2 h 0) (fun a => by match a with | 0 => rfl | 1 => rfl)]
    rw [extractStridedSlice_apply _ _ _ _ (ix2 h ⟨512, by omega⟩) (fun a => by match a with | 0 => (show h.val = 0 + h.val; omega) | 1 => rfl)]
    exact congrArg (fun z => y (ix2 h z)) (Fin.ext (show 512 = min k.val 512 by omega))

/-- The sheared table at an entry: the lengthened bias of the distance. -/
theorem shear_apply (e : FVec Ideal S8x1024 .f32) (h : Fin 8) (r : Fin 256) (j : Fin 768) :
    shear e (ix3 h r j) = e (ix2 h ⟨768 + r.val - j.val, by omega⟩) := by
  have hd : (r.val * 1022 + j.val + 255) = r.val * 1023 + (255 + j.val - r.val) := by omega
  unfold shear
  rw [extractStridedSlice_apply _ _ _ _ (ix3 h r (⟨j.val, by omega⟩ : Fin 1022)) (fun a => by
    match a with
    | 0 => (show h.val = 0 + h.val; omega)
    | 1 => (show r.val = 0 + r.val; omega)
    | 2 => (show j.val = 0 + j.val; omega))]
  rw [shapeCast_apply _ _ _ (ix2 h (⟨r.val * 1022 + j.val, by omega⟩ : Fin 261632)) (by
    rw [Shape.rowMajor_val_two, Shape.rowMajor_val_three]; show h.val * 261632 + (r.val * 1022 + j.val) = (h.val * 256 + r.val) * 1022 + j.val; omega)]
  rw [extractStridedSlice_apply _ _ _ _ (ix2 h (⟨r.val * 1022 + j.val + 255, by omega⟩ : Fin 261888)) (fun a => by
    match a with
    | 0 => (show h.val = 0 + h.val; omega)
    | 1 => (show r.val * 1022 + j.val + 255 = 255 + (r.val * 1022 + j.val); omega))]
  rw [shapeCast_apply _ _ _ (ix4 0 h r (⟨255 + j.val - r.val, by omega⟩ : Fin 1023)) (by
    rw [Shape.rowMajor_val_two, Shape.rowMajor_val_four]
    show ((0 * 8 + h.val) * 256 + r.val) * 1023 + (255 + j.val - r.val) = h.val * 261888 + (r.val * 1022 + j.val + 255); omega)]
  rw [broadcastInDim_apply _ _ _ _ (ix4 0 h 0 (⟨255 + j.val - r.val, by omega⟩ : Fin 1023)) (fun a => by
    match a with | 0 => rfl | 1 => rfl | 2 => rfl | 3 => rfl)]
  rw [shapeCast_apply _ _ _ (ix2 h (⟨255 + j.val - r.val, by omega⟩ : Fin 1023)) (by
    rw [Shape.rowMajor_val_two, Shape.rowMajor_val_four]
    show h.val * 1023 + (255 + j.val - r.val) = ((0 * 8 + h.val) * 1 + 0) * 1023 + (255 + j.val - r.val); omega)]
  show extractStridedSlice S8x1023 ![0, 1] e slices_S8x1024_S8x1023_0_1 _ = _
  rw [extractStridedSlice_apply _ _ _ _ (ix2 h (⟨768 + r.val - j.val, by omega⟩ : Fin 1024)) (fun a => by
    match a with
    | 0 => (show h.val = 0 + h.val; omega)
    | 1 => (show 768 + r.val - j.val = 1 + (1023 - (255 + j.val - r.val + 1)); omega))]

/-- **The table at an entry**: the bias of the query's distance from the key, capped, in the band; −∞ outside it. -/
theorem table_apply (x : Vec Ideal S1x8x513 .f32) (h : Fin 8) (r : Fin 256) (j : Fin 768) :
    table x (ix3 h r j) = if r.val / 64 ≤ j.val / 64 ∧ j.val / 64 ≤ r.val / 64 + 8 then x (ix3 0 h ⟨min (768 + r.val - j.val) 512, by omega⟩) else (⊥ : EReal) := by
  have eb : broadcastInDim S8x256x768 ![0, 1, 2] bcast_S1x256x768_S8x256x768_0_1_2 (broadcastInDim S1x256x768 ![1, 2] bcast_S256x768_S1x256x768_1_2 band) (ix3 h r j)
      = band (ix2 r j) := by
    rw [broadcastInDim_apply _ _ _ _ (ix3 0 r j) (fun a => by match a with | 0 => rfl | 1 => rfl | 2 => rfl)]
    exact broadcastInDim_apply _ _ _ _ (ix2 r j) (fun a => by match a with | 0 => rfl | 1 => rfl)
  have ei : (Ideal.ofBits .f32 0xFF800000#32 : EReal) = ⊥ := by simp [Ideal.ofBits, Ideal.ieee]
  show Scalar.select (broadcastInDim S8x256x768 ![0, 1, 2] bcast_S1x256x768_S8x256x768_0_1_2 (broadcastInDim S1x256x768 ![1, 2] bcast_S256x768_S1x256x768_1_2 band) (ix3 h r j))
    (shear (ext (rows x)) (ix3 h r j)) (Ideal.ofBits .f32 0xFF800000#32) = _
  rw [eb, band_apply, shear_apply, ext_apply, rows_apply, ei]
  by_cases hc : r.val / 64 ≤ j.val / 64 ∧ j.val / 64 ≤ r.val / 64 + 8
  · rw [if_pos hc, if_pos hc]; rfl
  · rw [if_neg hc, if_neg hc]; rfl

end Cert.Attn

end
-- ==== Proof.Attn.Spec.lean ====
/- The band attention at a query and a column: one softmax over the padded key positions (512 before the first key),
   and a tile of the kernel as a part of it. -/
module

public import proofs.«01_k».proof.Proof.Attn.Tile
public import proofs.«01_k».proof.Proof.Attn.TableRead

@[expose] public section

set_option maxRecDepth 16384

noncomputable section

namespace Cert.Attn

open Idealize.ShloMosaic Idealize.ShloMosaic.TcCoe Idealize.SL.Sem Idealize.ShloMosaic.ValueIdx
open scoped BigOperators
open Cert.Kernel4Ideal Cert.Kernel4Ideal.Gen

/-- The score of query `t` of stream `b` and padded key position `P`, for head `h`: −∞ outside the nine chunks of the
    query's band and before the first key. -/
def sc (X : Vec Ideal S8x2048x1536 .f32) (rel : Vec Ideal S1x8x513 .f32) (b : Fin 8) (t : Fin 2048) (h : Fin 8) (P : Fin 2560) : EReal :=
  if t.val / 64 ≤ P.val / 64 ∧ P.val / 64 ≤ t.val / 64 + 8 ∧ 512 ≤ P.val then
    (∑ d : Fin 64, X (ix3 b t (⟨64 * h.val + d.val, by omega⟩ : Fin 1536))
        * X (ix3 b (⟨P.val - 512, by omega⟩ : Fin 2048) (⟨512 + (64 * h.val + d.val), by omega⟩ : Fin 1536))) * ((1 / 8 : ℝ) : EReal)
      + rel (ix3 (0 : Fin 1) h (⟨min (768 + t.val - P.val) 512, by omega⟩ : Fin 513))
  else ⊥

/-- The value at padded position `P`, column `n`. -/
def vl (X : Vec Ideal S8x2048x1536 .f32) (b : Fin 8) (n : Fin 512) (P : Fin 2560) : EReal :=
  if 512 ≤ P.val then X (ix3 b (⟨P.val - 512, by omega⟩ : Fin 2048) (⟨1024 + n.val, by omega⟩ : Fin 1536)) else 0

/-- The attention of query `t` at column `n`. -/
def attn (X : Vec Ideal S8x2048x1536 .f32) (rel : Vec Ideal S1x8x513 .f32) (b : Fin 8) (t : Fin 2048) (n : Fin 512) : EReal :=
  soft (sc X rel b t (⟨n.val / 64, by omega⟩ : Fin 8)) (vl X b n)

/-- Query block `q`'s tile over `nk` keys is the attention of its queries. -/
theorem tile_attn (X : Vec Ideal S8x2048x1536 .f32) (rel : Vec Ideal S1x8x513 .f32)
    (x0 : Vec Ideal S1x256x512 .f32) (x1 x2 : Vec Ideal S1x2048x512 .f32) (x3 : Vec Ideal S8x256x768 .f32) (b : Fin 8) (q nk o bo : ℕ)
    (hq8 : q < 8) (ho : o + nk ≤ 2048) (hb : bo + nk ≤ 768) (hob : o + 512 = 256 * q + bo) (hnk : bo + nk = 768)
    (hlow : bo = 0 ∨ 256 * q + bo ≤ 512)
    (hq : ∀ (r : Fin 256) (n : Fin 512), x0 (ix3 (0 : Fin 1) r n) = X (ix3 b (⟨256 * q + r.val, by omega⟩ : Fin 2048) (⟨n.val, by omega⟩ : Fin 1536)))
    (hk : ∀ (p : Fin 2048) (n : Fin 512), x1 (ix3 (0 : Fin 1) p n) = X (ix3 b p (⟨512 + n.val, by omega⟩ : Fin 1536)))
    (hv : ∀ (p : Fin 2048) (n : Fin 512), x2 (ix3 (0 : Fin 1) p n) = X (ix3 b p (⟨1024 + n.val, by omega⟩ : Fin 1536)))
    (ht : ∀ (h : Fin 8) (r : Fin 256) (j : Fin 768), x3 (ix3 h r j) = table rel (ix3 h r j)) (u : Fin 1) (r : Fin 256) (n : Fin 512) :
    tile x0 x1 x2 x3 nk o bo ho hb (ix3 u r n) = attn X rel b (⟨256 * q + r.val, by omega⟩ : Fin 2048) n := by
  let e : Fin nk → Fin 2560 := fun j => ⟨256 * q + bo + j.val, by omega⟩
  have he : Function.Injective e := fun j j' h => Fin.ext (by
    have h' : 256 * q + bo + j.val = 256 * q + bo + j'.val := congrArg Fin.val h
    omega)
  have hS : ∀ P, P ∉ Set.range e → sc X rel b (⟨256 * q + r.val, by omega⟩ : Fin 2048) (⟨n.val / 64, by omega⟩ : Fin 8) P = ⊥ := by
    intro P hP
    unfold sc
    refine if_neg fun hc => hP ?_
    have h1 : (256 * q + r.val) / 64 ≤ P.val / 64 := hc.1
    have h2 : P.val / 64 ≤ (256 * q + r.val) / 64 + 8 := hc.2.1
    have h3 : 512 ≤ P.val := hc.2.2
    have hlo : 256 * q + bo ≤ P.val := by
      rcases hlow with h | h
      · omega
      · omega
    have hhi : P.val < 256 * q + 768 := by omega
    exact ⟨⟨P.val - (256 * q + bo), by omega⟩, Fin.ext (by show 256 * q + bo + (P.val - (256 * q + bo)) = P.val; omega)⟩
  unfold attn
  rw [← soft_comp e he _ _ hS]
  show soft (tscore x0 x1 x3 nk o bo ho hb (⟨n.val / 64, by omega⟩ : Fin 8) r) (fun j => x2 (ix3 (0 : Fin 1) (⟨o + j.val, by omega⟩ : Fin 2048) n)) = _
  have hs : tscore x0 x1 x3 nk o bo ho hb (⟨n.val / 64, by omega⟩ : Fin 8) r
      = fun j => sc X rel b (⟨256 * q + r.val, by omega⟩ : Fin 2048) (⟨n.val / 64, by omega⟩ : Fin 8) (e j) := by
    funext j
    unfold tscore sc
    have hej : (e j).val = 256 * q + bo + j.val := rfl
    rw [ht, table_apply]
    by_cases hc : r.val / 64 ≤ (bo + j.val) / 64 ∧ (bo + j.val) / 64 ≤ r.val / 64 + 8
    · rw [if_pos hc, if_pos (show (256 * q + r.val) / 64 ≤ (e j).val / 64 ∧ (e j).val / 64 ≤ (256 * q + r.val) / 64 + 8 ∧ 512 ≤ (e j).val by
        rw [hej]; omega)]
      refine congrArg₂ (· + ·) (congrArg (· * ((1 / 8 : ℝ) : EReal)) (Finset.sum_congr (M := EReal) rfl fun d _ => ?_)) ?_
      · rw [hq, hk]
        refine congrArg₂ (· * ·) rfl (congrArg (fun p => X (ix3 b p _)) (Fin.ext ?_))
        show o + j.val = 256 * q + bo + j.val - 512
        omega
      · refine congrArg (fun p => rel (ix3 (0 : Fin 1) _ p)) (Fin.ext ?_)
        show min (768 + r.val - (bo + j.val)) 512 = min (768 + (256 * q + r.val) - (256 * q + bo + j.val)) 512
        omega
    · rw [if_neg hc, if_neg (show ¬((256 * q + r.val) / 64 ≤ (e j).val / 64 ∧ (e j).val / 64 ≤ (256 * q + r.val) / 64 + 8 ∧ 512 ≤ (e j).val) by
        rw [hej]; omega), EReal.add_bot]
  rw [hs]
  refine congrArg (soft _) (funext fun j => ?_)
  unfold vl
  rw [if_pos (show 512 ≤ (e j).val by show 512 ≤ 256 * q + bo + j.val; omega), hv]
  refine congrArg (fun p => X (ix3 b p _)) (Fin.ext ?_)
  show o + j.val = 256 * q + bo + j.val - 512
  omega

end Cert.Attn

end
-- ==== Proof.Attn.Array.lean ====
/- The array that the band attention leaves, index by index, from the launch contents of its arguments. -/
module

public import proofs.«01_k».proof.Proof.Attn.Spec

@[expose] public section

set_option maxRecDepth 16384

noncomputable section

namespace Cert.Attn

open Idealize.ShloMosaic Idealize.ShloMosaic.TcCoe Idealize.SL.Sem Idealize.ShloMosaic.ValueIdx
open scoped BigOperators
open Cert.Kernel4Ideal Cert.Kernel4Ideal.Gen

variable (m : (ℓ : Loc nD τ sig) → Buf (Elt Ideal) ℓ)

theorem lt_N (t : Fin cfg0.N) : t.val < 64 := lt_of_lt_of_eq t.isLt N_0

theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx1 : ∀ t : Fin cfg0.N, win0_1.index t 0 = t.val / 8 ∧ win0_1.index t 1 = 0 ∧ win0_1.index t 2 = 1 :=
  (by decide +kernel : ∀ t : Fin grid0.N, win0_1.index t 0 = t.val / 8 ∧ win0_1.index t 1 = 0 ∧ win0_1.index t 2 = 1)
theorem idx2 : ∀ t : Fin cfg0.N, win0_2.index t 0 = t.val / 8 ∧ win0_2.index t 1 = 0 ∧ win0_2.index t 2 = 2 :=
  (by decide +kernel : ∀ t : Fin grid0.N, win0_2.index t 0 = t.val / 8 ∧ win0_2.index t 1 = 0 ∧ win0_2.index t 2 = 2)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)

/-- Where a later query block's band starts among the keys. -/
theorem off : ∀ t : Fin cfg0.N, 2 ≤ t.val % 8 → k0_off1 (grid0.coords t) = ![0, 256 * (t.val % 8) - 512, 0] ∧ k0_off2 (grid0.coords t) = ![0, 256 * (t.val % 8) - 512, 128]
    ∧ k0_off3 (grid0.coords t) = ![0, 256 * (t.val % 8) - 512, 256] ∧ k0_off4 (grid0.coords t) = ![0, 256 * (t.val % 8) - 512, 384] :=
  (by decide +kernel : ∀ t : Fin grid0.N, 2 ≤ t.val % 8 → k0_off1 (grid0.coords t) = ![0, 256 * (t.val % 8) - 512, 0] ∧ k0_off2 (grid0.coords t) = ![0, 256 * (t.val % 8) - 512, 128]
    ∧ k0_off3 (grid0.coords t) = ![0, 256 * (t.val % 8) - 512, 256] ∧ k0_off4 (grid0.coords t) = ![0, 256 * (t.val % 8) - 512, 384])

/-- The stream of point `t`. -/
def strm (t : Fin cfg0.N) : Fin 8 := ⟨t.val / 8, by have := lt_N t; omega⟩

/-- The queries, keys and values at launch. -/
abbrev Za (c : Dev nD) : Vec Ideal S8x2048x1536 .f32 := m ((c : Thread nD τ).loc main_arg0)

/-- The relative-position biases at launch. -/
abbrev Rb (c : Dev nD) : Vec Ideal S1x8x513 .f32 := m ((c : Thread nD τ).loc main_arg1)

/-- The query block at point `t`. -/
theorem blk_q (c : Dev nD) (t : Fin cfg0.N) (r : Fin 256) (n : Fin 512) :
    (iblk m c 0 t : Vec Ideal S1x256x512 .f32) (ix3 (0 : Fin 1) r n)
      = Za m c (ix3 (strm t) (⟨256 * (t.val % 8) + r.val, by omega⟩ : Fin 2048) (⟨n.val, by omega⟩ : Fin 1536)) := by
  refine Eq.trans ?_ (congrFun (V_main_arg0 m c) _)
  show V m c main_arg0 ((win0_0.rect t).emb (ix3 (0 : Fin 1) r n)) = _
  refine congrArg _ (funext fun a => Fin.ext ?_)
  refine (Pipeline.Window.rect_emb_val win0_0 t (ix3 (0 : Fin 1) r n) a rfl).trans ?_
  match a with
  | ⟨0, _⟩ => show win0_0.index t 0 * 1 + 0 = t.val / 8; rw [(idx0 t).1]; omega
  | ⟨1, _⟩ => show win0_0.index t 1 * 256 + r.val = 256 * (t.val % 8) + r.val; rw [(idx0 t).2.1]; omega
  | ⟨2, _⟩ => show win0_0.index t 2 * 512 + n.val = n.val; rw [(idx0 t).2.2]; omega

/-- The keys at point `t`. -/
theorem blk_k (c : Dev nD) (t : Fin cfg0.N) (p : Fin 2048) (n : Fin 512) :
    (iblk m c 1 t : Vec Ideal S1x2048x512 .f32) (ix3 (0 : Fin 1) p n)
      = Za m c (ix3 (strm t) p (⟨512 + n.val, by omega⟩ : Fin 1536)) := by
  refine Eq.trans ?_ (congrFun (V_main_arg0 m c) _)
  show V m c main_arg0 ((win0_1.rect t).emb (ix3 (0 : Fin 1) p n)) = _
  refine congrArg _ (funext fun a => Fin.ext ?_)
  refine (Pipeline.Window.rect_emb_val win0_1 t (ix3 (0 : Fin 1) p n) a rfl).trans ?_
  match a with
  | ⟨0, _⟩ => show win0_1.index t 0 * 1 + 0 = t.val / 8; rw [(idx1 t).1]; omega
  | ⟨1, _⟩ => show win0_1.index t 1 * 2048 + p.val = p.val; rw [(idx1 t).2.1]; omega
  | ⟨2, _⟩ => show win0_1.index t 2 * 512 + n.val = 512 + n.val; rw [(idx1 t).2.2]

/-- The values at point `t`. -/
theorem blk_v (c : Dev nD) (t : Fin cfg0.N) (p : Fin 2048) (n : Fin 512) :
    (iblk m c 2 t : Vec Ideal S1x2048x512 .f32) (ix3 (0 : Fin 1) p n)
      = Za m c (ix3 (strm t) p (⟨1024 + n.val, by omega⟩ : Fin 1536)) := by
  refine Eq.trans ?_ (congrFun (V_main_arg0 m c) _)
  show V m c main_arg0 ((win0_2.rect t).emb (ix3 (0 : Fin 1) p n)) = _
  refine congrArg _ (funext fun a => Fin.ext ?_)
  refine (Pipeline.Window.rect_emb_val win0_2 t (ix3 (0 : Fin 1) p n) a rfl).trans ?_
  match a with
  | ⟨0, _⟩ => show win0_2.index t 0 * 1 + 0 = t.val / 8; rw [(idx2 t).1]; omega
  | ⟨1, _⟩ => show win0_2.index t 1 * 2048 + p.val = p.val; rw [(idx2 t).2.1]; omega
  | ⟨2, _⟩ => show win0_2.index t 2 * 512 + n.val = 1024 + n.val; rw [(idx2 t).2.2]

/-- The bias table at point `t`. -/
theorem blk_t (c : Dev nD) (t : Fin cfg0.N) (h : Fin 8) (r : Fin 256) (j : Fin 768) :
    (iblk m c 3 t : Vec Ideal S8x256x768 .f32) (ix3 h r j) = table (Rb m c) (ix3 h r j) := by
  refine Eq.trans ?_ (congrFun (V_table m c) _)
  show V m c main_v39 ((win0_3.rect t).emb (ix3 h r j)) = _
  refine congrArg _ (funext fun a => Fin.ext ?_)
  refine (Pipeline.Window.rect_emb_val win0_3 t (ix3 h r j) a rfl).trans ?_
  match a with
  | ⟨0, _⟩ => show win0_3.index t 0 * 8 + h.val = h.val; rw [(idx3 t).1]; omega
  | ⟨1, _⟩ => show win0_3.index t 1 * 256 + r.val = r.val; rw [(idx3 t).2.1]; omega
  | ⟨2, _⟩ => show win0_3.index t 2 * 768 + j.val = j.val; rw [(idx3 t).2.2]; omega

/-- The result: the attention at each index. -/
def Gat (c : Dev nD) : (⟨S8x2048x512, .bf16⟩ : BufTy).Contents (Elt Ideal) :=
  fun i : S8x2048x512.Idx => attn (Za m c) (Rb m c) ⟨(i 0).val, (i 0).isLt⟩ ⟨(i 1).val, (i 1).isLt⟩ ⟨(i 2).val, (i 2).isLt⟩

/-- A point's tile, whichever way it came about, at an index. -/
theorem tile_at (c : Dev nD) (t : Fin cfg0.N) (nk o bo : ℕ) (ho : o + nk ≤ 2048) (hb : bo + nk ≤ 768)
    (hob : o + 512 = 256 * (t.val % 8) + bo) (hnk : bo + nk = 768) (hlow : bo = 0 ∨ 256 * (t.val % 8) + bo ≤ 512) :
    (cfg0.win 4).cut (grid0.coords t) (tile (iblk m c 0 t) (iblk m c 1 t) (iblk m c 2 t) (iblk m c 3 t) nk o bo ho hb)
      = ((cfg0.win 4).blk t).view.read (Elt Ideal) (Gat m c) := by
  refine funext fun (y : S1x256x512.Idx) => ?_
  obtain ⟨u, r, n, rfl⟩ : ∃ (u : Fin 1) (r : Fin 256) (n : Fin 512), y = ix3 u r n := ⟨y 0, y 1, y 2, eq_ix3 _⟩
  have e : (win0_4.rect t).emb (ix3 u r n) = (ix3 (strm t) (⟨256 * (t.val % 8) + r.val, by omega⟩ : Fin 2048) n : S8x2048x512.Idx) := funext fun a => Fin.ext (by
    refine (Pipeline.Window.rect_emb_val win0_4 t (ix3 u r n) a rfl).trans ?_
    match a with
    | ⟨0, _⟩ => show win0_4.index t 0 * 1 + u.val = t.val / 8; rw [(idx4 t).1]; omega
    | ⟨1, _⟩ => show win0_4.index t 1 * 256 + r.val = 256 * (t.val % 8) + r.val; rw [(idx4 t).2.1]; omega
    | ⟨2, _⟩ => show win0_4.index t 2 * 512 + n.val = n.val; rw [(idx4 t).2.2]; omega)
  refine Eq.trans ?_ (congrArg (Gat m c) e).symm
  exact tile_attn (Za m c) (Rb m c) _ _ _ _ (strm t) (t.val % 8) nk o bo (Nat.mod_lt _ (by omega)) ho hb hob hnk hlow
    (blk_q m c t) (blk_k m c t) (blk_v m c t) (blk_t m c t) u r n

/-- What point `t` writes is its tile of the result. -/
theorem flushed_o (c : Dev nD) (t : Fin cfg0.N) :
    (dats m 0 c).flushed 4 t = ((cfg0.win 4).blk t).view.read (Elt Ideal) (Gat m c) := by
  by_cases h0 : t.val % 8 = 0
  · refine (Value.flushed4_A m c t h0 (by omega) (by omega)).trans ?_
    rw [out_A]
    exact tile_at m c t 256 0 512 _ _ (by omega) rfl (Or.inr (by omega))
  · by_cases h1 : t.val % 8 = 1
    · refine (Value.flushed4_B m c t h0 h1 (by omega)).trans ?_
      rw [out_B]
      exact tile_at m c t 512 0 256 _ _ (by omega) rfl (Or.inr (by omega))
    · have h2 : 2 ≤ t.val % 8 := by omega
      refine (Value.flushed4_C m c t h0 h1 h2).trans ?_
      obtain ⟨e1, e2, e3, e4⟩ := off t h2
      rw [out_C (o := 256 * (t.val % 8) - 512) (ho := by omega) (e1 := e1) (e2 := e2) (e3 := e3) (e4 := e4)]
      exact tile_at m c t 768 (256 * (t.val % 8) - 512) 0 _ _ (by omega) rfl (Or.inl rfl)

/-- Every index of the result lies in a tile. -/
theorem cover_o (c : Dev nD) (i : S8x2048x512.Idx) :
    ∃ t : Fin cfg0.N, (cfg0.win 4).flush t = true ∧ i ∈ ((cfg0.win 4).blk t).view.set := by
  have h0 : (i 0).val < 8 := (i 0).isLt
  have h1 : (i 1).val < 2048 := (i 1).isLt
  have hN : 8 * (i 0).val + (i 1).val / 256 < cfg0.N := by rw [show cfg0.N = 64 from N_0]; omega
  refine ⟨⟨8 * (i 0).val + (i 1).val / 256, hN⟩, flush0_4 _, ?_⟩
  generalize ht : (⟨8 * (i 0).val + (i 1).val / 256, hN⟩ : Fin cfg0.N) = t
  have ht' : t.val = 8 * (i 0).val + (i 1).val / 256 := by rw [← ht]
  show i ∈ ((View.whole main_v40).slice (win0_4.rect t)).set
  rw [View.set_slice_whole, Rect.mem_set_unit]
  intro a
  match a with
  | ⟨0, _⟩ =>
    show win0_4.index t 0 * 1 ≤ (i 0).val ∧ (i 0).val < win0_4.index t 0 * 1 + 1
    rw [(idx4 t).1, ht']; omega
  | ⟨1, _⟩ =>
    show win0_4.index t 1 * 256 ≤ (i 1).val ∧ (i 1).val < win0_4.index t 1 * 256 + 256
    rw [(idx4 t).2.1, ht']; omega
  | ⟨2, _⟩ =>
    have h2 : (i 2).val < 512 := (i 2).isLt
    show win0_4.index t 2 * 512 ≤ (i 2).val ∧ (i 2).val < win0_4.index t 2 * 512 + 512
    rw [(idx4 t).2.2]; omega

/-- The result after the run. -/
theorem arr_o (c : Dev nD) : (dats m 0 c).arrAt 4 cfg0.N = Gat m c :=
  (dats m 0 c).arrAt_eq_of_cover 4 (Gat m c) (fun t _ => flushed_o m c t) (cover_o c)

end Cert.Attn

end
-- ==== Proof.Attn.RefRead.lean ====
/- The reference's operations that move entries about — the padded keys and values, the nine chunks of a band put
   side by side, the biases looked up by distance, the mask — each read at an index. -/
module

public import proofs.«01_k».proof.Proof.Attn.Spec
public import Idealize.ShloMosaic.Lib.KernelVsHost

@[expose] public section

set_option maxRecDepth 16384

noncomputable section

namespace Cert.Attn

open Idealize.ShloMosaic Idealize.ShloMosaic.TcCoe Idealize.SL.Sem Idealize.ShloMosaic.ValueIdx
open scoped BigOperators
open Cert.Reference4Ideal Cert.Reference4Ideal.Gen Cert.Reference4Ideal.Read

/-- A split array by heads, read at an index. -/
theorem heads_apply (y : FVec Ideal S8x2048x512 .f32) (b : Fin 8) (t : Fin 2048) (h : Fin 8) (d : Fin 64) :
    shapeCast S8x2048x8x64 y shapeCasts_S8x2048x512_S8x2048x8x64 (ix4 b t h d) = y (ix3 b t (⟨64 * h.val + d.val, by omega⟩ : Fin 512)) :=
  shapeCast_apply _ _ _ _ (by
    rw [Shape.rowMajor_val_three, Shape.rowMajor_val_four]
    show (b.val * 2048 + t.val) * 512 + (64 * h.val + d.val) = ((b.val * 2048 + t.val) * 8 + h.val) * 64 + d.val
    omega)

/-- The queries by chunk. -/
theorem q_apply (X : Vec Ideal S8x2048x1536 .f32) (b : Fin 8) (n : Fin 32) (t : Fin 64) (h : Fin 8) (d : Fin 64) :
    val_main_v6 (F := Ideal) X (ix5 b n t h d) = X (ix3 b (⟨64 * n.val + t.val, by omega⟩ : Fin 2048) (⟨64 * h.val + d.val, by omega⟩ : Fin 1536)) := by
  refine (shapeCast_apply (val_main_v3 (F := Ideal) X) _ _ (ix4 b (⟨64 * n.val + t.val, by omega⟩ : Fin 2048) h d) (by
    rw [Shape.rowMajor_val_four, Shape.rowMajor_val_five]
    show ((b.val * 2048 + (64 * n.val + t.val)) * 8 + h.val) * 64 + d.val = (((b.val * 32 + n.val) * 64 + t.val) * 8 + h.val) * 64 + d.val
    omega)).trans ?_
  refine (heads_apply (val_main_v0 (F := Ideal) X) _ _ _ _).trans ?_
  exact extractStridedSlice_apply _ _ _ _ _ (fun a => by
    match a with
    | 0 => (show b.val = 0 + b.val; omega)
    | 1 => (show 64 * n.val + t.val = 0 + (64 * n.val + t.val); omega)
    | 2 => (show 64 * h.val + d.val = 0 + (64 * h.val + d.val); omega))

/-- Keys or values with 512 rows put before them, inside. -/
theorem pad_in (y : FVec Ideal S8x2048x8x64 .f32) (v : FVec Ideal S_ .f32) (b : Fin 8) (P : Fin 2560) (h : Fin 8) (d : Fin 64) (hP : 512 ≤ P.val) :
    pad S8x2560x8x64 ![0, 512, 0, 0] ![0, 0, 0, 0] ![0, 0, 0, 0] y v pads_S8x2048x8x64_S8x2560x8x64_000_51200_000_000 h_S_ (ix4 b P h d)
      = y (ix4 b (⟨P.val - 512, by omega⟩ : Fin 2048) h d) :=
  pad_apply_of_inside _ _ _ _ _ _ _ _ _ (fun a => by
    match a with
    | 0 => (show b.val = 0 + b.val * (0 + 1); omega)
    | 1 => (show P.val = 512 + (P.val - 512) * (0 + 1); omega)
    | 2 => (show h.val = 0 + h.val * (0 + 1); omega)
    | 3 => (show d.val = 0 + d.val * (0 + 1); omega))

/-- The same in the rows put before. -/
theorem pad_out (y : FVec Ideal S8x2048x8x64 .f32) (v : FVec Ideal S_ .f32) (b : Fin 8) (P : Fin 2560) (h : Fin 8) (d : Fin 64) (hP : ¬512 ≤ P.val) :
    pad S8x2560x8x64 ![0, 512, 0, 0] ![0, 0, 0, 0] ![0, 0, 0, 0] y v pads_S8x2048x8x64_S8x2560x8x64_000_51200_000_000 h_S_ (ix4 b P h d)
      = v (Shape.Idx.first h_S_) :=
  pad_apply_of_not_inside _ _ _ _ _ _ _ _ (1 : Fin 4) (fun hc => hP hc.1)

/-- The padded array by chunk. -/
theorem chunks_apply (y : FVec Ideal S8x2560x8x64 .f32) (b : Fin 8) (n : Fin 40) (t : Fin 64) (h : Fin 8) (d : Fin 64) :
    shapeCast S8x40x64x8x64 y shapeCasts_S8x2560x8x64_S8x40x64x8x64 (ix5 b n t h d) = y (ix4 b (⟨64 * n.val + t.val, by omega⟩ : Fin 2560) h d) :=
  shapeCast_apply _ _ _ _ (by
    rw [Shape.rowMajor_val_four, Shape.rowMajor_val_five]
    show ((b.val * 2560 + (64 * n.val + t.val)) * 8 + h.val) * 64 + d.val = (((b.val * 40 + n.val) * 64 + t.val) * 8 + h.val) * 64 + d.val
    omega)

/-- Chunks `k … k + 31` of the padded array. -/
def shifted (y : FVec Ideal S8x40x64x8x64 .f32) (k : Fin 9) : FVec Ideal S8x32x64x8x64 .f32 :=
  extractStridedSlice S8x32x64x8x64 ![0, k.val, 0, 0, 0] y
    ⟨rfl, fun a => by have := k.isLt; match a with | 0 => exact Nat.le_refl _ | 1 => (show k.val + 32 ≤ 40; omega) | 2 => exact Nat.le_refl _ | 3 => exact Nat.le_refl _ | 4 => exact Nat.le_refl _⟩

/-- The nine shifts side by side: entry `j` of a band is the padded array's at row `64 n + j`. -/
theorem band_cat (y : FVec Ideal S8x40x64x8x64 .f32)
    (hc : Shape.Concatenates ((List.ofFn fun k : Fin 9 => (⟨S8x32x64x8x64, shifted y k⟩ : (s : Shape) × (s.Idx → EReal))).map (·.1)) S8x32x576x8x64 2)
    (b : Fin 8) (n : Fin 32) (j : Fin 576) (h : Fin 8) (d : Fin 64) :
    concatenate S8x32x576x8x64 2 (List.ofFn fun k : Fin 9 => (⟨S8x32x64x8x64, shifted y k⟩ : (s : Shape) × (s.Idx → EReal))) hc (ix5 b n j h d)
      = y (ix5 b (⟨n.val + j.val / 64, by omega⟩ : Fin 40) (⟨j.val % 64, by omega⟩ : Fin 64) h d) := by
  refine (concatenate_ofFn_apply 2 (shifted y) hc rfl 64 rfl (ix5 b n j h d) ⟨j.val / 64, by omega⟩ rfl (ix5 b n (⟨j.val % 64, by omega⟩ : Fin 64) h d) rfl
    (fun a ha => by match a with | 0 => rfl | 1 => rfl | 2 => exact absurd rfl ha | 3 => rfl | 4 => rfl)).trans ?_
  exact extractStridedSlice_apply _ _ _ _ _ (fun a => by
    match a with
    | 0 => (show b.val = 0 + b.val; omega)
    | 1 => (show n.val + j.val / 64 = j.val / 64 + n.val; omega)
    | 2 => (show j.val % 64 = 0 + j.val % 64; omega)
    | 3 => (show h.val = 0 + h.val; omega)
    | 4 => (show d.val = 0 + d.val; omega))

/-- Key `j` of chunk `n`'s band. -/
theorem k_apply (X : Vec Ideal S8x2048x1536 .f32) (b : Fin 8) (n : Fin 32) (j : Fin 576) (h : Fin 8) (d : Fin 64) (hP : 512 ≤ 64 * n.val + j.val) :
    val_main_v20 (F := Ideal) X (ix5 b n j h d)
      = X (ix3 b (⟨64 * n.val + j.val - 512, by omega⟩ : Fin 2048) (⟨512 + (64 * h.val + d.val), by omega⟩ : Fin 1536)) := by
  refine (band_cat (val_main_v8 (F := Ideal) X) concatenates_S8x32x64x8x64_S8x32x64x8x64_S8x32x64x8x64_S8x32x64x8x64_S8x32x64x8x64_S8x32x64x8x64_S8x32x64x8x64_S8x32x64x8x64_S8x32x64x8x64_S8x32x576x8x64_d2 b n j h d).trans ?_
  refine (chunks_apply (val_main_v7 (F := Ideal) X) _ _ _ _ _).trans ?_
  refine (pad_in _ _ _ _ _ _ (show 512 ≤ 64 * (n.val + j.val / 64) + j.val % 64 by omega)).trans ?_
  refine (heads_apply (val_main_v1 (F := Ideal) X) _ _ _ _).trans ?_
  refine extractStridedSlice_apply _ _ _ _ _ (fun a => ?_)
  match a with
  | 0 => show b.val = 0 + b.val; omega
  | 1 => show 64 * n.val + j.val - 512 = 0 + (64 * (n.val + j.val / 64) + j.val % 64 - 512); omega
  | 2 => show 512 + (64 * h.val + d.val) = 512 + (64 * h.val + d.val); rfl

/-- Value `j` of chunk `n`'s band. -/
theorem v_apply (X : Vec Ideal S8x2048x1536 .f32) (b : Fin 8) (n : Fin 32) (j : Fin 576) (h : Fin 8) (d : Fin 64) :
    val_main_v30 (F := Ideal) X (ix5 b n j h d) = vl X b (⟨64 * h.val + d.val, by omega⟩ : Fin 512) (⟨64 * n.val + j.val, by omega⟩ : Fin 2560) := by
  refine (band_cat (val_main_v10 (F := Ideal) X) concatenates_S8x32x64x8x64_S8x32x64x8x64_S8x32x64x8x64_S8x32x64x8x64_S8x32x64x8x64_S8x32x64x8x64_S8x32x64x8x64_S8x32x64x8x64_S8x32x64x8x64_S8x32x576x8x64_d2 b n j h d).trans ?_
  refine (chunks_apply (val_main_v9 (F := Ideal) X) _ _ _ _ _).trans ?_
  unfold vl
  by_cases hP : 512 ≤ 64 * n.val + j.val
  · rw [if_pos (show 512 ≤ (⟨64 * n.val + j.val, by omega⟩ : Fin 2560).val from hP)]
    refine (pad_in _ _ _ _ _ _ (show 512 ≤ 64 * (n.val + j.val / 64) + j.val % 64 by omega)).trans ?_
    refine (heads_apply (val_main_v2 (F := Ideal) X) _ _ _ _).trans ?_
    refine extractStridedSlice_apply _ _ _ _ _ (fun a => ?_)
    match a with
    | 0 => show b.val = 0 + b.val; omega
    | 1 => show 64 * n.val + j.val - 512 = 0 + (64 * (n.val + j.val / 64) + j.val % 64 - 512); omega
    | 2 => show 1024 + (64 * h.val + d.val) = 1024 + (64 * h.val + d.val); rfl
  · rw [if_neg (show ¬512 ≤ (⟨64 * n.val + j.val, by omega⟩ : Fin 2560).val from hP)]
    refine (pad_out _ _ _ _ _ _ (show ¬512 ≤ 64 * (n.val + j.val / 64) + j.val % 64 by omega)).trans ?_
    show (((0#32 : BitVec 32).toInt : ℝ) : EReal) = 0
    simp

/-- The bias index from a distance, as the reference's words compute it: clipped, shifted, and wrapped if negative. -/
def wrap (w : BitVec 32) : BitVec 32 :=
  Scalar.select (IntOp.cmpi .slt (IntOp.addi (IntOp.minsi 256#32 (IntOp.maxsi 4294967040#32 w)) 256#32) 0#32)
    (IntOp.addi (IntOp.addi (IntOp.minsi 256#32 (IntOp.maxsi 4294967040#32 w)) 256#32) 513#32)
    (IntOp.addi (IntOp.minsi 256#32 (IntOp.maxsi 4294967040#32 w)) 256#32)

/-- Its value over the distances of a band. -/
theorem wrap_val : ∀ u : Fin 1151, 512 ≤ u.val → (wrap (BitVec.ofNat 32 (4294966721 + u.val))).toInt.toNat = min (u.val - 319) 512 := by
  decide +kernel

/-- The word looked up for query `t` and key `j`. -/
theorem word_apply (t : Fin 64) (j : Fin 576) : (val_main_v49 (F := Ideal) (ix3 t j (0 : Fin 1)) : BitVec 32)
    = wrap (IntOp.subi (IntOp.addi 512#32 (BitVec.ofNat 32 t.val)) (BitVec.ofNat 32 j.val)) := by
  simp only [val_main_v49_apply, val_main_v48_apply, val_main_v47_apply, val_main_v46_apply, val_main_v45_apply, val_main_v44_apply, val_main_v43_apply,
    val_main_v42_apply, val_main_v41_apply, val_main_call2_v4_apply, val_main_call2_v3_apply, val_main_call2_v2_apply, val_main_call2_v1_apply,
    val_main_call2_v0_apply, val_main_v39_apply, val_main_v38_apply, val_main_v37_apply, val_main_v36_apply, val_main_v35_apply, val_main_v34_apply,
    val_main_v33_apply, val_main_v32_apply, val_main_v31_apply]
  rfl

/-- The index it stands for. -/
theorem word_val (t : Fin 64) (j : Fin 576) : (val_main_v49 (F := Ideal) (ix3 t j (0 : Fin 1)) : BitVec 32).toInt.toNat = min (768 + t.val - j.val) 512 := by
  have e : IntOp.subi (IntOp.addi 512#32 (BitVec.ofNat 32 t.val)) (BitVec.ofNat 32 j.val) = BitVec.ofNat 32 (4294966721 + (1087 + t.val - j.val)) := by
    show (512#32 + BitVec.ofNat 32 t.val) - BitVec.ofNat 32 j.val = _
    apply BitVec.eq_of_toNat_eq
    simp only [BitVec.toNat_sub, BitVec.toNat_add, BitVec.toNat_ofNat]
    omega
  rw [word_apply, e, wrap_val ⟨1087 + t.val - j.val, by omega⟩ (by show 512 ≤ 1087 + t.val - j.val; omega)]
  show min (1087 + t.val - j.val - 319) 512 = _
  omega

/-- A lookup of one column per query and key, all heads at once. -/
theorem look_apply (x : FVec Ideal S8x513 .f32) (idx : IVec S64x576x1 32) (h : Fin 8) (t : Fin 64) (j : Fin 576) :
    Host.gather gather_S8x513_S64x576x1_S8x64x576_0_1_n_n_1_2_81 x idx (ix3 h t j)
      = x (ix2 h (⟨min (idx (ix3 t j (0 : Fin 1))).toInt.toNat 512, by omega⟩ : Fin 513)) := by
  unfold Host.gather
  refine congrArg x (funext fun a => Fin.ext ?_)
  match a with
  | ⟨0, _⟩ =>
    show gather_S8x513_S64x576x1_S8x64x576_0_1_n_n_1_2_81.start (ix3 h t j) idx 0 + gather_S8x513_S64x576x1_S8x64x576_0_1_n_n_1_2_81.batchCoord (ix3 h t j) 0
      + gather_S8x513_S64x576x1_S8x64x576_0_1_n_n_1_2_81.offCoord (ix3 h t j) 0 = h.val
    rw [GatherDims.batchCoord_eq_zero _ _ _ List.not_mem_nil]
    unfold GatherDims.start
    rw [dif_neg (show ¬(0 : Fin 2) ∈ gather_S8x513_S64x576x1_S8x64x576_0_1_n_n_1_2_81.startIndexMap by decide)]
    show 0 + 0 + h.val = h.val
    omega
  | ⟨1, _⟩ =>
    show gather_S8x513_S64x576x1_S8x64x576_0_1_n_n_1_2_81.start (ix3 h t j) idx 1 + gather_S8x513_S64x576x1_S8x64x576_0_1_n_n_1_2_81.batchCoord (ix3 h t j) 1
      + gather_S8x513_S64x576x1_S8x64x576_0_1_n_n_1_2_81.offCoord (ix3 h t j) 1 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (1 : Fin 2) ∈ gather_S8x513_S64x576x1_S8x64x576_0_1_n_n_1_2_81.startIndexMap by decide)]
    have hsi : gather_S8x513_S64x576x1_S8x64x576_0_1_n_n_1_2_81.siIdx (ix3 h t j) ⟨List.idxOf (1 : Fin 2) gather_S8x513_S64x576x1_S8x64x576_0_1_n_n_1_2_81.startIndexMap,
        List.idxOf_lt_length_iff.2 (by decide)⟩ = ix3 t j (0 : Fin 1) := by
      funext b; refine Fin.ext ?_
      match b with
      | ⟨0, _⟩ => rfl
      | ⟨1, _⟩ => rfl
      | ⟨2, _⟩ => rfl
    rw [hsi]
    rfl

/-- The bias of query `t` and key `j` of a band. -/
theorem bias_apply (rel : Vec Ideal S1x8x513 .f32) (h : Fin 8) (t : Fin 64) (j : Fin 576) :
    val_main_v50 (F := Ideal) rel (ix3 h t j) = rel (ix3 (0 : Fin 1) h (⟨min (768 + t.val - j.val) 512, by omega⟩ : Fin 513)) := by
  refine (look_apply _ _ _ _ _).trans ?_
  refine (shapeCast_1ab_ab_apply rel _ _ _).trans ?_
  refine congrArg (fun k => rel (ix3 (0 : Fin 1) h k)) (Fin.ext ?_)
  show min (val_main_v49 (F := Ideal) (ix3 t j (0 : Fin 1)) : BitVec 32).toInt.toNat 512 = _
  rw [word_val]
  show min (min (768 + t.val - j.val) 512) 512 = min (768 + t.val - j.val) 512
  omega

/-- The mask over the chunks and keys, on words. -/
theorem mask_val : ∀ (n : Fin 32) (j : Fin 576),
    IntOp.cmpi .sge (IntOp.addi (IntOp.muli (IntOp.subi (BitVec.ofNat 32 n.val) 8#32) 64#32) (BitVec.ofNat 32 j.val)) 0#32
      = if 512 ≤ 64 * n.val + j.val then 1#1 else 0#1 := by
  decide +kernel

/-- The mask: whether a key is not before the first. -/
theorem mask_apply (b : Fin 8) (n : Fin 32) (h : Fin 8) (t : Fin 64) (j : Fin 576) :
    (val_main_call3_v1 (F := Ideal) (ix5 b n h t j) : BitVec 1) = if 512 ≤ 64 * n.val + j.val then 1#1 else 0#1 := by
  rw [← mask_val]
  simp only [val_main_call3_v1_apply, val_main_v68_apply, val_main_v67_apply, val_main_v66_apply, val_main_v59_apply, val_main_v58_apply, val_main_v57_apply,
    val_main_v56_apply, val_main_v55_apply, val_main_v54_apply, val_main_v53_apply, val_main_v52_apply, val_main_v51_apply, val_main_v34_apply, val_main_v33_apply]
  rfl

end Cert.Attn

end
-- ==== Proof.Attn.Ref.lean ====
/- The reference's result read at an index: the attention of Spec, where the queries, keys and biases are finite. -/
module

public import proofs.«01_k».proof.Proof.Attn.RefRead

@[expose] public section

set_option maxRecDepth 16384

noncomputable section

namespace Cert.Attn

open Idealize.ShloMosaic Idealize.ShloMosaic.TcCoe Idealize.SL.Sem Idealize.ShloMosaic.ValueIdx
open scoped BigOperators
open Cert.Reference4Ideal Cert.Reference4Ideal.Gen Cert.Reference4Ideal.Read

variable (X : Vec Ideal S8x2048x1536 .f32) (rel : Vec Ideal S1x8x513 .f32)

/-- The pattern of −∞. -/
theorem ninf : Ideal.ofBits .f32 0xFF800000#32 = ⊥ := by simp [Ideal.ofBits, Ideal.ieee]

/-- A query against a key. -/
theorem dot_apply (b : Fin 8) (n : Fin 32) (h : Fin 8) (t : Fin 64) (j : Fin 576) (hP : 512 ≤ 64 * n.val + j.val) :
    val_main_v60 (F := Ideal) X (ix5 b n h t j)
      = ∑ d : Fin 64, X (ix3 b (⟨64 * n.val + t.val, by omega⟩ : Fin 2048) (⟨64 * h.val + d.val, by omega⟩ : Fin 1536))
        * X (ix3 b (⟨64 * n.val + j.val - 512, by omega⟩ : Fin 2048) (⟨512 + (64 * h.val + d.val), by omega⟩ : Fin 1536)) := by
  rw [val_main_v60_apply]
  refine Finset.sum_congr (M := EReal) rfl fun d _ => ?_
  exact congrArg₂ (fun a b : EReal => a * b)
    ((congrArg _ (eq_ix5 (lidx_main_v60 (ix5 b n h t j) d))).trans (q_apply X b n t h d))
    ((congrArg _ (eq_ix5 (ridx_main_v60 (ix5 b n h t j) d))).trans (k_apply X b n j h d hP))

/-- The masked scores of chunk `n` are the scores of its queries over its band. -/
theorem score_apply (b : Fin 8) (n : Fin 32) (h : Fin 8) (t : Fin 64) (j : Fin 576) :
    val_main_v69 (F := Ideal) X rel (ix5 b n h t j)
      = sc X rel b (⟨64 * n.val + t.val, by omega⟩ : Fin 2048) h (⟨64 * n.val + j.val, by omega⟩ : Fin 2560) := by
  rw [val_main_v69_apply, mask_apply]
  unfold sc
  by_cases hP : 512 ≤ 64 * n.val + j.val
  · rw [if_pos hP, if_pos (show (64 * n.val + t.val) / 64 ≤ (64 * n.val + j.val) / 64 ∧ (64 * n.val + j.val) / 64 ≤ (64 * n.val + t.val) / 64 + 8
      ∧ 512 ≤ 64 * n.val + j.val by omega)]
    show val_main_v65 (F := Ideal) X rel (ix5 b n h t j) = _
    have e1 : val_main_v64 (F := Ideal) rel (ix5 b n h t j)
        = rel (ix3 (0 : Fin 1) h (⟨min (768 + (64 * n.val + t.val) - (64 * n.val + j.val)) 512, by omega⟩ : Fin 513)) := by
      rw [val_main_v64_apply, val_main_v63_apply]
      refine ((congrArg _ (eq_ix3 _)).trans (bias_apply rel h t j)).trans ?_
      refine congrArg (fun k => rel (ix3 (0 : Fin 1) h k)) (Fin.ext ?_)
      show min (768 + t.val - j.val) 512 = min (768 + (64 * n.val + t.val) - (64 * n.val + j.val)) 512
      omega
    have e2 : val_main_v61 (F := Ideal) (ix5 b n h t j) = ((1 / 8 : ℝ) : EReal) := by
      rw [val_main_v61_apply, val_main_cst_apply]; exact eighth
    exact congrArg₂ (fun a b : EReal => a + b) (congrArg₂ (fun a b : EReal => a * b) (dot_apply X b n h t j hP) e2) e1
  · rw [if_neg hP, if_neg (show ¬((64 * n.val + t.val) / 64 ≤ (64 * n.val + j.val) / 64 ∧ (64 * n.val + j.val) / 64 ≤ (64 * n.val + t.val) / 64 + 8
      ∧ 512 ≤ 64 * n.val + j.val) by omega)]
    show val_main_call3_v2 (F := Ideal) (ix5 b n h t j) = ⊥
    rw [val_main_call3_v2_apply, val_main_call3_v0_apply, val_main_cst_10_apply]
    exact ninf

/-- The scores of query `t` of chunk `n` over the band. -/
def bandSc (b : Fin 8) (n : Fin 32) (h : Fin 8) (t : Fin 64) (j : Fin 576) : EReal :=
  sc X rel b (⟨64 * n.val + t.val, by omega⟩ : Fin 2048) h (⟨64 * n.val + j.val, by omega⟩ : Fin 2560)

/-- A maximum over the last axis, from −∞. -/
theorem rowMax (y : FVec Ideal S8x32x8x64x576 .f32) (b : Fin 8) (n : Fin 32) (h : Fin 8) (t : Fin 64) :
    Host.reduce FloatOps.maximumf y (val_main_cst_11 (F := Ideal)) reducesTo_S8x32x8x64x576_S8x32x8x64_d4 h_S_ (ix4 b n h t)
      = top (fun j : Fin 576 => y (ix5 b n h t j)) := by
  have hR : S8x32x8x64x576.Reduces [4] S8x32x8x64 := by decide
  rw [Host.reduce_eq_fold_single FloatOps.maximumf _ _ reducesTo_S8x32x8x64x576_S8x32x8x64_d4 hR h_S_]
  have e0 : val_main_cst_11 (F := Ideal) (Shape.Idx.first h_S_) = (⊥ : EReal) := ninf
  have e1 : y ∘ hR.lift (ix4 b n h t) = fun j : Fin 576 => y (ix5 b n h t j) := funext fun j => congrArg y (by
    funext a
    refine Fin.ext ?_
    match a with
    | 0 => rfl
    | 1 => rfl
    | 2 => rfl
    | 3 => rfl
    | 4 => rfl)
  rw [e0, e1]
  rfl

/-- The row maxima. -/
theorem max_apply (b : Fin 8) (n : Fin 32) (h : Fin 8) (t : Fin 64) :
    val_main_v72 (F := Ideal) X rel (ix4 b n h t) = top (bandSc X rel b n h t) := by
  have e : val_main_v70 (F := Ideal) X rel (ix4 b n h t) = top (bandSc X rel b n h t) :=
    (rowMax (val_main_v69 (F := Ideal) X rel) b n h t).trans (congrArg (fun f : Fin 576 → EReal => top f) (funext fun j => score_apply X rel b n h t j))
  rw [val_main_v72_apply, e, val_main_v71_apply, val_main_cst_12_apply]
  show max (Ideal.ofBits .f32 0xFF800000#32) _ = _
  rw [ninf]
  exact max_eq_right bot_le

/-- The exponentials of the scores less their maximum. -/
theorem exp_apply (b : Fin 8) (n : Fin 32) (h : Fin 8) (t : Fin 64) (j : Fin 576) :
    val_main_v76 (F := Ideal) X rel (ix5 b n h t j) = Ideal.exp (bandSc X rel b n h t j - top (bandSc X rel b n h t)) := by
  rw [val_main_v76_apply, val_main_v75_apply, score_apply, val_main_v74_apply, val_main_v73_apply]
  exact congrArg (fun M : EReal => Ideal.exp (bandSc X rel b n h t j - M)) ((congrArg _ (eq_ix4 _)).trans (max_apply X rel b n h t))

/-- The weights. -/
theorem weight_apply (b : Fin 8) (n : Fin 32) (h : Fin 8) (t : Fin 64) (j : Fin 576) :
    val_main_v80 (F := Ideal) X rel (ix5 b n h t j) = Ideal.div (Ideal.exp (bandSc X rel b n h t j - top (bandSc X rel b n h t)))
      (∑ i, Ideal.exp (bandSc X rel b n h t i - top (bandSc X rel b n h t))) := by
  have e : val_main_v79 (F := Ideal) X rel (ix5 b n h t j) = ∑ i, Ideal.exp (bandSc X rel b n h t i - top (bandSc X rel b n h t)) := by
    rw [val_main_v79_apply, val_main_v78_apply, val_main_v77_apply, val_main_cst_13_apply]
    show Ideal.ofBits .f32 0x00000000#32 + _ = _
    have e0 : Ideal.ofBits .f32 0x00000000#32 = 0 := by simp [Ideal.ofBits, Ideal.ieee]
    rw [e0, zero_add]
    exact Finset.sum_congr (M := EReal) rfl fun i _ => (congrArg _ (eq_ix5 _)).trans (exp_apply X rel b n h t i)
  rw [val_main_v80_apply, exp_apply, e]
  rfl

/-- The product of two reals is a real. -/
theorem real_mul {x y : EReal} (hx : ∃ r : ℝ, x = r) (hy : ∃ r : ℝ, y = r) : ∃ r : ℝ, x * y = r := by
  obtain ⟨r, rfl⟩ := hx
  obtain ⟨s, rfl⟩ := hy
  exact ⟨r * s, (EReal.coe_mul r s).symm⟩

/-- A sum of reals is a real. -/
theorem real_sum {n : ℕ} (f : Fin n → EReal) (hf : ∀ i, ∃ r : ℝ, f i = r) : ∃ r : ℝ, ∑ i, f i = r := by
  choose g hg using hf
  exact ⟨∑ i, g i, by rw [Finset.sum_congr (M := EReal) rfl fun i _ => hg i]; exact (map_sum (⟨⟨Real.toEReal, rfl⟩, EReal.coe_add⟩ : ℝ →+ EReal) _ _).symm⟩

variable {X rel}

/-- An unmasked score is a real where queries, keys and biases are. -/
theorem sc_real (hX : ∀ (b : Fin 8) (t : Fin 2048) (c : Fin 1536), c.val < 1024 → ∃ r : ℝ, X (ix3 b t c) = (r : EReal))
    (hr : ∀ (h : Fin 8) (k : Fin 513), ∃ r : ℝ, rel (ix3 (0 : Fin 1) h k) = (r : EReal))
    (b : Fin 8) (t : Fin 2048) (h : Fin 8) (P : Fin 2560) (hP : t.val / 64 ≤ P.val / 64 ∧ P.val / 64 ≤ t.val / 64 + 8 ∧ 512 ≤ P.val) :
    ∃ r : ℝ, sc X rel b t h P = (r : EReal) := by
  unfold sc
  rw [if_pos hP]
  obtain ⟨u, hu⟩ := real_mul (real_sum _ fun d : Fin 64 => real_mul (hX b t (⟨64 * h.val + d.val, by omega⟩ : Fin 1536) (by show 64 * h.val + d.val < 1024; omega))
    (hX b (⟨P.val - 512, by omega⟩ : Fin 2048) (⟨512 + (64 * h.val + d.val), by omega⟩ : Fin 1536) (by show 512 + (64 * h.val + d.val) < 1024; omega)))
    (⟨1 / 8, rfl⟩ : ∃ r : ℝ, ((1 / 8 : ℝ) : EReal) = r)
  obtain ⟨v, hv⟩ := hr h (⟨min (768 + t.val - P.val) 512, by omega⟩ : Fin 513)
  exact ⟨u + v, by rw [hv]; exact (congrArg (· + (v : EReal)) hu).trans (EReal.coe_add u v).symm⟩

/-- The reference's result at batch `b`, position `t`, column `n`. -/
theorem ref_attn (hX : ∀ (b : Fin 8) (t : Fin 2048) (c : Fin 1536), c.val < 1024 → ∃ r : ℝ, X (ix3 b t c) = (r : EReal))
    (hr : ∀ (h : Fin 8) (k : Fin 513), ∃ r : ℝ, rel (ix3 (0 : Fin 1) h k) = (r : EReal))
    (b : Fin 8) (t : Fin 2048) (n : Fin 512) : val_main_v84 (F := Ideal) X rel (ix3 b t n) = attn X rel b t n := by
  have ht := t.isLt
  have hn := n.isLt
  have hb := b.isLt
  -- the entry's chunk, query, head and feature
  have e : val_main_v83 (F := Ideal) X rel (ix3 b t n)
      = val_main_v82 (F := Ideal) X rel (ix5 b (⟨t.val / 64, by omega⟩ : Fin 32) (⟨t.val % 64, by omega⟩ : Fin 64) (⟨n.val / 64, by omega⟩ : Fin 8)
        (⟨n.val % 64, by omega⟩ : Fin 64)) :=
    shapeCast_apply _ _ _ _ (by
      rw [Shape.rowMajor_val_three, Shape.rowMajor_val_five]
      show (((b.val * 32 + t.val / 64) * 64 + t.val % 64) * 8 + n.val / 64) * 64 + n.val % 64 = (b.val * 2048 + t.val) * 512 + n.val
      omega)
  rw [val_main_v84_apply]
  show val_main_v83 (F := Ideal) X rel (ix3 b t n) = _
  rw [e, val_main_v82_apply, val_main_v81_apply]
  -- the sum over the band
  have hs : ∀ j : Fin 576, bandSc X rel b (⟨t.val / 64, by omega⟩ : Fin 32) (⟨n.val / 64, by omega⟩ : Fin 8) (⟨t.val % 64, by omega⟩ : Fin 64) j
      = sc X rel b t (⟨n.val / 64, by omega⟩ : Fin 8) (⟨64 * (t.val / 64) + j.val, by omega⟩ : Fin 2560) := fun j =>
    congrArg (fun u : Fin 2048 => sc X rel b u (⟨n.val / 64, by omega⟩ : Fin 8) (⟨64 * (t.val / 64) + j.val, by omega⟩ : Fin 2560))
      (Fin.ext (by show 64 * (t.val / 64) + t.val % 64 = t.val; omega))
  have hv : ∀ j : Fin 576, val_main_v30 (F := Ideal) X (ix5 b (⟨t.val / 64, by omega⟩ : Fin 32) j (⟨n.val / 64, by omega⟩ : Fin 8) (⟨n.val % 64, by omega⟩ : Fin 64))
      = vl X b n (⟨64 * (t.val / 64) + j.val, by omega⟩ : Fin 2560) := fun j =>
    (v_apply X _ _ _ _ _).trans (congrArg (fun u : Fin 512 => vl X b u (⟨64 * (t.val / 64) + j.val, by omega⟩ : Fin 2560))
      (Fin.ext (by show 64 * (n.val / 64) + n.val % 64 = n.val; omega)))
  refine (Finset.sum_congr (M := EReal) rfl fun j _ => (mul_comm _ _).trans (congrArg₂ (fun a b : EReal => a * b)
    ((congrArg _ (eq_ix5 _)).trans (weight_apply X rel b (⟨t.val / 64, by omega⟩ : Fin 32) (⟨n.val / 64, by omega⟩ : Fin 8) (⟨t.val % 64, by omega⟩ : Fin 64) j))
    ((congrArg _ (eq_ix5 _)).trans (hv j)))).trans ?_
  rw [funext hs]
  refine (sum_div_mul _ _ (fun j => ?_) ⟨⟨512 + t.val % 64, by omega⟩, ?_⟩).trans ?_
  · by_cases hP : 512 ≤ 64 * (t.val / 64) + j.val
    · obtain ⟨r, hr'⟩ := sc_real hX hr b t (⟨n.val / 64, by omega⟩ : Fin 8) (⟨64 * (t.val / 64) + j.val, by omega⟩ : Fin 2560)
        (by show t.val / 64 ≤ (64 * (t.val / 64) + j.val) / 64 ∧ (64 * (t.val / 64) + j.val) / 64 ≤ t.val / 64 + 8 ∧ 512 ≤ 64 * (t.val / 64) + j.val; omega)
      rw [hr']; exact EReal.coe_ne_top r
    · unfold sc
      rw [if_neg (show ¬(t.val / 64 ≤ (64 * (t.val / 64) + j.val) / 64 ∧ (64 * (t.val / 64) + j.val) / 64 ≤ t.val / 64 + 8 ∧ 512 ≤ 64 * (t.val / 64) + j.val) by omega)]
      exact bot_ne_top
  · obtain ⟨r, hr'⟩ := sc_real hX hr b t (⟨n.val / 64, by omega⟩ : Fin 8) (⟨64 * (t.val / 64) + (512 + t.val % 64), by omega⟩ : Fin 2560)
      (by show t.val / 64 ≤ (64 * (t.val / 64) + (512 + t.val % 64)) / 64 ∧ (64 * (t.val / 64) + (512 + t.val % 64)) / 64 ≤ t.val / 64 + 8 ∧ 512 ≤ 64 * (t.val / 64) + (512 + t.val % 64); omega)
    rw [hr']; exact EReal.coe_ne_bot r
  · refine soft_comp (fun j : Fin 576 => (⟨64 * (t.val / 64) + j.val, by omega⟩ : Fin 2560)) (fun i j hij => Fin.ext ?_)
      (sc X rel b t (⟨n.val / 64, by omega⟩ : Fin 8)) (vl X b n) (fun P hP => ?_)
    · have := congrArg Fin.val hij
      change 64 * (t.val / 64) + i.val = 64 * (t.val / 64) + j.val at this
      omega
    · unfold sc
      refine if_neg fun hc => hP ⟨⟨P.val - 64 * (t.val / 64), by omega⟩, Fin.ext ?_⟩
      show 64 * (t.val / 64) + (P.val - 64 * (t.val / 64)) = P.val
      omega

end Cert.Attn

end
-- ==== Proof.Attn.Claims.lean ====
/- The claims about the attention of the prompt batch. -/
module

public import proofs.«01_k».proof.Defs
public import proofs.«01_k».proof.Proof.Gen.Kernel4.Frame
public import proofs.«01_k».proof.Proof.Attn.Array
public import proofs.«01_k».proof.Proof.Attn.Ref
public import Idealize.ShloMosaic.Lib.Quiescent
public import Idealize.ShloMosaic.Lib.ReduceAll

@[expose] public section

set_option maxRecDepth 16384

noncomputable section

namespace Cert.Attn

open Idealize.ShloMosaic Idealize.ShloMosaic.TcCoe Idealize.SL.Sem Idealize.ShloMosaic.ValueIdx
open scoped BigOperators

/-- The shape relations of the precondition. -/
theorem facts_finite : Cert.Pre_finite4.Facts :=
  ⟨by decide, by decide, by decide, by decide, by decide, by decide⟩

/-- The kernel runs, keeps its arguments and leaves no semaphore raised. -/
theorem frame_kernel : Cert.quiescent_Kernel4 := fun m ρ _ => Cert.Kernel4.Gen.frame m ρ

/-- The same of its reading over the extended reals. -/
theorem frame_kernelIdeal : Cert.quiescent_Kernel4Ideal := fun m ρ _ => Cert.Kernel4Ideal.Gen.frame m ρ

/-- The same under the precondition, which it does not need. -/
theorem frame_kernelIdeal_finite : Cert.quiescent_Kernel4Ideal_pre_finite4 (hPre_finite4 := facts_finite) :=
  fun m ρ _ => Cert.Kernel4Ideal.Gen.frame m ρ

/-- The same of the reference. -/
theorem frame_referenceIdeal : Cert.quiescent_Reference4Ideal := fun m ρ _ =>
  (θ_run _ _ _).mono (fun r h => ⟨fun c => (h c).2, Idealize.ShloMosaic.sem_eq_zero_of_no_sems (by decide) r.2⟩)
    (Cert.Reference4Ideal.Value.run (F := Ideal) m ρ)

/-- The same of the reference under the precondition. -/
theorem frame_referenceIdeal_finite : Cert.quiescent_Reference4Ideal_pre_finite4 (hPre_finite4 := facts_finite) := fun m ρ _ =>
  (θ_run _ _ _).mono (fun r h => ⟨fun c => (h c).2, Idealize.ShloMosaic.sem_eq_zero_of_no_sems (by decide) r.2⟩)
    (Cert.Reference4Ideal.Value.run (F := Ideal) m ρ)

/-- A value whose magnitude compares below +∞ is a real. -/
theorem real_of_below (x : Ideal .f32)
    (h : FloatOps.cmpf .olt (FloatOps.hostAbsf x) (FloatOps.ofBits (F := Ideal) .f32 0x7F800000#32) = 1#1) : ∃ r : ℝ, (x : EReal) = r := by
  have htop : Ideal.ofBits .f32 0x7F800000#32 = ⊤ := by simp [Ideal.ofBits, Ideal.ieee]
  have h1 : Ideal.cmp .olt (max (x : EReal) (-(x : EReal))) (Ideal.ofBits .f32 0x7F800000#32) = 1#1 := h
  rw [htop] at h1
  have h2 : max (x : EReal) (-(x : EReal)) < ⊤ := by
    by_contra hn
    unfold Ideal.cmp at h1
    simp [hn] at h1
  rw [max_lt_iff] at h2
  refine ⟨EReal.toReal x, (EReal.coe_toReal h2.1.ne fun hb => ?_).symm⟩
  rw [hb] at h2
  exact absurd h2.2 (by simp)

/-- Two bits whose conjunction is one are both one. -/
theorem both_one : ∀ a b : BitVec 1, IntOp.andi a b = 1#1 → a = 1#1 ∧ b = 1#1 := by decide

/-- The precondition says that queries, keys and biases are reals. -/
theorem finite_of_pre (X : Vec Ideal Cert.Kernel4Ideal.S8x2048x1536 .f32) (rel : Vec Ideal Cert.Kernel4Ideal.S1x8x513 .f32)
    (h : (haveI := facts_finite; Cert.Pre_finite4.fn (F := Ideal) X rel) = fun _ => 1#1) :
    (∀ (b : Fin 8) (t : Fin 2048) (k : Fin 1536), k.val < 1024 → ∃ r : ℝ, X (ix3 b t k) = (r : EReal))
      ∧ ∀ (u : Fin 8) (k : Fin 513), ∃ r : ℝ, rel (ix3 (0 : Fin 1) u k) = (r : EReal) := by
  haveI : Subsingleton (Cert.Pre_finite4.S_.Idx) := ⟨fun a b => funext fun k => k.elim0⟩
  have h0 := congrFun h (fun a : Fin 0 => a.elim0)
  obtain ⟨ha, hb⟩ := both_one _ _ h0
  constructor
  · intro b t k hk
    have e := Host.reduce_andi_all _ _ _ _ _ ha (ix3 b t (⟨k.val, hk⟩ : Fin 1024))
    have ex : extractStridedSlice Cert.Pre_finite4.S8x2048x1024 ![0, 0, 0] X facts_finite.slices_S8x2048x1536_S8x2048x1024_0_0_0 (ix3 b t (⟨k.val, hk⟩ : Fin 1024))
        = X (ix3 b t k) := extractStridedSlice_apply _ _ _ _ _ (fun a => by
      match a with
      | 0 => (show b.val = 0 + b.val; omega)
      | 1 => (show t.val = 0 + t.val; omega)
      | 2 => (show k.val = 0 + k.val; omega))
    obtain ⟨r, hr⟩ := real_of_below _ e
    exact ⟨r, ex.symm.trans hr⟩
  · intro u k
    exact real_of_below _ (Host.reduce_andi_all _ _ _ _ _ hb (ix3 (0 : Fin 1) u k))

open Cert.Kernel4Ideal Cert.Kernel4Ideal.Gen in
/-- Over the extended reals the kernel's result is the reference's, where queries, keys and biases are finite. -/
theorem algebraic : Cert.algebraic_Kernel4Ideal_Reference4Ideal_pre_finite4 (hPre_finite4 := facts_finite) := by
  intro m g m' g' hpre hm
  refine ⟨Gat m, (θ_run _ _ _).mono (fun r h c => ?_) (Cert.Kernel4Ideal.Value.run_blocks m g),
    (θ_run _ _ _).mono (fun r h c => ?_) (Cert.Reference4Ideal.Value.run (F := Ideal) m' g')⟩
  · exact ⟨(h c).1.trans (arr_o m c), (h c).2⟩
  · obtain ⟨h0, ha⟩ := h c
    obtain ⟨e0, e1⟩ := hm c
    obtain ⟨hX, hr⟩ := finite_of_pre _ _ (hpre c)
    refine ⟨h0.trans ?_, ha⟩
    rw [Cert.Reference4Ideal.Read.val_main_v84_eq, e0, e1]
    refine funext fun (i : Cert.Reference4Ideal.S8x2048x512.Idx) => ?_
    exact (congrArg _ (eq_ix3 _)).trans (ref_attn hX hr ⟨(i 0).val, (i 0).isLt⟩ ⟨(i 1).val, (i 1).isLt⟩ ⟨(i 2).val, (i 2).isLt⟩)

end Cert.Attn

end
-- ==== Proof.Attn.StepPair.lean ====
/- One pair of heads of the sample batch's attention tile: its two softmaxes, stacked as 128 rows over 512 cached
   keys and 64 new ones, read at an index. -/
module

public import proofs.«01_k».proof.Proof.Attn.Pair
public import proofs.«01_k».proof.Proof.Gen.Kernel8Ideal.Value

@[expose] public section

set_option maxRecDepth 16384

noncomputable section

namespace Cert.Attn.Step

open Idealize.ShloMosaic Idealize.ShloMosaic.TcCoe Idealize.SL.Sem Idealize.ShloMosaic.ValueIdx
open scoped BigOperators
open Cert.Kernel8Ideal Cert.Kernel8Ideal.Gen

/-- The cached keys' entries followed by the new keys'. -/
def join (a : Fin 512 → EReal) (b : Fin 64 → EReal) (j : Fin 576) : EReal :=
  if h : j.val < 512 then a ⟨j.val, h⟩ else b ⟨j.val - 512, by omega⟩

/-- The first 512 entries are the cached keys'. -/
theorem join_left (a : Fin 512 → EReal) (b : Fin 64 → EReal) (i : Fin 512) (h : i.val < 576) : join a b ⟨i.val, h⟩ = a i := dif_pos i.isLt

/-- The last 64 entries are the new keys'. -/
theorem join_right (a : Fin 512 → EReal) (b : Fin 64 → EReal) (i : Fin 64) (h : 512 + i.val < 576) : join a b ⟨512 + i.val, h⟩ = b i :=
  (dif_neg (by show ¬(512 + i.val < 512); omega)).trans (congrArg b (Fin.ext (by show 512 + i.val - 512 = i.val; omega)))

/-- A sum over all keys is the cached keys' sum plus the new keys'. -/
theorem sum_split (f : Fin 576 → EReal) :
    ∑ j, f j = ∑ i : Fin 512, f ⟨i.val, by omega⟩ + ∑ i : Fin 64, f ⟨512 + i.val, by omega⟩ :=
  Fin.sum_univ_add (a := 512) (b := 64) f

/-- The largest of all is the larger of the two parts' largest. -/
theorem top_join (a : Fin 512 → EReal) (b : Fin 64 → EReal) : top (join a b) = max (top a) (top b) := by
  apply le_antisymm
  · rw [top_eq_sup]
    refine Finset.sup_le fun j _ => ?_
    unfold join
    split
    · exact (le_top' a _).trans (le_max_left _ _)
    · exact (le_top' b _).trans (le_max_right _ _)
  · refine max_le ?_ ?_
    · rw [top_eq_sup a]
      exact Finset.sup_le fun i _ => (join_left a b i (by omega)) ▸ le_top' (join a b) ⟨i.val, by omega⟩
    · rw [top_eq_sup b]
      exact Finset.sup_le fun i _ => (join_right a b i (by omega)) ▸ le_top' (join a b) ⟨512 + i.val, by omega⟩

/-- The two parts' weighted sums over the two parts' denominators make one softmax-weighted sum. -/
theorem soft_join (a v : Fin 512 → EReal) (b w : Fin 64 → EReal) :
    Ideal.div (∑ i, Ideal.exp (a i - max (top a) (top b)) * v i + ∑ i, Ideal.exp (b i - max (top a) (top b)) * w i)
        (∑ i, Ideal.exp (a i - max (top a) (top b)) + ∑ i, Ideal.exp (b i - max (top a) (top b)))
      = soft (join a b) (join v w) := by
  unfold soft
  rw [top_join, sum_split, sum_split]
  simp only [join_left, join_right]

/-- What the shapes with `nk` keys satisfy. -/
structure Keys (nk : ℕ) : Prop where
  rows : (⟨3, ![1, nk, 128]⟩ : Shape).ShapeCasts ⟨2, ![nk, 128]⟩
  bias : (⟨3, ![1, 64, nk]⟩ : Shape).ShapeCasts ⟨2, ![64, nk]⟩
  stack : Shape.Concatenates [(⟨2, ![64, nk]⟩ : Shape), ⟨2, ![64, nk]⟩] ⟨2, ![128, nk]⟩ 0
  red : (⟨2, ![128, nk]⟩ : Shape).Reduces [1] ⟨1, ![128]⟩
  wide : (⟨2, ![128, 1]⟩ : Shape).Broadcasts ⟨2, ![128, nk]⟩

/-- The lanes of the pair's first head, on 64 rows. -/
def lanes : IVec S64x128 1 :=
  broadcastTo S64x128 (shapeCast S1x128 (cmpi .slt (iota .tc S1x128 32 [1] iota_S1x128_d1_w32) (broadcast S1x128 64#32)) shapeCasts_S1x128_S1x128) broadcasts_S1x128_S64x128

/-- The queries over eight. -/
def scaled (q : FVec Ideal S1x64x128 .f32) : FVec Ideal S64x128 .f32 :=
  mulf (shapeCast S64x128 q shapeCasts_S1x64x128_S64x128) (broadcast S64x128 (Scalar.ofBits .f32 0x3E000000#32))

/-- The queries of the pair, scaled and stacked: the first head's on rows 0 to 63, the second's after them, each
    with zeros on the other's lanes. -/
def stackQ (q : FVec Ideal S1x64x128 .f32) : FVec Ideal S128x128 .f32 :=
  concatenate S128x128 0
    [⟨S64x128, select lanes (scaled q) (broadcast S64x128 (Scalar.ofBits .f32 0x00000000#32))⟩,
     ⟨S64x128, select lanes (broadcast S64x128 (Scalar.ofBits .f32 0x00000000#32)) (scaled q)⟩]
    concatenates_S64x128_S64x128_S128x128_d0

/-- The stacked scores over one part of the keys: the products plus the two heads' biases. -/
def scores {nk : ℕ} (H : Keys nk) (k : FVec Ideal ⟨3, ![1, nk, 128]⟩ .f32) (q : FVec Ideal S1x64x128 .f32)
    (b0 b1 : FVec Ideal ⟨3, ![1, 64, nk]⟩ .f32) : FVec Ideal ⟨2, ![128, nk]⟩ .f32 :=
  addf (matmul (DotDims.transposedRhs 128 128 nk) none (truncf .bf16 (stackQ q) bitsLt_bf16_f32)
      (truncf .bf16 (shapeCast ⟨2, ![nk, 128]⟩ k H.rows) bitsLt_bf16_f32) (constant ⟨2, ![128, nk]⟩ .f32 0x00000000#32))
    (concatenate ⟨2, ![128, nk]⟩ 0
      [⟨⟨2, ![64, nk]⟩, shapeCast ⟨2, ![64, nk]⟩ b0 H.bias⟩, ⟨⟨2, ![64, nk]⟩, shapeCast ⟨2, ![64, nk]⟩ b1 H.bias⟩] H.stack)

/-- Each row's largest score. -/
def rowTop {nk : ℕ} (H : Keys nk) (x : FVec Ideal ⟨2, ![128, nk]⟩ .f32) : FVec Ideal S128x1 .f32 :=
  shapeCast S128x1 (multiReduction .maximumf [1] S128 x 0xFF800000#32 H.red (.inl rfl) rfl) shapeCasts_S128_S128x1

/-- The exponentials of the scores less a number per row. -/
def weights {nk : ℕ} (H : Keys nk) (x : FVec Ideal ⟨2, ![128, nk]⟩ .f32) (M : FVec Ideal S128x1 .f32) : FVec Ideal ⟨2, ![128, nk]⟩ .f32 :=
  exp (subf x (broadcastTo ⟨2, ![128, nk]⟩ M H.wide))

/-- The weights' sums. -/
def den {nk : ℕ} (H : Keys nk) (w : FVec Ideal ⟨2, ![128, nk]⟩ .f32) : FVec Ideal S128x1 .f32 :=
  shapeCast S128x1 (multiReduction .add [1] S128 w 0x00000000#32 H.red (.inl rfl) rfl) shapeCasts_S128_S128x1

/-- The weighted values. -/
def num {nk : ℕ} (H : Keys nk) (w : FVec Ideal ⟨2, ![128, nk]⟩ .f32) (v : FVec Ideal ⟨3, ![1, nk, 128]⟩ .f32) : FVec Ideal S128x128 .f32 :=
  matmul (DotDims.plain 128 nk 128) none (truncf .bf16 w bitsLt_bf16_f32)
      (truncf .bf16 (shapeCast ⟨2, ![nk, 128]⟩ v H.rows) bitsLt_bf16_f32) (constant S128x128 .f32 0x00000000#32)

/-- The shapes of the cached part. -/
theorem keysC : Keys 512 := ⟨shapeCasts_S1x512x128_S512x128, shapeCasts_S1x64x512_S64x512, concatenates_S64x512_S64x512_S128x512_d0, reduces_S128x512_S128, broadcasts_S128x1_S128x512⟩
/-- The shapes of the new part. -/
theorem keysN : Keys 64 := ⟨shapeCasts_S1x64x128_S64x128, shapeCasts_S1x64x64_S64x64, concatenates_S64x64_S64x64_S128x64_d0, reduces_S128x64_S128, broadcasts_S128x1_S128x64⟩

/-- The stacked weighted values over their denominators. -/
def stackO (x : FVec Ideal S128x512 .f32) (y : FVec Ideal S128x64 .f32) (v : FVec Ideal S1x512x128 .f32) (w : FVec Ideal S1x64x128 .f32) :
    FVec Ideal S128x128 .f32 :=
  divf (addf (num keysC (weights keysC x (maximumf (rowTop keysC x) (rowTop keysN y))) v)
      (num keysN (weights keysN y (maximumf (rowTop keysC x) (rowTop keysN y))) w))
    (broadcastTo S128x128
      (addf (den keysC (weights keysC x (maximumf (rowTop keysC x) (rowTop keysN y))))
        (den keysN (weights keysN y (maximumf (rowTop keysC x) (rowTop keysN y)))))
      broadcasts_S128x1_S128x128)

/-- The pair's tile: each head's own lanes of its own rows. -/
def pairOut (k v : FVec Ideal S1x512x128 .f32) (k' v' q : FVec Ideal S1x64x128 .f32)
    (b0 b1 : FVec Ideal S1x64x512 .f32) (c0 c1 : FVec Ideal S1x64x64 .f32) : FVec Ideal S1x64x128 .bf16 :=
  shapeCast S1x64x128 (truncf .bf16 (select lanes
      (extractStridedSlice S64x128 ![0, 0] (stackO (scores keysC k q b0 b1) (scores keysN k' q c0 c1) v v') slices_S128x128_o0_0_S64x128)
      (extractStridedSlice S64x128 ![64, 0] (stackO (scores keysC k q b0 b1) (scores keysN k' q c0 c1) v v') slices_S128x128_o64_0_S64x128))
    bitsLt_bf16_f32) shapeCasts_S64x128_S1x64x128

/-- Whether a lane is the first head's. -/
theorem lanes_apply (r : Fin 64) (l : Fin 128) : lanes (ix2 r l) = if l.val < 64 then 1#1 else 0#1 := by
  unfold lanes
  rw [shapeCast_self]
  refine (broadcastTo_apply _ broadcasts_S1x128_S64x128 (ix2 r l) (ix2 (0 : Fin 1) l)
      (fun a => by match a with | ⟨0, _⟩ => rfl | ⟨1, _⟩ => rfl)).trans ?_
  show IntOp.cmpi .slt (iota .tc S1x128 32 [1] iota_S1x128_d1_w32 (ix2 (0 : Fin 1) l)) 64#32 = _
  rw [iota_single_apply]
  exact (by decide +kernel : ∀ l : Fin 128, IntOp.cmpi .slt (BitVec.ofNat 32 l.val) 64#32 = if l.val < 64 then 1#1 else 0#1) l

/-- The scaled queries at an index. -/
theorem scaled_apply (q : FVec Ideal S1x64x128 .f32) (r : Fin 64) (l : Fin 128) :
    scaled q (ix2 r l) = q (ix3 (0 : Fin 1) r l) * ((1 / 8 : ℝ) : EReal) := by
  show shapeCast S64x128 q shapeCasts_S1x64x128_S64x128 (ix2 r l) * Ideal.ofBits .f32 0x3E000000#32 = _
  rw [eighth]
  exact congrArg (· * ((1 / 8 : ℝ) : EReal)) (shapeCast_1ab_ab_apply q shapeCasts_S1x64x128_S64x128 r l)

/-- The stacked queries at row `64 s + r`: head `s`'s lanes of query `r` over eight, zero elsewhere. -/
theorem stackQ_apply (q : FVec Ideal S1x64x128 .f32) (s : Fin 2) (r : Fin 64) (l : Fin 128) (R : Fin 128)
    (hR : R.val = 64 * s.val + r.val) :
    stackQ q (ix2 R l) = if l.val / 64 = s.val then q (ix3 (0 : Fin 1) r l) * ((1 / 8 : ℝ) : EReal) else 0 := by
  have h0 : (broadcast S64x128 (Scalar.ofBits .f32 0x00000000#32) : FVec Ideal S64x128 .f32) (ix2 r l) = (0 : EReal) := Ideal.ofBits_zero_f32
  have hl : l.val < 128 := l.isLt
  unfold stackQ
  match s, hR with
  | ⟨0, _⟩, hR =>
    have hR : R.val = 64 * 0 + r.val := hR
    refine (concatenate_pair_apply_left _ _ _ concatenates_S64x128_S64x128_S128x128_d0 (ix2 R l) rfl (ix2 r l)
      (fun b => by match b with | ⟨0, _⟩ => show r.val = R.val; omega | ⟨1, _⟩ => rfl)).trans ?_
    rw [select_apply, lanes_apply, scaled_apply, h0]
    show _ = if l.val / 64 = 0 then _ else _
    by_cases hc : l.val < 64
    · rw [if_pos hc, if_pos (by omega)]; rfl
    · rw [if_neg hc, if_neg (by omega)]; rfl
  | ⟨1, _⟩, hR =>
    have hR : R.val = 64 * 1 + r.val := hR
    refine (concatenate_pair_apply_right _ _ _ concatenates_S64x128_S64x128_S128x128_d0 (ix2 R l) rfl rfl (ix2 r l)
      (fun b hb => by match b, hb with | ⟨0, _⟩, hb => exact absurd rfl hb | ⟨1, _⟩, _ => rfl)
      (by show r.val + 64 = R.val; omega)).trans ?_
    rw [select_apply, lanes_apply, scaled_apply, h0]
    show _ = if l.val / 64 = 1 then _ else _
    by_cases hc : l.val < 64
    · rw [if_pos hc, if_neg (by omega)]; rfl
    · rw [if_neg hc, if_pos (by omega)]; rfl

/-- A head's score of query `r` and key `j` of the pair, over one part of the keys. -/
def score {nk : ℕ} (k : FVec Ideal ⟨3, ![1, nk, 128]⟩ .f32) (q : FVec Ideal S1x64x128 .f32)
    (b0 b1 : FVec Ideal ⟨3, ![1, 64, nk]⟩ .f32) (s : Fin 2) (r : Fin 64) (j : Fin nk) : EReal :=
  (∑ d : Fin 64, q (ix3 (0 : Fin 1) r (⟨64 * s.val + d.val, by omega⟩ : Fin 128))
      * k (ix3 (0 : Fin 1) j (⟨64 * s.val + d.val, by omega⟩ : Fin 128))) * ((1 / 8 : ℝ) : EReal)
    + (if s.val = 0 then b0 (ix3 (0 : Fin 1) r j) else b1 (ix3 (0 : Fin 1) r j))

/-- The stacked scores at row `64 s + r`. -/
theorem scores_apply {nk : ℕ} (H : Keys nk) (k : FVec Ideal ⟨3, ![1, nk, 128]⟩ .f32) (q : FVec Ideal S1x64x128 .f32)
    (b0 b1 : FVec Ideal ⟨3, ![1, 64, nk]⟩ .f32) (s : Fin 2) (r : Fin 64) (R : Fin 128) (hR : R.val = 64 * s.val + r.val) (j : Fin nk) :
    scores H k q b0 b1 (ix2 R j) = score k q b0 b1 s r j := by
  unfold scores score
  rw [addf_apply]
  congr 1
  · refine (Ideal.matmul_transposedRhs_apply none _ _ _ R j).trans ?_
    rw [constant_apply, Ideal.ofBits_zero_f32, zero_add]
    refine Eq.trans (Finset.sum_congr (M := EReal) rfl fun l _ => ?_)
      (half_sum s (fun l => q (ix3 (0 : Fin 1) r l)) (fun l => k (ix3 (0 : Fin 1) j l)) (1 / 8) (by norm_num))
    rw [truncf_apply, truncf_apply, stackQ_apply q s r l R hR]
    exact congrArg (_ * ·) (shapeCast_1ab_ab_apply k H.rows j l)
  · match s, hR with
    | ⟨0, _⟩, hR =>
      have hR : R.val = 64 * 0 + r.val := hR
      refine (concatenate_pair_apply_left _ _ _ H.stack (ix2 R j) rfl (ix2 r j)
        (fun b => by match b with | ⟨0, _⟩ => show r.val = R.val; omega | ⟨1, _⟩ => rfl)).trans ?_
      exact shapeCast_1ab_ab_apply b0 H.bias r j
    | ⟨1, _⟩, hR =>
      have hR : R.val = 64 * 1 + r.val := hR
      refine (concatenate_pair_apply_right _ _ _ H.stack (ix2 R j) rfl rfl (ix2 r j)
        (fun b hb => by match b, hb with | ⟨0, _⟩, hb => exact absurd rfl hb | ⟨1, _⟩, _ => rfl)
        (by show r.val + 64 = R.val; omega)).trans ?_
      exact shapeCast_1ab_ab_apply b1 H.bias r j

/-- Row `R` of a reduction over the keys, with the key put back. -/
theorem lift_keys {nk : ℕ} (H : Keys nk) (R : Fin 128) (j : Fin nk) : H.red.lift (ix1 R) j = ix2 R j :=
  funext fun a => Fin.ext (by match a with | ⟨0, _⟩ => rfl | ⟨1, _⟩ => rfl)

/-- A row's largest score. -/
theorem rowTop_apply {nk : ℕ} (H : Keys nk) (x : FVec Ideal ⟨2, ![128, nk]⟩ .f32) (R : Fin 128) :
    rowTop H x (ix2 R (0 : Fin 1)) = top fun i => x (ix2 R i) := by
  unfold rowTop
  refine (shapeCast_a_a1_apply _ shapeCasts_S128_S128x1 R (0 : Fin 1)).trans ?_
  refine (Ideal.multiReduction_maximumf_single x _ H.red (.inl rfl) rfl (ix1 R)).trans ?_
  have hb : (FloatOps.ofBits FTy.f32 0xFF800000#32 : Ideal .f32) = (⊥ : EReal) := by
    show Ideal.ofBits .f32 0xFF800000#32 = ⊥
    simp [Ideal.ofBits, Ideal.ieee]
  show Finset.fold max (FloatOps.ofBits FTy.f32 0xFF800000#32 : Ideal .f32) _ _ = _
  rw [hb]
  unfold top
  congr 1
  exact funext fun i => congrArg x (lift_keys H R i)

/-- The exponentials read at an index. -/
theorem weights_apply {nk : ℕ} (H : Keys nk) (x : FVec Ideal ⟨2, ![128, nk]⟩ .f32) (M : FVec Ideal S128x1 .f32) (R : Fin 128) (j : Fin nk) :
    weights H x M (ix2 R j) = Ideal.exp (x (ix2 R j) - M (ix2 R (0 : Fin 1))) := by
  unfold weights
  show Ideal.exp (x (ix2 R j) - broadcastTo ⟨2, ![128, nk]⟩ M H.wide (ix2 R j)) = _
  rw [broadcastTo_apply _ H.wide (ix2 R j) (ix2 R (0 : Fin 1)) (fun a => by match a with | ⟨0, _⟩ => rfl | ⟨1, _⟩ => rfl)]

/-- The weights' sum of a row. -/
theorem den_apply {nk : ℕ} (H : Keys nk) (w : FVec Ideal ⟨2, ![128, nk]⟩ .f32) (R : Fin 128) :
    den H w (ix2 R (0 : Fin 1)) = ∑ j, (w (ix2 R j) : EReal) := by
  unfold den
  refine (shapeCast_a_a1_apply _ shapeCasts_S128_S128x1 R (0 : Fin 1)).trans ?_
  refine (Ideal.multiReduction_add_single _ _ H.red (.inl rfl) rfl (ix1 R)).trans ?_
  exact Finset.sum_congr (M := EReal) rfl fun j _ => congrArg w (lift_keys H R j)

/-- The weighted values at an index. -/
theorem num_apply {nk : ℕ} (H : Keys nk) (w : FVec Ideal ⟨2, ![128, nk]⟩ .f32) (v : FVec Ideal ⟨3, ![1, nk, 128]⟩ .f32) (R l : Fin 128) :
    num H w v (ix2 R l) = ∑ j, (w (ix2 R j) : EReal) * v (ix3 (0 : Fin 1) j l) := by
  unfold num
  refine (Ideal.matmul_plain_apply none _ _ _ R l).trans ?_
  rw [constant_apply, Ideal.ofBits_zero_f32, zero_add]
  refine Finset.sum_congr (M := EReal) rfl fun j _ => ?_
  rw [truncf_apply, truncf_apply]
  exact congrArg (_ * ·) (shapeCast_1ab_ab_apply v H.rows j l)

/-- The stacked output at an index: one softmax-weighted sum of the cached and the new values. -/
theorem stackO_apply (x : FVec Ideal S128x512 .f32) (y : FVec Ideal S128x64 .f32) (v : FVec Ideal S1x512x128 .f32) (w : FVec Ideal S1x64x128 .f32)
    (R l : Fin 128) :
    stackO x y v w (ix2 R l) = soft (join (fun j => x (ix2 R j)) (fun j => y (ix2 R j)))
      (join (fun j => v (ix3 (0 : Fin 1) j l)) (fun j => w (ix3 (0 : Fin 1) j l))) := by
  have hM : maximumf (rowTop keysC x) (rowTop keysN y) (ix2 R (0 : Fin 1)) = max (top fun j => x (ix2 R j)) (top fun j => y (ix2 R j)) :=
    congrArg₂ max (rowTop_apply keysC x R) (rowTop_apply keysN y R)
  rw [← soft_join]
  unfold stackO
  rw [divf_apply]
  refine congrArg₂ Ideal.div ?_ ?_
  · rw [addf_apply, num_apply, num_apply]
    simp only [weights_apply, hM]
  · refine (broadcastTo_apply _ broadcasts_S128x1_S128x128 (ix2 R l) (ix2 R (0 : Fin 1))
      (fun a => by match a with | ⟨0, _⟩ => rfl | ⟨1, _⟩ => rfl)).trans ?_
    rw [addf_apply, den_apply, den_apply]
    simp only [weights_apply, hM]

/-- The pair's tile at query `r`, lane `l` of head `s`. -/
theorem pairOut_apply (k v : FVec Ideal S1x512x128 .f32) (k' v' q : FVec Ideal S1x64x128 .f32)
    (b0 b1 : FVec Ideal S1x64x512 .f32) (c0 c1 : FVec Ideal S1x64x64 .f32) (u : Fin 1) (s : Fin 2) (r : Fin 64) (l : Fin 128) (hl : l.val / 64 = s.val) :
    pairOut k v k' v' q b0 b1 c0 c1 (ix3 u r l)
      = soft (join (score k q b0 b1 s r) (score k' q c0 c1 s r)) (join (fun j => v (ix3 (0 : Fin 1) j l)) (fun j => v' (ix3 (0 : Fin 1) j l))) := by
  unfold pairOut
  refine (shapeCast_ab_1ab_apply _ shapeCasts_S64x128_S1x64x128 u r l).trans ?_
  rw [truncf_apply, select_apply, lanes_apply]
  have hs : ∀ (o : ℕ) (hsl : S128x128.Slices ![o, 0] S64x128), o = 64 * s.val →
      extractStridedSlice S64x128 ![o, 0] (stackO (scores keysC k q b0 b1) (scores keysN k' q c0 c1) v v') hsl (ix2 r l)
        = soft (join (score k q b0 b1 s r) (score k' q c0 c1 s r)) (join (fun j => v (ix3 (0 : Fin 1) j l)) (fun j => v' (ix3 (0 : Fin 1) j l))) := by
    intro o hsl ho
    refine (extractStridedSlice_apply _ _ _ _ (ix2 (⟨64 * s.val + r.val, by omega⟩ : Fin 128) l) (fun a => ?_)).trans ?_
    · match a with
      | ⟨0, _⟩ => show 64 * s.val + r.val = o + r.val; omega
      | ⟨1, _⟩ => show l.val = 0 + l.val; omega
    · rw [stackO_apply]
      exact congrArg₂ (fun f g => soft (join f g) _) (funext fun j => scores_apply keysC k q b0 b1 s r _ rfl j)
        (funext fun j => scores_apply keysN k' q c0 c1 s r _ rfl j)
  by_cases hc : l.val < 64
  · rw [if_pos hc]
    exact hs 0 slices_S128x128_o0_0_S64x128 (by omega)
  · rw [if_neg hc]
    exact hs 64 slices_S128x128_o64_0_S64x128 (by omega)

end Cert.Attn.Step

end
-- ==== Proof.Attn.StepTile.lean ====
/- The tile that four streams' attention leaves, from its blocks: one softmax per query and head, over the stream's
   cached keys and its new ones. -/
module

public import proofs.«01_k».proof.Proof.Attn.StepPair
public import Idealize.ShloMosaic.Lib.Pipeline.ValueKit.Tiles

@[expose] public section

set_option maxRecDepth 16384

noncomputable section

namespace Cert.Attn.Step

open Idealize.ShloMosaic Idealize.ShloMosaic.TcCoe Idealize.SL.Sem Idealize.ShloMosaic.ValueIdx
open scoped BigOperators
open Cert.Kernel8Ideal Cert.Kernel8Ideal.Gen

/-- The score of query `r` and key `j` of stream `b`, for head `h`, over one part of the keys. -/
def tscore {nk : ℕ} (q : Vec Ideal S4x64x512 .f32) (k : Vec Ideal ⟨3, ![4, nk, 512]⟩ .f32) (bias : Vec Ideal ⟨3, ![8, 64, nk]⟩ .f32)
    (b : Fin 4) (h : Fin 8) (r : Fin 64) (j : Fin nk) : EReal :=
  (∑ d : Fin 64, q (ix3 b r (⟨64 * h.val + d.val, by omega⟩ : Fin 512)) * k (ix3 b j (⟨64 * h.val + d.val, by omega⟩ : Fin 512)))
    * ((1 / 8 : ℝ) : EReal) + bias (ix3 h r j)

variable (x0 x1 x2 : Vec Ideal S4x64x512 .f32) (x3 x4 : Vec Ideal S4x512x512 .f32) (x5 : Vec Ideal S8x64x512 .f32) (x6 : Vec Ideal S8x64x64 .f32)

/-- The tile at stream `b`, query `r`, column `n`. -/
def tileAt (b : Fin 4) (r : Fin 64) (n : Fin 512) : EReal :=
  soft (join (tscore x0 x3 x5 b (⟨n.val / 64, by omega⟩ : Fin 8) r) (tscore x0 x1 x6 b (⟨n.val / 64, by omega⟩ : Fin 8) r))
    (join (fun j => x4 (ix3 b j n)) (fun j => x2 (ix3 b j n)))

/-- The tile. -/
def tile : Vec Ideal S4x64x512 .bf16 :=
  fun i : S4x64x512.Idx => tileAt x0 x1 x2 x3 x4 x5 x6 ⟨(i 0).val, (i 0).isLt⟩ ⟨(i 1).val, (i 1).isLt⟩ ⟨(i 2).val, (i 2).isLt⟩

/-- A part of a rank three array, read at an index. -/
theorem part_apply {A B C a b c : ℕ} {e : EltTy} (X : Vec Ideal ⟨3, ![A, B, C]⟩ e) (off : Fin 3 → ℕ)
    (inb : ∀ x, off x + (![a, b, c] : Fin 3 → ℕ) x ≤ (⟨3, ![A, B, C]⟩ : Shape).size x)
    (p q s : ℕ) (hoff : off = ![p, q, s]) (i : Fin a) (j : Fin b) (k : Fin c) (i' : Fin A) (j' : Fin B) (k' : Fin C)
    (hi : i'.val = p + i.val) (hj : j'.val = q + j.val) (hk : k'.val = s + k.val) :
    View.ld X (Rect.unit (s := ⟨3, ![A, B, C]⟩) off ![a, b, c] inb) (ix3 i j k) = X (ix3 i' j' k') := by
  subst hoff
  exact View.ld_unit_apply_of X _ _ inb _ _ (fun x => by match x with | ⟨0, _⟩ => exact hi | ⟨1, _⟩ => exact hj | ⟨2, _⟩ => exact hk)

/-- The scores of a pair's head from operands that are parts of the blocks. -/
theorem score_eq {nk : ℕ} (k : FVec Ideal ⟨3, ![1, nk, 128]⟩ .f32) (q : FVec Ideal S1x64x128 .f32) (b0 b1 : FVec Ideal ⟨3, ![1, 64, nk]⟩ .f32)
    (y0 : Vec Ideal S4x64x512 .f32) (y1 : Vec Ideal ⟨3, ![4, nk, 512]⟩ .f32) (y3 : Vec Ideal ⟨3, ![8, 64, nk]⟩ .f32) (b : Fin 4) (p : Fin 4)
    (hk : ∀ (j : Fin nk) (l : Fin 128), k (ix3 (0 : Fin 1) j l) = y1 (ix3 b j (⟨128 * p.val + l.val, by omega⟩ : Fin 512)))
    (hq : ∀ (r : Fin 64) (l : Fin 128), q (ix3 (0 : Fin 1) r l) = y0 (ix3 b r (⟨128 * p.val + l.val, by omega⟩ : Fin 512)))
    (h0 : ∀ (r : Fin 64) (j : Fin nk), b0 (ix3 (0 : Fin 1) r j) = y3 (ix3 (⟨2 * p.val, by omega⟩ : Fin 8) r j))
    (h1 : ∀ (r : Fin 64) (j : Fin nk), b1 (ix3 (0 : Fin 1) r j) = y3 (ix3 (⟨2 * p.val + 1, by omega⟩ : Fin 8) r j))
    (r : Fin 64) (l : Fin 128) (j : Fin nk) :
    score k q b0 b1 (⟨l.val / 64, by omega⟩ : Fin 2) r j = tscore y0 y1 y3 b (⟨(128 * p.val + l.val) / 64, by omega⟩ : Fin 8) r j := by
  have hl : l.val < 128 := l.isLt
  unfold score tscore
  refine congrArg₂ (· + ·) (congrArg (· * ((1 / 8 : ℝ) : EReal)) (Finset.sum_congr (M := EReal) rfl fun d _ => ?_)) ?_
  · rw [hq, hk]
    have e : (⟨128 * p.val + (64 * (l.val / 64) + d.val), by omega⟩ : Fin 512) = ⟨64 * ((128 * p.val + l.val) / 64) + d.val, by omega⟩ :=
      Fin.ext (by show 128 * p.val + (64 * (l.val / 64) + d.val) = 64 * ((128 * p.val + l.val) / 64) + d.val; omega)
    exact congrArg₂ (· * ·) (congrArg (fun z => y0 (ix3 b r z)) e) (congrArg (fun z => y1 (ix3 b j z)) e)
  · show (if l.val / 64 = 0 then _ else _) = _
    by_cases hc : l.val / 64 = 0
    · rw [if_pos hc, h0]
      exact congrArg (fun z => y3 (ix3 z r j)) (Fin.ext (by show 2 * p.val = (128 * p.val + l.val) / 64; omega))
    · rw [if_neg hc, h1]
      exact congrArg (fun z => y3 (ix3 z r j)) (Fin.ext (by show 2 * p.val + 1 = (128 * p.val + l.val) / 64; omega))

/-- The tile of pair `p` of stream `b` is its columns `128 p ..` of the tile. -/
theorem piece (b p : Fin 4) (o o0 o1 : Fin 3 → ℕ) (ho : o = ![b.val, 0, 128 * p.val]) (h0 : o0 = ![2 * p.val, 0, 0]) (h1 : o1 = ![2 * p.val + 1, 0, 0])
    (ic : ∀ x, o x + S1x512x128.size x ≤ S4x512x512.size x) (iq : ∀ x, o x + S1x64x128.size x ≤ S4x64x512.size x)
    (i0 : ∀ x, o0 x + S1x64x512.size x ≤ S8x64x512.size x) (i1 : ∀ x, o1 x + S1x64x512.size x ≤ S8x64x512.size x)
    (j0 : ∀ x, o0 x + S1x64x64.size x ≤ S8x64x64.size x) (j1 : ∀ x, o1 x + S1x64x64.size x ≤ S8x64x64.size x) (x : S1x64x128.Idx) :
    pairOut (View.ld x3 (Rect.unit (s := S4x512x512) o S1x512x128.size ic)) (View.ld x4 (Rect.unit (s := S4x512x512) o S1x512x128.size ic))
        (View.ld x1 (Rect.unit (s := S4x64x512) o S1x64x128.size iq)) (View.ld x2 (Rect.unit (s := S4x64x512) o S1x64x128.size iq))
        (View.ld x0 (Rect.unit (s := S4x64x512) o S1x64x128.size iq))
        (View.ld x5 (Rect.unit (s := S8x64x512) o0 S1x64x512.size i0)) (View.ld x5 (Rect.unit (s := S8x64x512) o1 S1x64x512.size i1))
        (View.ld x6 (Rect.unit (s := S8x64x64) o0 S1x64x64.size j0)) (View.ld x6 (Rect.unit (s := S8x64x64) o1 S1x64x64.size j1)) x
      = tile x0 x1 x2 x3 x4 x5 x6 ((Rect.unit (s := S4x64x512) o S1x64x128.size iq).emb x) := by
  obtain ⟨u, r, l, rfl⟩ : ∃ (u : Fin 1) (r : Fin 64) (l : Fin 128), x = ix3 u r l := ⟨x 0, x 1, x 2, eq_ix3 x⟩
  have hu : u.val = 0 := by omega
  have hl : l.val < 128 := l.isLt
  have hp : p.val < 4 := p.isLt
  have e : (Rect.unit (s := S4x64x512) o S1x64x128.size iq).emb (ix3 u r l) = ix3 b r (⟨128 * p.val + l.val, by omega⟩ : Fin 512) := by
    subst ho
    refine funext fun a => Fin.ext ?_
    match a with
    | ⟨0, _⟩ => show b.val + 1 * u.val = b.val; omega
    | ⟨1, _⟩ => show 0 + 1 * r.val = r.val; omega
    | ⟨2, _⟩ => show 128 * p.val + 1 * l.val = 128 * p.val + l.val; omega
  rw [e, pairOut_apply _ _ _ _ _ _ _ _ _ u (⟨l.val / 64, by omega⟩ : Fin 2) r l rfl]
  show soft _ _ = tileAt x0 x1 x2 x3 x4 x5 x6 b r (⟨128 * p.val + l.val, by omega⟩ : Fin 512)
  unfold tileAt
  have hq : ∀ (Y : Vec Ideal S4x64x512 .f32) (r : Fin 64) (l : Fin 128),
      View.ld Y (Rect.unit (s := S4x64x512) o S1x64x128.size iq) (ix3 (0 : Fin 1) r l) = Y (ix3 b r (⟨128 * p.val + l.val, by omega⟩ : Fin 512)) := fun Y r l =>
    part_apply Y o iq b.val 0 (128 * p.val) ho (0 : Fin 1) r l _ _ _ rfl (Nat.zero_add _).symm rfl
  have hc : ∀ (Y : Vec Ideal S4x512x512 .f32) (j : Fin 512) (l : Fin 128),
      View.ld Y (Rect.unit (s := S4x512x512) o S1x512x128.size ic) (ix3 (0 : Fin 1) j l) = Y (ix3 b j (⟨128 * p.val + l.val, by omega⟩ : Fin 512)) := fun Y j l =>
    part_apply Y o ic b.val 0 (128 * p.val) ho (0 : Fin 1) j l _ _ _ rfl (Nat.zero_add _).symm rfl
  refine congrArg₂ soft (congrArg₂ join (funext fun j => ?_) (funext fun j => ?_)) (congrArg₂ join (funext fun j => hc x4 j l) (funext fun j => hq x2 j l))
  · refine score_eq _ _ _ _ x0 x3 x5 b p (hc x3) (hq x0) (fun r j => ?_) (fun r j => ?_) r l j
    · exact part_apply x5 o0 i0 (2 * p.val) 0 0 h0 (0 : Fin 1) r j _ _ _ rfl (Nat.zero_add _).symm (Nat.zero_add _).symm
    · exact part_apply x5 o1 i1 (2 * p.val + 1) 0 0 h1 (0 : Fin 1) r j _ _ _ rfl (Nat.zero_add _).symm (Nat.zero_add _).symm
  · refine score_eq _ _ _ _ x0 x1 x6 b p (hq x1) (hq x0) (fun r j => ?_) (fun r j => ?_) r l j
    · exact part_apply x6 o0 j0 (2 * p.val) 0 0 h0 (0 : Fin 1) r j _ _ _ rfl (Nat.zero_add _).symm (Nat.zero_add _).symm
    · exact part_apply x6 o1 j1 (2 * p.val + 1) 0 0 h1 (0 : Fin 1) r j _ _ _ rfl (Nat.zero_add _).symm (Nat.zero_add _).symm

/-- Pieces that are each a part of one array read back as that array where they cover it. -/
theorem canon_of_parts {s : Shape} {e : EltTy} (L : List (View.Piece (Elt Ideal) s e)) (G : Vec Ideal s e) (y : s.Idx)
    (hc : ∃ p ∈ L, y ∈ p.1.set) (h : ∀ p ∈ L, ∀ x, p.2 x = G (p.1.emb x)) : View.canon L y = G y :=
  View.canon_eq_of_allAt L y (G y) hc fun p hp x hx => (h p hp x).trans (congrArg G hx)

/-- **What a grid point leaves** is the tile. -/
theorem out_tile : out0_7 (F := Ideal) x0 x1 x2 x3 x4 x5 x6 = tile x0 x1 x2 x3 x4 x5 x6 := by
  have P := piece x0 x1 x2 x3 x4 x5 x6
  funext y
  unfold out0_7
  refine canon_of_parts _ (tile x0 x1 x2 x3 x4 x5 x6) y (cover0_7 _ _ _ _ _ _ _ _ _ _ _ _ _ _ _ _ y) ?_
  simp only [List.forall_mem_cons]
  refine ⟨fun x => ?_, fun x => ?_, fun x => ?_, fun x => ?_, fun x => ?_, fun x => ?_, fun x => ?_, fun x => ?_, fun x => ?_, fun x => ?_,
    fun x => ?_, fun x => ?_, fun x => ?_, fun x => ?_, fun x => ?_, fun x => ?_, fun p hp => absurd hp List.not_mem_nil⟩
  · exact P 3 3 ![3, 0, 384] ![6, 0, 0] ![7, 0, 0] rfl rfl rfl _ _ _ _ _ _ x
  · exact P 3 2 ![3, 0, 256] ![4, 0, 0] ![5, 0, 0] rfl rfl rfl _ _ _ _ _ _ x
  · exact P 3 1 ![3, 0, 128] ![2, 0, 0] ![3, 0, 0] rfl rfl rfl _ _ _ _ _ _ x
  · exact P 3 0 ![3, 0, 0] ![0, 0, 0] ![1, 0, 0] rfl rfl rfl _ _ _ _ _ _ x
  · exact P 2 3 ![2, 0, 384] ![6, 0, 0] ![7, 0, 0] rfl rfl rfl _ _ _ _ _ _ x
  · exact P 2 2 ![2, 0, 256] ![4, 0, 0] ![5, 0, 0] rfl rfl rfl _ _ _ _ _ _ x
  · exact P 2 1 ![2, 0, 128] ![2, 0, 0] ![3, 0, 0] rfl rfl rfl _ _ _ _ _ _ x
  · exact P 2 0 ![2, 0, 0] ![0, 0, 0] ![1, 0, 0] rfl rfl rfl _ _ _ _ _ _ x
  · exact P 1 3 ![1, 0, 384] ![6, 0, 0] ![7, 0, 0] rfl rfl rfl _ _ _ _ _ _ x
  · exact P 1 2 ![1, 0, 256] ![4, 0, 0] ![5, 0, 0] rfl rfl rfl _ _ _ _ _ _ x
  · exact P 1 1 ![1, 0, 128] ![2, 0, 0] ![3, 0, 0] rfl rfl rfl _ _ _ _ _ _ x
  · exact P 1 0 ![1, 0, 0] ![0, 0, 0] ![1, 0, 0] rfl rfl rfl _ _ _ _ _ _ x
  · exact P 0 3 ![0, 0, 384] ![6, 0, 0] ![7, 0, 0] rfl rfl rfl _ _ _ _ _ _ x
  · exact P 0 2 ![0, 0, 256] ![4, 0, 0] ![5, 0, 0] rfl rfl rfl _ _ _ _ _ _ x
  · exact P 0 1 ![0, 0, 128] ![2, 0, 0] ![3, 0, 0] rfl rfl rfl _ _ _ _ _ _ x
  · exact P 0 0 ![0, 0, 0] ![0, 0, 0] ![1, 0, 0] rfl rfl rfl _ _ _ _ _ _ x

end Cert.Attn.Step

end
-- ==== Proof.Attn.StepTable.lean ====
/- The two bias tables and the reshaped caches that the host prepares for the sample batch's attention. -/
module

public import proofs.«01_k».proof.Proof.Attn.TableRead
public import proofs.«01_k».proof.Proof.Gen.Kernel8Ideal.Value

@[expose] public section

set_option maxRecDepth 16384

noncomputable section

namespace Cert.Attn.Step

open Idealize.ShloMosaic Idealize.ShloMosaic.TcCoe Idealize.SL.Sem Idealize.ShloMosaic.ValueIdx
open scoped BigOperators
open Cert.Kernel8Ideal Cert.Kernel8Ideal.Gen

/-- The biases with the last one repeated 319 times after it. -/
def ext (y : FVec Ideal S8x513 .f32) : FVec Ideal S8x832 .f32 :=
  concatenate S8x832 1
    [⟨S8x0, shapeCast S8x0 (broadcastInDim S8x1x0 ![0, 1] bcast_S8x1_S8x1x0_0_1 (extractStridedSlice S8x1 ![0, 0] y slices_S8x513_S8x1_0_0)) shapeCasts_S8x1x0_S8x0⟩,
     ⟨S8x513, y⟩,
     ⟨S8x319, shapeCast S8x319 (broadcastInDim S8x1x319 ![0, 1] bcast_S8x1_S8x1x319_0_1 (extractStridedSlice S8x1 ![0, 512] y slices_S8x513_S8x1_0_512)) shapeCasts_S8x1x319_S8x319⟩]
    concatenates_S8x0_S8x513_S8x319_S8x832_d1

/-- The sheared table: the reversed biases laid out 64 times, one entry less per row. -/
def shear (e : FVec Ideal S8x832 .f32) : FVec Ideal S8x64x576 .f32 :=
  extractStridedSlice S8x64x576 ![0, 0, 0]
    (shapeCast S8x64x638
      (extractStridedSlice S8x40832 ![0, 63]
        (shapeCast S8x40896
          (broadcastInDim S1x8x64x639 ![0, 1, 2, 3] bcast_S1x8x1x639_S1x8x64x639_0_1_2_3
            (shapeCast S1x8x1x639 (Host.reverse [1] (extractStridedSlice S8x639 ![0, 193] e slices_S8x832_S8x639_0_193)) shapeCasts_S8x639_S1x8x1x639))
          shapeCasts_S1x8x64x639_S8x40896)
        slices_S8x40896_S8x40832_0_63)
      shapeCasts_S8x40832_S8x64x638)
    slices_S8x64x638_S8x64x576_0_0_0

/-- A cache by position and column. -/
def cache (x : Vec Ideal S1x32x512x8x64 .f32) : FVec Ideal S32x512x512 .f32 :=
  shapeCast S32x512x512 (shapeCast S32x512x8x64 x shapeCasts_S1x32x512x8x64_S32x512x8x64) shapeCasts_S32x512x8x64_S32x512x512

variable (m : (ℓ : Loc nD τ sig) → Buf (Elt Ideal) ℓ)

/-- The cached keys when the region is entered. -/
theorem V_k (c : Dev nD) : (V m c main_v1 : Vec Ideal S32x512x512 .f32) = cache (m ((c : Thread nD τ).loc main_arg1)) := by
  show StableHlo.after (List.flatten [hostOps0]) _ _ = _
  simp only [hostOps0, List.flatten_cons, List.flatten_nil, List.append_nil]
  after_results_simp
  rfl

/-- The cached values when the region is entered. -/
theorem V_v (c : Dev nD) : (V m c main_v3 : Vec Ideal S32x512x512 .f32) = cache (m ((c : Thread nD τ).loc main_arg2)) := by
  show StableHlo.after (List.flatten [hostOps0]) _ _ = _
  simp only [hostOps0, List.flatten_cons, List.flatten_nil, List.append_nil]
  after_results_simp
  rfl

set_option maxHeartbeats 2000000 in
/-- The cached keys' bias table when the region is entered. -/
theorem V_c (c : Dev nD) : (V m c main_v27 : Vec Ideal S8x64x512 .f32)
    = extractStridedSlice S8x64x512 ![0, 0, 0] (shear (ext (rows (m ((c : Thread nD τ).loc main_arg3))))) slices_S8x64x576_S8x64x512_0_0_0 := by
  show StableHlo.after (List.flatten [hostOps0]) _ _ = _
  simp only [hostOps0, List.flatten_cons, List.flatten_nil, List.append_nil]
  after_results_simp
  rfl

set_option maxHeartbeats 2000000 in
/-- The new keys' bias table when the region is entered. -/
theorem V_n (c : Dev nD) : (V m c main_v28 : Vec Ideal S8x64x64 .f32)
    = extractStridedSlice S8x64x64 ![0, 0, 512] (shear (ext (rows (m ((c : Thread nD τ).loc main_arg3))))) slices_S8x64x576_S8x64x64_0_0_512 := by
  show StableHlo.after (List.flatten [hostOps0]) _ _ = _
  simp only [hostOps0, List.flatten_cons, List.flatten_nil, List.append_nil]
  after_results_simp
  rfl

/-- A cache at an entry. -/
theorem cache_apply (x : Vec Ideal S1x32x512x8x64 .f32) (b : Fin 32) (j n : Fin 512) :
    cache x (ix3 b j n) = x (ix5 (0 : Fin 1) b j (⟨n.val / 64, by omega⟩ : Fin 8) (⟨n.val % 64, by omega⟩ : Fin 64)) := by
  unfold cache
  rw [shapeCast_apply _ _ _ (ix4 b j (⟨n.val / 64, by omega⟩ : Fin 8) (⟨n.val % 64, by omega⟩ : Fin 64)) (by
    rw [Shape.rowMajor_val_three, Shape.rowMajor_val_four]
    show ((b.val * 512 + j.val) * 8 + n.val / 64) * 64 + n.val % 64 = (b.val * 512 + j.val) * 512 + n.val; omega)]
  exact shapeCast_apply _ _ _ _ (by
    rw [Shape.rowMajor_val_four, Shape.rowMajor_val_five]
    show (((0 * 32 + b.val) * 512 + j.val) * 8 + n.val / 64) * 64 + n.val % 64 = ((b.val * 512 + j.val) * 8 + n.val / 64) * 64 + n.val % 64; omega)

/-- The lengthened biases: past the last, the last again. -/
theorem ext_apply (y : FVec Ideal S8x513 .f32) (h : Fin 8) (k : Fin 832) : ext y (ix2 h k) = y (ix2 h ⟨min k.val 512, by omega⟩) := by
  unfold ext
  by_cases hk : k.val < 513
  · rw [concatenate_apply_piece _ _ _ (ix2 h k) 1 (by show 1 < 3; omega) S8x513 y rfl rfl 0 rfl (ix2 h ⟨k.val, hk⟩)
      (fun b hb => by match b with | 0 => rfl | 1 => exact absurd rfl hb) (by show 0 + k.val = k.val; omega)]
    exact congrArg (fun z => y (ix2 h z)) (Fin.ext (show k.val = min k.val 512 by omega))
  · rw [concatenate_apply_piece _ _ _ (ix2 h k) 2 (by show 2 < 3; omega) S8x319 _ rfl rfl 513 rfl (ix2 h ⟨k.val - 513, by omega⟩)
      (fun b hb => by match b with | 0 => rfl | 1 => exact absurd rfl hb) (by show 513 + (k.val - 513) = k.val; omega)]
    rw [shapeCast_apply _ _ _ (ix3 h 0 ⟨k.val - 513, by omega⟩) (by
        rw [Shape.rowMajor_val_two, Shape.rowMajor_val_three]; show (h.val * 1 + 0) * 319 + (k.val - 513) = h.val * 319 + (k.val - 513); omega)]
    rw [broadcastInDim_apply _ _ _ _ (ix2 h 0) (fun a => by match a with | 0 => rfl | 1 => rfl)]
    rw [extractStridedSlice_apply _ _ _ _ (ix2 h ⟨512, by omega⟩) (fun a => by match a with | 0 => (show h.val = 0 + h.val; omega) | 1 => rfl)]
    exact congrArg (fun z => y (ix2 h z)) (Fin.ext (show 512 = min k.val 512 by omega))

/-- The sheared table at an entry: the lengthened bias of the distance. -/
theorem shear_apply (e : FVec Ideal S8x832 .f32) (h : Fin 8) (r : Fin 64) (j : Fin 576) :
    shear e (ix3 h r j) = e (ix2 h ⟨768 + r.val - j.val, by omega⟩) := by
  have hd : (r.val * 638 + j.val + 63) = r.val * 639 + (63 + j.val - r.val) := by omega
  unfold shear
  rw [extractStridedSlice_apply _ _ _ _ (ix3 h r (⟨j.val, by omega⟩ : Fin 638)) (fun a => by
    match a with
    | 0 => (show h.val = 0 + h.val; omega)
    | 1 => (show r.val = 0 + r.val; omega)
    | 2 => (show j.val = 0 + j.val; omega))]
  rw [shapeCast_apply _ _ _ (ix2 h (⟨r.val * 638 + j.val, by omega⟩ : Fin 40832)) (by
    rw [Shape.rowMajor_val_two, Shape.rowMajor_val_three]; show h.val * 40832 + (r.val * 638 + j.val) = (h.val * 64 + r.val) * 638 + j.val; omega)]
  rw [extractStridedSlice_apply _ _ _ _ (ix2 h (⟨r.val * 638 + j.val + 63, by omega⟩ : Fin 40896)) (fun a => by
    match a with
    | 0 => (show h.val = 0 + h.val; omega)
    | 1 => (show r.val * 638 + j.val + 63 = 63 + (r.val * 638 + j.val); omega))]
  rw [shapeCast_apply _ _ _ (ix4 0 h r (⟨63 + j.val - r.val, by omega⟩ : Fin 639)) (by
    rw [Shape.rowMajor_val_two, Shape.rowMajor_val_four]
    show ((0 * 8 + h.val) * 64 + r.val) * 639 + (63 + j.val - r.val) = h.val * 40896 + (r.val * 638 + j.val + 63); omega)]
  rw [broadcastInDim_apply _ _ _ _ (ix4 0 h 0 (⟨63 + j.val - r.val, by omega⟩ : Fin 639)) (fun a => by
    match a with | 0 => rfl | 1 => rfl | 2 => rfl | 3 => rfl)]
  rw [shapeCast_apply _ _ _ (ix2 h (⟨63 + j.val - r.val, by omega⟩ : Fin 639)) (by
    rw [Shape.rowMajor_val_two, Shape.rowMajor_val_four]
    show h.val * 639 + (63 + j.val - r.val) = ((0 * 8 + h.val) * 1 + 0) * 639 + (63 + j.val - r.val); omega)]
  show extractStridedSlice S8x639 ![0, 193] e slices_S8x832_S8x639_0_193 _ = _
  rw [extractStridedSlice_apply _ _ _ _ (ix2 h (⟨768 + r.val - j.val, by omega⟩ : Fin 832)) (fun a => by
    match a with
    | 0 => (show h.val = 0 + h.val; omega)
    | 1 => (show 768 + r.val - j.val = 193 + (639 - (63 + j.val - r.val + 1)); omega))]

/-- The table at an entry: the bias of the query's distance from the key, capped. -/
theorem table_apply (x : Vec Ideal S1x8x513 .f32) (h : Fin 8) (r : Fin 64) (j : Fin 576) :
    shear (ext (rows x)) (ix3 h r j) = x (ix3 0 h ⟨min (768 + r.val - j.val) 512, by omega⟩) :=
  (shear_apply _ h r j).trans ((ext_apply _ h _).trans (rows_apply x h _))

end Cert.Attn.Step

end
-- ==== Proof.Attn.StepArray.lean ====
/- The array that the sample batch's attention leaves, index by index, from the launch contents of its arguments. -/
module

public import proofs.«01_k».proof.Proof.Attn.StepTile
public import proofs.«01_k».proof.Proof.Attn.StepTable

@[expose] public section

set_option maxRecDepth 16384

noncomputable section

namespace Cert.Attn.Step

open Idealize.ShloMosaic Idealize.ShloMosaic.TcCoe Idealize.SL.Sem Idealize.ShloMosaic.ValueIdx
open scoped BigOperators
open Cert.Kernel8Ideal Cert.Kernel8Ideal.Gen

/-- The score of query `t` and key `j` of stream `b`, for head `h`: the cached keys come first. -/
def sc (X : Vec Ideal S32x64x1536 .f32) (ck : Vec Ideal S1x32x512x8x64 .f32) (rel : Vec Ideal S1x8x513 .f32)
    (b : Fin 32) (t : Fin 64) (h : Fin 8) : Fin 576 → EReal :=
  join (fun j => (∑ d : Fin 64, X (ix3 b t (⟨64 * h.val + d.val, by omega⟩ : Fin 1536)) * ck (ix5 (0 : Fin 1) b j h d)) * ((1 / 8 : ℝ) : EReal)
      + rel (ix3 (0 : Fin 1) h (⟨min (768 + t.val - j.val) 512, by omega⟩ : Fin 513)))
    (fun j => (∑ d : Fin 64, X (ix3 b t (⟨64 * h.val + d.val, by omega⟩ : Fin 1536)) * X (ix3 b j (⟨512 + (64 * h.val + d.val), by omega⟩ : Fin 1536))) * ((1 / 8 : ℝ) : EReal)
      + rel (ix3 (0 : Fin 1) h (⟨min (768 + t.val - (512 + j.val)) 512, by omega⟩ : Fin 513)))

/-- The value of key `j` of stream `b` in column `n`. -/
def vl (X : Vec Ideal S32x64x1536 .f32) (cv : Vec Ideal S1x32x512x8x64 .f32) (b : Fin 32) (n : Fin 512) : Fin 576 → EReal :=
  join (fun j => cv (ix5 (0 : Fin 1) b j (⟨n.val / 64, by omega⟩ : Fin 8) (⟨n.val % 64, by omega⟩ : Fin 64)))
    (fun j => X (ix3 b j (⟨1024 + n.val, by omega⟩ : Fin 1536)))

/-- The attention at stream `b`, position `t`, column `n`. -/
def attn (X : Vec Ideal S32x64x1536 .f32) (ck cv : Vec Ideal S1x32x512x8x64 .f32) (rel : Vec Ideal S1x8x513 .f32)
    (b : Fin 32) (t : Fin 64) (n : Fin 512) : EReal :=
  soft (sc X ck rel b t (⟨n.val / 64, by omega⟩ : Fin 8)) (vl X cv b n)

variable (m : (ℓ : Loc nD τ sig) → Buf (Elt Ideal) ℓ)

theorem lt_N (t : Fin cfg0.N) : t.val < 8 := lt_of_lt_of_eq t.isLt N_0

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 1 :=
  (by decide +kernel : ∀ t : Fin grid0.N, win0_1.index t 0 = t.val ∧ win0_1.index t 1 = 0 ∧ win0_1.index t 2 = 1)
theorem idx2 : ∀ t : Fin cfg0.N, win0_2.index t 0 = t.val ∧ win0_2.index t 1 = 0 ∧ win0_2.index t 2 = 2 :=
  (by decide +kernel : ∀ t : Fin grid0.N, win0_2.index t 0 = t.val ∧ win0_2.index t 1 = 0 ∧ win0_2.index t 2 = 2)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem idx5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem idx7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

/-- Stream `b` of point `t`. -/
def strm (t : Fin cfg0.N) (b : Fin 4) : Fin 32 := ⟨4 * t.val + b.val, by have := lt_N t; omega⟩

/-- The queries, keys and values at launch. -/
abbrev Za (c : Dev nD) : Vec Ideal S32x64x1536 .f32 := m ((c : Thread nD τ).loc main_arg0)
/-- The cached keys at launch. -/
abbrev Ck (c : Dev nD) : Vec Ideal S1x32x512x8x64 .f32 := m ((c : Thread nD τ).loc main_arg1)
/-- The cached values at launch. -/
abbrev Cv (c : Dev nD) : Vec Ideal S1x32x512x8x64 .f32 := m ((c : Thread nD τ).loc main_arg2)
/-- The relative-position biases at launch. -/
abbrev Rb (c : Dev nD) : Vec Ideal S1x8x513 .f32 := m ((c : Thread nD τ).loc main_arg3)

/-- The queries at point `t`. -/
theorem blk_q (c : Dev nD) (t : Fin cfg0.N) (b : Fin 4) (r : Fin 64) (n : Fin 512) :
    (iblk m c 0 t : Vec Ideal S4x64x512 .f32) (ix3 b r n) = Za m c (ix3 (strm t b) r (⟨n.val, by omega⟩ : Fin 1536)) := by
  refine Eq.trans ?_ (congrFun (V_main_arg0 m c) _)
  show V m c main_arg0 ((win0_0.rect t).emb (ix3 b r n)) = _
  refine congrArg _ (funext fun a => Fin.ext ?_)
  refine (Pipeline.Window.rect_emb_val win0_0 t (ix3 b r n) a rfl).trans ?_
  match a with
  | ⟨0, _⟩ => show win0_0.index t 0 * 4 + b.val = 4 * t.val + b.val; rw [(idx0 t).1]; omega
  | ⟨1, _⟩ => show win0_0.index t 1 * 64 + r.val = r.val; rw [(idx0 t).2.1]; omega
  | ⟨2, _⟩ => show win0_0.index t 2 * 512 + n.val = n.val; rw [(idx0 t).2.2]; omega

/-- The new keys at point `t`. -/
theorem blk_k (c : Dev nD) (t : Fin cfg0.N) (b : Fin 4) (j : Fin 64) (n : Fin 512) :
    (iblk m c 1 t : Vec Ideal S4x64x512 .f32) (ix3 b j n) = Za m c (ix3 (strm t b) j (⟨512 + n.val, by omega⟩ : Fin 1536)) := by
  refine Eq.trans ?_ (congrFun (V_main_arg0 m c) _)
  show V m c main_arg0 ((win0_1.rect t).emb (ix3 b j n)) = _
  refine congrArg _ (funext fun a => Fin.ext ?_)
  refine (Pipeline.Window.rect_emb_val win0_1 t (ix3 b j n) a rfl).trans ?_
  match a with
  | ⟨0, _⟩ => show win0_1.index t 0 * 4 + b.val = 4 * t.val + b.val; rw [(idx1 t).1]; omega
  | ⟨1, _⟩ => show win0_1.index t 1 * 64 + j.val = j.val; rw [(idx1 t).2.1]; omega
  | ⟨2, _⟩ => show win0_1.index t 2 * 512 + n.val = 512 + n.val; rw [(idx1 t).2.2]

/-- The new values at point `t`. -/
theorem blk_v (c : Dev nD) (t : Fin cfg0.N) (b : Fin 4) (j : Fin 64) (n : Fin 512) :
    (iblk m c 2 t : Vec Ideal S4x64x512 .f32) (ix3 b j n) = Za m c (ix3 (strm t b) j (⟨1024 + n.val, by omega⟩ : Fin 1536)) := by
  refine Eq.trans ?_ (congrFun (V_main_arg0 m c) _)
  show V m c main_arg0 ((win0_2.rect t).emb (ix3 b j n)) = _
  refine congrArg _ (funext fun a => Fin.ext ?_)
  refine (Pipeline.Window.rect_emb_val win0_2 t (ix3 b j n) a rfl).trans ?_
  match a with
  | ⟨0, _⟩ => show win0_2.index t 0 * 4 + b.val = 4 * t.val + b.val; rw [(idx2 t).1]; omega
  | ⟨1, _⟩ => show win0_2.index t 1 * 64 + j.val = j.val; rw [(idx2 t).2.1]; omega
  | ⟨2, _⟩ => show win0_2.index t 2 * 512 + n.val = 1024 + n.val; rw [(idx2 t).2.2]

/-- The cached keys at point `t`. -/
theorem blk_ck (c : Dev nD) (t : Fin cfg0.N) (b : Fin 4) (j n : Fin 512) :
    (iblk m c 3 t : Vec Ideal S4x512x512 .f32) (ix3 b j n) = cache (Ck m c) (ix3 (strm t b) j n) := by
  refine Eq.trans ?_ (congrFun (V_k m c) _)
  show V m c main_v1 ((win0_3.rect t).emb (ix3 b j n)) = _
  refine congrArg _ (funext fun a => Fin.ext ?_)
  refine (Pipeline.Window.rect_emb_val win0_3 t (ix3 b j n) a rfl).trans ?_
  match a with
  | ⟨0, _⟩ => show win0_3.index t 0 * 4 + b.val = 4 * t.val + b.val; rw [(idx3 t).1]; omega
  | ⟨1, _⟩ => show win0_3.index t 1 * 512 + j.val = j.val; rw [(idx3 t).2.1]; omega
  | ⟨2, _⟩ => show win0_3.index t 2 * 512 + n.val = n.val; rw [(idx3 t).2.2]; omega

/-- The cached values at point `t`. -/
theorem blk_cv (c : Dev nD) (t : Fin cfg0.N) (b : Fin 4) (j n : Fin 512) :
    (iblk m c 4 t : Vec Ideal S4x512x512 .f32) (ix3 b j n) = cache (Cv m c) (ix3 (strm t b) j n) := by
  refine Eq.trans ?_ (congrFun (V_v m c) _)
  show V m c main_v3 ((win0_4.rect t).emb (ix3 b j n)) = _
  refine congrArg _ (funext fun a => Fin.ext ?_)
  refine (Pipeline.Window.rect_emb_val win0_4 t (ix3 b j n) a rfl).trans ?_
  match a with
  | ⟨0, _⟩ => show win0_4.index t 0 * 4 + b.val = 4 * t.val + b.val; rw [(idx4 t).1]; omega
  | ⟨1, _⟩ => show win0_4.index t 1 * 512 + j.val = j.val; rw [(idx4 t).2.1]; omega
  | ⟨2, _⟩ => show win0_4.index t 2 * 512 + n.val = n.val; rw [(idx4 t).2.2]; omega

/-- The cached keys' biases at point `t`. -/
theorem blk_c (c : Dev nD) (t : Fin cfg0.N) (h : Fin 8) (r : Fin 64) (j : Fin 512) :
    (iblk m c 5 t : Vec Ideal S8x64x512 .f32) (ix3 h r j) = Rb m c (ix3 (0 : Fin 1) h (⟨min (768 + r.val - j.val) 512, by omega⟩ : Fin 513)) := by
  have e : (win0_5.rect t).emb (ix3 h r j) = (ix3 h r j : S8x64x512.Idx) := funext fun a => Fin.ext (by
    refine (Pipeline.Window.rect_emb_val win0_5 t (ix3 h r j) a rfl).trans ?_
    match a with
    | ⟨0, _⟩ => show win0_5.index t 0 * 8 + h.val = h.val; rw [(idx5 t).1]; omega
    | ⟨1, _⟩ => show win0_5.index t 1 * 64 + r.val = r.val; rw [(idx5 t).2.1]; omega
    | ⟨2, _⟩ => show win0_5.index t 2 * 512 + j.val = j.val; rw [(idx5 t).2.2]; omega)
  show V m c main_v27 ((win0_5.rect t).emb (ix3 h r j)) = _
  refine (congrArg _ e).trans ((congrFun (V_c m c) _).trans ?_)
  refine (extractStridedSlice_apply _ _ _ _ (ix3 h r (⟨j.val, by omega⟩ : Fin 576)) (fun a => by
    match a with
    | 0 => (show h.val = 0 + h.val; omega)
    | 1 => (show r.val = 0 + r.val; omega)
    | 2 => (show j.val = 0 + j.val; omega))).trans ?_
  exact table_apply _ _ _ _

/-- The new keys' biases at point `t`. -/
theorem blk_n (c : Dev nD) (t : Fin cfg0.N) (h : Fin 8) (r j : Fin 64) :
    (iblk m c 6 t : Vec Ideal S8x64x64 .f32) (ix3 h r j) = Rb m c (ix3 (0 : Fin 1) h (⟨min (768 + r.val - (512 + j.val)) 512, by omega⟩ : Fin 513)) := by
  have e : (win0_6.rect t).emb (ix3 h r j) = (ix3 h r j : S8x64x64.Idx) := funext fun a => Fin.ext (by
    refine (Pipeline.Window.rect_emb_val win0_6 t (ix3 h r j) a rfl).trans ?_
    match a with
    | ⟨0, _⟩ => show win0_6.index t 0 * 8 + h.val = h.val; rw [(idx6 t).1]; omega
    | ⟨1, _⟩ => show win0_6.index t 1 * 64 + r.val = r.val; rw [(idx6 t).2.1]; omega
    | ⟨2, _⟩ => show win0_6.index t 2 * 64 + j.val = j.val; rw [(idx6 t).2.2]; omega)
  show V m c main_v28 ((win0_6.rect t).emb (ix3 h r j)) = _
  refine (congrArg _ e).trans ((congrFun (V_n m c) _).trans ?_)
  refine (extractStridedSlice_apply _ _ _ _ (ix3 h r (⟨512 + j.val, by omega⟩ : Fin 576)) (fun a => by
    match a with
    | 0 => (show h.val = 0 + h.val; omega)
    | 1 => (show r.val = 0 + r.val; omega)
    | 2 => rfl)).trans ?_
  exact table_apply _ _ _ _

/-- A point's tile at an index is the attention there. -/
theorem tile_attn (c : Dev nD) (t : Fin cfg0.N) (b : Fin 4) (r : Fin 64) (n : Fin 512) :
    tileAt (iblk m c 0 t) (iblk m c 1 t) (iblk m c 2 t) (iblk m c 3 t) (iblk m c 4 t) (iblk m c 5 t) (iblk m c 6 t) b r n
      = attn (Za m c) (Ck m c) (Cv m c) (Rb m c) (strm t b) r n := by
  unfold tileAt attn sc vl
  refine congrArg₂ soft (congrArg₂ join (funext fun j => ?_) (funext fun j => ?_)) (congrArg₂ join (funext fun j => ?_) (funext fun j => blk_v m c t b j n))
  · refine congrArg₂ (fun x y : EReal => x * ((1 / 8 : ℝ) : EReal) + y) (Finset.sum_congr (M := EReal) rfl fun d _ => ?_) (blk_c m c t _ r j)
    refine congrArg₂ (fun x y : EReal => x * y) (blk_q m c t b r _) ((blk_ck m c t b j _).trans ((cache_apply _ _ _ _).trans ?_))
    have hd : d.val < 64 := d.isLt
    exact congrArg₂ (fun u v => Ck m c (ix5 (0 : Fin 1) (strm t b) j u v)) (Fin.ext (by show (64 * (n.val / 64) + d.val) / 64 = n.val / 64; omega))
      (Fin.ext (by show (64 * (n.val / 64) + d.val) % 64 = d.val; omega))
  · refine congrArg₂ (fun x y : EReal => x * ((1 / 8 : ℝ) : EReal) + y) (Finset.sum_congr (M := EReal) rfl fun d _ => ?_) (blk_n m c t _ r j)
    exact congrArg₂ (fun x y : EReal => x * y) (blk_q m c t b r _) (blk_k m c t b j _)
  · exact (blk_cv m c t b j n).trans (cache_apply _ _ _ _)

/-- The result: the attention at each index. -/
def Gat (c : Dev nD) : (⟨S32x64x512, .bf16⟩ : BufTy).Contents (Elt Ideal) :=
  fun i : S32x64x512.Idx => attn (Za m c) (Ck m c) (Cv m c) (Rb m c) ⟨(i 0).val, (i 0).isLt⟩ ⟨(i 1).val, (i 1).isLt⟩ ⟨(i 2).val, (i 2).isLt⟩

/-- What point `t` writes is its tile of the result. -/
theorem flushed_o (c : Dev nD) (t : Fin cfg0.N) :
    (dats m 0 c).flushed 7 t = ((cfg0.win 7).blk t).view.read (Elt Ideal) (Gat m c) := by
  refine (Value.flushed7 m c t).trans ?_
  rw [out_tile]
  refine funext fun (y : S4x64x512.Idx) => ?_
  obtain ⟨b, r, n, rfl⟩ : ∃ (b : Fin 4) (r : Fin 64) (n : Fin 512), y = ix3 b r n := ⟨y 0, y 1, y 2, eq_ix3 _⟩
  have e : (win0_7.rect t).emb (ix3 b r n) = (ix3 (strm t b) r n : S32x64x512.Idx) := funext fun a => Fin.ext (by
    refine (Pipeline.Window.rect_emb_val win0_7 t (ix3 b r n) a rfl).trans ?_
    match a with
    | ⟨0, _⟩ => show win0_7.index t 0 * 4 + b.val = 4 * t.val + b.val; rw [(idx7 t).1]; omega
    | ⟨1, _⟩ => show win0_7.index t 1 * 64 + r.val = r.val; rw [(idx7 t).2.1]; omega
    | ⟨2, _⟩ => show win0_7.index t 2 * 512 + n.val = n.val; rw [(idx7 t).2.2]; omega)
  refine Eq.trans ?_ (congrArg (Gat m c) e).symm
  exact tile_attn m c t b r n

/-- Every index of the result lies in a tile. -/
theorem cover_o (c : Dev nD) (i : S32x64x512.Idx) :
    ∃ t : Fin cfg0.N, (cfg0.win 7).flush t = true ∧ i ∈ ((cfg0.win 7).blk t).view.set := by
  have h0 : (i 0).val < 32 := (i 0).isLt
  have h1 : (i 1).val < 64 := (i 1).isLt
  have hN : (i 0).val / 4 < cfg0.N := by rw [show cfg0.N = 8 from N_0]; omega
  refine ⟨⟨(i 0).val / 4, hN⟩, flush0_7 _, ?_⟩
  generalize ht : (⟨(i 0).val / 4, hN⟩ : Fin cfg0.N) = t
  have ht' : t.val = (i 0).val / 4 := by rw [← ht]
  show i ∈ ((View.whole main_v29).slice (win0_7.rect t)).set
  rw [View.set_slice_whole, Rect.mem_set_unit]
  intro a
  match a with
  | ⟨0, _⟩ =>
    show win0_7.index t 0 * 4 ≤ (i 0).val ∧ (i 0).val < win0_7.index t 0 * 4 + 4
    rw [(idx7 t).1, ht']; omega
  | ⟨1, _⟩ =>
    show win0_7.index t 1 * 64 ≤ (i 1).val ∧ (i 1).val < win0_7.index t 1 * 64 + 64
    rw [(idx7 t).2.1]; omega
  | ⟨2, _⟩ =>
    have h2 : (i 2).val < 512 := (i 2).isLt
    show win0_7.index t 2 * 512 ≤ (i 2).val ∧ (i 2).val < win0_7.index t 2 * 512 + 512
    rw [(idx7 t).2.2]; omega

/-- The result after the run. -/
theorem arr_o (c : Dev nD) : (dats m 0 c).arrAt 7 cfg0.N = Gat m c :=
  (dats m 0 c).arrAt_eq_of_cover 7 (Gat m c) (fun t _ => flushed_o m c t) (cover_o c)

end Cert.Attn.Step

end
-- ==== Proof.Attn.StepRef.lean ====
/- The reference's result for the sample batch read at an index: the attention of StepArray, where the queries, the
   keys and the biases are finite. -/
module

public import proofs.«01_k».proof.Proof.Attn.StepArray
public import proofs.«01_k».proof.Proof.Attn.Ref
public import proofs.«01_k».proof.Proof.Gen.Reference8Ideal.Read

@[expose] public section

set_option maxRecDepth 16384

noncomputable section

namespace Cert.Attn.Step

open Idealize.ShloMosaic Idealize.ShloMosaic.TcCoe Idealize.SL.Sem Idealize.ShloMosaic.ValueIdx
open scoped BigOperators
open Cert.Reference8Ideal Cert.Reference8Ideal.Gen Cert.Reference8Ideal.Read

/-- The word looked up for query `t` and key `j` is the prompt's. -/
theorem word_eq (t : Fin 64) (j : Fin 576) : (val_main_v28 (F := Ideal) (ix3 t j (0 : Fin 1)) : BitVec 32)
    = Cert.Reference4Ideal.Read.val_main_v49 (F := Ideal) (ix3 t j (0 : Fin 1)) := by
  rw [word_apply]
  simp only [val_main_v28_apply, val_main_v27_apply, val_main_v26_apply, val_main_v25_apply, val_main_v24_apply, val_main_v23_apply, val_main_v22_apply,
    val_main_v21_apply, val_main_v20_apply, val_main_call0_v4_apply, val_main_call0_v3_apply, val_main_call0_v2_apply, val_main_call0_v1_apply,
    val_main_call0_v0_apply, val_main_v18_apply, val_main_v17_apply, val_main_v16_apply, val_main_v15_apply, val_main_v14_apply, val_main_v13_apply,
    val_main_v12_apply, val_main_v11_apply, val_main_v10_apply]
  rfl

/-- The bias of query `t` and key `j`. -/
theorem bias_apply (rel : Vec Ideal S1x8x513 .f32) (h : Fin 8) (t : Fin 64) (j : Fin 576) :
    val_main_v29 (F := Ideal) rel (ix3 h t j) = rel (ix3 (0 : Fin 1) h (⟨min (768 + t.val - j.val) 512, by omega⟩ : Fin 513)) := by
  refine (look_apply (val_main_v19 (F := Ideal) rel) (val_main_v28 (F := Ideal)) h t j).trans ?_
  refine (shapeCast_1ab_ab_apply rel _ _ _).trans ?_
  refine congrArg (fun k => rel (ix3 (0 : Fin 1) h k)) (Fin.ext ?_)
  show min (val_main_v28 (F := Ideal) (ix3 t j (0 : Fin 1)) : BitVec 32).toInt.toNat 512 = _
  rw [word_eq, word_val]
  show min (min (768 + t.val - j.val) 512) 512 = min (768 + t.val - j.val) 512
  omega

/-- A split array by heads, read at an index. -/
theorem heads_apply (y : FVec Ideal S32x64x512 .f32) (b : Fin 32) (t : Fin 64) (h : Fin 8) (d : Fin 64) :
    shapeCast S32x64x8x64 y shapeCasts_S32x64x512_S32x64x8x64 (ix4 b t h d) = y (ix3 b t (⟨64 * h.val + d.val, by omega⟩ : Fin 512)) :=
  shapeCast_apply _ _ _ _ (by
    rw [Shape.rowMajor_val_three, Shape.rowMajor_val_four]
    show (b.val * 64 + t.val) * 512 + (64 * h.val + d.val) = ((b.val * 64 + t.val) * 8 + h.val) * 64 + d.val
    omega)

/-- A part of the columns, by heads. -/
theorem cols_apply (X : Vec Ideal S32x64x1536 .f32) (o : ℕ) (ho : o + 512 ≤ 1536) (hs : S32x64x1536.Slices ![0, 0, o] S32x64x512)
    (b : Fin 32) (t : Fin 64) (h : Fin 8) (d : Fin 64) :
    shapeCast S32x64x8x64 (extractStridedSlice S32x64x512 ![0, 0, o] X hs) shapeCasts_S32x64x512_S32x64x8x64 (ix4 b t h d)
      = X (ix3 b t (⟨o + (64 * h.val + d.val), by omega⟩ : Fin 1536)) := by
  refine (heads_apply _ _ _ _ _).trans (extractStridedSlice_apply _ _ _ _ _ (fun a => ?_))
  match a with
  | 0 => show b.val = 0 + b.val; omega
  | 1 => show t.val = 0 + t.val; omega
  | 2 => rfl

/-- A cache with its leading one dropped. -/
theorem drop_apply (y : Vec Ideal S1x32x512x8x64 .f32) (b : Fin 32) (j : Fin 512) (h : Fin 8) (d : Fin 64) :
    shapeCast S32x512x8x64 y shapeCasts_S1x32x512x8x64_S32x512x8x64 (ix4 b j h d) = y (ix5 (0 : Fin 1) b j h d) :=
  shapeCast_apply _ _ _ _ (by
    rw [Shape.rowMajor_val_four, Shape.rowMajor_val_five]
    show (((0 * 32 + b.val) * 512 + j.val) * 8 + h.val) * 64 + d.val = ((b.val * 512 + j.val) * 8 + h.val) * 64 + d.val
    omega)

/-- A cache followed by the new rows, read at an index. -/
theorem cat_apply (y : FVec Ideal S32x512x8x64 .f32) (z : FVec Ideal S32x64x8x64 .f32) (b : Fin 32) (j : Fin 576) (h : Fin 8) (d : Fin 64) :
    concatenate S32x576x8x64 1 [⟨S32x512x8x64, y⟩, ⟨S32x64x8x64, z⟩] concatenates_S32x512x8x64_S32x64x8x64_S32x576x8x64_d1 (ix4 b j h d)
      = join (fun i => y (ix4 b i h d)) (fun i => z (ix4 b i h d)) j := by
  by_cases hj : j.val < 512
  · refine (concatenate_pair_apply_left _ _ _ concatenates_S32x512x8x64_S32x64x8x64_S32x576x8x64_d1 (ix4 b j h d) rfl (ix4 b ⟨j.val, hj⟩ h d)
      (fun a => by match a with | 0 => rfl | 1 => rfl | 2 => rfl | 3 => rfl)).trans ?_
    unfold join; rw [dif_pos hj]
  · refine (concatenate_pair_apply_right _ _ _ concatenates_S32x512x8x64_S32x64x8x64_S32x576x8x64_d1 (ix4 b j h d) rfl rfl (ix4 b ⟨j.val - 512, by omega⟩ h d)
      (fun a ha => by match a, ha with | 0, _ => rfl | 1, ha => exact absurd rfl ha | 2, _ => rfl | 3, _ => rfl)
      (by show j.val - 512 + 512 = j.val; omega)).trans ?_
    unfold join; rw [dif_neg hj]

/-- Two joined rows are equal where their parts are. -/
theorem join_of (f : Fin 576 → EReal) (a : Fin 512 → EReal) (b : Fin 64 → EReal) (ha : ∀ i : Fin 512, f ⟨i.val, by omega⟩ = a i)
    (hb : ∀ i : Fin 64, f ⟨512 + i.val, by omega⟩ = b i) (j : Fin 576) : f j = join a b j := by
  unfold join
  split
  · rename_i hj; exact ha ⟨j.val, hj⟩
  · rename_i hj
    exact (congrArg f (Fin.ext (by show j.val = 512 + (j.val - 512); omega))).trans (hb ⟨j.val - 512, by omega⟩)

variable (X : Vec Ideal S32x64x1536 .f32) (ck cv : Vec Ideal S1x32x512x8x64 .f32) (rel : Vec Ideal S1x8x513 .f32)

/-- A cached or new key at an index. -/
theorem key_apply (b : Fin 32) (j : Fin 576) (h : Fin 8) (d : Fin 64) :
    val_main_v7 (F := Ideal) X ck (ix4 b j h d)
      = join (fun i => ck (ix5 (0 : Fin 1) b i h d)) (fun i => X (ix3 b i (⟨512 + (64 * h.val + d.val), by omega⟩ : Fin 1536))) j :=
  (cat_apply _ _ b j h d).trans (congrArg₂ (fun f g => join f g j) (funext fun i => drop_apply ck b i h d)
    (funext fun i => cols_apply X 512 (by omega) _ b i h d))

/-- A cached or new value at an index. -/
theorem value_apply (b : Fin 32) (j : Fin 576) (n : Fin 512) :
    val_main_v9 (F := Ideal) X cv (ix4 b j (⟨n.val / 64, by omega⟩ : Fin 8) (⟨n.val % 64, by omega⟩ : Fin 64)) = vl X cv b n j :=
  (cat_apply _ _ b j _ _).trans (congrArg₂ (fun f g => join f g j) (funext fun i => drop_apply cv b i _ _)
    (funext fun i => (cols_apply X 1024 (by omega) _ b i _ _).trans
      (congrArg (fun z => X (ix3 b i z)) (Fin.ext (by show 1024 + (64 * (n.val / 64) + n.val % 64) = 1024 + n.val; omega)))))

/-- The reference's scores are the scores. -/
theorem score_apply (b : Fin 32) (h : Fin 8) (t : Fin 64) (j : Fin 576) :
    val_main_v35 (F := Ideal) X ck rel (ix4 b h t j) = sc X ck rel b t h j := by
  have e1 : ∀ j : Fin 576, val_main_v34 (F := Ideal) rel (ix4 b h t j) = rel (ix3 (0 : Fin 1) h (⟨min (768 + t.val - j.val) 512, by omega⟩ : Fin 513)) := fun j => by
    rw [val_main_v34_apply, val_main_v33_apply]
    exact (congrArg _ (eq_ix3 _)).trans (bias_apply rel h t j)
  have e2 : ∀ j : Fin 576, val_main_v31 (F := Ideal) (ix4 b h t j) = ((1 / 8 : ℝ) : EReal) := fun j => by
    rw [val_main_v31_apply, val_main_cst_apply]; exact eighth
  have e3 : ∀ j : Fin 576, val_main_v30 (F := Ideal) X ck (ix4 b h t j)
      = ∑ d : Fin 64, X (ix3 b t (⟨64 * h.val + d.val, by omega⟩ : Fin 1536))
        * join (fun i => ck (ix5 (0 : Fin 1) b i h d)) (fun i => X (ix3 b i (⟨512 + (64 * h.val + d.val), by omega⟩ : Fin 1536))) j := fun j => by
    rw [val_main_v30_apply]
    refine Finset.sum_congr (M := EReal) rfl fun d _ => ?_
    refine congrArg₂ (fun a b : EReal => a * b) ((congrArg _ (eq_ix4 (lidx_main_v30 (ix4 b h t j) d))).trans ((cols_apply X 0 (by omega) _ b t h d).trans ?_))
      ((congrArg _ (eq_ix4 (ridx_main_v30 (ix4 b h t j) d))).trans (key_apply X ck b j h d))
    exact congrArg (fun z => X (ix3 b t z)) (Fin.ext (by show 0 + (64 * h.val + d.val) = 64 * h.val + d.val; omega))
  have e : ∀ j : Fin 576, val_main_v35 (F := Ideal) X ck rel (ix4 b h t j)
      = (∑ d : Fin 64, X (ix3 b t (⟨64 * h.val + d.val, by omega⟩ : Fin 1536))
        * join (fun i => ck (ix5 (0 : Fin 1) b i h d)) (fun i => X (ix3 b i (⟨512 + (64 * h.val + d.val), by omega⟩ : Fin 1536))) j) * ((1 / 8 : ℝ) : EReal)
        + rel (ix3 (0 : Fin 1) h (⟨min (768 + t.val - j.val) 512, by omega⟩ : Fin 513)) := fun j => by
    rw [val_main_v35_apply]
    exact congrArg₂ (fun a b : EReal => a + b) (congrArg₂ (fun a b : EReal => a * b) (e3 j) (e2 j)) (e1 j)
  rw [e]
  unfold sc
  refine join_of (fun j => (∑ d : Fin 64, X (ix3 b t (⟨64 * h.val + d.val, by omega⟩ : Fin 1536))
        * join (fun i => ck (ix5 (0 : Fin 1) b i h d)) (fun i => X (ix3 b i (⟨512 + (64 * h.val + d.val), by omega⟩ : Fin 1536))) j) * ((1 / 8 : ℝ) : EReal)
        + rel (ix3 (0 : Fin 1) h (⟨min (768 + t.val - j.val) 512, by omega⟩ : Fin 513))) _ _ (fun i => ?_) (fun i => ?_) j
  · simp only [join_left]
  · simp only [join_right]

/-- A maximum over the last axis, from −∞. -/
theorem rowMax (y : FVec Ideal S32x8x64x576 .f32) (b : Fin 32) (h : Fin 8) (t : Fin 64) :
    Host.reduce FloatOps.maximumf y (val_main_cst_5 (F := Ideal)) reducesTo_S32x8x64x576_S32x8x64_d3 h_S_ (ix3 b h t)
      = top (fun j : Fin 576 => y (ix4 b h t j)) := by
  have hR : S32x8x64x576.Reduces [3] S32x8x64 := by decide
  rw [Host.reduce_eq_fold_single FloatOps.maximumf _ _ reducesTo_S32x8x64x576_S32x8x64_d3 hR h_S_]
  have e0 : val_main_cst_5 (F := Ideal) (Shape.Idx.first h_S_) = (⊥ : EReal) := ninf
  have e1 : y ∘ hR.lift (ix3 b h t) = fun j : Fin 576 => y (ix4 b h t j) := funext fun j => congrArg y (by
    funext a
    refine Fin.ext ?_
    match a with
    | 0 => rfl
    | 1 => rfl
    | 2 => rfl
    | 3 => rfl)
  rw [e0, e1]
  rfl

/-- The row maxima. -/
theorem max_apply (b : Fin 32) (h : Fin 8) (t : Fin 64) : val_main_v38 (F := Ideal) X ck rel (ix3 b h t) = top (sc X ck rel b t h) := by
  have e : val_main_v36 (F := Ideal) X ck rel (ix3 b h t) = top (sc X ck rel b t h) :=
    (rowMax (val_main_v35 (F := Ideal) X ck rel) b h t).trans (congrArg (fun f : Fin 576 → EReal => top f) (funext fun j => score_apply X ck rel b h t j))
  rw [val_main_v38_apply, e, val_main_v37_apply, val_main_cst_6_apply]
  show max (Ideal.ofBits .f32 0xFF800000#32) _ = _
  rw [ninf]
  exact max_eq_right bot_le

/-- The exponentials of the scores less their maximum. -/
theorem exp_apply (b : Fin 32) (h : Fin 8) (t : Fin 64) (j : Fin 576) :
    val_main_v42 (F := Ideal) X ck rel (ix4 b h t j) = Ideal.exp (sc X ck rel b t h j - top (sc X ck rel b t h)) := by
  rw [val_main_v42_apply, val_main_v41_apply, score_apply, val_main_v40_apply, val_main_v39_apply]
  exact congrArg (fun M : EReal => Ideal.exp (sc X ck rel b t h j - M)) ((congrArg _ (eq_ix3 _)).trans (max_apply X ck rel b h t))

/-- The weights. -/
theorem weight_apply (b : Fin 32) (h : Fin 8) (t : Fin 64) (j : Fin 576) :
    val_main_v46 (F := Ideal) X ck rel (ix4 b h t j) = Ideal.div (Ideal.exp (sc X ck rel b t h j - top (sc X ck rel b t h)))
      (∑ i, Ideal.exp (sc X ck rel b t h i - top (sc X ck rel b t h))) := by
  have e : val_main_v45 (F := Ideal) X ck rel (ix4 b h t j) = ∑ i, Ideal.exp (sc X ck rel b t h i - top (sc X ck rel b t h)) := by
    rw [val_main_v45_apply, val_main_v44_apply, val_main_v43_apply, val_main_cst_7_apply]
    show Ideal.ofBits .f32 0x00000000#32 + _ = _
    rw [Ideal.ofBits_zero_f32, zero_add]
    exact Finset.sum_congr (M := EReal) rfl fun i _ => (congrArg _ (eq_ix4 _)).trans (exp_apply X ck rel b h t i)
  rw [val_main_v46_apply, exp_apply, e]
  rfl

variable {X ck rel}

/-- A score is a real where queries, keys and biases are. -/
theorem sc_real (hX : ∀ (b : Fin 32) (t : Fin 64) (c : Fin 1536), c.val < 1024 → ∃ r : ℝ, X (ix3 b t c) = (r : EReal))
    (hk : ∀ (b : Fin 32) (j : Fin 512) (h : Fin 8) (d : Fin 64), ∃ r : ℝ, ck (ix5 (0 : Fin 1) b j h d) = (r : EReal))
    (hr : ∀ (h : Fin 8) (k : Fin 513), ∃ r : ℝ, rel (ix3 (0 : Fin 1) h k) = (r : EReal))
    (b : Fin 32) (t : Fin 64) (h : Fin 8) (j : Fin 576) : ∃ r : ℝ, sc X ck rel b t h j = (r : EReal) := by
  have add : ∀ {x y : EReal}, (∃ r : ℝ, x = r) → (∃ r : ℝ, y = r) → ∃ r : ℝ, x + y = r := by
    rintro x y ⟨u, rfl⟩ ⟨v, rfl⟩
    exact ⟨u + v, (EReal.coe_add u v).symm⟩
  have hq : ∀ d : Fin 64, ∃ r : ℝ, X (ix3 b t (⟨64 * h.val + d.val, by omega⟩ : Fin 1536)) = (r : EReal) := fun d =>
    hX b t _ (by show 64 * h.val + d.val < 1024; omega)
  unfold sc join
  split
  · exact add (real_mul (real_sum _ fun d => real_mul (hq d) (hk _ _ _ _)) ⟨1 / 8, rfl⟩) (hr _ _)
  · exact add (real_mul (real_sum _ fun d => real_mul (hq d) (hX _ _ _ (by show 512 + (64 * h.val + d.val) < 1024; omega))) ⟨1 / 8, rfl⟩) (hr _ _)

/-- The reference's result at stream `b`, position `t`, column `n`. -/
theorem ref_attn (hX : ∀ (b : Fin 32) (t : Fin 64) (c : Fin 1536), c.val < 1024 → ∃ r : ℝ, X (ix3 b t c) = (r : EReal))
    (hk : ∀ (b : Fin 32) (j : Fin 512) (h : Fin 8) (d : Fin 64), ∃ r : ℝ, ck (ix5 (0 : Fin 1) b j h d) = (r : EReal))
    (hr : ∀ (h : Fin 8) (k : Fin 513), ∃ r : ℝ, rel (ix3 (0 : Fin 1) h k) = (r : EReal))
    (b : Fin 32) (t : Fin 64) (n : Fin 512) : val_main_v50 (F := Ideal) X ck cv rel (ix3 b t n) = attn X ck cv rel b t n := by
  have e : val_main_v49 (F := Ideal) X ck cv rel (ix3 b t n)
      = val_main_v48 (F := Ideal) X ck cv rel (ix4 b t (⟨n.val / 64, by omega⟩ : Fin 8) (⟨n.val % 64, by omega⟩ : Fin 64)) :=
    shapeCast_apply _ _ _ _ (by
      rw [Shape.rowMajor_val_three, Shape.rowMajor_val_four]
      show ((b.val * 64 + t.val) * 8 + n.val / 64) * 64 + n.val % 64 = (b.val * 64 + t.val) * 512 + n.val
      omega)
  rw [val_main_v50_apply]
  show val_main_v49 (F := Ideal) X ck cv rel (ix3 b t n) = _
  rw [e, val_main_v48_apply, val_main_v47_apply]
  refine (Finset.sum_congr (M := EReal) rfl fun j _ => (mul_comm _ _).trans (congrArg₂ (fun a b : EReal => a * b)
    ((congrArg _ (eq_ix4 _)).trans (weight_apply X ck rel b (⟨n.val / 64, by omega⟩ : Fin 8) t j))
    ((congrArg _ (eq_ix4 _)).trans (value_apply X cv b j n)))).trans ?_
  refine sum_div_mul _ _ (fun j => ?_) ⟨⟨0, by omega⟩, ?_⟩
  · obtain ⟨r, h⟩ := sc_real hX hk hr b t (⟨n.val / 64, by omega⟩ : Fin 8) j
    rw [h]; exact EReal.coe_ne_top r
  · obtain ⟨r, h⟩ := sc_real hX hk hr b t (⟨n.val / 64, by omega⟩ : Fin 8) ⟨0, by omega⟩
    rw [h]; exact EReal.coe_ne_bot r

end Cert.Attn.Step

end
-- ==== Proof.Attn.StepClaims.lean ====
/- The claims about the attention of the sample batch. -/
module

public import proofs.«01_k».proof.Defs
public import proofs.«01_k».proof.Proof.Gen.Kernel8.Frame
public import proofs.«01_k».proof.Proof.Attn.StepRef
public import proofs.«01_k».proof.Proof.Attn.Claims

@[expose] public section

set_option maxRecDepth 16384

noncomputable section

namespace Cert.Attn.Step

open Idealize.ShloMosaic Idealize.ShloMosaic.TcCoe Idealize.SL.Sem Idealize.ShloMosaic.ValueIdx
open scoped BigOperators

/-- The shape relations of the precondition. -/
theorem facts_finite : Cert.Pre_finite8.Facts :=
  ⟨by decide, by decide, by decide, by decide, by decide, by decide, by decide, by decide⟩

/-- The kernel runs, keeps its arguments and leaves no semaphore raised. -/
theorem frame_kernel : Cert.quiescent_Kernel8 := fun m ρ _ => Cert.Kernel8.Gen.frame m ρ

/-- The same of its reading over the extended reals. -/
theorem frame_kernelIdeal : Cert.quiescent_Kernel8Ideal := fun m ρ _ => Cert.Kernel8Ideal.Gen.frame m ρ

/-- The same under the precondition, which it does not need. -/
theorem frame_kernelIdeal_finite : Cert.quiescent_Kernel8Ideal_pre_finite8 (hPre_finite8 := facts_finite) :=
  fun m ρ _ => Cert.Kernel8Ideal.Gen.frame m ρ

/-- The same of the reference. -/
theorem frame_referenceIdeal : Cert.quiescent_Reference8Ideal := fun m ρ _ =>
  (θ_run _ _ _).mono (fun r h => ⟨fun c => (h c).2, Idealize.ShloMosaic.sem_eq_zero_of_no_sems (by decide) r.2⟩)
    (Cert.Reference8Ideal.Value.run (F := Ideal) m ρ)

/-- The same of the reference under the precondition. -/
theorem frame_referenceIdeal_finite : Cert.quiescent_Reference8Ideal_pre_finite8 (hPre_finite8 := facts_finite) := fun m ρ _ =>
  frame_referenceIdeal m ρ trivial

/-- The precondition says that queries, keys, cached keys and biases are reals. -/
theorem finite_of_pre (X : Vec Ideal Cert.Kernel8Ideal.S32x64x1536 .f32) (ck cv : Vec Ideal Cert.Kernel8Ideal.S1x32x512x8x64 .f32)
    (rel : Vec Ideal Cert.Kernel8Ideal.S1x8x513 .f32)
    (h : (haveI := facts_finite; Cert.Pre_finite8.fn (F := Ideal) X ck cv rel) = fun _ => 1#1) :
    (∀ (b : Fin 32) (t : Fin 64) (k : Fin 1536), k.val < 1024 → ∃ r : ℝ, X (ix3 b t k) = (r : EReal))
      ∧ (∀ (b : Fin 32) (j : Fin 512) (u : Fin 8) (d : Fin 64), ∃ r : ℝ, ck (ix5 (0 : Fin 1) b j u d) = (r : EReal))
      ∧ ∀ (u : Fin 8) (k : Fin 513), ∃ r : ℝ, rel (ix3 (0 : Fin 1) u k) = (r : EReal) := by
  haveI : Subsingleton (Cert.Pre_finite8.S_.Idx) := ⟨fun a b => funext fun k => k.elim0⟩
  have h0 := congrFun h (fun a : Fin 0 => a.elim0)
  obtain ⟨hac, hb⟩ := both_one _ _ h0
  obtain ⟨ha, hc⟩ := both_one _ _ hac
  refine ⟨fun b t k hk => ?_, fun b j u d => ?_, fun u k => ?_⟩
  · have e := Host.reduce_andi_all _ _ _ _ _ ha (ix3 b t (⟨k.val, hk⟩ : Fin 1024))
    have ex : extractStridedSlice Cert.Pre_finite8.S32x64x1024 ![0, 0, 0] X facts_finite.slices_S32x64x1536_S32x64x1024_0_0_0 (ix3 b t (⟨k.val, hk⟩ : Fin 1024))
        = X (ix3 b t k) := extractStridedSlice_apply _ _ _ _ _ (fun a => by
      match a with
      | 0 => (show b.val = 0 + b.val; omega)
      | 1 => (show t.val = 0 + t.val; omega)
      | 2 => (show k.val = 0 + k.val; omega))
    obtain ⟨r, hr⟩ := real_of_below _ e
    exact ⟨r, ex.symm.trans hr⟩
  · exact real_of_below _ (Host.reduce_andi_all _ _ _ _ _ hc (ix5 (0 : Fin 1) b j u d))
  · exact real_of_below _ (Host.reduce_andi_all _ _ _ _ _ hb (ix3 (0 : Fin 1) u k))

open Cert.Kernel8Ideal Cert.Kernel8Ideal.Gen in
/-- Over the extended reals the kernel's result is the reference's, where queries, keys, cached keys and biases are finite. -/
theorem algebraic : Cert.algebraic_Kernel8Ideal_Reference8Ideal_pre_finite8 (hPre_finite8 := facts_finite) := by
  intro m g m' g' hpre hm
  refine ⟨Gat m, (θ_run _ _ _).mono (fun r h c => ?_) (Cert.Kernel8Ideal.Value.run_blocks m g),
    (θ_run _ _ _).mono (fun r h c => ?_) (Cert.Reference8Ideal.Value.run (F := Ideal) m' g')⟩
  · exact ⟨(h c).1.trans (arr_o m c), (h c).2⟩
  · obtain ⟨h0, ha⟩ := h c
    obtain ⟨e0, e1, e2, e3⟩ := hm c
    obtain ⟨hX, hk, hr⟩ := finite_of_pre _ _ _ _ (hpre c)
    refine ⟨h0.trans ?_, ha⟩
    rw [Cert.Reference8Ideal.Read.val_main_v50_eq, e0, e1, e2, e3]
    refine funext fun (i : Cert.Reference8Ideal.S32x64x512.Idx) => ?_
    exact (congrArg _ (eq_ix3 _)).trans (ref_attn _ hX hk hr ⟨(i 0).val, (i 0).isLt⟩ ⟨(i 1).val, (i 1).isLt⟩ ⟨(i 2).val, (i 2).isLt⟩)

end Cert.Attn.Step

end
-- ==== Proof.Hgrn.Block.lean ====
/- One head of the recurrence's chunk: its gate, its cumulative logarithms and its new state, from the blocks
   of a grid point. -/
module

public import proofs.«01_k».proof.Proof.Gen.Kernel5Ideal.Value
public import Idealize.ShloMosaic.Lib.Writes
public import Idealize.ShloMosaic.Lib.MatmulPlain
public import Idealize.ShloMosaic.Lib.IdealHost
public import Idealize.ShloMosaic.Lib.ValueLayout
public import Idealize.ShloMosaic.Lib.ValueLayoutCasts

@[expose] public section

set_option maxRecDepth 16384

noncomputable section

namespace Cert.Hgrn

open Idealize.ShloMosaic Idealize.ShloMosaic.TcCoe Idealize.SL.Sem Idealize.ShloMosaic.ValueIdx
open scoped BigOperators
open Cert.Kernel5Ideal Cert.Kernel5Ideal.Gen

/-- The forget gate from its lower bound and its column. -/
def gate (l x : EReal) : EReal := l + (1 - l) * Ideal.logistic x

/-- The gates' logarithms added up to row `t`. -/
def cumLog (l : EReal) (x : Fin 64 → EReal) (t : Fin 64) : EReal :=
  ∑ s : Fin 64, if s.val ≤ t.val then Ideal.log (gate l (x s)) else 0

/-- An entry of the new state: the old one decayed over the chunk, plus the chunk's values weighted by their keys. -/
def newState (l : EReal) (x v : Fin 64 → EReal) (s0 : EReal) : EReal :=
  s0 * Ideal.exp (cumLog l x 63) + ∑ s : Fin 64, v s * ((1 - gate l (x s)) * Ideal.exp (cumLog l x 63 - cumLog l x s))

/-- A value that is not +∞, plus what is left after it is subtracted from itself, twice, is that value. -/
theorem three_parts (x : EReal) (h : x ≠ ⊤) : x + ((x - x) + ((x - x) - (x - x))) = x := by
  induction x with
  | bot => rfl
  | coe r => rw [← EReal.coe_sub, ← EReal.coe_sub, ← EReal.coe_add, ← EReal.coe_add]; exact congrArg _ (by ring)
  | top => exact absurd rfl h

/-- The mask of the rows up to `t` on the three stacked parts. -/
theorem mask_apply (t : Fin 64) (j : Fin 192) :
    cmpi .sle (andi (iota .tc S64x192 32 [1] iota_S64x192_d1_w32) (broadcast S64x192 63#32)) (iota .tc S64x192 32 [0] iota_S64x192_d0_w32) (ix2 t j)
      = if j.val % 64 ≤ t.val then 1#1 else 0#1 := by
  show IntOp.cmpi .sle (IntOp.andi (iota .tc S64x192 32 [1] iota_S64x192_d1_w32 (ix2 t j)) 63#32) (iota .tc S64x192 32 [0] iota_S64x192_d0_w32 (ix2 t j)) = _
  rw [iota_single_apply, iota_single_apply]
  have e : IntOp.andi (BitVec.ofNat 32 j.val) 63#32 = BitVec.ofNat 32 (j.val % 64) :=
    (by decide +kernel : ∀ j : Fin 192, IntOp.andi (BitVec.ofNat 32 j.val) 63#32 = BitVec.ofNat 32 (j.val % 64)) j
  show IntOp.cmpi .sle (IntOp.andi (BitVec.ofNat 32 j.val) 63#32) (BitVec.ofNat 32 t.val) = _
  rw [e]
  exact (by decide +kernel : ∀ (s t : Fin 64), IntOp.cmpi .sle (BitVec.ofNat 32 s.val) (BitVec.ofNat 32 t.val) = if s.val ≤ t.val then 1#1 else 0#1)
    ⟨j.val % 64, Nat.mod_lt _ (by omega)⟩ t

/-- The mask as a factor. -/
def tri : FVec Ideal S64x192 .bf16 :=
  truncf .bf16 (select (cmpi .sle (andi (iota .tc S64x192 32 [1] iota_S64x192_d1_w32) (broadcast S64x192 63#32)) (iota .tc S64x192 32 [0] iota_S64x192_d0_w32))
    (broadcast S64x192 (Scalar.ofBits .f32 0x3F800000#32)) (broadcast S64x192 (Scalar.ofBits .f32 0x00000000#32))) bitsLt_bf16_f32

theorem tri_apply (t : Fin 64) (j : Fin 192) : (tri (ix2 t j) : EReal) = if j.val % 64 ≤ t.val then 1 else 0 := by
  unfold tri
  rw [truncf_apply, select_apply, mask_apply]
  have h0 : (broadcast S64x192 (Scalar.ofBits .f32 0x00000000#32) : FVec Ideal S64x192 .f32) (ix2 t j) = (0 : EReal) := Ideal.ofBits_zero_f32
  have h1 : (broadcast S64x192 (Scalar.ofBits .f32 0x3F800000#32) : FVec Ideal S64x192 .f32) (ix2 t j) = (1 : EReal) := Ideal.ofBits_one_f32
  rw [h0, h1]
  by_cases hc : j.val % 64 ≤ t.val
  · rw [if_pos hc, if_pos hc]; rfl
  · rw [if_neg hc, if_neg hc]; rfl

/-- The rows in three parts, stacked. -/
def parts (y : FVec Ideal S64x512 .f32) : FVec Ideal S192x512 .bf16 :=
  concatenate S192x512 0
    [⟨S64x512, truncf .bf16 y bitsLt_bf16_f32⟩,
     ⟨S64x512, truncf .bf16 (subf y (extf .f32 (truncf .bf16 y bitsLt_bf16_f32) bitsLt_bf16_f32)) bitsLt_bf16_f32⟩,
     ⟨S64x512, truncf .bf16 (subf (subf y (extf .f32 (truncf .bf16 y bitsLt_bf16_f32) bitsLt_bf16_f32))
        (extf .f32 (truncf .bf16 (subf y (extf .f32 (truncf .bf16 y bitsLt_bf16_f32) bitsLt_bf16_f32)) bitsLt_bf16_f32) bitsLt_bf16_f32)) bitsLt_bf16_f32⟩]
    concatenates_S64x512_S64x512_S64x512_S192x512_d0

/-- Three blocks stacked, read in the block of the row. -/
theorem stacked (a b d : FVec Ideal S64x512 .bf16) (s : Fin 64) (n : Fin 512) (p : ℕ) (hp : p < 3) (j : Fin 192) (hj : j.val = 64 * p + s.val) :
    concatenate S192x512 0 [⟨S64x512, a⟩, ⟨S64x512, b⟩, ⟨S64x512, d⟩] concatenates_S64x512_S64x512_S64x512_S192x512_d0 (ix2 j n)
      = if p = 0 then a (ix2 s n) else if p = 1 then b (ix2 s n) else d (ix2 s n) := by
  have hi : ∀ (x : Fin S64x512.rank), x.val ≠ 0 → ((ix2 s n) x).val = ((ix2 j n) x).val := fun x hx => by
    match x, hx with
    | ⟨0, _⟩, hx => exact absurd rfl hx
    | ⟨1, _⟩, _ => rfl
  match p, hp, hj with
  | 0, _, hj =>
    exact concatenate_apply_piece (t := S192x512) 0 [⟨S64x512, a⟩, ⟨S64x512, b⟩, ⟨S64x512, d⟩]
      concatenates_S64x512_S64x512_S64x512_S192x512_d0 (ix2 j n) 0 (by show 0 < 3; omega) S64x512 a rfl rfl 0 rfl (ix2 s n)
      (fun x hx => hi x (fun h => hx (Fin.ext h))) (by show 0 + s.val = j.val; omega)
  | 1, _, hj =>
    exact concatenate_apply_piece (t := S192x512) 0 [⟨S64x512, a⟩, ⟨S64x512, b⟩, ⟨S64x512, d⟩]
      concatenates_S64x512_S64x512_S64x512_S192x512_d0 (ix2 j n) 1 (by show 1 < 3; omega) S64x512 b rfl rfl 64 rfl (ix2 s n)
      (fun x hx => hi x (fun h => hx (Fin.ext h))) (by show 64 + s.val = j.val; omega)
  | 2, _, hj =>
    exact concatenate_apply_piece (t := S192x512) 0 [⟨S64x512, a⟩, ⟨S64x512, b⟩, ⟨S64x512, d⟩]
      concatenates_S64x512_S64x512_S64x512_S192x512_d0 (ix2 j n) 2 (by show 2 < 3; omega) S64x512 d rfl rfl 128 rfl (ix2 s n)
      (fun x hx => hi x (fun h => hx (Fin.ext h))) (by show 128 + s.val = j.val; omega)

theorem parts_apply (y : FVec Ideal S64x512 .f32) (s : Fin 64) (n : Fin 512) (p : ℕ) (hp : p < 3) (j : Fin 192) (hj : j.val = 64 * p + s.val) :
    (parts y (ix2 j n) : EReal) = if p = 0 then y (ix2 s n) else if p = 1 then y (ix2 s n) - y (ix2 s n)
      else (y (ix2 s n) - y (ix2 s n)) - (y (ix2 s n) - y (ix2 s n)) :=
  stacked _ _ _ s n p hp j hj

/-- The product of the mask with the stacked parts adds up the rows. -/
theorem rows_added (y : FVec Ideal S64x512 .f32) (t : Fin 64) (n : Fin 512) (hy : ∀ s : Fin 64, (y (ix2 s n) : EReal) ≠ ⊤) :
    matmul dot_S64x192_S192x512_S64x512_1_0_0_1_n_n none tri (parts y) (constant S64x512 .f32 0x00000000#32) (ix2 t n)
      = ∑ s : Fin 64, if s.val ≤ t.val then (y (ix2 s n) : EReal) else 0 := by
  refine (Ideal.matmul_plain_apply none tri (parts y) (constant S64x512 .f32 0x00000000#32) t n).trans ?_
  rw [constant_apply, Ideal.ofBits_zero_f32, zero_add]
  refine (Fin.sum_univ_add (M := EReal) (a := 64) (b := 128) _).trans ?_
  rw [Fin.sum_univ_add (M := EReal) (a := 64) (b := 64), ← Finset.sum_add_distrib, ← Finset.sum_add_distrib]
  refine Finset.sum_congr (M := EReal) rfl fun s _ => ?_
  have hs : s.val < 64 := s.isLt
  rw [tri_apply, tri_apply, tri_apply, parts_apply y s n 0 (by omega) _ (by show s.val = 64 * 0 + s.val; omega),
    parts_apply y s n 1 (by omega) _ (by show 64 + s.val = 64 * 1 + s.val; omega),
    parts_apply y s n 2 (by omega) _ (by show 64 + (64 + s.val) = 64 * 2 + s.val; omega)]
  have e0 : s.val % 64 = s.val := Nat.mod_eq_of_lt hs
  have e1 : (64 + s.val) % 64 = s.val := by omega
  have e2 : (64 + (64 + s.val)) % 64 = s.val := by omega
  show (if s.val % 64 ≤ t.val then (1 : EReal) else 0) * y (ix2 s n)
    + ((if (64 + s.val) % 64 ≤ t.val then (1 : EReal) else 0) * (y (ix2 s n) - y (ix2 s n))
      + (if (64 + (64 + s.val)) % 64 ≤ t.val then (1 : EReal) else 0) * ((y (ix2 s n) - y (ix2 s n)) - (y (ix2 s n) - y (ix2 s n)))) = _
  rw [e0, e1, e2]
  by_cases hc : s.val ≤ t.val
  · rw [if_pos hc, if_pos hc, one_mul, one_mul, one_mul]
    exact three_parts _ (hy s)
  · rw [if_neg hc, if_neg hc, zero_mul, zero_mul, zero_mul, add_zero, add_zero]

/-- The stream's gates. -/
theorem gate_apply (lb : Vec Ideal S1x512 .f32) (f : Vec Ideal S1x64x512 .f32) (s : Fin 64) (n : Fin 512) :
    (k0_pay66 lb f (ix2 s n) : EReal) = gate (lb (ix2 (0 : Fin 1) n)) (f (ix3 (0 : Fin 1) s n)) := by
  have hr : ∀ z : FVec Ideal S1x512 .f32, broadcastTo S64x512 z broadcasts_S1x512_S64x512 (ix2 s n) = z (ix2 (0 : Fin 1) n) := fun z =>
    broadcastTo_apply z broadcasts_S1x512_S64x512 (ix2 s n) (ix2 (0 : Fin 1) n) (fun a => by match a with | ⟨0, _⟩ => rfl | ⟨1, _⟩ => rfl)
  have hl : k0_pay65 lb = lb := shapeCast_self lb shapeCasts_S1x512_S1x512
  have hf : shapeCast S64x512 f shapeCasts_S1x64x512_S64x512 (ix2 s n) = f (ix3 (0 : Fin 1) s n) :=
    shapeCast_1ab_ab_apply f shapeCasts_S1x64x512_S64x512 s n
  unfold k0_pay66 gate
  rw [addf_apply, mulf_apply, hr, hr, hl]
  refine congrArg (lb (ix2 (0 : Fin 1) n) + ·) (congrArg₂ (· * ·) ?_ (congrArg Ideal.logistic hf))
  rw [subf_apply]
  exact congrArg (· - lb (ix2 (0 : Fin 1) n)) Ideal.ofBits_one_f32

/-- The stream's cumulative logarithms. -/
theorem cum_apply (lb : Vec Ideal S1x512 .f32) (f : Vec Ideal S1x64x512 .f32) (t : Fin 64) (n : Fin 512)
    (h : ∀ s : Fin 64, Ideal.log (gate (lb (ix2 (0 : Fin 1) n)) (f (ix3 (0 : Fin 1) s n))) ≠ ⊤) :
    (k0_pay67 lb f (ix2 t n) : EReal) = cumLog (lb (ix2 (0 : Fin 1) n)) (fun s => f (ix3 (0 : Fin 1) s n)) t := by
  have e : ∀ s : Fin 64, (log (k0_pay66 lb f) (ix2 s n) : EReal) = Ideal.log (gate (lb (ix2 (0 : Fin 1) n)) (f (ix3 (0 : Fin 1) s n))) :=
    fun s => congrArg Ideal.log (gate_apply lb f s n)
  refine (rows_added (log (k0_pay66 lb f)) t n (fun s => by rw [e s]; exact h s)).trans ?_
  unfold cumLog
  refine Finset.sum_congr (M := EReal) rfl fun s _ => ?_
  rw [e s]

/-- The stream's keys. -/
theorem key_apply (lb : Vec Ideal S1x512 .f32) (f : Vec Ideal S1x64x512 .f32) (s : Fin 64) (n : Fin 512) :
    (k0_pay68 lb f (ix2 s n) : EReal) = 1 - gate (lb (ix2 (0 : Fin 1) n)) (f (ix3 (0 : Fin 1) s n)) := by
  unfold k0_pay68
  rw [subf_apply, gate_apply]
  exact congrArg (· - gate (lb (ix2 (0 : Fin 1) n)) (f (ix3 (0 : Fin 1) s n))) Ideal.ofBits_one_f32

/-- The new state of the head on columns `o`, as the kernel holds it (values by keys), from the gate's lower
    bounds, the stream's gate columns, the head's values and its state. -/
def headNew (lb : Vec Ideal S1x512 .f32) (f : Vec Ideal S1x64x512 .f32) (iv : Vec Ideal S1x64x128 .f32)
    (st : Vec Ideal S1x1x128x128 .f32) (o : Fin 2 → ℕ) (hs : S64x512.Slices o S64x128) : FVec Ideal S1x1x128x128 .f32 :=
  k0_pay195 (extractStridedSlice S64x128 o (k0_pay67 lb f) hs) (extractStridedSlice S64x128 o (k0_pay68 lb f) hs)
    (shapeCast S64x128 iv shapeCasts_S1x64x128_S64x128) (shapeCast S128x128 st shapeCasts_S1x1x128x128_S128x128)

/-- The matrix of a state under its two leading units. -/
theorem under (st : Vec Ideal S1x1x128x128 .f32) (v k : Fin 128) :
    shapeCast S128x128 st shapeCasts_S1x1x128x128_S128x128 (ix2 v k) = st (ix4 (0 : Fin 1) (0 : Fin 1) v k) :=
  shapeCast_apply st shapeCasts_S1x1x128x128_S128x128 (ix2 v k) (ix4 (0 : Fin 1) (0 : Fin 1) v k) (by
    rw [Shape.rowMajor_val_four, Shape.rowMajor_val_two]
    show ((0 * 1 + 0) * 128 + v.val) * 128 + k.val = v.val * 128 + k.val
    omega)

/-- The same the other way. -/
theorem over (x : FVec Ideal S128x128 .f32) (u u' : Fin 1) (v k : Fin 128) :
    shapeCast S1x1x128x128 x shapeCasts_S128x128_S1x1x128x128 (ix4 u u' v k) = x (ix2 v k) :=
  shapeCast_apply x shapeCasts_S128x128_S1x1x128x128 (ix4 u u' v k) (ix2 v k) (by
    rw [Shape.rowMajor_val_four, Shape.rowMajor_val_two]
    show v.val * 128 + k.val = ((u.val * 1 + u'.val) * 128 + v.val) * 128 + k.val
    omega)

/-- The head's new state read at a value and a key. -/
theorem headNew_apply (lb : Vec Ideal S1x512 .f32) (f : Vec Ideal S1x64x512 .f32) (iv : Vec Ideal S1x64x128 .f32)
    (st : Vec Ideal S1x1x128x128 .f32) (o : Fin 2 → ℕ) (hs : S64x512.Slices o S64x128) (u u' : Fin 1) (v k : Fin 128) (n : Fin 512)
    (h : ℕ) (ho : o = ![0, 128 * h]) (hn : n.val = 128 * h + k.val)
    (hl : ∀ s : Fin 64, Ideal.log (gate (lb (ix2 (0 : Fin 1) n)) (f (ix3 (0 : Fin 1) s n))) ≠ ⊤) :
    (headNew lb f iv st o hs (ix4 u u' v k) : EReal)
      = newState (lb (ix2 (0 : Fin 1) n)) (fun s => f (ix3 (0 : Fin 1) s n)) (fun s => iv (ix3 (0 : Fin 1) s v)) (st (ix4 (0 : Fin 1) (0 : Fin 1) v k)) := by
  subst ho
  have hcol : ∀ (z : FVec Ideal S64x512 .f32) (s : Fin 64), extractStridedSlice S64x128 ![0, 128 * h] z hs (ix2 s k) = z (ix2 s n) := fun z s =>
    extractStridedSlice_apply _ _ _ _ _ (fun a => by
      match a with
      | ⟨0, _⟩ => show s.val = 0 + s.val; omega
      | ⟨1, _⟩ => show n.val = 128 * h + k.val; omega)
  have hlast : ∀ z : FVec Ideal S64x128 .f32, extractStridedSlice S1x128 ![63, 0] z slices_S64x128_o63_0_S1x128 (ix2 (0 : Fin 1) k) = z (ix2 (63 : Fin 64) k) := fun z =>
    extractStridedSlice_apply _ _ _ _ _ (fun a => by
      match a with
      | ⟨0, _⟩ => rfl
      | ⟨1, _⟩ => show k.val = 0 + k.val; omega)
  have hr : ∀ (z : FVec Ideal S1x128 .f32) (s : Fin 64), broadcastTo S64x128 z broadcasts_S1x128_S64x128 (ix2 s k) = z (ix2 (0 : Fin 1) k) := fun z s =>
    broadcastTo_apply z broadcasts_S1x128_S64x128 (ix2 s k) (ix2 (0 : Fin 1) k) (fun a => by match a with | ⟨0, _⟩ => rfl | ⟨1, _⟩ => rfl)
  have hR : ∀ (z : FVec Ideal S1x128 .f32), broadcastTo S128x128 z broadcasts_S1x128_S128x128 (ix2 v k) = z (ix2 (0 : Fin 1) k) := fun z =>
    broadcastTo_apply z broadcasts_S1x128_S128x128 (ix2 v k) (ix2 (0 : Fin 1) k) (fun a => by match a with | ⟨0, _⟩ => rfl | ⟨1, _⟩ => rfl)
  have hc := fun t => cum_apply lb f t n hl
  unfold headNew
  generalize k0_pay67 lb f = C at hc
  have hk := fun s => key_apply lb f s n
  generalize k0_pay68 lb f = K at hk
  unfold k0_pay195 newState
  dsimp only
  rw [over, addf_apply, mulf_apply, hR]
  refine congrArg₂ (· + ·) (congrArg₂ (· * ·) (under st v k) ?_) ?_
  · refine congrArg Ideal.exp ?_
    rw [hlast, hcol, hc]
  · refine (Ideal.matmul_plain_apply none _ _ _ v k).trans ?_
    rw [constant_apply, Ideal.ofBits_zero_f32, zero_add]
    refine Finset.sum_congr (M := EReal) rfl fun s _ => ?_
    rw [truncf_apply, truncf_apply, mulf_apply, hcol, hk]
    refine congrArg₂ (· * ·) ?_ (congrArg₂ (· * ·) rfl ?_)
    · exact (transpose_ix2_apply _ transposes_S64x128_p1_0_S128x64 v s).trans (shapeCast_1ab_ab_apply iv shapeCasts_S1x64x128_S64x128 s v)
    · refine congrArg Ideal.exp ?_
      rw [subf_apply, hr, hlast, hcol, hcol, hc, hc]

end Cert.Hgrn

end
-- ==== Proof.Hgrn.Heads.lean ====
/- The scratch of a grid point of the recurrence: one head after the other is put over what it held. -/
module

public import proofs.«01_k».proof.Proof.Hgrn.Block

@[expose] public section

set_option maxRecDepth 16384

noncomputable section

namespace Cert.Hgrn

open Idealize.ShloMosaic Idealize.ShloMosaic.TcCoe Idealize.SL.Sem Idealize.ShloMosaic.ValueIdx
open scoped BigOperators
open Cert.Kernel5Ideal Cert.Kernel5Ideal.Gen

/-- What the scratch holds after the heads before `k`: the new states `N` of those, the first states `S` of the others. -/
def Holds (S N : Vec Ideal S8x4x128x128 .f32) (L : List (View.Piece (Elt Ideal) S8x4x128x128 .f32)) (k : ℕ) : Prop :=
  ∀ y : S8x4x128x128.Idx, View.canon L y = if 4 * (y 0).val + (y 1).val < k then N y else S y

variable {σ : RefSig} (a2 : Memref σ .tc .vmem S8x64x512 .f32) (h2 : a2.IsWhole) (a3 : Memref σ .tc .vmem S8x64x512 .f32) (h3 : a3.IsWhole)
    (a6 : Memref σ .tc .vmem S1x512 .f32) (h6 : a6.IsWhole) (a8 : Memref σ .tc .vmem S8x4x128x128 .f32) (h8 : a8.IsWhole) (a11 : Memref σ .tc .vmem S8x4x128x128 .f32)
    (x0 x1 : Vec Ideal S8x64x512 .f32) (x4 : Vec Ideal S1x512 .f32) (x6 : Vec Ideal S8x4x128x128 .f32)

/-- What holds all heads reads them. -/
theorem canon_of_holds {A N : Vec Ideal S8x4x128x128 .f32} {L : List (View.Piece (Elt Ideal) S8x4x128x128 .f32)} (e : Holds A N L 32) : View.canon L = N :=
  funext fun y => (e y).trans (by
    have y0 : (y 0).val < 8 := (y 0).isLt
    have y1 : (y 1).val < 4 := (y 1).isLt
    rw [if_pos (by omega)])

/-- Thirty-two heads, one over the other, each after those before it. -/
def pile (f : ∀ b h : ℕ, b < 8 → h < 4 → View.Piece (Elt Ideal) S8x4x128x128 .f32) : List (View.Piece (Elt Ideal) S8x4x128x128 .f32) :=
  [f 7 3 (by decide) (by decide), f 7 2 (by decide) (by decide), f 7 1 (by decide) (by decide), f 7 0 (by decide) (by decide),
   f 6 3 (by decide) (by decide), f 6 2 (by decide) (by decide), f 6 1 (by decide) (by decide), f 6 0 (by decide) (by decide),
   f 5 3 (by decide) (by decide), f 5 2 (by decide) (by decide), f 5 1 (by decide) (by decide), f 5 0 (by decide) (by decide),
   f 4 3 (by decide) (by decide), f 4 2 (by decide) (by decide), f 4 1 (by decide) (by decide), f 4 0 (by decide) (by decide),
   f 3 3 (by decide) (by decide), f 3 2 (by decide) (by decide), f 3 1 (by decide) (by decide), f 3 0 (by decide) (by decide),
   f 2 3 (by decide) (by decide), f 2 2 (by decide) (by decide), f 2 1 (by decide) (by decide), f 2 0 (by decide) (by decide),
   f 1 3 (by decide) (by decide), f 1 2 (by decide) (by decide), f 1 1 (by decide) (by decide), f 1 0 (by decide) (by decide),
   f 0 3 (by decide) (by decide), f 0 2 (by decide) (by decide), f 0 1 (by decide) (by decide), f 0 0 (by decide) (by decide)]

/-- If each head may be put over those before it, the pile holds them all. -/
theorem piled {N : Vec Ideal S8x4x128x128 .f32} (f : ∀ b h : ℕ, b < 8 → h < 4 → View.Piece (Elt Ideal) S8x4x128x128 .f32)
    (st : ∀ (b h : ℕ) (hb : b < 8) (hh : h < 4) (L : List (View.Piece (Elt Ideal) S8x4x128x128 .f32)),
      Holds (View.canon []) N L (4 * b + h) → Holds (View.canon []) N (f b h hb hh :: L) (4 * b + h + 1)) :
    View.canon (pile f) = N := by
  have e : Holds (View.canon []) N (pile f) 32 :=
    st 7 3 _ _ _ <| st 7 2 _ _ _ <| st 7 1 _ _ _ <| st 7 0 _ _ _ <| st 6 3 _ _ _ <| st 6 2 _ _ _ <| st 6 1 _ _ _ <| st 6 0 _ _ _
    <| st 5 3 _ _ _ <| st 5 2 _ _ _ <| st 5 1 _ _ _ <| st 5 0 _ _ _ <| st 4 3 _ _ _ <| st 4 2 _ _ _ <| st 4 1 _ _ _ <| st 4 0 _ _ _
    <| st 3 3 _ _ _ <| st 3 2 _ _ _ <| st 3 1 _ _ _ <| st 3 0 _ _ _ <| st 2 3 _ _ _ <| st 2 2 _ _ _ <| st 2 1 _ _ _ <| st 2 0 _ _ _
    <| st 1 3 _ _ _ <| st 1 2 _ _ _ <| st 1 1 _ _ _ <| st 1 0 _ _ _ <| st 0 3 _ _ _ <| st 0 2 _ _ _ <| st 0 1 _ _ _ <| st 0 0 _ _ _
    <| fun _ => rfl
  exact canon_of_holds e

/-- The same at the start. -/
theorem holds_of_canon {N : Vec Ideal S8x4x128x128 .f32} {L : List (View.Piece (Elt Ideal) S8x4x128x128 .f32)} (e : View.canon L = N)
    (B : Vec Ideal S8x4x128x128 .f32) : Holds N B L 0 := fun y => by rw [e, if_neg (Nat.not_lt_zero _)]

/-- Where the parts of head `h` of stream `b` lie inside the blocks. -/
theorem in_f {b : ℕ} (hb : b < 8) : ∀ x, (![b, 0, 0] : Fin 3 → ℕ) x + S1x64x512.size x ≤ S8x64x512.size x := fun x => by
  match x with
  | ⟨0, _⟩ => show b + 1 ≤ 8; omega
  | ⟨1, _⟩ => show 0 + 64 ≤ 64; omega
  | ⟨2, _⟩ => show 0 + 512 ≤ 512; omega
theorem in_i {b h : ℕ} (hb : b < 8) (hh : h < 4) : ∀ x, (![b, 0, 128 * h] : Fin 3 → ℕ) x + S1x64x128.size x ≤ S8x64x512.size x := fun x => by
  match x with
  | ⟨0, _⟩ => show b + 1 ≤ 8; omega
  | ⟨1, _⟩ => show 0 + 64 ≤ 64; omega
  | ⟨2, _⟩ => show 128 * h + 128 ≤ 512; omega
theorem in_s {b h : ℕ} (hb : b < 8) (hh : h < 4) : ∀ x, (![b, h, 0, 0] : Fin 4 → ℕ) x + S1x1x128x128.size x ≤ S8x4x128x128.size x := fun x => by
  match x with
  | ⟨0, _⟩ => show b + 1 ≤ 8; omega
  | ⟨1, _⟩ => show h + 1 ≤ 4; omega
  | ⟨2, _⟩ => show 0 + 128 ≤ 128; omega
  | ⟨3, _⟩ => show 0 + 128 ≤ 128; omega
theorem in_c {h : ℕ} (hh : h < 4) : S64x512.Slices ![0, 128 * h] S64x128 := by
  match h, hh with
  | 0, _ => exact slices_S64x512_o0_0_S64x128
  | 1, _ => exact slices_S64x512_o0_128_S64x128
  | 2, _ => exact slices_S64x512_o0_256_S64x128
  | 3, _ => exact slices_S64x512_o0_384_S64x128

/-- The new state of head `h` of stream `b` from the blocks and its state. -/
def headWith (st : Vec Ideal S1x1x128x128 .f32) (b h : ℕ) (hb : b < 8) (hh : h < 4) : FVec Ideal S1x1x128x128 .f32 :=
  headNew (View.readAt (Elt Ideal) a6.view (Rect.unit (s := S1x512) ![0, 0] S1x512.size inb_S1x512_S1x512_0_0).toLoadRect (h6.unread x4))
    (View.readAt (Elt Ideal) a2.view (Rect.unit (s := S8x64x512) ![b, 0, 0] S1x64x512.size (in_f hb)).toLoadRect (h2.unread x0))
    (View.readAt (Elt Ideal) a3.view (Rect.unit (s := S8x64x512) ![b, 0, 128 * h] S1x64x128.size (in_i hb hh)).toLoadRect (h3.unread x1))
    st ![0, 128 * h] (in_c hh)

/-- A head's column among the gates. -/
def col (h : Fin 4) (k : Fin 128) : Fin 512 := ⟨128 * h.val + k.val, by omega⟩

/-- The new states (values by keys) of eight streams, from gate columns, values, lower bounds and states. -/
def newOf (S : Vec Ideal S8x4x128x128 .f32) : Vec Ideal S8x4x128x128 .f32 := fun y =>
  newState (x4 (ix2 (0 : Fin 1) (col (y 1) (y 3)))) (fun s => x0 (ix3 (y 0) s (col (y 1) (y 3)))) (fun s => x1 (ix3 (y 0) s (col (y 1) (y 2)))) (S y)

/-- An index of the states in the box of a head. -/
theorem in_box {b h : ℕ} (hb : b < 8) (hh : h < 4) (v k : Fin 128) :
    (Rect.unit (s := S8x4x128x128) ![b, h, 0, 0] S1x1x128x128.size (in_s hb hh)).emb (ix4 (0 : Fin 1) (0 : Fin 1) v k) = ix4 (⟨b, hb⟩ : Fin 8) (⟨h, hh⟩ : Fin 4) v k :=
  funext fun a => Fin.ext (by
    match a with
    | ⟨0, _⟩ => show b + 1 * 0 = b; omega
    | ⟨1, _⟩ => show h + 1 * 0 = h; omega
    | ⟨2, _⟩ => show 0 + 1 * v.val = v.val; omega
    | ⟨3, _⟩ => show 0 + 1 * k.val = k.val; omega)

/-- A box of a head put over what is held. -/
theorem put (A B : Vec Ideal S8x4x128x128 .f32) {L : List (View.Piece (Elt Ideal) S8x4x128x128 .f32)} (b h : ℕ) (hb : b < 8) (hh : h < 4)
    (w : Vec Ideal S1x1x128x128 .f32) (hw : ∀ v k : Fin 128, w (ix4 (0 : Fin 1) (0 : Fin 1) v k) = B (ix4 (⟨b, hb⟩ : Fin 8) (⟨h, hh⟩ : Fin 4) v k))
    (hL : Holds A B L (4 * b + h)) :
    Holds A B (⟨Rect.unit (s := S8x4x128x128) ![b, h, 0, 0] S1x1x128x128.size (in_s hb hh), w⟩ :: L) (4 * b + h + 1) := fun y => by
  have y0 : (y 0).val < 8 := (y 0).isLt
  have y1 : (y 1).val < 4 := (y 1).isLt
  by_cases hy : (y 0).val = b ∧ (y 1).val = h
  · obtain ⟨e0, e1⟩ := hy
    obtain ⟨v, k, e⟩ : ∃ v k : Fin 128, y = ix4 (⟨b, hb⟩ : Fin 8) (⟨h, hh⟩ : Fin 4) v k := ⟨y 2, y 3, funext fun a => Fin.ext (by
      match a with
      | ⟨0, _⟩ => exact e0
      | ⟨1, _⟩ => exact e1
      | ⟨2, _⟩ => rfl
      | ⟨3, _⟩ => rfl)⟩
    rw [if_pos (by omega)]
    have key := View.canon_cons_emb (Rect.unit (s := S8x4x128x128) ![b, h, 0, 0] S1x1x128x128.size (in_s hb hh)) w L (ix4 (0 : Fin 1) (0 : Fin 1) v k)
    rw [in_box hb hh v k, hw v k, ← e] at key
    exact key
  · rw [View.canon_cons_of_not_mem, hL y]
    · by_cases hk : 4 * (y 0).val + (y 1).val < 4 * b + h
      · rw [if_pos hk, if_pos (by omega)]
      · rw [if_neg hk, if_neg (by omega)]
    · intro hm
      have h0 := (Rect.mem_set_unit (inb := in_s hb hh) |>.mp hm) 0
      have h1 := (Rect.mem_set_unit (inb := in_s hb hh) |>.mp hm) 1
      have h0' : b ≤ (y 0).val ∧ (y 0).val < b + 1 := h0
      have h1' : h ≤ (y 1).val ∧ (y 1).val < h + 1 := h1
      omega

/-- The scratch read in a head's box. -/
theorem held {A B : Vec Ideal S8x4x128x128 .f32} {L : List (View.Piece (Elt Ideal) S8x4x128x128 .f32)} {K : ℕ} (b h : ℕ) (hb : b < 8) (hh : h < 4)
    (hL : Holds A B L K) (v k : Fin 128) :
    a11.view.readCov L (Rect.unit (s := S8x4x128x128) ![b, h, 0, 0] S1x1x128x128.size (in_s hb hh)).toLoadRect (ix4 (0 : Fin 1) (0 : Fin 1) v k)
      = if 4 * b + h < K then B (ix4 (⟨b, hb⟩ : Fin 8) (⟨h, hh⟩ : Fin 4) v k) else A (ix4 (⟨b, hb⟩ : Fin 8) (⟨h, hh⟩ : Fin 4) v k) := by
  rw [View.readCov_eq_canon']
  exact (congrArg (View.canon L) (in_box hb hh v k)).trans (hL _)

/-- One more head, from the state it has. -/
theorem stepWith (S : Vec Ideal S8x4x128x128 .f32) (hl : ∀ (b : Fin 8) (s : Fin 64) (n : Fin 512), Ideal.log (gate (x4 (ix2 (0 : Fin 1) n)) (x0 (ix3 b s n))) ≠ ⊤)
    {L : List (View.Piece (Elt Ideal) S8x4x128x128 .f32)} (b h : ℕ) (hb : b < 8) (hh : h < 4) (A : Vec Ideal S8x4x128x128 .f32) (hL : Holds A (newOf x0 x1 x4 S) L (4 * b + h))
    (st : Vec Ideal S1x1x128x128 .f32) (hst : ∀ v k : Fin 128, st (ix4 (0 : Fin 1) (0 : Fin 1) v k) = S (ix4 (⟨b, hb⟩ : Fin 8) (⟨h, hh⟩ : Fin 4) v k)) :
    Holds A (newOf x0 x1 x4 S) (⟨Rect.unit (s := S8x4x128x128) ![b, h, 0, 0] S1x1x128x128.size (in_s hb hh), headWith a2 h2 a3 h3 a6 h6 x0 x1 x4 st b h hb hh⟩ :: L) (4 * b + h + 1) := by
  refine put A _ b h hb hh _ (fun v k => ?_) hL
  have hb4 : View.readAt (Elt Ideal) a6.view (Rect.unit (s := S1x512) ![0, 0] S1x512.size inb_S1x512_S1x512_0_0).toLoadRect (h6.unread x4) (ix2 (0 : Fin 1) (col ⟨h, hh⟩ k))
      = x4 (ix2 (0 : Fin 1) (col ⟨h, hh⟩ k)) := by
    rw [View.readAt_eq_ld, Memref.IsWhole.read_unread, View.ld_unit]
    refine extractStridedSlice_apply _ _ _ _ _ (fun x => ?_)
    match x with
    | ⟨0, _⟩ => exact (Nat.zero_add _).symm
    | ⟨1, _⟩ => exact (Nat.zero_add _).symm
  have hb0 : ∀ s : Fin 64, View.readAt (Elt Ideal) a2.view (Rect.unit (s := S8x64x512) ![b, 0, 0] S1x64x512.size (in_f hb)).toLoadRect (h2.unread x0) (ix3 (0 : Fin 1) s (col ⟨h, hh⟩ k))
      = x0 (ix3 (⟨b, hb⟩ : Fin 8) s (col ⟨h, hh⟩ k)) := fun s => by
    rw [View.readAt_eq_ld, Memref.IsWhole.read_unread, View.ld_unit]
    refine extractStridedSlice_apply _ _ _ _ _ (fun x => ?_)
    match x with
    | ⟨0, _⟩ => rfl
    | ⟨1, _⟩ => exact (Nat.zero_add _).symm
    | ⟨2, _⟩ => exact (Nat.zero_add _).symm
  have hb1 : ∀ s : Fin 64, View.readAt (Elt Ideal) a3.view (Rect.unit (s := S8x64x512) ![b, 0, 128 * h] S1x64x128.size (in_i hb hh)).toLoadRect (h3.unread x1) (ix3 (0 : Fin 1) s v)
      = x1 (ix3 (⟨b, hb⟩ : Fin 8) s (col ⟨h, hh⟩ v)) := fun s => by
    rw [View.readAt_eq_ld, Memref.IsWhole.read_unread, View.ld_unit]
    refine extractStridedSlice_apply _ _ _ _ _ (fun x => ?_)
    match x with
    | ⟨0, _⟩ => rfl
    | ⟨1, _⟩ => exact (Nat.zero_add _).symm
    | ⟨2, _⟩ => rfl
  refine (headNew_apply _ _ _ _ _ _ (0 : Fin 1) (0 : Fin 1) v k (col ⟨h, hh⟩ k) h rfl rfl (fun s => ?_)).trans ?_
  · rw [hb4, hb0]; exact hl _ s _
  · rw [hb4, hst v k]
    simp only [hb0, hb1]
    rfl

/-- One more head, its state read from what the scratch was written with. -/
theorem step (S : Vec Ideal S8x4x128x128 .f32) (hl : ∀ (b : Fin 8) (s : Fin 64) (n : Fin 512), Ideal.log (gate (x4 (ix2 (0 : Fin 1) n)) (x0 (ix3 b s n))) ≠ ⊤)
    {L : List (View.Piece (Elt Ideal) S8x4x128x128 .f32)} (b h : ℕ) (hb : b < 8) (hh : h < 4) (hL : Holds S (newOf x0 x1 x4 S) L (4 * b + h)) :
    Holds S (newOf x0 x1 x4 S) (⟨Rect.unit (s := S8x4x128x128) ![b, h, 0, 0] S1x1x128x128.size (in_s hb hh), headWith a2 h2 a3 h3 a6 h6 x0 x1 x4
      (a11.view.readCov L (Rect.unit (s := S8x4x128x128) ![b, h, 0, 0] S1x1x128x128.size (in_s hb hh)).toLoadRect) b h hb hh⟩ :: L) (4 * b + h + 1) :=
  stepWith a2 h2 a3 h3 a6 h6 x0 x1 x4 S hl b h hb hh S hL _ (fun v k => (held a11 b h hb hh hL v k).trans (if_neg (Nat.lt_irrefl _)))

/-- A head's states read from the contents of the whole array. -/
theorem whole (S : Vec Ideal S8x4x128x128 .f32) (b h : ℕ) (hb : b < 8) (hh : h < 4) (v k : Fin 128) :
    View.readAt (Elt Ideal) a8.view (Rect.unit (s := S8x4x128x128) ![b, h, 0, 0] S1x1x128x128.size (in_s hb hh)).toLoadRect (h8.unread S) (ix4 (0 : Fin 1) (0 : Fin 1) v k)
      = S (ix4 (⟨b, hb⟩ : Fin 8) (⟨h, hh⟩ : Fin 4) v k) := by
  rw [View.readAt_eq_ld, Memref.IsWhole.read_unread, View.ld_unit]
  refine extractStridedSlice_apply _ _ _ _ _ (fun x => ?_)
  match x with
  | ⟨0, _⟩ => rfl
  | ⟨1, _⟩ => rfl
  | ⟨2, _⟩ => exact (Nat.zero_add _).symm
  | ⟨3, _⟩ => exact (Nat.zero_add _).symm

/-- One more head, its state read from the whole array. -/
theorem stepFrom (S : Vec Ideal S8x4x128x128 .f32) (hl : ∀ (b : Fin 8) (s : Fin 64) (n : Fin 512), Ideal.log (gate (x4 (ix2 (0 : Fin 1) n)) (x0 (ix3 b s n))) ≠ ⊤)
    {L : List (View.Piece (Elt Ideal) S8x4x128x128 .f32)} (A : Vec Ideal S8x4x128x128 .f32) (b h : ℕ) (hb : b < 8) (hh : h < 4) (hL : Holds A (newOf x0 x1 x4 S) L (4 * b + h)) :
    Holds A (newOf x0 x1 x4 S) (⟨Rect.unit (s := S8x4x128x128) ![b, h, 0, 0] S1x1x128x128.size (in_s hb hh), headWith a2 h2 a3 h3 a6 h6 x0 x1 x4
      (View.readAt (Elt Ideal) a8.view (Rect.unit (s := S8x4x128x128) ![b, h, 0, 0] S1x1x128x128.size (in_s hb hh)).toLoadRect (h8.unread S)) b h hb hh⟩ :: L) (4 * b + h + 1) :=
  stepWith a2 h2 a3 h3 a6 h6 x0 x1 x4 S hl b h hb hh A hL _ (whole a8 h8 S b h hb hh)

/-- A matrix turned around under its two leading units. -/
theorem turned (st : Vec Ideal S1x1x128x128 .f32) (v k : Fin 128) :
    k0_pay1 st (ix4 (0 : Fin 1) (0 : Fin 1) v k) = st (ix4 (0 : Fin 1) (0 : Fin 1) k v) := by
  unfold k0_pay1
  refine (over _ _ _ v k).trans ?_
  exact (transpose_ix2_apply _ transposes_S128x128_p1_0_S128x128 v k).trans (under st k v)

/-- States turned around. -/
def turn (S : Vec Ideal S8x4x128x128 .f32) : Vec Ideal S8x4x128x128 .f32 := fun y => S (ix4 (y 0) (y 1) (y 3) (y 2))

/-- One more state put into the scratch at the start. -/
theorem first (A : Vec Ideal S8x4x128x128 .f32) {L : List (View.Piece (Elt Ideal) S8x4x128x128 .f32)} (b h : ℕ) (hb : b < 8) (hh : h < 4)
    (hL : Holds A (turn x6) L (4 * b + h)) :
    Holds A (turn x6) (⟨Rect.unit (s := S8x4x128x128) ![b, h, 0, 0] S1x1x128x128.size (in_s hb hh),
      k0_pay1 (View.readAt (Elt Ideal) a8.view (Rect.unit (s := S8x4x128x128) ![b, h, 0, 0] S1x1x128x128.size (in_s hb hh)).toLoadRect (h8.unread x6))⟩ :: L) (4 * b + h + 1) := by
  refine put A _ b h hb hh _ (fun v k => ?_) hL
  rw [turned]
  exact whole a8 h8 x6 b h hb hh k v

/-- A matrix of zeros put into the scratch at the start. -/
theorem zeroed (A : Vec Ideal S8x4x128x128 .f32) {L : List (View.Piece (Elt Ideal) S8x4x128x128 .f32)} (b h : ℕ) (hb : b < 8) (hh : h < 4)
    (hL : Holds A (fun _ => (0 : EReal)) L (4 * b + h)) :
    Holds A (fun _ => (0 : EReal)) (⟨Rect.unit (s := S8x4x128x128) ![b, h, 0, 0] S1x1x128x128.size (in_s hb hh),
      shapeCast S1x1x128x128 (broadcast S128x128 (Scalar.ofBits (F := Ideal) .f32 0x00000000#32)) shapeCasts_S128x128_S1x1x128x128⟩ :: L) (4 * b + h + 1) :=
  put A _ b h hb hh _ (fun v k => (over _ _ _ v k).trans Ideal.ofBits_zero_f32) hL

/-- One more new state put into the output. -/
theorem last {S N : Vec Ideal S8x4x128x128 .f32} {M : List (View.Piece (Elt Ideal) S8x4x128x128 .f32)} (hM : Holds S N M 32)
    (A : Vec Ideal S8x4x128x128 .f32) {L : List (View.Piece (Elt Ideal) S8x4x128x128 .f32)} (b h : ℕ) (hb : b < 8) (hh : h < 4)
    (hL : Holds A (turn N) L (4 * b + h)) :
    Holds A (turn N) (⟨Rect.unit (s := S8x4x128x128) ![b, h, 0, 0] S1x1x128x128.size (in_s hb hh),
      k0_pay1 (a11.view.readCov M (Rect.unit (s := S8x4x128x128) ![b, h, 0, 0] S1x1x128x128.size (in_s hb hh)).toLoadRect)⟩ :: L) (4 * b + h + 1) := by
  refine put A _ b h hb hh _ (fun v k => ?_) hL
  rw [turned, held a11 b h hb hh hM k v, if_pos (by omega)]
  rfl

end Cert.Hgrn

end
-- ==== Proof.Hgrn.Chain.lean ====
/- The state a grid point of the recurrence leaves: head after head its scratch holds the new states so far and
   the transposed first states of the heads to come. -/
module

public import proofs.«01_k».proof.Proof.Hgrn.Heads

@[expose] public section

set_option maxRecDepth 16384

noncomputable section

namespace Cert.Hgrn

open Idealize.ShloMosaic Idealize.ShloMosaic.TcCoe Idealize.SL.Sem Idealize.ShloMosaic.ValueIdx
open scoped BigOperators
open Cert.Kernel5Ideal Cert.Kernel5Ideal.Gen

variable (c : Dev nD) (i : grid0.Coords) (a2 : Memref sig .tc .vmem S8x64x512 .f32) (h2 : a2.IsWhole) (a3 : Memref sig .tc .vmem S8x64x512 .f32) (h3 : a3.IsWhole)
    (a6 : Memref sig .tc .vmem S1x512 .f32) (h6 : a6.IsWhole) (a8 : Memref sig .tc .vmem S8x4x128x128 .f32) (h8 : a8.IsWhole) (a11 : Memref sig .tc .vmem S8x4x128x128 .f32)
    (x0 x1 : Vec Ideal S8x64x512 .f32) (x4 : Vec Ideal S1x512 .f32) (x6 : Vec Ideal S8x4x128x128 .f32)

set_option maxHeartbeats 4000000 in
/-- At the start the scratch is given the states turned around. -/
theorem start : Holds (turn x6) (turn x6) (kernelRun0_A.sl.HS0_32 c a8 h8 x6) 0 := by
  have st := @first _ a8 h8 x6 (View.canon [])
  have e : Holds (View.canon []) (turn x6) (kernelRun0_A.sl.HS0_32 c a8 h8 x6) 32 :=
    st 7 3 (by decide) (by decide) <| st 7 2 (by decide) (by decide) <| st 7 1 (by decide) (by decide) <| st 7 0 (by decide) (by decide)
    <| st 6 3 (by decide) (by decide) <| st 6 2 (by decide) (by decide) <| st 6 1 (by decide) (by decide) <| st 6 0 (by decide) (by decide)
    <| st 5 3 (by decide) (by decide) <| st 5 2 (by decide) (by decide) <| st 5 1 (by decide) (by decide) <| st 5 0 (by decide) (by decide)
    <| st 4 3 (by decide) (by decide) <| st 4 2 (by decide) (by decide) <| st 4 1 (by decide) (by decide) <| st 4 0 (by decide) (by decide)
    <| st 3 3 (by decide) (by decide) <| st 3 2 (by decide) (by decide) <| st 3 1 (by decide) (by decide) <| st 3 0 (by decide) (by decide)
    <| st 2 3 (by decide) (by decide) <| st 2 2 (by decide) (by decide) <| st 2 1 (by decide) (by decide) <| st 2 0 (by decide) (by decide)
    <| st 1 3 (by decide) (by decide) <| st 1 2 (by decide) (by decide) <| st 1 1 (by decide) (by decide) <| st 1 0 (by decide) (by decide)
    <| st 0 3 (by decide) (by decide) <| st 0 2 (by decide) (by decide) <| st 0 1 (by decide) (by decide) <| st 0 0 (by decide) (by decide)
    <| fun _ => rfl
  exact fun y => (e y).trans (by
    have y0 : (y 0).val < 8 := (y 0).isLt
    have y1 : (y 1).val < 4 := (y 1).isLt
    rw [if_pos (by omega), if_neg (Nat.not_lt_zero _)])

set_option maxHeartbeats 4000000 in
/-- After all heads the scratch holds the new states. -/
theorem chain (hl : ∀ (b : Fin 8) (s : Fin 64) (n : Fin 512), Ideal.log (gate (x4 (ix2 (0 : Fin 1) n)) (x0 (ix3 b s n))) ≠ ⊤) :
    Holds (turn x6) (newOf x0 x1 x4 (turn x6)) (kernelRun0_A.sl.HS0_64 c a2 h2 a3 h3 a6 h6 a8 h8 a11 x0 x1 x4 x6) 32 :=
  have st := @step _ a2 h2 a3 h3 a6 h6 a11 x0 x1 x4 (turn x6) hl
  st 7 3 (by decide) (by decide) <| st 7 2 (by decide) (by decide) <| st 7 1 (by decide) (by decide) <| st 7 0 (by decide) (by decide)
  <| st 6 3 (by decide) (by decide) <| st 6 2 (by decide) (by decide) <| st 6 1 (by decide) (by decide) <| st 6 0 (by decide) (by decide)
  <| st 5 3 (by decide) (by decide) <| st 5 2 (by decide) (by decide) <| st 5 1 (by decide) (by decide) <| st 5 0 (by decide) (by decide)
  <| st 4 3 (by decide) (by decide) <| st 4 2 (by decide) (by decide) <| st 4 1 (by decide) (by decide) <| st 4 0 (by decide) (by decide)
  <| st 3 3 (by decide) (by decide) <| st 3 2 (by decide) (by decide) <| st 3 1 (by decide) (by decide) <| st 3 0 (by decide) (by decide)
  <| st 2 3 (by decide) (by decide) <| st 2 2 (by decide) (by decide) <| st 2 1 (by decide) (by decide) <| st 2 0 (by decide) (by decide)
  <| st 1 3 (by decide) (by decide) <| st 1 2 (by decide) (by decide) <| st 1 1 (by decide) (by decide) <| st 1 0 (by decide) (by decide)
  <| st 0 3 (by decide) (by decide) <| st 0 2 (by decide) (by decide) <| st 0 1 (by decide) (by decide) <| st 0 0 (by decide) (by decide)
  <| fun y => (start c a8 h8 x6 y).trans (by rw [if_neg (Nat.not_lt_zero _), if_neg (Nat.not_lt_zero _)])

end Cert.Hgrn

end
-- ==== Proof.Hgrn.Out.lean ====
/- What a grid point of the recurrence leaves in the block of states. -/
module

public import proofs.«01_k».proof.Proof.Hgrn.Chain

@[expose] public section

set_option maxRecDepth 16384

noncomputable section

namespace Cert.Hgrn

open Idealize.ShloMosaic Idealize.ShloMosaic.TcCoe Idealize.SL.Sem Idealize.ShloMosaic.ValueIdx
open scoped BigOperators
open Cert.Kernel5Ideal Cert.Kernel5Ideal.Gen

set_option maxHeartbeats 4000000 in
/-- The block of states after the point: the new states, keys by values again. -/
theorem out_state (c : Dev nD) (i : grid0.Coords) (a2 : Memref sig .tc .vmem S8x64x512 .f32) (h2 : a2.IsWhole) (a3 : Memref sig .tc .vmem S8x64x512 .f32) (h3 : a3.IsWhole) (a4 : Memref sig .tc .vmem S8x64x512 .f32) (h4 : a4.IsWhole) (a5 : Memref sig .tc .vmem S8x64x512 .f32) (h5 : a5.IsWhole) (a6 : Memref sig .tc .vmem S1x512 .f32) (h6 : a6.IsWhole) (a7 : Memref sig .tc .vmem S1x512 .f32) (h7 : a7.IsWhole) (a8 : Memref sig .tc .vmem S8x4x128x128 .f32) (h8 : a8.IsWhole) (a9 : Memref sig .tc .vmem S8x64x512 .bf16) (h9 : a9.IsWhole) (a10 : Memref sig .tc .vmem S8x4x128x128 .f32) (h10 : a10.IsWhole) (a11 : Memref sig .tc .vmem S8x4x128x128 .f32) (h11 : a11.IsWhole) (hc0 : cond0_0 i) (hc1 : cond0_1 i)
    (x0 x1 x2 x3 : Vec Ideal S8x64x512 .f32) (x4 x5 : Vec Ideal S1x512 .f32) (x6 : Vec Ideal S8x4x128x128 .f32)
    (hl : ∀ (b : Fin 8) (s : Fin 64) (n : Fin 512), Ideal.log (gate (x4 (ix2 (0 : Fin 1) n)) (x0 (ix3 b s n))) ≠ ⊤) :
    out0_A_8 c i a2 h2 a3 h3 a4 h4 a5 h5 a6 h6 a7 h7 a8 h8 a9 h9 a10 h10 a11 h11 hc0 hc1 x0 x1 x2 x3 x4 x5 x6 = turn (newOf x0 x1 x4 (turn x6)) := by
  have st := @last _ a11 _ _ _ (chain c a2 h2 a3 h3 a6 h6 a8 h8 a11 x0 x1 x4 x6 hl) (View.canon [])
  have e : Holds (View.canon []) (turn (newOf x0 x1 x4 (turn x6))) (kernelRun0_A c i a2 h2 a3 h3 a4 h4 a5 h5 a6 h6 a7 h7 a8 h8 a9 h9 a10 h10 a11 h11 hc0 hc1 x0 x1 x2 x3 x4 x5 x6).2.1 32 :=
    st 7 3 (by decide) (by decide) <| st 7 2 (by decide) (by decide) <| st 7 1 (by decide) (by decide) <| st 7 0 (by decide) (by decide)
    <| st 6 3 (by decide) (by decide) <| st 6 2 (by decide) (by decide) <| st 6 1 (by decide) (by decide) <| st 6 0 (by decide) (by decide)
    <| st 5 3 (by decide) (by decide) <| st 5 2 (by decide) (by decide) <| st 5 1 (by decide) (by decide) <| st 5 0 (by decide) (by decide)
    <| st 4 3 (by decide) (by decide) <| st 4 2 (by decide) (by decide) <| st 4 1 (by decide) (by decide) <| st 4 0 (by decide) (by decide)
    <| st 3 3 (by decide) (by decide) <| st 3 2 (by decide) (by decide) <| st 3 1 (by decide) (by decide) <| st 3 0 (by decide) (by decide)
    <| st 2 3 (by decide) (by decide) <| st 2 2 (by decide) (by decide) <| st 2 1 (by decide) (by decide) <| st 2 0 (by decide) (by decide)
    <| st 1 3 (by decide) (by decide) <| st 1 2 (by decide) (by decide) <| st 1 1 (by decide) (by decide) <| st 1 0 (by decide) (by decide)
    <| st 0 3 (by decide) (by decide) <| st 0 2 (by decide) (by decide) <| st 0 1 (by decide) (by decide) <| st 0 0 (by decide) (by decide)
    <| fun _ => rfl
  refine (View.read_writes_junk_eq_canon VO0_8 _).trans (funext fun y => (e y).trans ?_)
  have y0 : (y 0).val < 8 := (y 0).isLt
  have y1 : (y 1).val < 4 := (y 1).isLt
  rw [if_pos (by omega)]

end Cert.Hgrn

end
-- ==== Proof.Hgrn.Array.lean ====
/- The array of states that the recurrence leaves, index by index, from the launch contents of its arguments. -/
module

public import proofs.«01_k».proof.Proof.Hgrn.Out

@[expose] public section

set_option maxRecDepth 16384

noncomputable section

namespace Cert.Hgrn

open Idealize.ShloMosaic Idealize.ShloMosaic.TcCoe Idealize.SL.Sem Idealize.ShloMosaic.ValueIdx
open scoped BigOperators
open Cert.Kernel5Ideal Cert.Kernel5Ideal.Gen

variable (m : (ℓ : Loc nD τ sig) → Buf (Elt Ideal) ℓ)

theorem lt_N (t : Fin cfg0.N) : t.val < 4 := lt_of_lt_of_eq t.isLt N_0

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 1 :=
  (by decide +kernel : ∀ t : Fin grid0.N, win0_1.index t 0 = t.val ∧ win0_1.index t 1 = 0 ∧ win0_1.index t 2 = 1)
theorem idx4 : ∀ t : Fin cfg0.N, win0_4.index t 0 = 0 ∧ win0_4.index t 1 = 0 :=
  (by decide +kernel : ∀ t : Fin grid0.N, win0_4.index t 0 = 0 ∧ win0_4.index t 1 = 0)
theorem idx6 : ∀ t : Fin cfg0.N, win0_6.index t 0 = t.val ∧ win0_6.index t 1 = 0 ∧ win0_6.index t 2 = 0 ∧ win0_6.index t 3 = 0 :=
  (by decide +kernel : ∀ t : Fin grid0.N, win0_6.index t 0 = t.val ∧ win0_6.index t 1 = 0 ∧ win0_6.index t 2 = 0 ∧ win0_6.index t 3 = 0)
theorem idx8 : ∀ t : Fin cfg0.N, win0_8.index t 0 = t.val ∧ win0_8.index t 1 = 0 ∧ win0_8.index t 2 = 0 ∧ win0_8.index t 3 = 0 :=
  (by decide +kernel : ∀ t : Fin grid0.N, win0_8.index t 0 = t.val ∧ win0_8.index t 1 = 0 ∧ win0_8.index t 2 = 0 ∧ win0_8.index t 3 = 0)

/-- Stream `b` of point `t`. -/
def strm (t : Fin cfg0.N) (b : Fin 8) : Fin 32 := ⟨8 * t.val + b.val, by have := lt_N t; omega⟩

/-- The recurrence columns at launch. -/
abbrev Zb (c : Dev nD) : Vec Ideal S32x64x2048 .f32 := m ((c : Thread nD τ).loc main_arg0)
/-- The gates' lower bounds at launch. -/
abbrev Lb (c : Dev nD) : Vec Ideal S512 .f32 := m ((c : Thread nD τ).loc main_arg1)
/-- The states at launch. -/
abbrev Sb (c : Dev nD) : Vec Ideal S1x32x4x128x128 .f32 := m ((c : Thread nD τ).loc main_arg3)

/-- The lower bounds as a row when the region is entered. -/
theorem V_row (c : Dev nD) : (V m c main_v0 : Vec Ideal S1x512 .f32) = shapeCast S1x512 (Lb m c) shapeCasts_S512_S1x512 := by
  show StableHlo.after (List.flatten [hostOps0]) _ _ = _
  simp only [hostOps0, List.flatten_cons, List.flatten_nil, List.append_nil, List.cons_append, List.nil_append]
  after_results_simp
  rfl

/-- The states without their leading unit when the region is entered. -/
theorem V_state (c : Dev nD) : (V m c main_v3 : Vec Ideal S32x4x128x128 .f32) = shapeCast S32x4x128x128 (Sb m c) shapeCasts_S1x32x4x128x128_S32x4x128x128 := by
  show StableHlo.after (List.flatten [hostOps0]) _ _ = _
  simp only [hostOps0, List.flatten_cons, List.flatten_nil, List.append_nil, List.cons_append, List.nil_append]
  after_results_simp
  rfl

/-- The gate columns at point `t`. -/
theorem blk_f (c : Dev nD) (t : Fin cfg0.N) (b : Fin 8) (s : Fin 64) (n : Fin 512) :
    (iblk m c 0 t : Vec Ideal S8x64x512 .f32) (ix3 b s n) = Zb m c (ix3 (strm t b) s (⟨n.val, by omega⟩ : Fin 2048)) := by
  refine Eq.trans ?_ (congrFun (V_main_arg0 m c) _)
  show V m c main_arg0 ((win0_0.rect t).emb (ix3 b s n)) = _
  refine congrArg _ (funext fun a => Fin.ext ?_)
  refine (Pipeline.Window.rect_emb_val win0_0 t (ix3 b s n) a rfl).trans ?_
  match a with
  | ⟨0, _⟩ => show win0_0.index t 0 * 8 + b.val = 8 * t.val + b.val; rw [(idx0 t).1]; omega
  | ⟨1, _⟩ => show win0_0.index t 1 * 64 + s.val = s.val; rw [(idx0 t).2.1]; omega
  | ⟨2, _⟩ => show win0_0.index t 2 * 512 + n.val = n.val; rw [(idx0 t).2.2]; omega

/-- The value columns at point `t`. -/
theorem blk_i (c : Dev nD) (t : Fin cfg0.N) (b : Fin 8) (s : Fin 64) (n : Fin 512) :
    (iblk m c 1 t : Vec Ideal S8x64x512 .f32) (ix3 b s n) = Zb m c (ix3 (strm t b) s (⟨512 + n.val, by omega⟩ : Fin 2048)) := by
  refine Eq.trans ?_ (congrFun (V_main_arg0 m c) _)
  show V m c main_arg0 ((win0_1.rect t).emb (ix3 b s n)) = _
  refine congrArg _ (funext fun a => Fin.ext ?_)
  refine (Pipeline.Window.rect_emb_val win0_1 t (ix3 b s n) a rfl).trans ?_
  match a with
  | ⟨0, _⟩ => show win0_1.index t 0 * 8 + b.val = 8 * t.val + b.val; rw [(idx1 t).1]; omega
  | ⟨1, _⟩ => show win0_1.index t 1 * 64 + s.val = s.val; rw [(idx1 t).2.1]; omega
  | ⟨2, _⟩ => show win0_1.index t 2 * 512 + n.val = 512 + n.val; rw [(idx1 t).2.2]

/-- The lower bounds at point `t`. -/
theorem blk_l (c : Dev nD) (t : Fin cfg0.N) (n : Fin 512) :
    (iblk m c 4 t : Vec Ideal S1x512 .f32) (ix2 (0 : Fin 1) n) = Lb m c (ix1 n) := by
  have e : (win0_4.rect t).emb (ix2 (0 : Fin 1) n) = (ix2 (0 : Fin 1) n : S1x512.Idx) := funext fun a => Fin.ext (by
    refine (Pipeline.Window.rect_emb_val win0_4 t (ix2 (0 : Fin 1) n) a rfl).trans ?_
    match a with
    | ⟨0, _⟩ => show win0_4.index t 0 * 1 + 0 = 0; rw [(idx4 t).1]
    | ⟨1, _⟩ => show win0_4.index t 1 * 512 + n.val = n.val; rw [(idx4 t).2]; omega)
  show V m c main_v0 ((win0_4.rect t).emb (ix2 (0 : Fin 1) n)) = _
  rw [e]
  refine (congrFun (V_row m c) _).trans ?_
  exact shapeCast_apply (Lb m c) shapeCasts_S512_S1x512 (ix2 (0 : Fin 1) n) (ix1 n) (by
    rw [Shape.rowMajor_val_one, Shape.rowMajor_val_two]
    show n.val = 0 * 512 + n.val
    omega)

/-- The states at point `t`. -/
theorem blk_s (c : Dev nD) (t : Fin cfg0.N) (b : Fin 8) (h : Fin 4) (k v : Fin 128) :
    (iblk m c 6 t : Vec Ideal S8x4x128x128 .f32) (ix4 b h k v) = Sb m c (ix5 (0 : Fin 1) (strm t b) h k v) := by
  have e : (win0_6.rect t).emb (ix4 b h k v) = (ix4 (strm t b) h k v : S32x4x128x128.Idx) := funext fun a => Fin.ext (by
    refine (Pipeline.Window.rect_emb_val win0_6 t (ix4 b h k v) a rfl).trans ?_
    match a with
    | ⟨0, _⟩ => show win0_6.index t 0 * 8 + b.val = 8 * t.val + b.val; rw [(idx6 t).1]; omega
    | ⟨1, _⟩ => show win0_6.index t 1 * 4 + h.val = h.val; rw [(idx6 t).2.1]; omega
    | ⟨2, _⟩ => show win0_6.index t 2 * 128 + k.val = k.val; rw [(idx6 t).2.2.1]; omega
    | ⟨3, _⟩ => show win0_6.index t 3 * 128 + v.val = v.val; rw [(idx6 t).2.2.2]; omega)
  show V m c main_v3 ((win0_6.rect t).emb (ix4 b h k v)) = _
  rw [e]
  refine (congrFun (V_state m c) _).trans ?_
  exact shapeCast_apply (Sb m c) shapeCasts_S1x32x4x128x128_S32x4x128x128 (ix4 (strm t b) h k v) (ix5 (0 : Fin 1) (strm t b) h k v) (by
    rw [Shape.rowMajor_val_five, Shape.rowMajor_val_four]
    show (((0 * 32 + (strm t b).val) * 4 + h.val) * 128 + k.val) * 128 + v.val = (((strm t b).val * 4 + h.val) * 128 + k.val) * 128 + v.val
    omega)

/-- The state of stream `b`, head `h` after the chunk, at a key and a value. -/
def stateOf (Z : Vec Ideal S32x64x2048 .f32) (L : Vec Ideal S512 .f32) (S : Vec Ideal S1x32x4x128x128 .f32) (b : Fin 32) (h : Fin 4) (k v : Fin 128) : EReal :=
  newState (L (ix1 (col h k))) (fun s => Z (ix3 b s (⟨128 * h.val + k.val, by omega⟩ : Fin 2048)))
    (fun s => Z (ix3 b s (⟨512 + (128 * h.val + v.val), by omega⟩ : Fin 2048))) (S (ix5 (0 : Fin 1) b h k v))

/-- The result: the new state at each index. -/
def Gst (c : Dev nD) : (⟨S32x4x128x128, .f32⟩ : BufTy).Contents (Elt Ideal) :=
  fun i : S32x4x128x128.Idx => stateOf (Zb m c) (Lb m c) (Sb m c) ⟨(i 0).val, (i 0).isLt⟩ ⟨(i 1).val, (i 1).isLt⟩ ⟨(i 2).val, (i 2).isLt⟩ ⟨(i 3).val, (i 3).isLt⟩

/-- The logarithms of all gates lie below +∞. -/
def LogsBelow (Z : Vec Ideal S32x64x2048 .f32) (L : Vec Ideal S512 .f32) : Prop :=
  ∀ (b : Fin 32) (s : Fin 64) (n : Fin 512), Ideal.log (gate (L (ix1 n)) (Z (ix3 b s (⟨n.val, by omega⟩ : Fin 2048)))) ≠ ⊤

/-- What point `t` writes is its block of the result. -/
theorem flushed_s (c : Dev nD) (hl : LogsBelow (Zb m c) (Lb m c)) (t : Fin cfg0.N) :
    (dats m 0 c).flushed 8 t = ((cfg0.win 8).blk t).view.read (Elt Ideal) (Gst m c) := by
  refine (Value.flushed8_A m c t).trans ?_
  rw [out_state (hl := fun b s n => by rw [blk_l, blk_f]; exact hl (strm t b) s n)]
  refine funext fun (y : S8x4x128x128.Idx) => ?_
  obtain ⟨b, h, k, v, rfl⟩ : ∃ (b : Fin 8) (h : Fin 4) (k v : Fin 128), y = ix4 b h k v := ⟨y 0, y 1, y 2, y 3, eq_ix4 _⟩
  have e : (win0_8.rect t).emb (ix4 b h k v) = (ix4 (strm t b) h k v : S32x4x128x128.Idx) := funext fun a => Fin.ext (by
    refine (Pipeline.Window.rect_emb_val win0_8 t (ix4 b h k v) a rfl).trans ?_
    match a with
    | ⟨0, _⟩ => show win0_8.index t 0 * 8 + b.val = 8 * t.val + b.val; rw [(idx8 t).1]; omega
    | ⟨1, _⟩ => show win0_8.index t 1 * 4 + h.val = h.val; rw [(idx8 t).2.1]; omega
    | ⟨2, _⟩ => show win0_8.index t 2 * 128 + k.val = k.val; rw [(idx8 t).2.2.1]; omega
    | ⟨3, _⟩ => show win0_8.index t 3 * 128 + v.val = v.val; rw [(idx8 t).2.2.2]; omega)
  refine Eq.trans ?_ (congrArg (Gst m c) e).symm
  show newState ((iblk m c 4 t : Vec Ideal S1x512 .f32) (ix2 (0 : Fin 1) (col h k))) (fun s => (iblk m c 0 t : Vec Ideal S8x64x512 .f32) (ix3 b s (col h k)))
      (fun s => (iblk m c 1 t : Vec Ideal S8x64x512 .f32) (ix3 b s (col h v))) ((iblk m c 6 t : Vec Ideal S8x4x128x128 .f32) (ix4 b h k v))
    = stateOf (Zb m c) (Lb m c) (Sb m c) (strm t b) h k v
  rw [blk_l, blk_s]
  simp only [blk_f, blk_i]
  rfl

/-- Every index of the result lies in a block. -/
theorem cover_s (c : Dev nD) (i : S32x4x128x128.Idx) :
    ∃ t : Fin cfg0.N, (cfg0.win 8).flush t = true ∧ i ∈ ((cfg0.win 8).blk t).view.set := by
  have h0 : (i 0).val < 32 := (i 0).isLt
  have hN : (i 0).val / 8 < cfg0.N := by rw [show cfg0.N = 4 from N_0]; omega
  refine ⟨⟨(i 0).val / 8, hN⟩, flush0_8 _, ?_⟩
  generalize ht : (⟨(i 0).val / 8, hN⟩ : Fin cfg0.N) = t
  have ht' : t.val = (i 0).val / 8 := by rw [← ht]
  show i ∈ ((View.whole main_v4_1).slice (win0_8.rect t)).set
  rw [View.set_slice_whole, Rect.mem_set_unit]
  intro a
  match a with
  | ⟨0, _⟩ =>
    show win0_8.index t 0 * 8 ≤ (i 0).val ∧ (i 0).val < win0_8.index t 0 * 8 + 8
    rw [(idx8 t).1, ht']; omega
  | ⟨1, _⟩ =>
    have h1 : (i 1).val < 4 := (i 1).isLt
    show win0_8.index t 1 * 4 ≤ (i 1).val ∧ (i 1).val < win0_8.index t 1 * 4 + 4
    rw [(idx8 t).2.1]; omega
  | ⟨2, _⟩ =>
    have h2 : (i 2).val < 128 := (i 2).isLt
    show win0_8.index t 2 * 128 ≤ (i 2).val ∧ (i 2).val < win0_8.index t 2 * 128 + 128
    rw [(idx8 t).2.2.1]; omega
  | ⟨3, _⟩ =>
    have h3 : (i 3).val < 128 := (i 3).isLt
    show win0_8.index t 3 * 128 ≤ (i 3).val ∧ (i 3).val < win0_8.index t 3 * 128 + 128
    rw [(idx8 t).2.2.2]; omega

/-- The result after the run. -/
theorem arr_s (c : Dev nD) (hl : LogsBelow (Zb m c) (Lb m c)) : (dats m 0 c).arrAt 8 cfg0.N = Gst m c :=
  (dats m 0 c).arrAt_eq_of_cover 8 (Gst m c) (fun t _ => flushed_s m c hl t) (cover_s c)

end Cert.Hgrn

end
-- ==== Proof.Hgrn.Ref.lean ====
/- What the reference of the recurrence computes, read at an index. -/
module

public import proofs.«01_k».proof.Proof.Hgrn.Array
public import proofs.«01_k».proof.Proof.Gen.Reference5Ideal.Run
public import proofs.«01_k».proof.Proof.Gen.Reference5Ideal.Read

@[expose] public section

set_option maxRecDepth 16384

noncomputable section

namespace Cert.Hgrn

open Idealize.ShloMosaic Idealize.ShloMosaic.TcCoe Idealize.SL.Sem Idealize.ShloMosaic.ValueIdx
open scoped BigOperators
open Cert.Reference5Ideal Cert.Reference5Ideal.Gen Cert.Reference5Ideal.Read

/-- Adding one term after the other is the sum. -/
theorem added (n : ℕ) (g : Fin n → EReal) : (List.finRange n).foldl (fun r i => r + g i) 0 = ∑ i : Fin n, g i := by
  rw [Fin.sum_univ_def, List.sum_eq_foldl, List.foldl_map]

/-- A sum over the windows is a sum over the places of a window. -/
theorem windowed {s t u : Shape} (window strides lo hi : Fin s.rank → ℕ) (x : s.Idx → EReal) (z : u.Idx → EReal)
    (h : s.ReduceWindows window strides lo hi t) (hu : 0 < u.numel) (hz : z (Shape.Idx.first hu) = 0) (j : t.Idx) :
    Host.reduceWindow (fun a b : EReal => a + b) window strides lo hi x z h hu j
      = ∑ q : (⟨s.rank, window⟩ : Shape).Idx,
          if hin : ∀ a, lo a ≤ (j (a.cast h.1.symm)).val * strides a + (q a).val ∧ (j (a.cast h.1.symm)).val * strides a + (q a).val - lo a < s.size a then
            x (fun a => ⟨(j (a.cast h.1.symm)).val * strides a + (q a).val - lo a, (hin a).2⟩)
          else 0 := by
  rw [← Equiv.sum_comp (⟨s.rank, window⟩ : Shape).rowMajor.symm, ← added, ← hz]
  unfold Host.reduceWindow
  refine congrArg (fun f : EReal → _ → EReal => List.foldl f _ _) (funext fun r => funext fun n => congrArg (r + ·) ?_)
  beta_reduce
  split_ifs <;> rfl

/-- A running sum along the third axis. -/
theorem running {n : ℕ} (x : FVec Ideal ⟨4, ![n, 4, 64, 128]⟩ .f32) (z : S_.Idx → Ideal .f32) (hz : z (Shape.Idx.first h_S_) = (0 : EReal))
    (hr : (⟨4, ![n, 4, 64, 128]⟩ : Shape).ReduceWindows ![1, 1, 64, 1] ![1, 1, 1, 1] ![0, 0, 63, 0] ![0, 0, 0, 0] ⟨4, ![n, 4, 64, 128]⟩)
    (b : Fin n) (h : Fin 4) (t : Fin 64) (k : Fin 128) :
    (Host.reduceWindowAdd ![1, 1, 64, 1] ![1, 1, 1, 1] ![0, 0, 63, 0] ![0, 0, 0, 0] x z
        hr h_S_ (ix4 b h t k) : EReal)
      = ∑ s : Fin 64, if s.val ≤ t.val then (x (ix4 b h s k) : EReal) else 0 := by
  refine (windowed (s := ⟨4, ![n, 4, 64, 128]⟩) ![1, 1, 64, 1] ![1, 1, 1, 1] ![0, 0, 63, 0] ![0, 0, 0, 0] x (fun _ : (⟨0, ![]⟩ : Shape).Idx => z (Shape.Idx.first h_S_))
    hr (by decide) hz (ix4 b h t k)).trans ?_
  let W : Shape := ⟨4, ![1, 1, 64, 1]⟩
  let e : Fin 64 ≃ W.Idx :=
    { toFun := fun w => ix4 (0 : Fin 1) (0 : Fin 1) w (0 : Fin 1)
      invFun := fun q => ⟨(q 2).val, (q 2).isLt⟩
      left_inv := fun w => rfl
      right_inv := fun q => funext fun a => Fin.ext (by
        match a with
        | ⟨0, _⟩ => have := (q 0).isLt; have h0 : (q 0).val < 1 := this; show 0 = (q 0).val; omega
        | ⟨1, _⟩ => have := (q 1).isLt; have h0 : (q 1).val < 1 := this; show 0 = (q 1).val; omega
        | ⟨2, _⟩ => rfl
        | ⟨3, _⟩ => have := (q 3).isLt; have h0 : (q 3).val < 1 := this; show 0 = (q 3).val; omega) }
  refine (Equiv.sum_comp e _).symm.trans ?_
  rw [← Equiv.sum_comp (Equiv.addRight (t + 1)) (fun s : Fin 64 => if s.val ≤ t.val then (x (ix4 b h s k) : EReal) else 0)]
  refine Finset.sum_congr (M := EReal) rfl fun w _ => ?_
  have ht : t.val < 64 := t.isLt
  have hw : w.val < 64 := w.isLt
  have hv : ((Equiv.addRight (t + 1)) w).val = (w.val + (t.val + 1) % 64) % 64 := by
    show (w + (t + 1)).val = _
    rw [Fin.val_add, Fin.val_add]
    rfl
  dsimp only
  generalize (Equiv.addRight (t + 1)) w = s at hv ⊢
  by_cases hs : s.val ≤ t.val
  · have hge : 63 ≤ t.val + w.val := by omega
    have hsv : s.val = t.val + w.val - 63 := by omega
    have hin : ∀ a : Fin 4, (![0, 0, 63, 0] : Fin 4 → ℕ) a ≤ ((ix4 b h t k : (⟨4, ![n, 4, 64, 128]⟩ : Shape).Idx) a).val * (![1, 1, 1, 1] : Fin 4 → ℕ) a + ((e w) a).val
        ∧ ((ix4 b h t k : (⟨4, ![n, 4, 64, 128]⟩ : Shape).Idx) a).val * (![1, 1, 1, 1] : Fin 4 → ℕ) a + ((e w) a).val - (![0, 0, 63, 0] : Fin 4 → ℕ) a < (⟨4, ![n, 4, 64, 128]⟩ : Shape).size a := fun a => by
      match a with
      | ⟨0, _⟩ => have := b.isLt; show 0 ≤ b.val * 1 + 0 ∧ b.val * 1 + 0 - 0 < n; omega
      | ⟨1, _⟩ => have := h.isLt; show 0 ≤ h.val * 1 + 0 ∧ h.val * 1 + 0 - 0 < 4; omega
      | ⟨2, _⟩ => show 63 ≤ t.val * 1 + w.val ∧ t.val * 1 + w.val - 63 < 64; omega
      | ⟨3, _⟩ => have := k.isLt; show 0 ≤ k.val * 1 + 0 ∧ k.val * 1 + 0 - 0 < 128; omega
    rw [if_pos hs]
    refine (dif_pos hin).trans (congrArg x (funext fun a => Fin.ext ?_))
    match a with
    | ⟨0, _⟩ => show b.val * 1 + 0 - 0 = b.val; omega
    | ⟨1, _⟩ => show h.val * 1 + 0 - 0 = h.val; omega
    | ⟨2, _⟩ => show t.val * 1 + w.val - 63 = s.val; omega
    | ⟨3, _⟩ => show k.val * 1 + 0 - 0 = k.val; omega
  · rw [if_neg hs]
    refine dif_neg fun hin => ?_
    have h2 : 63 ≤ t.val * 1 + w.val ∧ t.val * 1 + w.val - 63 < 64 := hin 2
    omega

variable (Z : Vec Ideal S32x64x2048 .f32) (L : Vec Ideal S512 .f32) (S : Vec Ideal S1x32x4x128x128 .f32)

/-- The reference's gates. -/
theorem ref_gate (b : Fin 32) (h : Fin 4) (s : Fin 64) (k : Fin 128) :
    (val_main_v20 (F := Ideal) Z L (ix4 b h s k) : EReal) = gate (L (ix1 (col h k))) (Z (ix3 b s (⟨128 * h.val + k.val, by omega⟩ : Fin 2048))) := by
  have hl : ∀ j : S4x1x128.Idx, (j 0).val = h.val → (j 2).val = k.val → L (idx_main_v4 j) = L (ix1 (col h k)) := fun j h0 h2 =>
    congrArg L (funext fun a => Fin.ext (by
      match a with
      | ⟨0, _⟩ =>
        have h1 : (j 1).val < 1 := (j 1).isLt
        show ((j 0).val * 1 + (j 1).val) * 128 + (j 2).val = 128 * h.val + k.val
        omega))
  have hf : val_main_v8 (F := Ideal) Z (ix4 b h s k) = Z (ix3 b s (⟨128 * h.val + k.val, by omega⟩ : Fin 2048)) := by
    rw [val_main_v8_apply, val_main_v7_apply, val_main_v0_apply]
    refine congrArg Z (funext fun a => Fin.ext ?_)
    match a with
    | ⟨0, _⟩ => show (((b.val * 64 + s.val) * 4 + h.val) * 128 + k.val) / 32768 = b.val; omega
    | ⟨1, _⟩ => show (((b.val * 64 + s.val) * 4 + h.val) * 128 + k.val) / 512 % 64 = s.val; omega
    | ⟨2, _⟩ => show (((b.val * 64 + s.val) * 4 + h.val) * 128 + k.val) % 512 = 128 * h.val + k.val; omega
  rw [val_main_v20_apply, val_main_v19_apply, val_main_v18_apply, val_main_v4_apply, val_main_v17_apply, val_main_v16_apply, val_main_v15_apply,
    val_main_v6_apply, val_main_v5_apply, val_main_v4_apply, val_main_v14_apply, val_main_v13_apply, val_main_v12_apply, val_main_v11_apply,
    val_main_v10_apply, val_main_v9_apply, hf, hl _ rfl rfl]
  unfold gate
  have h1 : (FloatOps.ofBits (F := Ideal) .f32 0x3F800000#32 : EReal) = 1 := Ideal.ofBits_one_f32
  rw [val_main_cst_apply, val_main_cst_0_apply, val_main_cst_1_apply, h1]
  rfl

/-- The reference's cumulative logarithms. -/
theorem ref_cum (b : Fin 32) (h : Fin 4) (t : Fin 64) (k : Fin 128) :
    (val_main_v26 (F := Ideal) Z L (ix4 b h t k) : EReal)
      = cumLog (L (ix1 (col h k))) (fun s => Z (ix3 b s (⟨128 * h.val + k.val, by omega⟩ : Fin 2048))) t := by
  unfold val_main_v26 cumLog
  refine (running _ _ ?_ reduceWindows_S32x4x64x128_S32x4x64x128_w1s1p0_0_w1s1p0_0_w64s1p63_0_w1s1p0_0 b h t k).trans ?_
  · rw [val_main_call0_call0_v0_apply, val_main_call0_call0_cst_apply]; exact Ideal.ofBits_zero_f32
  · refine Finset.sum_congr (M := EReal) rfl fun s _ => ?_
    have e : (val_main_v21 (F := Ideal) Z L (ix4 b h s k) : EReal) = Ideal.log (gate (L (ix1 (col h k))) (Z (ix3 b s (⟨128 * h.val + k.val, by omega⟩ : Fin 2048)))) :=
      (val_main_v21_apply Z L _).trans (congrArg Ideal.log (ref_gate Z L b h s k))
    rw [e]

/-- The reference's values. -/
theorem ref_val (b : Fin 32) (h : Fin 4) (s : Fin 64) (v : Fin 128) :
    val_main_v25 (F := Ideal) Z (ix4 b h s v) = Z (ix3 b s (⟨512 + (128 * h.val + v.val), by omega⟩ : Fin 2048)) := by
  rw [val_main_v25_apply, val_main_v24_apply, val_main_v1_apply]
  refine congrArg Z (funext fun a => Fin.ext ?_)
  match a with
  | ⟨0, _⟩ => show (((b.val * 64 + s.val) * 4 + h.val) * 128 + v.val) / 32768 = b.val; omega
  | ⟨1, _⟩ => show (((b.val * 64 + s.val) * 4 + h.val) * 128 + v.val) / 512 % 64 = s.val; omega
  | ⟨2, _⟩ => show 512 + (((b.val * 64 + s.val) * 4 + h.val) * 128 + v.val) % 512 = 512 + (128 * h.val + v.val); omega

/-- The reference's last cumulative logarithm. -/
theorem ref_last (j : S32x4x1x128.Idx) (b : Fin 32) (h : Fin 4) (k : Fin 128) (h0 : (j 0).val = b.val) (h1 : (j 1).val = h.val) (h3 : (j 3).val = k.val) :
    (val_main_v27 (F := Ideal) Z L j : EReal) = cumLog (L (ix1 (col h k))) (fun s => Z (ix3 b s (⟨128 * h.val + k.val, by omega⟩ : Fin 2048))) 63 := by
  rw [val_main_v27_apply, ← ref_cum Z L b h 63 k]
  refine congrArg (val_main_v26 (F := Ideal) Z L) (funext fun a => Fin.ext ?_)
  match a with
  | ⟨0, _⟩ => exact h0
  | ⟨1, _⟩ => exact h1
  | ⟨2, _⟩ =>
    have h2 : (j 2).val < 1 := (j 2).isLt
    show 63 + (j 2).val = 63
    omega
  | ⟨3, _⟩ => exact h3

/-- The reference's new state. -/
theorem ref_state (b : Fin 32) (h : Fin 4) (k v : Fin 128) :
    (val_main_v39 (F := Ideal) Z L S (ix4 b h k v) : EReal) = stateOf Z L S b h k v := by
  have hb : b.val < 32 := b.isLt
  have hh : h.val < 4 := h.isLt
  have hk : k.val < 128 := k.isLt
  have hv : v.val < 128 := v.isLt
  have e31 : val_main_v31 (F := Ideal) S (ix4 b h k v) = S (ix5 (0 : Fin 1) b h k v) := by
    rw [val_main_v31_apply]
    refine congrArg S (funext fun a => Fin.ext ?_)
    match a with
    | ⟨0, _⟩ => rfl
    | ⟨1, _⟩ => show (((b.val * 4 + h.val) * 128 + k.val) * 128 + v.val) / 65536 % 32 = b.val; omega
    | ⟨2, _⟩ => show (((b.val * 4 + h.val) * 128 + k.val) * 128 + v.val) / 16384 % 4 = h.val; omega
    | ⟨3, _⟩ => show (((b.val * 4 + h.val) * 128 + k.val) * 128 + v.val) / 128 % 128 = k.val; omega
    | ⟨4, _⟩ => show (((b.val * 4 + h.val) * 128 + k.val) * 128 + v.val) % 128 = v.val; omega
  have e32 : (val_main_v32 (F := Ideal) Z L (ix4 b h k v) : EReal)
      = Ideal.exp (cumLog (L (ix1 (col h k))) (fun s => Z (ix3 b s (⟨128 * h.val + k.val, by omega⟩ : Fin 2048))) 63) := by
    rw [val_main_v32_apply, val_main_v30_apply, val_main_v29_apply, val_main_v28_apply]
    refine congrArg Ideal.exp (ref_last Z L _ b h k ?_ ?_ ?_)
    · show ((b.val * 4 + h.val) * 128 + k.val) / 512 = b.val; omega
    · show ((b.val * 4 + h.val) * 128 + k.val) / 128 % 4 = h.val; omega
    · show ((b.val * 4 + h.val) * 128 + k.val) % 128 = k.val; omega
  have e37 : ∀ s : Fin 64, (val_main_v37 (F := Ideal) Z L (ix4 b h s k) : EReal)
      = (1 - gate (L (ix1 (col h k))) (Z (ix3 b s (⟨128 * h.val + k.val, by omega⟩ : Fin 2048))))
        * Ideal.exp (cumLog (L (ix1 (col h k))) (fun s => Z (ix3 b s (⟨128 * h.val + k.val, by omega⟩ : Fin 2048))) 63
          - cumLog (L (ix1 (col h k))) (fun s => Z (ix3 b s (⟨128 * h.val + k.val, by omega⟩ : Fin 2048))) s) := fun s => by
    rw [val_main_v37_apply, val_main_v36_apply, val_main_v35_apply, val_main_v34_apply, val_main_v23_apply, val_main_v22_apply, val_main_cst_2_apply,
      ref_gate, ref_cum, ref_last Z L _ b h k rfl rfl rfl]
    have h1 : (FloatOps.ofBits (F := Ideal) .f32 0x3F800000#32 : EReal) = 1 := Ideal.ofBits_one_f32
    rw [h1]
    rfl
  rw [val_main_v39_apply, val_main_v33_apply, e31, e32, val_main_v38_apply]
  unfold stateOf newState
  refine congrArg₂ (· + ·) (mul_comm _ _) (Finset.sum_congr (M := EReal) rfl fun s _ => ?_)
  have el : lidx_main_v38 (ix4 b h k v) s = ix4 b h s k := funext fun a => Fin.ext (by
    match a with
    | ⟨0, _⟩ => rfl
    | ⟨1, _⟩ => rfl
    | ⟨2, _⟩ => rfl
    | ⟨3, _⟩ => rfl)
  have er : ridx_main_v38 (ix4 b h k v) s = ix4 b h s v := funext fun a => Fin.ext (by
    match a with
    | ⟨0, _⟩ => rfl
    | ⟨1, _⟩ => rfl
    | ⟨2, _⟩ => rfl
    | ⟨3, _⟩ => rfl)
  rw [el, er, e37, ref_val]
  exact mul_comm _ _

end Cert.Hgrn

end
-- ==== Proof.Hgrn.Claims.lean ====
/- The claims about the recurrence's new state, sample batch. -/
module

public import proofs.«01_k».proof.Defs
public import proofs.«01_k».proof.Proof.Gen.Kernel5.Frame
public import proofs.«01_k».proof.Proof.Hgrn.Array
public import proofs.«01_k».proof.Proof.Hgrn.Ref
public import Idealize.ShloMosaic.Lib.Quiescent
public import Idealize.ShloMosaic.Lib.ReduceAll

@[expose] public section

set_option maxRecDepth 16384

noncomputable section

namespace Cert.Hgrn

open Idealize.ShloMosaic Idealize.ShloMosaic.TcCoe Idealize.SL.Sem Idealize.ShloMosaic.ValueIdx
open scoped BigOperators

/-- The shape relations of the precondition. -/
theorem facts_below : Cert.Pre_below5.Facts := ⟨by decide, by decide, by decide⟩

/-- The kernel runs, keeps its arguments and leaves no semaphore raised. -/
theorem frame_kernel : Cert.quiescent_Kernel5 := fun m ρ _ => Cert.Kernel5.Gen.frame m ρ

/-- The same of its reading over the extended reals. -/
theorem frame_kernelIdeal : Cert.quiescent_Kernel5Ideal := fun m ρ _ => Cert.Kernel5Ideal.Gen.frame m ρ

/-- The same under the precondition, which it does not need. -/
theorem frame_kernelIdeal_below : Cert.quiescent_Kernel5Ideal_pre_below5 (hPre_below5 := facts_below) :=
  fun m ρ _ => Cert.Kernel5Ideal.Gen.frame m ρ

/-- The same of the reference. -/
theorem frame_referenceIdeal : Cert.quiescent_Reference5Ideal := fun m ρ _ =>
  (θ_run _ _ _).mono (fun r h => ⟨fun c => (h c).2, Idealize.ShloMosaic.sem_eq_zero_of_no_sems (by decide) r.2⟩)
    (Cert.Reference5Ideal.Value.run (F := Ideal) m ρ)

/-- The same of the reference under the precondition. -/
theorem frame_referenceIdeal_below : Cert.quiescent_Reference5Ideal_pre_below5 (hPre_below5 := facts_below) := fun m ρ _ =>
  (θ_run _ _ _).mono (fun r h => ⟨fun c => (h c).2, Idealize.ShloMosaic.sem_eq_zero_of_no_sems (by decide) r.2⟩)
    (Cert.Reference5Ideal.Value.run (F := Ideal) m ρ)

/-- A logistic value is a real. -/
theorem real_logistic (x : EReal) : ∃ r : ℝ, Ideal.logistic x = r := by
  have one : ((1 : ℝ) : EReal) = 1 := EReal.coe_one
  have hy : ∀ y : EReal, 0 ≤ y → ∃ r : ℝ, Ideal.div 1 (1 + y) = r := by
    intro y hy
    have h0 : (1 + y) ≠ 0 := ne_of_gt (lt_of_lt_of_le (by norm_num : (0 : EReal) < 1) (le_add_of_nonneg_right hy))
    unfold Ideal.div
    rw [if_neg h0, one_mul]
    induction y using EReal.rec with
    | bot => exact absurd hy (by simp)
    | top => exact ⟨0, by rw [← one, EReal.coe_add_top, EReal.inv_top, EReal.coe_zero]⟩
    | coe a => exact ⟨(1 + a)⁻¹, by rw [← one, ← EReal.coe_add, EReal.coe_inv]⟩
  refine hy (Ideal.exp (-x)) ?_
  generalize -x = y
  induction y using EReal.rec with
  | bot => exact le_of_eq rfl
  | top => exact le_top
  | coe a => exact EReal.coe_nonneg.2 (Real.exp_pos a).le

/-- A gate whose lower bound lies below +∞ has a logarithm below +∞. -/
theorem log_below (l x : EReal) (hl : l ≠ ⊤) : Ideal.log (gate l x) ≠ ⊤ := by
  have hlog : ∀ y : EReal, y ≠ ⊤ → Ideal.log y ≠ ⊤ := by
    intro y hy
    induction y using EReal.rec with
    | bot => exact bot_ne_top
    | top => exact absurd rfl hy
    | coe a =>
      show (if a ≤ 0 then (⊥ : EReal) else ((Real.log a : ℝ) : EReal)) ≠ ⊤
      split_ifs
      · exact bot_ne_top
      · exact EReal.coe_ne_top _
  refine hlog _ ?_
  unfold gate
  obtain ⟨r, hr⟩ := real_logistic x
  rw [hr]
  induction l using EReal.rec with
  | bot => rw [EReal.bot_add]; exact bot_ne_top
  | top => exact absurd rfl hl
  | coe a =>
    rw [show ((a : ℝ) : EReal) + (1 - (a : EReal)) * (r : EReal) = ((a + (1 - a) * r : ℝ) : EReal) by push_cast; rfl]
    exact EReal.coe_ne_top _

/-- The precondition says that the lower bounds lie below +∞, so the gates' logarithms do. -/
theorem below_of_pre (X : Vec Ideal Cert.Kernel5Ideal.S32x64x2048 .f32) (L : Vec Ideal Cert.Kernel5Ideal.S512 .f32)
    (w : Vec Ideal Cert.Kernel5Ideal.S1x4x128 .f32) (S : Vec Ideal Cert.Kernel5Ideal.S1x32x4x128x128 .f32)
    (h : (haveI := facts_below; Cert.Pre_below5.fn (F := Ideal) X L w S) = fun _ => 1#1) : LogsBelow X L := by
  haveI : Subsingleton (Cert.Pre_below5.S_.Idx) := ⟨fun a b => funext fun k => k.elim0⟩
  intro b s n
  refine log_below _ _ fun ht => ?_
  have h1 : Ideal.cmp .olt (L (ix1 n) : EReal) (Ideal.ofBits .f32 0x7F800000#32) = 1#1 :=
    Host.reduce_andi_all _ _ _ _ _ (congrFun h (fun a : Fin 0 => a.elim0)) (ix1 n)
  rw [ht] at h1
  unfold Ideal.cmp at h1
  simp at h1

open Cert.Kernel5Ideal Cert.Kernel5Ideal.Gen in
/-- Over the extended reals the kernel's new state is the reference's, where the lower bounds lie below +∞. -/
theorem algebraic : Cert.algebraic_Kernel5Ideal_Reference5Ideal_pre_below5 (hPre_below5 := facts_below) := by
  intro m g m' g' hpre hm
  refine ⟨Gst m, (θ_run _ _ _).mono (fun r h c => ?_) (Cert.Kernel5Ideal.Value.run_blocks m g),
    (θ_run _ _ _).mono (fun r h c => ?_) (Cert.Reference5Ideal.Value.run (F := Ideal) m' g')⟩
  · exact ⟨(h c).2.1.trans (arr_s m c (below_of_pre _ _ _ _ (hpre c))), (h c).2.2⟩
  · obtain ⟨h0, ha⟩ := h c
    obtain ⟨e0, e1, _, e3⟩ := hm c
    refine ⟨h0.trans ?_, ha⟩
    rw [Cert.Reference5Ideal.Read.val_main_v39_eq, e0, e1, e3]
    refine funext fun (i : Cert.Reference5Ideal.S32x4x128x128.Idx) => ?_
    exact (congrArg _ (eq_ix4 _)).trans
      (ref_state _ _ _ ⟨(i 0).val, (i 0).isLt⟩ ⟨(i 1).val, (i 1).isLt⟩ ⟨(i 2).val, (i 2).isLt⟩ ⟨(i 3).val, (i 3).isLt⟩)

end Cert.Hgrn

end
-- ==== Proof.Finish.Sample.lean ====
/- The gated output projection of the sample batch: the array the kernel leaves and the reference's, index by index. -/
module

public import proofs.«01_k».proof.Proof.Finish.Ref
public import proofs.«01_k».proof.Proof.Gen.Kernel6Ideal.Frame
public import proofs.«01_k».proof.Proof.Gen.Reference6Ideal.Read

@[expose] public section

set_option maxRecDepth 16384

noncomputable section

namespace Cert.Finish.Sample

open Idealize.ShloMosaic Idealize.ShloMosaic.TcCoe Idealize.SL.Sem Idealize.ShloMosaic.ValueIdx
open scoped BigOperators
open Cert.Inproj (flat3 hz)

/-- The result from the arguments: token `t` of stream `b` at column `n`. -/
def finat (x : (⟨3, ![32, 64, 1024]⟩ : Shape).Idx → EReal) (oa ob : (⟨3, ![32, 64, 512]⟩ : Shape).Idx → EReal)
    (z : (⟨2, ![2048, 2048]⟩ : Shape).Idx → EReal) (wa wb : (⟨3, ![1, 512, 1024]⟩ : Shape).Idx → EReal)
    (wo : (⟨3, ![1, 1024, 1024]⟩ : Shape).Idx → EReal) (b : Fin 32) (t : Fin 64) (n : Fin 1024) : EReal :=
  fin (fun d => x (ix3 b t d)) (fun k => oa (ix3 b t k)) (fun k => ob (ix3 b t k))
    (fun k d => wa (ix3 (0 : Fin 1) k d)) (fun k d => wb (ix3 (0 : Fin 1) k d))
    (fun d => z (ix2 (⟨b.val * 64 + t.val, by omega⟩ : Fin 2048) d)) (fun d e => wo (ix3 (0 : Fin 1) d e)) n

/-- Streams of 64 frames laid end to end, read at a row. -/
theorem streams {α : Type} {d : ℕ} (x : (⟨3, ![32, 64, d]⟩ : Shape).Idx → α) (h : (⟨3, ![32, 64, d]⟩ : Shape).ShapeCasts ⟨2, ![2048, d]⟩)
    (r : Fin 2048) (k : Fin d) :
    shapeCast ⟨2, ![2048, d]⟩ x h (ix2 r k) = x (ix3 (⟨r.val / 64, by omega⟩ : Fin 32) (⟨r.val % 64, by omega⟩ : Fin 64) k) :=
  flat3 _ _ _ _ _ _ _ (congrArg (fun q => q * d + k.val) (by
    show r.val / 64 * 64 + r.val % 64 = r.val
    omega))

/-- A weight under its leading unit and narrowed, read at an index. -/
theorem weight {p q : ℕ} (x : (⟨3, ![1, p, q]⟩ : Shape).Idx → Ideal .f32) (h : (⟨3, ![1, p, q]⟩ : Shape).ShapeCasts ⟨2, ![p, q]⟩)
    (hb : FTy.bits .bf16 < FTy.bits .f32) (r : Fin p) (k : Fin q) :
    (truncf .bf16 (shapeCast ⟨2, ![p, q]⟩ x h : FVec Ideal ⟨2, ![p, q]⟩ .f32) hb : FVec Ideal ⟨2, ![p, q]⟩ .bf16) (ix2 r k)
      = x (ix3 (0 : Fin 1) r k) := by
  rw [truncf_apply]
  exact flat3 _ _ _ _ _ _ _ (congrArg (fun s => s * q + k.val) (by
    show 0 * p + r.val = r.val
    rw [Nat.zero_mul, Nat.zero_add]))

section Kernel

open Cert.Kernel6Ideal Cert.Kernel6Ideal.Gen

variable (m : (ℓ : Loc nD τ sig) → Buf (Elt Ideal) ℓ)

/-- The flat result: row `r`, column `n`. -/
def Gy (c : Dev nD) : (⟨S2048x1024, .f32⟩ : BufTy).Contents (Elt Ideal) :=
  fun i : S2048x1024.Idx => finat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (⟨(i 0).val / 64, by have : (i 0).val < 2048 := (i 0).isLt; omega⟩ : Fin 32) (⟨(i 0).val % 64, by omega⟩ : Fin 64) ⟨(i 1).val, (i 1).isLt⟩

theorem lt_N (t : Fin cfg0.N) : t.val < 2 := lt_of_lt_of_eq t.isLt N_0

/-- Row `r` of tile `t` as a row of the whole array. -/
def row (t : Fin cfg0.N) (r : Fin 1024) : Fin 2048 := ⟨t.val * 1024 + r.val, by have := lt_N t; omega⟩

/-- The tiled windows move by one tile a point, the weights' stay. -/
theorem moves : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_7.index t 0 = t.val ∧ win0_7.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_7.index t 0 = t.val ∧ win0_7.index t 1 = 0))
theorem stays : ∀ t : Fin cfg0.N, (win0_4.index t 0 = 0 ∧ win0_4.index t 1 = 0) ∧ (win0_5.index t 0 = 0 ∧ win0_5.index t 1 = 0)
    ∧ (win0_6.index t 0 = 0 ∧ win0_6.index t 1 = 0) :=
  (by decide +kernel : ∀ t : Fin grid0.N, (win0_4.index t 0 = 0 ∧ win0_4.index t 1 = 0) ∧ (win0_5.index t 0 = 0 ∧ win0_5.index t 1 = 0)
    ∧ (win0_6.index t 0 = 0 ∧ win0_6.index t 1 = 0))

/-- A tile's index in the whole array, from where its window stands. -/
theorem stands {p q P Q i0 i1 : ℕ} {f : (⟨2, ![p, q]⟩ : Shape).Idx → (⟨2, ![P, Q]⟩ : Shape).Idx} (r : Fin p) (k : Fin q) (R : Fin P) (K : Fin Q)
    (h0 : (f (ix2 r k) 0).val = i0 * p + r.val) (h1 : (f (ix2 r k) 1).val = i1 * q + k.val)
    (e0 : i0 * p + r.val = R.val) (e1 : i1 * q + k.val = K.val) : f (ix2 r k) = ix2 R K :=
  funext fun a => Fin.ext (match a with
    | ⟨0, _⟩ => h0.trans e0
    | ⟨1, _⟩ => h1.trans e1)

/-- Where an index of a tile that moves lies. -/
theorem at_moved {i0 i1 q : ℕ} (t : Fin cfg0.N) (r : Fin 1024) (k : Fin q) (h : i0 = t.val ∧ i1 = 0) :
    i0 * 1024 + r.val = (row t r).val ∧ i1 * q + k.val = k.val := by
  obtain ⟨rfl, rfl⟩ := h
  exact ⟨rfl, by rw [Nat.zero_mul, Nat.zero_add]⟩

/-- Where an index of a tile that stays lies. -/
theorem at_stayed {i0 i1 p q : ℕ} (r : Fin p) (k : Fin q) (h : i0 = 0 ∧ i1 = 0) :
    i0 * p + r.val = r.val ∧ i1 * q + k.val = k.val := by
  obtain ⟨rfl, rfl⟩ := h
  exact ⟨by rw [Nat.zero_mul, Nat.zero_add], by rw [Nat.zero_mul, Nat.zero_add]⟩

/-- The residual tile at point `t`. -/
theorem blk_x (c : Dev nD) (t : Fin cfg0.N) (r : Fin 1024) (k : Fin 1024) :
    (iblk m c 0 t : Vec Ideal S1024x1024 .f32) (ix2 r k)
      = (m ((c : Thread nD τ).loc main_arg0) : Vec Ideal S32x64x1024 .f32) (ix3 (⟨(row t r).val / 64, by omega⟩ : Fin 32) (⟨(row t r).val % 64, by omega⟩ : Fin 64) k) := by
  have e : (V m c main_v0 : Vec Ideal S2048x1024 .f32) = shapeCast S2048x1024 (m ((c : Thread nD τ).loc main_arg0) : Vec Ideal S32x64x1024 .f32) shapeCasts_S32x64x1024_S2048x1024 := by
    show StableHlo.after hostOps0 _ _ = _
    after_results <;> rfl
  obtain ⟨h0, h1⟩ := at_moved t r k (moves t).1
  refine (congrArg (V m c main_v0) (stands (f := (win0_0.rect t).emb) r k (row t r) k
    (Pipeline.Window.rect_emb_val win0_0 t (ix2 r k) 0 rfl) (Pipeline.Window.rect_emb_val win0_0 t (ix2 r k) 1 rfl) h0 h1)).trans ?_
  rw [e]
  exact streams _ _ _ _

/-- The first mixer's tile at point `t`. -/
theorem blk_oa (c : Dev nD) (t : Fin cfg0.N) (r : Fin 1024) (k : Fin 512) :
    (iblk m c 1 t : Vec Ideal S1024x512 .bf16) (ix2 r k)
      = (m ((c : Thread nD τ).loc main_arg1) : Vec Ideal S32x64x512 .bf16) (ix3 (⟨(row t r).val / 64, by omega⟩ : Fin 32) (⟨(row t r).val % 64, by omega⟩ : Fin 64) k) := by
  have e : (V m c main_v1 : Vec Ideal S2048x512 .bf16) = shapeCast S2048x512 (m ((c : Thread nD τ).loc main_arg1) : Vec Ideal S32x64x512 .bf16) shapeCasts_S32x64x512_S2048x512 := by
    show StableHlo.after hostOps0 _ _ = _
    after_results <;> rfl
  obtain ⟨h0, h1⟩ := at_moved t r k (moves t).2.1
  refine (congrArg (V m c main_v1) (stands (f := (win0_1.rect t).emb) r k (row t r) k
    (Pipeline.Window.rect_emb_val win0_1 t (ix2 r k) 0 rfl) (Pipeline.Window.rect_emb_val win0_1 t (ix2 r k) 1 rfl) h0 h1)).trans ?_
  rw [e]
  exact streams _ _ _ _

/-- The second mixer's tile at point `t`. -/
theorem blk_ob (c : Dev nD) (t : Fin cfg0.N) (r : Fin 1024) (k : Fin 512) :
    (iblk m c 2 t : Vec Ideal S1024x512 .bf16) (ix2 r k)
      = (m ((c : Thread nD τ).loc main_arg2) : Vec Ideal S32x64x512 .bf16) (ix3 (⟨(row t r).val / 64, by omega⟩ : Fin 32) (⟨(row t r).val % 64, by omega⟩ : Fin 64) k) := by
  have e : (V m c main_v2 : Vec Ideal S2048x512 .bf16) = shapeCast S2048x512 (m ((c : Thread nD τ).loc main_arg2) : Vec Ideal S32x64x512 .bf16) shapeCasts_S32x64x512_S2048x512 := by
    show StableHlo.after hostOps0 _ _ = _
    after_results <;> rfl
  obtain ⟨h0, h1⟩ := at_moved t r k (moves t).2.2.1
  refine (congrArg (V m c main_v2) (stands (f := (win0_2.rect t).emb) r k (row t r) k
    (Pipeline.Window.rect_emb_val win0_2 t (ix2 r k) 0 rfl) (Pipeline.Window.rect_emb_val win0_2 t (ix2 r k) 1 rfl) h0 h1)).trans ?_
  rw [e]
  exact streams _ _ _ _

/-- The gate tile at point `t`. -/
theorem blk_z (c : Dev nD) (t : Fin cfg0.N) (r : Fin 1024) (k : Fin 2048) :
    (iblk m c 3 t : Vec Ideal S1024x2048 .bf16) (ix2 r k)
      = (m ((c : Thread nD τ).loc main_arg3) : Vec Ideal S2048x2048 .bf16) (ix2 (row t r) k) := by
  obtain ⟨h0, h1⟩ := at_moved t r k (moves t).2.2.2.1
  refine (congrArg (V m c main_arg3) (stands (f := (win0_3.rect t).emb) r k (row t r) k
    (Pipeline.Window.rect_emb_val win0_3 t (ix2 r k) 0 rfl) (Pipeline.Window.rect_emb_val win0_3 t (ix2 r k) 1 rfl) h0 h1)).trans ?_
  exact congrFun (V_main_arg3 m c) _

/-- The first mixer's weights at point `t`. -/
theorem blk_wa (c : Dev nD) (t : Fin cfg0.N) (r : Fin 512) (k : Fin 1024) :
    (iblk m c 4 t : Vec Ideal S512x1024 .bf16) (ix2 r k)
      = (m ((c : Thread nD τ).loc main_arg4) : Vec Ideal S1x512x1024 .f32) (ix3 (0 : Fin 1) r k) := by
  have e : (V m c main_v4 : Vec Ideal S512x1024 .bf16) = truncf .bf16 (shapeCast S512x1024 (m ((c : Thread nD τ).loc main_arg4) : Vec Ideal S1x512x1024 .f32) shapeCasts_S1x512x1024_S512x1024 : FVec Ideal S512x1024 .f32) bitsLt_bf16_f32 := by
    show StableHlo.after hostOps0 _ _ = _
    after_results <;> rfl
  obtain ⟨h0, h1⟩ := at_stayed r k (stays t).1
  refine (congrArg (V m c main_v4) (stands (f := (win0_4.rect t).emb) r k r k
    (Pipeline.Window.rect_emb_val win0_4 t (ix2 r k) 0 rfl) (Pipeline.Window.rect_emb_val win0_4 t (ix2 r k) 1 rfl) h0 h1)).trans ?_
  rw [e]
  exact weight _ _ _ _ _

/-- The second mixer's weights at point `t`. -/
theorem blk_wb (c : Dev nD) (t : Fin cfg0.N) (r : Fin 512) (k : Fin 1024) :
    (iblk m c 5 t : Vec Ideal S512x1024 .bf16) (ix2 r k)
      = (m ((c : Thread nD τ).loc main_arg5) : Vec Ideal S1x512x1024 .f32) (ix3 (0 : Fin 1) r k) := by
  have e : (V m c main_v6 : Vec Ideal S512x1024 .bf16) = truncf .bf16 (shapeCast S512x1024 (m ((c : Thread nD τ).loc main_arg5) : Vec Ideal S1x512x1024 .f32) shapeCasts_S1x512x1024_S512x1024 : FVec Ideal S512x1024 .f32) bitsLt_bf16_f32 := by
    show StableHlo.after hostOps0 _ _ = _
    after_results <;> rfl
  obtain ⟨h0, h1⟩ := at_stayed r k (stays t).2.1
  refine (congrArg (V m c main_v6) (stands (f := (win0_5.rect t).emb) r k r k
    (Pipeline.Window.rect_emb_val win0_5 t (ix2 r k) 0 rfl) (Pipeline.Window.rect_emb_val win0_5 t (ix2 r k) 1 rfl) h0 h1)).trans ?_
  rw [e]
  exact weight _ _ _ _ _

/-- The output weights at point `t`. -/
theorem blk_wo (c : Dev nD) (t : Fin cfg0.N) (r : Fin 1024) (k : Fin 1024) :
    (iblk m c 6 t : Vec Ideal S1024x1024 .bf16) (ix2 r k)
      = (m ((c : Thread nD τ).loc main_arg6) : Vec Ideal S1x1024x1024 .f32) (ix3 (0 : Fin 1) r k) := by
  have e : (V m c main_v8 : Vec Ideal S1024x1024 .bf16) = truncf .bf16 (shapeCast S1024x1024 (m ((c : Thread nD τ).loc main_arg6) : Vec Ideal S1x1024x1024 .f32) shapeCasts_S1x1024x1024_S1024x1024 : FVec Ideal S1024x1024 .f32) bitsLt_bf16_f32 := by
    show StableHlo.after hostOps0 _ _ = _
    after_results <;> rfl
  obtain ⟨h0, h1⟩ := at_stayed r k (stays t).2.2
  refine (congrArg (V m c main_v8) (stands (f := (win0_6.rect t).emb) r k r k
    (Pipeline.Window.rect_emb_val win0_6 t (ix2 r k) 0 rfl) (Pipeline.Window.rect_emb_val win0_6 t (ix2 r k) 1 rfl) h0 h1)).trans ?_
  rw [e]
  exact weight _ _ _ _ _

/-- What point `t` writes is tile `t` of the result. -/
theorem flushed_y (c : Dev nD) (t : Fin cfg0.N) :
    (dats m 0 c).flushed 7 t = ((cfg0.win 7).blk t).view.read (Elt Ideal) (Gy m c) := by
  show (cfg0.win 7).cut (grid0.coords t) ((dats m 0 c).after 7 t) = _
  rw [after0_7]
  unfold out0_7
  rw [View.canon_unit_zero hz]
  refine funext fun (y : S1024x1024.Idx) => ?_
  obtain ⟨r, n, rfl⟩ : ∃ (r n : Fin 1024), y = ix2 r n := ⟨y 0, y 1, eq_ix2 _⟩
  obtain ⟨h0, h1⟩ := at_moved t r n (moves t).2.2.2.2
  have e : (win0_7.rect t).emb (ix2 r n) = (ix2 (row t r) n : S2048x1024.Idx) := stands (f := (win0_7.rect t).emb) r n (row t r) n
    (Pipeline.Window.rect_emb_val win0_7 t (ix2 r n) 0 rfl) (Pipeline.Window.rect_emb_val win0_7 t (ix2 r n) 1 rfl) h0 h1
  refine Eq.trans ?_ (congrArg (Gy m c) e).symm
  refine (pay1_apply _ _ _ _ _ _ _ _ (fun d => (m ((c : Thread nD τ).loc main_arg3) : Vec Ideal S2048x2048 .bf16) (ix2 (row t r) d)) r n (fun d => ?_) (fun d => ?_)).trans ?_
  · refine (ld_half 0 _ inb_S1024x2048_S1024x1024_0_0 r d (by omega)).trans ((blk_z m c t r _).trans ?_)
    exact congrArg (fun q => (m ((c : Thread nD τ).loc main_arg3) : Vec Ideal S2048x2048 .bf16) (ix2 (row t r) q)) (Fin.ext (Nat.zero_add _))
  · exact (ld_half 1024 _ inb_S1024x2048_S1024x1024_0_1024 r d (by omega)).trans (blk_z m c t r _)
  rw [View.ld_unit_zero hz, View.ld_unit_zero hz, View.ld_unit_zero hz, View.ld_unit_zero hz, View.ld_unit_zero hz, View.ld_unit_zero hz]
  simp only [blk_x, blk_oa, blk_ob, blk_wa, blk_wb, blk_wo]
  have er : (⟨(row t r).val / 64 * 64 + (row t r).val % 64, by omega⟩ : Fin 2048) = row t r := Fin.ext (by
    show (row t r).val / 64 * 64 + (row t r).val % 64 = (row t r).val; omega)
  exact congrArg (fun q : Fin 2048 => fin _ _ _ _ _ (fun d => (m ((c : Thread nD τ).loc main_arg3) : Vec Ideal S2048x2048 .bf16) (ix2 q d)) _ n) er.symm

/-- Every index of the result lies in a tile. -/
theorem cover_y (c : Dev nD) (i : S2048x1024.Idx) :
    ∃ t : Fin cfg0.N, (cfg0.win 7).flush t = true ∧ i ∈ ((cfg0.win 7).blk t).view.set := by
  have h0 : (i 0).val < 2048 := (i 0).isLt
  have hN : (i 0).val / 1024 < cfg0.N := by rw [show cfg0.N = 2 from N_0]; omega
  refine ⟨⟨(i 0).val / 1024, hN⟩, flush0_7 _, ?_⟩
  generalize ht : (⟨(i 0).val / 1024, hN⟩ : Fin cfg0.N) = t
  have ht' : t.val = (i 0).val / 1024 := by rw [← ht]
  obtain ⟨m0, m1⟩ := (moves t).2.2.2.2
  show i ∈ ((View.whole main_v9).slice (win0_7.rect t)).set
  rw [View.set_slice_whole, Rect.mem_set_unit]
  intro a
  match a with
  | ⟨0, _⟩ =>
    show win0_7.index t 0 * 1024 ≤ (i 0).val ∧ (i 0).val < win0_7.index t 0 * 1024 + 1024
    rw [m0, ht']; omega
  | ⟨1, _⟩ =>
    have h1 : (i 1).val < 1024 := (i 1).isLt
    show win0_7.index t 1 * 1024 ≤ (i 1).val ∧ (i 1).val < win0_7.index t 1 * 1024 + 1024
    rw [m1]; omega

/-- The result by stream and frame. -/
def Gout (c : Dev nD) : (⟨S32x64x1024, .f32⟩ : BufTy).Contents (Elt Ideal) :=
  fun i : S32x64x1024.Idx => finat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    ⟨(i 0).val, (i 0).isLt⟩ ⟨(i 1).val, (i 1).isLt⟩ ⟨(i 2).val, (i 2).isLt⟩

/-- The unflattening of the flat result. -/
theorem unflat (c : Dev nD) : (shapeCast S32x64x1024 (Gy m c) shapeCasts_S2048x1024_S32x64x1024 : Vec Ideal S32x64x1024 .f32) = Gout m c := by
  refine funext fun (i : S32x64x1024.Idx) => ?_
  obtain ⟨b, t, n, rfl⟩ : ∃ (b : Fin 32) (t : Fin 64) (n : Fin 1024), i = ix3 b t n := ⟨i 0, i 1, i 2, eq_ix3 _⟩
  refine (shapeCast_apply _ _ _ (ix2 (⟨b.val * 64 + t.val, by omega⟩ : Fin 2048) n) ?_).trans ?_
  · rw [Shape.rowMajor_val_three, Shape.rowMajor_val_two]; rfl
  · have hb : (⟨(b.val * 64 + t.val) / 64, by omega⟩ : Fin 32) = b := Fin.ext (by show (b.val * 64 + t.val) / 64 = b.val; omega)
    have ht : (⟨(b.val * 64 + t.val) % 64, by omega⟩ : Fin 64) = t := Fin.ext (by show (b.val * 64 + t.val) % 64 = t.val; omega)
    show finat _ _ _ _ _ _ _ (⟨(b.val * 64 + t.val) / 64, _⟩ : Fin 32) (⟨(b.val * 64 + t.val) % 64, _⟩ : Fin 64) _ = _
    rw [hb, ht]
    rfl

/-- The result when the line after the region has run. -/
theorem tail_y (c : Dev nD) :
    (Pipeline.afterTail₀ cfgs (dats m) 0 (V0 m) [hostOps1] c main_v10 : Vec Ideal S32x64x1024 .f32) = Gout m c := by
  unfold Pipeline.afterTail₀
  have h3 := (Pipeline.withArrays_arr spec0 (by decide) c (V0 m c) (fun w => (dats m 0 c).arrAt w cfg0.N) 7).trans
    ((dats m 0 c).arrAt_eq_of_cover 7 (Gy m c) (fun t _ => flushed_y m c t) (cover_y c))
  revert h3
  generalize Pipeline.withArrays (cfgs 0).spec c (V0 m c) (fun w => (dats m 0 c).arrAt w (cfgs 0).N) = W
  intro h3
  replace h3 : (W (Proc.devRef .tc main_v9) : Vec Ideal S2048x1024 .f32) = Gy m c := h3
  refine Eq.trans ?_ (unflat m c)
  rw [← h3]
  show StableHlo.after hostOps1 _ _ = _
  after_results <;> rfl

end Kernel

section Reference

open Cert.Reference6Ideal Cert.Reference6Ideal.Read

/-- The reference's first gate. -/
theorem ref_gate_first (x3 : Vec Ideal S2048x2048 .bf16) (b : Fin 32) (t : Fin 64) (d : Fin 1024) :
    val_main_v9 (F := Ideal) x3 (ix3 b t d)
      = Ideal.logistic (x3 (ix2 (⟨b.val * 64 + t.val, by omega⟩ : Fin 2048) (⟨d.val, by omega⟩ : Fin 2048))) := by
  rw [val_main_v9_apply, val_main_v8_apply, val_main_cst_0_apply, val_main_v7_apply, val_main_v6_apply, val_main_cst_apply, val_main_v5_apply, val_main_v4_apply, val_main_v2_apply, val_main_v1_apply, val_main_v0_apply]
  have e : idx_main_v1 (idx_main_v2 (ix3 b t d)) = ix2 (⟨b.val * 64 + t.val, by omega⟩ : Fin 2048) (⟨d.val, by omega⟩ : Fin 2048) :=
    funext fun a => Fin.ext (by
      match a with
      | ⟨0, _⟩ => show ((b.val * 64 + t.val) * 2048 + d.val) / 2048 = b.val * 64 + t.val; omega
      | ⟨1, _⟩ => show ((b.val * 64 + t.val) * 2048 + d.val) % 2048 = d.val; omega)
  rw [e, one_f32]
  rfl

/-- The reference's second gate. -/
theorem ref_gate_second (x3 : Vec Ideal S2048x2048 .bf16) (b : Fin 32) (t : Fin 64) (d : Fin 1024) :
    val_main_v19 (F := Ideal) x3 (ix3 b t d)
      = Ideal.logistic (x3 (ix2 (⟨b.val * 64 + t.val, by omega⟩ : Fin 2048) (⟨1024 + d.val, by omega⟩ : Fin 2048))) := by
  rw [val_main_v19_apply, val_main_v18_apply, val_main_cst_2_apply, val_main_v17_apply, val_main_v16_apply, val_main_cst_1_apply, val_main_v15_apply, val_main_v14_apply, val_main_v3_apply, val_main_v1_apply, val_main_v0_apply]
  have e : idx_main_v1 (idx_main_v3 (ix3 b t d)) = ix2 (⟨b.val * 64 + t.val, by omega⟩ : Fin 2048) (⟨1024 + d.val, by omega⟩ : Fin 2048) :=
    funext fun a => Fin.ext (by
      match a with
      | ⟨0, _⟩ => show ((b.val * 64 + t.val) * 2048 + (1024 + d.val)) / 2048 = b.val * 64 + t.val; omega
      | ⟨1, _⟩ => show ((b.val * 64 + t.val) * 2048 + (1024 + d.val)) % 2048 = 1024 + d.val; omega)
  rw [e, one_f32]
  rfl

/-- The reference's first mixer product. -/
theorem ref_first (xa : Vec Ideal S32x64x512 .bf16) (xw : Vec Ideal S1x512x1024 .f32) (b : Fin 32) (t : Fin 64) (d : Fin 1024) :
    val_main_v12 (F := Ideal) xa xw (ix3 b t d) = ∑ k : Fin 512, xa (ix3 b t k) * xw (ix3 (0 : Fin 1) k d) := by
  rw [val_main_v12_apply]
  refine Finset.sum_congr (M := EReal) rfl fun k _ => ?_
  refine congrArg₂ (· * ·) (congrArg xa (funext fun a => match a with | ⟨0, _⟩ => rfl | ⟨1, _⟩ => rfl | ⟨2, _⟩ => rfl)) ?_
  rw [val_main_v11_apply]
  refine congrArg xw (funext fun a => Fin.ext ?_)
  match a with
  | ⟨0, _⟩ => rfl
  | ⟨1, _⟩ => show (k.val * 1024 + d.val) / 1024 % 512 = k.val; omega
  | ⟨2, _⟩ => show (k.val * 1024 + d.val) % 1024 = d.val; omega

/-- The second mixer's product is the same function of its arguments. -/
theorem ref_second (xa : Vec Ideal S32x64x512 .bf16) (xw : Vec Ideal S1x512x1024 .f32) (b : Fin 32) (t : Fin 64) (d : Fin 1024) :
    val_main_v22 (F := Ideal) xa xw (ix3 b t d) = ∑ k : Fin 512, xa (ix3 b t k) * xw (ix3 (0 : Fin 1) k d) :=
  ref_first xa xw b t d

/-- The reference's result at an index. -/
theorem ref_out (x0 : Vec Ideal S32x64x1024 .f32) (x1 x2 : Vec Ideal S32x64x512 .bf16) (x3 : Vec Ideal S2048x2048 .bf16) (x4 x5 : Vec Ideal S1x512x1024 .f32) (x6 : Vec Ideal S1x1024x1024 .f32) (b : Fin 32) (t : Fin 64) (n : Fin 1024) :
    val_main_v27 (F := Ideal) x0 x1 x2 x3 x4 x5 x6 (ix3 b t n) = finat x0 x1 x2 x3 x4 x5 x6 b t n := by
  rw [val_main_v27_apply, val_main_v26_apply]
  unfold finat fin
  refine congrArg₂ (· + ·) rfl ?_
  refine Finset.sum_congr (M := EReal) rfl fun d _ => ?_
  refine congrArg₂ (· * ·) ?_ ?_
  · refine (congrArg _ (?_ : _ = ix3 b t d)).trans ?_
    · exact funext fun a => match a with | ⟨0, _⟩ => rfl | ⟨1, _⟩ => rfl | ⟨2, _⟩ => rfl
    · rw [val_main_v24_apply, val_main_v13_apply, val_main_v23_apply, ref_gate_first, ref_gate_second, ref_first, ref_second]
      rfl
  · rw [val_main_v25_apply]
    refine congrArg x6 (funext fun a => Fin.ext ?_)
    match a with
    | ⟨0, _⟩ => rfl
    | ⟨1, _⟩ => show (d.val * 1024 + n.val) / 1024 % 1024 = d.val; omega
    | ⟨2, _⟩ => show (d.val * 1024 + n.val) % 1024 = n.val; omega

end Reference

end Cert.Finish.Sample

end
-- ==== Proof.Finish.SampleClaims.lean ====
/- The claims about the gated output projection of the sample batch. -/
module

public import proofs.«01_k».proof.Defs
public import proofs.«01_k».proof.Proof.Gen.Kernel6.Frame
public import proofs.«01_k».proof.Proof.Finish.Sample
public import Idealize.ShloMosaic.Lib.Quiescent

@[expose] public section

set_option maxRecDepth 16384

noncomputable section

namespace Cert.Finish.Sample

open Idealize.ShloMosaic Idealize.ShloMosaic.TcCoe Idealize.SL.Sem Idealize.ShloMosaic.ValueIdx
open scoped BigOperators

/-- The kernel runs, keeps its arguments and leaves no semaphore raised. -/
theorem frame_kernel : Cert.quiescent_Kernel6 := fun m ρ _ => Cert.Kernel6.Gen.frame m ρ

/-- The same of its reading over the extended reals. -/
theorem frame_kernelIdeal : Cert.quiescent_Kernel6Ideal := fun m ρ _ => Cert.Kernel6Ideal.Gen.frame m ρ

/-- The same of the reference. -/
theorem frame_referenceIdeal : Cert.quiescent_Reference6Ideal := fun m ρ _ =>
  (θ_run _ _ _).mono (fun r h => ⟨fun c => (h c).2, Idealize.ShloMosaic.sem_eq_zero_of_no_sems (by decide) r.2⟩)
    (Cert.Reference6Ideal.Value.run (F := Ideal) m ρ)

open Cert.Kernel6Ideal Cert.Kernel6Ideal.Gen in
/-- Over the extended reals the kernel's result is the reference's. -/
theorem algebraic : Cert.algebraic_Kernel6Ideal_Reference6Ideal := by
  intro m g m' g' _ hm
  refine ⟨Gout m, (θ_run _ _ _).mono (fun r h c => ?_) (θ_run_and (run_main m g) (unchanged m g)),
    (θ_run _ _ _).mono (fun r h c => ?_) (Cert.Reference6Ideal.Value.run (F := Ideal) m' g')⟩
  · obtain ⟨hf, ha⟩ := h
    exact ⟨((hf c).2 main_v10 (Pipeline.mem_restRefs_of main_v10 (by decide) (by decide))).trans (tail_y m c), ha c⟩
  · obtain ⟨h0, ha⟩ := h c
    obtain ⟨e0, e1, e2, e3, e4, e5, e6⟩ := hm c
    refine ⟨h0.trans ?_, ha⟩
    rw [e0, e1, e2, e3, e4, e5, e6, Cert.Reference6Ideal.Read.val_main_v27_eq]
    refine funext fun (i : Cert.Reference6Ideal.S32x64x1024.Idx) => ?_
    exact (congrArg _ (eq_ix3 _)).trans (ref_out _ _ _ _ _ _ _ ⟨(i 0).val, (i 0).isLt⟩ ⟨(i 1).val, (i 1).isLt⟩ ⟨(i 2).val, (i 2).isLt⟩)

end Cert.Finish.Sample

end
-- ==== Proof.Hgrn.PromptPoint.lean ====
/- What a grid point of the prompt batch's recurrence leaves in its scratch and in the block of states: at the
   first point from zero states, at the others from the states that the point before left. -/
module

public import proofs.«01_k».proof.Proof.Hgrn.Heads
public import proofs.«01_k».proof.Proof.Gen.Kernel7Ideal.Value

@[expose] public section

set_option maxRecDepth 16384

noncomputable section

namespace Cert.Hgrn.Prompt

open Idealize.ShloMosaic Idealize.ShloMosaic.TcCoe Idealize.SL.Sem Idealize.ShloMosaic.ValueIdx
open scoped BigOperators
open Cert.Kernel7Ideal Cert.Kernel7Ideal.Gen

/-- A head's box in the states, holding `w`. -/
abbrev box (b h : ℕ) (hb : b < 8) (hh : h < 4) (w : Vec Ideal Cert.Kernel5Ideal.S1x1x128x128 .f32) :
    View.Piece (Elt Ideal) Cert.Kernel5Ideal.S8x4x128x128 .f32 :=
  ⟨Rect.unit (s := Cert.Kernel5Ideal.S8x4x128x128) ![b, h, 0, 0] Cert.Kernel5Ideal.S1x1x128x128.size (in_s hb hh), w⟩

section Chains

variable (c : Dev nD) (i : grid0.Coords) (a2 : Memref sig .tc .vmem S8x64x512 .f32) (h2 : a2.IsWhole) (a3 : Memref sig .tc .vmem S8x64x512 .f32) (h3 : a3.IsWhole) (a4 : Memref sig .tc .vmem S8x64x512 .f32) (h4 : a4.IsWhole) (a5 : Memref sig .tc .vmem S8x64x512 .f32) (h5 : a5.IsWhole) (a6 : Memref sig .tc .vmem S1x512 .f32) (h6 : a6.IsWhole) (a7 : Memref sig .tc .vmem S1x512 .f32) (h7 : a7.IsWhole) (a8 : Memref sig .tc .vmem S8x64x512 .bf16) (h8 : a8.IsWhole) (a9 : Memref sig .tc .vmem S8x4x128x128 .f32) (h9 : a9.IsWhole) (a10 : Memref sig .tc .vmem S8x4x128x128 .f32) (h10 : a10.IsWhole)
    (x0 x1 x2 x3 : Vec Ideal S8x64x512 .f32) (x4 x5 : Vec Ideal S1x512 .f32) (s0 : Vec Ideal S8x4x128x128 .f32)
    (hl : ∀ (b : Fin 8) (s : Fin 64) (n : Fin 512), Ideal.log (gate (x4 (ix2 (0 : Fin 1) n)) (x0 (ix3 b s n))) ≠ ⊤)

set_option maxHeartbeats 4000000 in
/-- The first point starts from zero states. -/
theorem zero_start : View.canon (kernelRun0_A.sl.HS0_32 (F := Ideal)) = fun _ => (0 : EReal) :=
  piled (fun b h hb hh => box b h hb hh (shapeCast Cert.Kernel5Ideal.S1x1x128x128 (broadcast Cert.Kernel5Ideal.S128x128 (Scalar.ofBits (F := Ideal) .f32 0x00000000#32))
    Cert.Kernel5Ideal.Gen.shapeCasts_S128x128_S1x1x128x128)) (fun b h hb hh L hL => zeroed _ b h hb hh hL)

include hl in
set_option maxHeartbeats 4000000 in
/-- At the first point the scratch is left with the new states over zero states. -/
theorem scratch_first (hc0 : cond0_0 i) (hc1 : ¬cond0_1 i) :
    sout0_A_0 c i a2 h2 a3 h3 a4 h4 a5 h5 a6 h6 a7 h7 a8 h8 a9 h9 a10 h10 hc0 hc1 x0 x1 x2 x3 x4 x5 = newOf x0 x1 x4 (fun _ => (0 : EReal)) := by
  have st := @step _ a2 h2 a3 h3 a6 h6 a10 x0 x1 x4 (fun _ => (0 : EReal)) hl
  have e : Holds (fun _ => (0 : EReal)) (newOf x0 x1 x4 (fun _ => (0 : EReal)))
      (kernelRun0_A (F := Ideal) c i a2 h2 a3 h3 a4 h4 a5 h5 a6 h6 a7 h7 a8 h8 a9 h9 a10 h10 hc0 hc1 x0 x1 x2 x3 x4 x5).2.2.1 32 :=
    st 7 3 (by decide) (by decide) <| st 7 2 (by decide) (by decide) <| st 7 1 (by decide) (by decide) <| st 7 0 (by decide) (by decide)
    <| st 6 3 (by decide) (by decide) <| st 6 2 (by decide) (by decide) <| st 6 1 (by decide) (by decide) <| st 6 0 (by decide) (by decide)
    <| st 5 3 (by decide) (by decide) <| st 5 2 (by decide) (by decide) <| st 5 1 (by decide) (by decide) <| st 5 0 (by decide) (by decide)
    <| st 4 3 (by decide) (by decide) <| st 4 2 (by decide) (by decide) <| st 4 1 (by decide) (by decide) <| st 4 0 (by decide) (by decide)
    <| st 3 3 (by decide) (by decide) <| st 3 2 (by decide) (by decide) <| st 3 1 (by decide) (by decide) <| st 3 0 (by decide) (by decide)
    <| st 2 3 (by decide) (by decide) <| st 2 2 (by decide) (by decide) <| st 2 1 (by decide) (by decide) <| st 2 0 (by decide) (by decide)
    <| st 1 3 (by decide) (by decide) <| st 1 2 (by decide) (by decide) <| st 1 1 (by decide) (by decide) <| st 1 0 (by decide) (by decide)
    <| st 0 3 (by decide) (by decide) <| st 0 2 (by decide) (by decide) <| st 0 1 (by decide) (by decide) <| st 0 0 (by decide) (by decide)
    <| holds_of_canon zero_start _
  exact (View.read_writes_junk_eq_canon VS0_0 _).trans (canon_of_holds e)

include hl in
set_option maxHeartbeats 4000000 in
/-- At a point between, with the new states over those that it found. -/
theorem scratch_mid (hc0 : ¬cond0_0 i) (hc1 : ¬cond0_1 i) :
    sout0_B_0 c i a2 h2 a3 h3 a4 h4 a5 h5 a6 h6 a7 h7 a8 h8 a9 h9 a10 h10 hc0 hc1 x0 x1 x2 x3 x4 x5 s0 = newOf x0 x1 x4 s0 := by
  have e : View.canon (kernelRun0_B (F := Ideal) c i a2 h2 a3 h3 a4 h4 a5 h5 a6 h6 a7 h7 a8 h8 a9 h9 a10 h10 hc0 hc1 x0 x1 x2 x3 x4 x5 s0).2.2.1 = newOf x0 x1 x4 s0 :=
    piled (fun b h hb hh => box b h hb hh (headWith a2 h2 a3 h3 a6 h6 x0 x1 x4
      (View.readAt (Elt Ideal) a10.view (Rect.unit (s := Cert.Kernel5Ideal.S8x4x128x128) ![b, h, 0, 0] Cert.Kernel5Ideal.S1x1x128x128.size (in_s hb hh)).toLoadRect (h10.unread s0)) b h hb hh))
      (fun b h hb hh L hL => stepFrom a2 h2 a3 h3 a6 h6 a10 h10 x0 x1 x4 s0 hl _ b h hb hh hL)
  exact (View.read_writes_junk_eq_canon VS0_0 _).trans e

include hl in
set_option maxHeartbeats 4000000 in
/-- The same at the last point, before the states are written out. -/
theorem scratch_last : View.canon (kernelRun0_C.sl.HS0_32 (F := Ideal) c a2 h2 a3 h3 a6 h6 a10 h10 x0 x1 x4 s0) = newOf x0 x1 x4 s0 :=
  piled (fun b h hb hh => box b h hb hh (headWith a2 h2 a3 h3 a6 h6 x0 x1 x4
    (View.readAt (Elt Ideal) a10.view (Rect.unit (s := Cert.Kernel5Ideal.S8x4x128x128) ![b, h, 0, 0] Cert.Kernel5Ideal.S1x1x128x128.size (in_s hb hh)).toLoadRect (h10.unread s0)) b h hb hh))
    (fun b h hb hh L hL => stepFrom a2 h2 a3 h3 a6 h6 a10 h10 x0 x1 x4 s0 hl _ b h hb hh hL)

include hl in
set_option maxHeartbeats 4000000 in
/-- The block of states after the last point: the new states, keys by values again. -/
theorem out_last (hc0 : ¬cond0_0 i) (hc1 : cond0_1 i) :
    out0_C_7 c i a2 h2 a3 h3 a4 h4 a5 h5 a6 h6 a7 h7 a8 h8 a9 h9 a10 h10 hc0 hc1 x0 x1 x2 x3 x4 x5 s0 = turn (newOf x0 x1 x4 s0) := by
  have hM : Holds (newOf x0 x1 x4 s0) (newOf x0 x1 x4 s0) (kernelRun0_C.sl.HS0_32 (F := Ideal) c a2 h2 a3 h3 a6 h6 a10 h10 x0 x1 x4 s0) 32 := fun y => by
    rw [scratch_last c a2 h2 a3 h3 a6 h6 a10 h10 x0 x1 x4 s0 hl, ite_self]
  have e : View.canon (kernelRun0_C (F := Ideal) c i a2 h2 a3 h3 a4 h4 a5 h5 a6 h6 a7 h7 a8 h8 a9 h9 a10 h10 hc0 hc1 x0 x1 x2 x3 x4 x5 s0).2.1 = turn (newOf x0 x1 x4 s0) :=
    piled (fun b h hb hh => box b h hb hh (Cert.Kernel5Ideal.Gen.k0_pay1
      (a10.view.readCov (kernelRun0_C.sl.HS0_32 (F := Ideal) c a2 h2 a3 h3 a6 h6 a10 h10 x0 x1 x4 s0)
        (Rect.unit (s := Cert.Kernel5Ideal.S8x4x128x128) ![b, h, 0, 0] Cert.Kernel5Ideal.S1x1x128x128.size (in_s hb hh)).toLoadRect)))
      (fun b h hb hh L hL => last a10 hM _ b h hb hh hL)
  exact (View.read_writes_junk_eq_canon VO0_7 _).trans e

end Chains

end Cert.Hgrn.Prompt

end
-- ==== Proof.Hgrn.PromptArray.lean ====
/- The states that the prompt batch's recurrence leaves: the new state of one chunk after the other, from zero,
   read from the launch contents of its arguments. -/
module

public import proofs.«01_k».proof.Proof.Hgrn.PromptPoint

@[expose] public section

set_option maxRecDepth 16384

noncomputable section

namespace Cert.Hgrn.Prompt

open Idealize.ShloMosaic Idealize.ShloMosaic.TcCoe Idealize.SL.Sem Idealize.ShloMosaic.ValueIdx
open scoped BigOperators
open Cert.Kernel7Ideal Cert.Kernel7Ideal.Gen

/-- Frame `s` of chunk `t`. -/
def frame (t : ℕ) (s : Fin 64) : Fin 2048 := ⟨(64 * t + s.val) % 2048, Nat.mod_lt _ (by omega)⟩

/-- The state of stream `b`, head `h` after `t` chunks, at a key and a value. -/
def after (Z : Vec Ideal S8x2048x2048 .f32) (L : Vec Ideal S512 .f32) : ℕ → Fin 8 → Fin 4 → Fin 128 → Fin 128 → EReal
  | 0 => fun _ _ _ _ => 0
  | t + 1 => fun b h k v =>
    newState (L (ix1 (col h k))) (fun s => Z (ix3 b (frame t s) (⟨128 * h.val + k.val, by omega⟩ : Fin 2048)))
      (fun s => Z (ix3 b (frame t s) (⟨512 + (128 * h.val + v.val), by omega⟩ : Fin 2048))) (after Z L t b h k v)

variable (m : (ℓ : Loc nD τ sig) → Buf (Elt Ideal) ℓ)

theorem lt_N (t : Fin cfg0.N) : t.val < 32 := lt_of_lt_of_eq t.isLt N_0

theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = 0 ∧ win0_1.index t 1 = t.val ∧ win0_1.index t 2 = 1 :=
  (by decide +kernel : ∀ t : Fin grid0.N, win0_1.index t 0 = 0 ∧ win0_1.index t 1 = t.val ∧ win0_1.index t 2 = 1)
theorem idx4 : ∀ t : Fin cfg0.N, win0_4.index t 0 = 0 ∧ win0_4.index t 1 = 0 :=
  (by decide +kernel : ∀ t : Fin grid0.N, win0_4.index t 0 = 0 ∧ win0_4.index t 1 = 0)

/-- The recurrence columns at launch. -/
abbrev Zb (c : Dev nD) : Vec Ideal S8x2048x2048 .f32 := m ((c : Thread nD τ).loc main_arg0)
/-- The gates' lower bounds at launch. -/
abbrev Lb (c : Dev nD) : Vec Ideal S512 .f32 := m ((c : Thread nD τ).loc main_arg1)

/-- The lower bounds as a row when the region is entered. -/
theorem V_row (c : Dev nD) : (V m c main_v0 : Vec Ideal S1x512 .f32) = shapeCast S1x512 (Lb m c) shapeCasts_S512_S1x512 := by
  show StableHlo.after (List.flatten [hostOps0]) _ _ = _
  simp only [hostOps0, List.flatten_cons, List.flatten_nil, List.append_nil, List.cons_append, List.nil_append]
  after_results_simp
  rfl

/-- The gate columns at point `t`. -/
theorem blk_f (c : Dev nD) (t : Fin cfg0.N) (b : Fin 8) (s : Fin 64) (n : Fin 512) :
    (iblk m c 0 t : Vec Ideal S8x64x512 .f32) (ix3 b s n) = Zb m c (ix3 b (frame t.val s) (⟨n.val, by omega⟩ : Fin 2048)) := by
  have ht := lt_N t
  refine Eq.trans ?_ (congrFun (V_main_arg0 m c) _)
  show V m c main_arg0 ((win0_0.rect t).emb (ix3 b s n)) = _
  refine congrArg _ (funext fun a => Fin.ext ?_)
  refine (Pipeline.Window.rect_emb_val win0_0 t (ix3 b s n) a rfl).trans ?_
  match a with
  | ⟨0, _⟩ => show win0_0.index t 0 * 8 + b.val = b.val; rw [(idx0 t).1]; omega
  | ⟨1, _⟩ => show win0_0.index t 1 * 64 + s.val = (64 * t.val + s.val) % 2048; rw [(idx0 t).2.1]; omega
  | ⟨2, _⟩ => show win0_0.index t 2 * 512 + n.val = n.val; rw [(idx0 t).2.2]; omega

/-- The value columns at point `t`. -/
theorem blk_i (c : Dev nD) (t : Fin cfg0.N) (b : Fin 8) (s : Fin 64) (n : Fin 512) :
    (iblk m c 1 t : Vec Ideal S8x64x512 .f32) (ix3 b s n) = Zb m c (ix3 b (frame t.val s) (⟨512 + n.val, by omega⟩ : Fin 2048)) := by
  have ht := lt_N t
  refine Eq.trans ?_ (congrFun (V_main_arg0 m c) _)
  show V m c main_arg0 ((win0_1.rect t).emb (ix3 b s n)) = _
  refine congrArg _ (funext fun a => Fin.ext ?_)
  refine (Pipeline.Window.rect_emb_val win0_1 t (ix3 b s n) a rfl).trans ?_
  match a with
  | ⟨0, _⟩ => show win0_1.index t 0 * 8 + b.val = b.val; rw [(idx1 t).1]; omega
  | ⟨1, _⟩ => show win0_1.index t 1 * 64 + s.val = (64 * t.val + s.val) % 2048; rw [(idx1 t).2.1]; omega
  | ⟨2, _⟩ => show win0_1.index t 2 * 512 + n.val = 512 + n.val; rw [(idx1 t).2.2]

/-- The lower bounds at point `t`. -/
theorem blk_l (c : Dev nD) (t : Fin cfg0.N) (n : Fin 512) :
    (iblk m c 4 t : Vec Ideal S1x512 .f32) (ix2 (0 : Fin 1) n) = Lb m c (ix1 n) := by
  have e : (win0_4.rect t).emb (ix2 (0 : Fin 1) n) = (ix2 (0 : Fin 1) n : S1x512.Idx) := funext fun a => Fin.ext (by
    refine (Pipeline.Window.rect_emb_val win0_4 t (ix2 (0 : Fin 1) n) a rfl).trans ?_
    match a with
    | ⟨0, _⟩ => show win0_4.index t 0 * 1 + 0 = 0; rw [(idx4 t).1]
    | ⟨1, _⟩ => show win0_4.index t 1 * 512 + n.val = n.val; rw [(idx4 t).2]; omega)
  show V m c main_v0 ((win0_4.rect t).emb (ix2 (0 : Fin 1) n)) = _
  rw [e]
  refine (congrFun (V_row m c) _).trans ?_
  exact shapeCast_apply (Lb m c) shapeCasts_S512_S1x512 (ix2 (0 : Fin 1) n) (ix1 n) (by
    rw [Shape.rowMajor_val_one, Shape.rowMajor_val_two]
    show n.val = 0 * 512 + n.val
    omega)

/-- The logarithms of all gates lie below +∞. -/
def LogsBelow (Z : Vec Ideal S8x2048x2048 .f32) (L : Vec Ideal S512 .f32) : Prop :=
  ∀ (b : Fin 8) (f : Fin 2048) (n : Fin 512), Ideal.log (gate (L (ix1 n)) (Z (ix3 b f (⟨n.val, by omega⟩ : Fin 2048)))) ≠ ⊤

/-- The states after `t` chunks as the scratch holds them, values by keys. -/
def held (Z : Vec Ideal S8x2048x2048 .f32) (L : Vec Ideal S512 .f32) (t : ℕ) : Vec Ideal S8x4x128x128 .f32 :=
  fun y : S8x4x128x128.Idx => after Z L t ⟨(y 0).val, (y 0).isLt⟩ ⟨(y 1).val, (y 1).isLt⟩ ⟨(y 3).val, (y 3).isLt⟩ ⟨(y 2).val, (y 2).isLt⟩

/-- One point's new states over those after `t` chunks. -/
theorem new_held (c : Dev nD) (t : Fin cfg0.N) :
    newOf (iblk m c 0 t : Vec Ideal S8x64x512 .f32) (iblk m c 1 t : Vec Ideal S8x64x512 .f32) (iblk m c 4 t : Vec Ideal S1x512 .f32) (held (Zb m c) (Lb m c) t.val)
      = held (Zb m c) (Lb m c) (t.val + 1) := funext fun (y : S8x4x128x128.Idx) => by
  obtain ⟨b, h, v, k, rfl⟩ : ∃ (b : Fin 8) (h : Fin 4) (v k : Fin 128), y = ix4 b h v k := ⟨y 0, y 1, y 2, y 3, eq_ix4 _⟩
  show newState ((iblk m c 4 t : Vec Ideal S1x512 .f32) (ix2 (0 : Fin 1) (col h k))) (fun s => (iblk m c 0 t : Vec Ideal S8x64x512 .f32) (ix3 b s (col h k)))
      (fun s => (iblk m c 1 t : Vec Ideal S8x64x512 .f32) (ix3 b s (col h v))) (after (Zb m c) (Lb m c) t.val b h k v)
    = after (Zb m c) (Lb m c) (t.val + 1) b h k v
  rw [blk_l]
  simp only [blk_f, blk_i]
  rfl

/-- The logarithms of a point's gates. -/
theorem logs (c : Dev nD) (hl : LogsBelow (Zb m c) (Lb m c)) (t : Fin cfg0.N) (b : Fin 8) (s : Fin 64) (n : Fin 512) :
    Ideal.log (gate ((iblk m c 4 t : Vec Ideal S1x512 .f32) (ix2 (0 : Fin 1) n)) ((iblk m c 0 t : Vec Ideal S8x64x512 .f32) (ix3 b s n))) ≠ ⊤ := by
  rw [blk_l, blk_f]; exact hl b _ n

/-- The scratch after each point but the last. -/
theorem scratch (c : Dev nD) (hl : LogsBelow (Zb m c) (Lb m c)) : ∀ (n : ℕ) (hn : n < cfg0.N), n < 31 →
    (outsAt0 m c n hn).2.2 = held (Zb m c) (Lb m c) (n + 1)
  | 0, hn, _ => by
    have h0 : (⟨0, hn⟩ : Fin cfg0.N).val % 32 = 0 := rfl
    rw [Value.outsAt0_zero m c hn, Value.stAt0_A m c ⟨0, hn⟩ _ h0 (by show ¬0 % 32 = 31; omega)]
    dsimp only
    rw [scratch_first (hl := logs m c hl ⟨0, hn⟩)]
    exact new_held m c ⟨0, hn⟩
  | n + 1, hn, h => by
    rw [Value.outsAt0_succ m c n hn, Value.stAt0_B m c ⟨n + 1, hn⟩ _ (by show ¬(n + 1) % 32 = 0; omega) (by show ¬(n + 1) % 32 = 31; omega)]
    dsimp only
    rw [scratch_mid (hl := logs m c hl ⟨n + 1, hn⟩), scratch c hl n _ (by omega)]
    exact new_held m c ⟨n + 1, hn⟩

/-- The result: the states after all chunks. -/
def Gst (c : Dev nD) : (⟨S8x4x128x128, .f32⟩ : BufTy).Contents (Elt Ideal) :=
  fun i : S8x4x128x128.Idx => after (Zb m c) (Lb m c) 32 ⟨(i 0).val, (i 0).isLt⟩ ⟨(i 1).val, (i 1).isLt⟩ ⟨(i 2).val, (i 2).isLt⟩ ⟨(i 3).val, (i 3).isLt⟩

/-- The result after the run. -/
theorem arr_s (c : Dev nD) (hl : LogsBelow (Zb m c) (Lb m c)) : Value.G7 m c = Gst m c := by
  have hn : 31 < cfg0.N := by rw [show cfg0.N = 32 from N_0]; omega
  refine (Value.G7_last m c).trans ?_
  rw [← Value.outsAt0_sweep m c 31 hn, Value.outsAt0_succ m c 30 hn, Value.stAt0_C m c ⟨31, hn⟩ _ (by show ¬31 % 32 = 0; omega) (by show 31 % 32 = 31; omega)]
  dsimp only
  rw [out_last (hl := logs m c hl ⟨31, hn⟩), scratch m c hl 30 _ (by omega)]
  refine (congrArg turn (new_held m c ⟨31, hn⟩)).trans ?_
  rfl

end Cert.Hgrn.Prompt

end
-- ==== Proof.Hgrn.PromptRef.lean ====
/- What the reference of the prompt batch's recurrence computes: one chunk's new states over the other's. -/
module

public import proofs.«01_k».proof.Proof.Hgrn.Ref
public import proofs.«01_k».proof.Proof.Hgrn.PromptArray
public import proofs.«01_k».proof.Proof.Gen.Reference7Ideal.Step
public import Idealize.ShloMosaic.Lib.WordCmp

@[expose] public section

set_option maxRecDepth 16384

noncomputable section

namespace Cert.Hgrn.Prompt

open Idealize.ShloMosaic Idealize.ShloMosaic.TcCoe Idealize.SL.Sem Idealize.ShloMosaic.ValueIdx
open scoped BigOperators
open Cert.Reference7Ideal Cert.Reference7Ideal.Gen Cert.Reference7Ideal.Step

/-- A column of head `h` among the recurrence's columns, `o` columns on. -/
def at_ (o : ℕ) (ho : o ≤ 1536) (h : Fin 4) (k : Fin 128) : Fin 2048 := ⟨o + (128 * h.val + k.val), by omega⟩

/-- Columns taken out, split into heads and the heads put before the frames. -/
theorem by_heads (Z : Vec Ideal S8x2048x2048 .f32) (o : ℕ) (ho : o ≤ 1536) (hs : S8x2048x2048.Slices ![0, 0, o] S8x2048x512)
    (b : Fin 8) (h : Fin 4) (f : Fin 2048) (k : Fin 128) :
    transpose S8x4x2048x128 [0, 2, 1, 3] (shapeCast S8x2048x4x128 (extractStridedSlice S8x2048x512 ![0, 0, o] Z hs) shapeCasts_S8x2048x512_S8x2048x4x128)
        transposes_S8x2048x4x128_S8x4x2048x128_0_2_1_3 (ix4 b h f k)
      = Z (ix3 b f (at_ o ho h k)) := by
  refine (transpose_apply [0, 2, 1, 3] _ transposes_S8x2048x4x128_S8x4x2048x128_0_2_1_3 (ix4 b h f k) (ix4 b f h k) (fun a => match a with
    | ⟨0, _⟩ => rfl
    | ⟨1, _⟩ => rfl
    | ⟨2, _⟩ => rfl
    | ⟨3, _⟩ => rfl)).trans ?_
  refine (shapeCast_apply _ shapeCasts_S8x2048x512_S8x2048x4x128 (ix4 b f h k) (ix3 b f (⟨128 * h.val + k.val, by omega⟩ : Fin 512)) (by
    rw [Shape.rowMajor_val_three, Shape.rowMajor_val_four]
    show (b.val * 2048 + f.val) * 512 + (128 * h.val + k.val) = ((b.val * 2048 + f.val) * 4 + h.val) * 128 + k.val
    omega)).trans ?_
  exact extractStridedSlice_apply _ _ _ _ _ (fun a => match a with
    | ⟨0, _⟩ => (Nat.zero_add _).symm
    | ⟨1, _⟩ => (Nat.zero_add _).symm
    | ⟨2, _⟩ => rfl)

/-- Frames cut into chunks and the chunks put first. -/
theorem by_chunks (x : Vec Ideal S8x4x2048x128 .f32) (j : Fin 32) (b : Fin 8) (h : Fin 4) (s : Fin 64) (k : Fin 128) :
    transpose S32x8x4x64x128 [2, 0, 1, 3, 4] (shapeCast S8x4x32x64x128 x shapeCasts_S8x4x2048x128_S8x4x32x64x128)
        transposes_S8x4x32x64x128_S32x8x4x64x128_2_0_1_3_4 (ix5 j b h s k)
      = x (ix4 b h (frame j.val s) k) := by
  refine (transpose_apply [2, 0, 1, 3, 4] _ transposes_S8x4x32x64x128_S32x8x4x64x128_2_0_1_3_4 (ix5 j b h s k) (ix5 b h j s k) (fun a => match a with
    | ⟨0, _⟩ => rfl
    | ⟨1, _⟩ => rfl
    | ⟨2, _⟩ => rfl
    | ⟨3, _⟩ => rfl
    | ⟨4, _⟩ => rfl)).trans ?_
  exact shapeCast_apply x shapeCasts_S8x4x2048x128_S8x4x32x64x128 (ix5 b h j s k) (ix4 b h (frame j.val s) k) (by
    rw [Shape.rowMajor_val_four, Shape.rowMajor_val_five]
    show ((b.val * 4 + h.val) * 2048 + (64 * j.val + s.val) % 2048) * 128 + k.val = (((b.val * 4 + h.val) * 32 + j.val) * 64 + s.val) * 128 + k.val
    omega)

/-- A head's row of one value per column over all streams and frames. -/
theorem over_frames (x : Vec Ideal S4x1x128 .f32) (b : Fin 8) (h : Fin 4) (f : Fin 2048) (k : Fin 128) :
    broadcastInDim S8x4x2048x128 ![0, 1, 2, 3] bcast_S1x4x1x128_S8x4x2048x128_0_1_2_3 (broadcastInDim S1x4x1x128 ![1, 2, 3] bcast_S4x1x128_S1x4x1x128_1_2_3 x) (ix4 b h f k)
      = x (ix3 h (0 : Fin 1) k) := by
  refine (broadcastInDim_apply _ bcast_S1x4x1x128_S8x4x2048x128_0_1_2_3 _ (ix4 b h f k) (ix4 (0 : Fin 1) h (0 : Fin 1) k) (fun a => match a with
    | ⟨0, _⟩ => rfl
    | ⟨1, _⟩ => rfl
    | ⟨2, _⟩ => rfl
    | ⟨3, _⟩ => rfl)).trans ?_
  exact broadcastInDim_apply _ bcast_S4x1x128_S1x4x1x128_1_2_3 x (ix4 (0 : Fin 1) h (0 : Fin 1) k) (ix3 h (0 : Fin 1) k) (fun a => match a with
    | ⟨0, _⟩ => rfl
    | ⟨1, _⟩ => rfl
    | ⟨2, _⟩ => rfl)

section Before

variable (Z : Vec Ideal S8x2048x2048 .f32) (L : Vec Ideal S512 .f32)

/-- The reference's gates. -/
theorem ref_gate (b : Fin 8) (h : Fin 4) (f : Fin 2048) (k : Fin 128) :
    (A_main_v20 (F := Ideal) Z L (ix4 b h f k) : EReal) = gate (L (ix1 (col h k))) (Z (ix3 b f (⟨128 * h.val + k.val, by omega⟩ : Fin 2048))) := by
  have hl : A_main_v4 (F := Ideal) Z L (ix3 h (0 : Fin 1) k) = L (ix1 (col h k)) :=
    shapeCast_apply L shapeCasts_S512_S4x1x128 (ix3 h (0 : Fin 1) k) (ix1 (col h k)) (by
      rw [Shape.rowMajor_val_one, Shape.rowMajor_val_three]
      show 128 * h.val + k.val = (h.val * 1 + 0) * 128 + k.val
      omega)
  have hf : A_main_v8 (F := Ideal) Z L (ix4 b h f k) = Z (ix3 b f (⟨128 * h.val + k.val, by omega⟩ : Fin 2048)) := by
    refine (by_heads Z 0 (by omega) slices_S8x2048x2048_S8x2048x512_0_0_0 b h f k).trans (congrArg (fun n => Z (ix3 b f n)) (Fin.ext ?_))
    exact Nat.zero_add _
  have e19 : A_main_v19 (F := Ideal) Z L (ix4 b h f k) = L (ix1 (col h k)) := (over_frames (A_main_v4 (F := Ideal) Z L) b h f k).trans hl
  have e16 : (A_main_v16 (F := Ideal) Z L (ix4 b h f k) : EReal) = 1 - L (ix1 (col h k)) := by
    refine (over_frames (A_main_v6 (F := Ideal) Z L) b h f k).trans ?_
    rw [← hl]
    exact congrArg (· - (A_main_v4 (F := Ideal) Z L (ix3 h (0 : Fin 1) k) : EReal)) Ideal.ofBits_one_f32
  have e14 : (A_main_v14 (F := Ideal) Z L (ix4 b h f k) : EReal) = Ideal.logistic (Z (ix3 b f (⟨128 * h.val + k.val, by omega⟩ : Fin 2048))) := by
    rw [← hf]
    have h1 : (FloatOps.ofBits (F := Ideal) .f32 0x3F800000#32 : EReal) = 1 := Ideal.ofBits_one_f32
    show Ideal.div (FloatOps.ofBits (F := Ideal) .f32 0x3F800000#32 : EReal)
      ((FloatOps.ofBits (F := Ideal) .f32 0x3F800000#32 : EReal) + Ideal.exp (-(A_main_v8 (F := Ideal) Z L (ix4 b h f k) : EReal))) = _
    rw [h1]
    rfl
  show (A_main_v19 (F := Ideal) Z L (ix4 b h f k) : EReal) + (A_main_v16 (F := Ideal) Z L (ix4 b h f k) : EReal) * (A_main_v14 (F := Ideal) Z L (ix4 b h f k) : EReal) = _
  rw [e19, e16, e14]
  rfl

/-- The reference's keys, chunk by chunk. -/
theorem ref_keys (j : Fin 32) (b : Fin 8) (h : Fin 4) (s : Fin 64) (k : Fin 128) :
    (A_main_v28 (F := Ideal) Z L (ix5 j b h s k) : EReal)
      = 1 - gate (L (ix1 (col h k))) (Z (ix3 b (frame j.val s) (⟨128 * h.val + k.val, by omega⟩ : Fin 2048))) := by
  refine (by_chunks (A_main_v23 (F := Ideal) Z L) j b h s k).trans ?_
  rw [← ref_gate]
  exact congrArg (· - (A_main_v20 (F := Ideal) Z L (ix4 b h (frame j.val s) k) : EReal)) Ideal.ofBits_one_f32

/-- The reference's values, chunk by chunk. -/
theorem ref_vals (j : Fin 32) (b : Fin 8) (h : Fin 4) (s : Fin 64) (v : Fin 128) :
    A_main_v30 (F := Ideal) Z L (ix5 j b h s v) = Z (ix3 b (frame j.val s) (⟨512 + (128 * h.val + v.val), by omega⟩ : Fin 2048)) :=
  (by_chunks (A_main_v25 (F := Ideal) Z L) j b h s v).trans
    (by_heads Z 512 (by omega) slices_S8x2048x2048_S8x2048x512_0_0_512 b h (frame j.val s) v)

/-- The reference's logarithms, chunk by chunk. -/
theorem ref_logs (j : Fin 32) (b : Fin 8) (h : Fin 4) (s : Fin 64) (k : Fin 128) :
    (A_main_v32 (F := Ideal) Z L (ix5 j b h s k) : EReal)
      = Ideal.log (gate (L (ix1 (col h k))) (Z (ix3 b (frame j.val s) (⟨128 * h.val + k.val, by omega⟩ : Fin 2048)))) := by
  refine (by_chunks (A_main_v21 (F := Ideal) Z L) j b h s k).trans ?_
  rw [← ref_gate]
  rfl

end Before

/-- Chunk `j` taken out of the chunks. -/
theorem picked (x : Vec Ideal S32x8x4x64x128 .f32) (j : Fin 32) (start : Fin 5 → Int) (e : ∀ a, start a = ((![j.val, 0, 0, 0, 0] : Fin 5 → ℕ) a : Int))
    (b : Fin 8) (h : Fin 4) (s : Fin 64) (k : Fin 128) :
    shapeCast S8x4x64x128 (Host.dynamicSlice S1x8x4x64x128 x start sliceFits_S32x8x4x64x128_S1x8x4x64x128) shapeCasts_S1x8x4x64x128_S8x4x64x128 (ix4 b h s k)
      = x (ix5 j b h s k) := by
  have hj : j.val < 32 := j.isLt
  have hs : S32x8x4x64x128.Slices (![j.val, 0, 0, 0, 0] : Fin 5 → ℕ) S1x8x4x64x128 := ⟨rfl, fun a => by
    match a with
    | ⟨0, _⟩ => show j.val + 1 ≤ 32; omega
    | ⟨1, _⟩ => show 0 + 8 ≤ 8; omega
    | ⟨2, _⟩ => show 0 + 4 ≤ 4; omega
    | ⟨3, _⟩ => show 0 + 64 ≤ 64; omega
    | ⟨4, _⟩ => show 0 + 128 ≤ 128; omega⟩
  rw [WordCmp.dynamicSlice_eq_extract S1x8x4x64x128 x start sliceFits_S32x8x4x64x128_S1x8x4x64x128 ![j.val, 0, 0, 0, 0] hs e]
  refine (shapeCast_apply _ shapeCasts_S1x8x4x64x128_S8x4x64x128 (ix4 b h s k) (ix5 (0 : Fin 1) b h s k) (by
    rw [Shape.rowMajor_val_five, Shape.rowMajor_val_four]
    show (((0 * 8 + b.val) * 4 + h.val) * 64 + s.val) * 128 + k.val = ((b.val * 4 + h.val) * 64 + s.val) * 128 + k.val
    omega)).trans ?_
  exact extractStridedSlice_apply _ _ _ _ _ (fun a => match a with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm)

/-- A product summed over the frames, head by head. -/
theorem over_keys (x y : FVec Ideal S8x4x64x128 .f32) (b : Fin 8) (h : Fin 4) (k v : Fin 128) :
    (Host.dotGeneral dot_S8x4x64x128_S8x4x64x128_S8x4x128x128_2_2_3_3_01_01 none x y (ix4 b h k v) : EReal)
      = ∑ s : Fin 64, x (ix4 b h s k) * y (ix4 b h s v) := by
  simp only [Host.dotGeneral]
  rw [Ideal.dotGeneral_apply, ← Equiv.sum_comp (ValueIdx.contrEquiv1 dot_S8x4x64x128_S8x4x64x128_S8x4x128x128_2_2_3_3_01_01 64 rfl rfl).symm]
  refine Finset.sum_congr rfl fun s _ => ?_
  have hs := ValueIdx.contrEquiv1_symm_val dot_S8x4x64x128_S8x4x64x128_S8x4x128x128_2_2_3_3_01_01 64 rfl rfl s
  refine congrArg₂ (fun p q : EReal => p * q) (congrArg x (funext fun a => Fin.ext ?_)) (congrArg y (funext fun a => Fin.ext ?_))
  · match a with
    | ⟨0, _⟩ => rfl
    | ⟨1, _⟩ => rfl
    | ⟨2, _⟩ => exact hs
    | ⟨3, _⟩ => rfl
  · match a with
    | ⟨0, _⟩ => rfl
    | ⟨1, _⟩ => rfl
    | ⟨2, _⟩ => exact hs
    | ⟨3, _⟩ => rfl

section Trip

variable (j : Fin 32) (st : State Ideal)

theorem starts (a : Fin 5) : ((![(constantI S_ 32 (BitVec.ofNat 32 j.val) : (⟨S_, .i32⟩ : BufTy).Contents (Elt Ideal)), constantI S_ 32 0#32, constantI S_ 32 0#32, constantI S_ 32 0#32, constantI S_ 32 0#32] : Fin 5 → (⟨S_, .i32⟩ : BufTy).Contents (Elt Ideal)) a (Shape.Idx.first h_S_)).toInt
    = ((![j.val, 0, 0, 0, 0] : Fin 5 → ℕ) a : Int) := by
  match a with
  | ⟨0, _⟩ => exact (by decide +kernel : ∀ j : Fin 32, (BitVec.ofNat 32 j.val).toInt = (j.val : Int)) j
  | ⟨1, _⟩ => rfl
  | ⟨2, _⟩ => rfl
  | ⟨3, _⟩ => rfl
  | ⟨4, _⟩ => rfl

/-- A trip's keys, values and logarithms are those of its chunk. -/
theorem trip_keys (b : Fin 8) (h : Fin 4) (s : Fin 64) (k : Fin 128) : b5 j.val st (ix4 b h s k) = st.main_v33_0 (ix5 j b h s k) :=
  picked st.main_v33_0 j _ (starts j) b h s k
theorem trip_vals (b : Fin 8) (h : Fin 4) (s : Fin 64) (v : Fin 128) : b11 j.val st (ix4 b h s v) = st.main_v33_1 (ix5 j b h s v) :=
  picked st.main_v33_1 j _ (starts j) b h s v
theorem trip_logs (b : Fin 8) (h : Fin 4) (s : Fin 64) (k : Fin 128) : b17 j.val st (ix4 b h s k) = st.main_v33_2 (ix5 j b h s k) :=
  picked st.main_v33_2 j _ (starts j) b h s k

/-- A trip's logarithms added up. -/
theorem trip_cum (b : Fin 8) (h : Fin 4) (t : Fin 64) (k : Fin 128) :
    (b20 j.val st (ix4 b h t k) : EReal) = ∑ s : Fin 64, if s.val ≤ t.val then (st.main_v33_2 (ix5 j b h s k) : EReal) else 0 := by
  refine (running (n := 8) (b17 j.val st) (b19 j.val st) Ideal.ofBits_zero_f32
    reduceWindows_S8x4x64x128_S8x4x64x128_w1s1p0_0_w1s1p0_0_w64s1p63_0_w1s1p0_0 b h t k).trans ?_
  refine Finset.sum_congr (M := EReal) rfl fun s _ => ?_
  rw [trip_logs]

/-- The last of them. -/
theorem trip_last (b : Fin 8) (h : Fin 4) (k : Fin 128) : b21 j.val st (ix4 b h (0 : Fin 1) k) = b20 j.val st (ix4 b h (63 : Fin 64) k) :=
  extractStridedSlice_apply _ _ _ _ _ (fun a => match a with
    | ⟨0, _⟩ => (Nat.zero_add _).symm
    | ⟨1, _⟩ => (Nat.zero_add _).symm
    | ⟨2, _⟩ => rfl
    | ⟨3, _⟩ => (Nat.zero_add _).symm)

/-- A trip's new states. -/
theorem trip_state (b : Fin 8) (h : Fin 4) (k v : Fin 128) :
    (b32 j.val st (ix4 b h k v) : EReal)
      = Ideal.exp (b20 j.val st (ix4 b h (63 : Fin 64) k)) * st.main_v33_4 (ix4 b h k v)
        + ∑ s : Fin 64, (st.main_v33_0 (ix5 j b h s k) * Ideal.exp (b20 j.val st (ix4 b h (63 : Fin 64) k) - b20 j.val st (ix4 b h s k))) * st.main_v33_1 (ix5 j b h s v) := by
  have e22 : b22 j.val st (ix3 b h k) = b20 j.val st (ix4 b h (63 : Fin 64) k) := by
    refine (shapeCast_apply (b21 j.val st) shapeCasts_S8x4x1x128_S8x4x128 (ix3 b h k) (ix4 b h (0 : Fin 1) k) (by
      rw [Shape.rowMajor_val_four, Shape.rowMajor_val_three]
      show ((b.val * 4 + h.val) * 1 + 0) * 128 + k.val = (b.val * 4 + h.val) * 128 + k.val
      omega)).trans (trip_last j st b h k)
  have e25 : (b25 j.val st (ix4 b h k v) : EReal) = Ideal.exp (b20 j.val st (ix4 b h (63 : Fin 64) k)) := by
    refine (broadcastInDim_apply _ bcast_S8x4x128x1_S8x4x128x128_0_1_2_3 (b24 j.val st) (ix4 b h k v) (ix4 b h k (0 : Fin 1)) (fun a => match a with
      | ⟨0, _⟩ => rfl
      | ⟨1, _⟩ => rfl
      | ⟨2, _⟩ => rfl
      | ⟨3, _⟩ => rfl)).trans ?_
    refine (broadcastInDim_apply _ bcast_S8x4x128_S8x4x128x1_0_1_2 (b23 j.val st) (ix4 b h k (0 : Fin 1)) (ix3 b h k) (fun a => match a with
      | ⟨0, _⟩ => rfl
      | ⟨1, _⟩ => rfl
      | ⟨2, _⟩ => rfl)).trans ?_
    exact congrArg Ideal.exp e22
  have e27 : ∀ s : Fin 64, b27 j.val st (ix4 b h s k) = b20 j.val st (ix4 b h (63 : Fin 64) k) := fun s =>
    (broadcastInDim_apply _ bcast_S8x4x1x128_S8x4x64x128_0_1_2_3 (b21 j.val st) (ix4 b h s k) (ix4 b h (0 : Fin 1) k) (fun a => match a with
      | ⟨0, _⟩ => rfl
      | ⟨1, _⟩ => rfl
      | ⟨2, _⟩ => rfl
      | ⟨3, _⟩ => rfl)).trans (trip_last j st b h k)
  have e31 := over_keys (b30 j.val st) (b11 j.val st) b h k v
  refine (congrArg₂ (fun p q : EReal => p + q) (congrArg (fun p : EReal => p * (st.main_v33_4 (ix4 b h k v) : EReal)) e25) e31).trans ?_
  refine congrArg₂ (fun p q : EReal => p + q) rfl (Finset.sum_congr (M := EReal) rfl fun s _ => ?_)
  refine congrArg₂ (fun p q : EReal => p * q) ?_ (trip_vals j st b h s v)
  refine congrArg₂ (fun p q : EReal => p * q) (trip_keys j st b h s k) (congrArg Ideal.exp ?_)
  exact congrArg (fun p : EReal => p - (b20 j.val st (ix4 b h s k) : EReal)) (e27 s)

end Trip

variable (Z : Vec Ideal S8x2048x2048 .f32) (L : Vec Ideal S512 .f32)

/-- The states before each trip. -/
def trips : ℕ → State Ideal
  | 0 => init Z L
  | n + 1 => Step.step n (trips n)

/-- No trip changes the keys, values and logarithms. -/
theorem trips_kept : ∀ n, (trips Z L n).main_v33_0 = A_main_v28 Z L ∧ (trips Z L n).main_v33_1 = A_main_v30 Z L ∧ (trips Z L n).main_v33_2 = A_main_v32 Z L
  | 0 => ⟨rfl, rfl, rfl⟩
  | n + 1 => trips_kept n

/-- The states after `n` trips are those after `n` chunks. -/
theorem ref_state : ∀ n, n ≤ 32 → ∀ (b : Fin 8) (h : Fin 4) (k v : Fin 128), ((trips Z L n).main_v33_4 (ix4 b h k v) : EReal) = after Z L n b h k v
  | 0, _, _, _, _, _ => Ideal.ofBits_zero_f32
  | n + 1, hn, b, h, k, v => by
    obtain ⟨e0, e1, e2⟩ := trips_kept Z L n
    have ec : ∀ t : Fin 64, (b20 n (trips Z L n) (ix4 b h t k) : EReal)
        = cumLog (L (ix1 (col h k))) (fun s => Z (ix3 b (frame n s) (⟨128 * h.val + k.val, by omega⟩ : Fin 2048))) t := fun t => by
      refine (trip_cum (⟨n, hn⟩ : Fin 32) (trips Z L n) b h t k).trans ?_
      unfold cumLog
      refine Finset.sum_congr (M := EReal) rfl fun s _ => ?_
      rw [e2, ref_logs]
    refine (trip_state (⟨n, hn⟩ : Fin 32) (trips Z L n) b h k v).trans ?_
    show _ = newState _ _ _ (after Z L n b h k v)
    unfold newState
    refine congrArg₂ (fun p q : EReal => p + q) ?_ (Finset.sum_congr (M := EReal) rfl fun s _ => ?_)
    · rw [ref_state n (by omega) b h k v]
      exact (mul_comm _ _).trans (congrArg (fun p : EReal => _ * Ideal.exp p) (ec 63))
    · rw [e0, e1, ref_keys, ref_vals]
      refine (mul_comm _ _).trans (congrArg₂ (fun p q : EReal => p * q) rfl (congrArg₂ (fun p q : EReal => p * q) rfl (congrArg Ideal.exp ?_)))
      exact congrArg₂ (fun p q : EReal => p - q) (ec 63) (ec s)

end Cert.Hgrn.Prompt

end
-- ==== Proof.Hgrn.PromptClaims.lean ====
/- The claims about the recurrence's new state, prompt batch. -/
module

public import proofs.«01_k».proof.Proof.Hgrn.Claims
public import proofs.«01_k».proof.Proof.Gen.Kernel7.Frame
public import proofs.«01_k».proof.Proof.Gen.Reference7Ideal.Run
public import proofs.«01_k».proof.Proof.Gen.Reference7Ideal.StepRun
public import proofs.«01_k».proof.Proof.Hgrn.PromptArray
public import proofs.«01_k».proof.Proof.Hgrn.PromptRef

@[expose] public section

set_option maxRecDepth 16384

noncomputable section

namespace Cert.Hgrn.Prompt

open Idealize.ShloMosaic Idealize.ShloMosaic.TcCoe Idealize.SL.Sem Idealize.ShloMosaic.ValueIdx
open scoped BigOperators

/-- The shape relations of the precondition. -/
theorem facts_below : Cert.Pre_below7.Facts := ⟨by decide, by decide, by decide⟩

/-- The kernel runs, keeps its arguments and leaves no semaphore raised. -/
theorem frame_kernel : Cert.quiescent_Kernel7 := fun m ρ _ => Cert.Kernel7.Gen.frame m ρ

/-- The same of its reading over the extended reals. -/
theorem frame_kernelIdeal : Cert.quiescent_Kernel7Ideal := fun m ρ _ => Cert.Kernel7Ideal.Gen.frame m ρ

/-- The same under the precondition, which it does not need. -/
theorem frame_kernelIdeal_below : Cert.quiescent_Kernel7Ideal_pre_below7 (hPre_below7 := facts_below) :=
  fun m ρ _ => Cert.Kernel7Ideal.Gen.frame m ρ

/-- The same of the reference. -/
theorem frame_referenceIdeal : Cert.quiescent_Reference7Ideal := fun m ρ _ =>
  (θ_run _ _ _).mono (fun r h => ⟨fun c => (h c).2, Idealize.ShloMosaic.sem_eq_zero_of_no_sems (by decide) r.2⟩)
    (Cert.Reference7Ideal.Value.run (F := Ideal) m ρ)

/-- The same of the reference under the precondition. -/
theorem frame_referenceIdeal_below : Cert.quiescent_Reference7Ideal_pre_below7 (hPre_below7 := facts_below) := fun m ρ _ =>
  (θ_run _ _ _).mono (fun r h => ⟨fun c => (h c).2, Idealize.ShloMosaic.sem_eq_zero_of_no_sems (by decide) r.2⟩)
    (Cert.Reference7Ideal.Value.run (F := Ideal) m ρ)

/-- The precondition says that the lower bounds lie below +∞, so the gates' logarithms do. -/
theorem below_of_pre (X : Vec Ideal Cert.Kernel7Ideal.S8x2048x2048 .f32) (L : Vec Ideal Cert.Kernel7Ideal.S512 .f32)
    (w : Vec Ideal Cert.Kernel7Ideal.S1x4x128 .f32)
    (h : (haveI := facts_below; Cert.Pre_below7.fn (F := Ideal) X L w) = fun _ => 1#1) : LogsBelow X L := by
  haveI : Subsingleton (Cert.Pre_below7.S_.Idx) := ⟨fun a b => funext fun k => k.elim0⟩
  intro b f n
  refine log_below _ _ fun ht => ?_
  have h1 : Ideal.cmp .olt (L (ix1 n) : EReal) (Ideal.ofBits .f32 0x7F800000#32) = 1#1 :=
    Host.reduce_andi_all _ _ _ _ _ (congrFun h (fun a : Fin 0 => a.elim0)) (ix1 n)
  rw [ht] at h1
  unfold Ideal.cmp at h1
  simp at h1

open Cert.Kernel7Ideal Cert.Kernel7Ideal.Gen in
/-- Over the extended reals the kernel's new state is the reference's, where the lower bounds lie below +∞. -/
theorem algebraic : Cert.algebraic_Kernel7Ideal_Reference7Ideal_pre_below7 (hPre_below7 := facts_below) := by
  intro m g m' g' hpre hm
  refine ⟨Gst m, (θ_run _ _ _).mono (fun r h c => ?_) (Cert.Kernel7Ideal.Value.run m g),
    (θ_run _ _ _).mono (fun r h c => ?_) (Cert.Reference7Ideal.StepRun.run_iter (F := Ideal) m' g'
      (fun c => trips (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg1))) (fun _ => rfl) (fun _ _ => rfl))⟩
  · exact ⟨(h c).2.1.trans (arr_s m c (below_of_pre _ _ _ (hpre c))), (h c).2.2⟩
  · obtain ⟨h0, ha⟩ := h c
    obtain ⟨e0, e1, _⟩ := hm c
    refine ⟨h0.trans ?_, ha⟩
    rw [e0, e1]
    refine funext fun (i : Cert.Reference7Ideal.S8x4x128x128.Idx) => ?_
    exact (congrArg _ (eq_ix4 _)).trans
      (ref_state _ _ 32 (Nat.le_refl _) ⟨(i 0).val, (i 0).isLt⟩ ⟨(i 1).val, (i 1).isLt⟩ ⟨(i 2).val, (i 2).isLt⟩ ⟨(i 3).val, (i 3).isLt⟩)

end Cert.Hgrn.Prompt

end
-- ==== Proof.lean ====
/- The certificate's claim, assembled from the modules about the input projection of the two batches, about the gated output projection of the two batches, about the attention of the two batches and about the recurrence's new state of the two batches. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Inproj.PromptClaims
public import proofs.«01_k».proof.Proof.Inproj.SampleClaims
public import proofs.«01_k».proof.Proof.Finish.Claims
public import proofs.«01_k».proof.Proof.Attn.Claims
public import proofs.«01_k».proof.Proof.Attn.StepClaims
public import proofs.«01_k».proof.Proof.Hgrn.Claims
public import proofs.«01_k».proof.Proof.Finish.SampleClaims
public import proofs.«01_k».proof.Proof.Hgrn.PromptClaims
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Step
public import proofs.«01_k».proof.Proof.Gen.Reference7Ideal.StepRun
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Adequacy
public import Idealize.ShloMosaic.Init

@[expose] public section

noncomputable section

namespace Cert.Proof

open Idealize.ShloMosaic Idealize.SL.Sem Cert.Kernel

/-- All the claims of the certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Attn.facts_finite, Cert.Hgrn.facts_below, Cert.Hgrn.Prompt.facts_below, Cert.Attn.Step.facts_finite,
  Cert.Inproj.Prompt.frame_kernel, Cert.Inproj.Prompt.frame_kernelIdeal, Cert.Inproj.Prompt.frame_referenceIdeal,
  Cert.Inproj.Sample.frame_kernel, Cert.Inproj.Sample.frame_kernelIdeal, Cert.Inproj.Sample.frame_referenceIdeal,
  Cert.Finish.frame_kernel, Cert.Finish.frame_kernelIdeal, Cert.Finish.frame_referenceIdeal,
  Cert.Attn.frame_kernel, Cert.Attn.frame_kernelIdeal, Cert.Attn.frame_kernelIdeal_finite, Cert.Attn.frame_referenceIdeal, Cert.Attn.frame_referenceIdeal_finite,
  Cert.Hgrn.frame_kernel, Cert.Hgrn.frame_kernelIdeal, Cert.Hgrn.frame_kernelIdeal_below, Cert.Hgrn.frame_referenceIdeal, Cert.Hgrn.frame_referenceIdeal_below,
  Cert.Finish.Sample.frame_kernel, Cert.Finish.Sample.frame_kernelIdeal, Cert.Finish.Sample.frame_referenceIdeal,
  Cert.Hgrn.Prompt.frame_kernel, Cert.Hgrn.Prompt.frame_kernelIdeal, Cert.Hgrn.Prompt.frame_kernelIdeal_below, Cert.Hgrn.Prompt.frame_referenceIdeal, Cert.Hgrn.Prompt.frame_referenceIdeal_below,
  Cert.Attn.Step.frame_kernel, Cert.Attn.Step.frame_kernelIdeal, Cert.Attn.Step.frame_kernelIdeal_finite, Cert.Attn.Step.frame_referenceIdeal, Cert.Attn.Step.frame_referenceIdeal_finite,
  trivial, Cert.Inproj.Prompt.algebraic, trivial, Cert.Inproj.Sample.algebraic, trivial, Cert.Finish.algebraic, trivial, Cert.Attn.algebraic, trivial, Cert.Hgrn.algebraic,
  trivial, Cert.Finish.Sample.algebraic, trivial, Cert.Hgrn.Prompt.algebraic, trivial, Cert.Attn.Step.algebraic⟩

end Cert.Proof

end
